-- ==== Defs.lean ====
def Pre_KernelI8 [hPre_pre_i8 : Cert.Pre_pre_i8.Facts] (m : (ℓ : Loc Cert.KernelI8.nD Cert.KernelI8.τ Cert.KernelI8.sig) → Buf (Elt Bits) ℓ) : Prop :=
  ∀ c : Dev Cert.KernelI8.nD,
    (Cert.Pre_pre_i8.fn (F := Bits) (m ((c.tc : Thread Cert.KernelI8.nD Cert.KernelI8.τ).loc Cert.KernelI8.main_arg0)) (m ((c.tc : Thread Cert.KernelI8.nD Cert.KernelI8.τ).loc Cert.KernelI8.main_arg1)) (m ((c.tc : Thread Cert.KernelI8.nD Cert.KernelI8.τ).loc Cert.KernelI8.main_arg2))).1 = (fun _ => 1#1)
    ∧ (Cert.Pre_pre_i8.fn (F := Bits) (m ((c.tc : Thread Cert.KernelI8.nD Cert.KernelI8.τ).loc Cert.KernelI8.main_arg0)) (m ((c.tc : Thread Cert.KernelI8.nD Cert.KernelI8.τ).loc Cert.KernelI8.main_arg1)) (m ((c.tc : Thread Cert.KernelI8.nD Cert.KernelI8.τ).loc Cert.KernelI8.main_arg2))).2.1 = (fun _ => 1#1)
    ∧ (Cert.Pre_pre_i8.fn (F := Bits) (m ((c.tc : Thread Cert.KernelI8.nD Cert.KernelI8.τ).loc Cert.KernelI8.main_arg0)) (m ((c.tc : Thread Cert.KernelI8.nD Cert.KernelI8.τ).loc Cert.KernelI8.main_arg1)) (m ((c.tc : Thread Cert.KernelI8.nD Cert.KernelI8.τ).loc Cert.KernelI8.main_arg2))).2.2.1 = (fun _ => 1#1)
    ∧ (Cert.Pre_pre_i8.fn (F := Bits) (m ((c.tc : Thread Cert.KernelI8.nD Cert.KernelI8.τ).loc Cert.KernelI8.main_arg0)) (m ((c.tc : Thread Cert.KernelI8.nD Cert.KernelI8.τ).loc Cert.KernelI8.main_arg1)) (m ((c.tc : Thread Cert.KernelI8.nD Cert.KernelI8.τ).loc Cert.KernelI8.main_arg2))).2.2.2.1 = (fun _ => 1#1)
    ∧ (Cert.Pre_pre_i8.fn (F := Bits) (m ((c.tc : Thread Cert.KernelI8.nD Cert.KernelI8.τ).loc Cert.KernelI8.main_arg0)) (m ((c.tc : Thread Cert.KernelI8.nD Cert.KernelI8.τ).loc Cert.KernelI8.main_arg1)) (m ((c.tc : Thread Cert.KernelI8.nD Cert.KernelI8.τ).loc Cert.KernelI8.main_arg2))).2.2.2.2 = (fun _ => 1#1)

def Pre_KernelI8Ideal [hPre_pre_i8 : Cert.Pre_pre_i8.Facts] (m : (ℓ : Loc Cert.KernelI8Ideal.nD Cert.KernelI8Ideal.τ Cert.KernelI8Ideal.sig) → Buf (Elt Ideal) ℓ) : Prop :=
  ∀ c : Dev Cert.KernelI8Ideal.nD,
    (Cert.Pre_pre_i8.fn (F := Ideal) (m ((c.tc : Thread Cert.KernelI8Ideal.nD Cert.KernelI8Ideal.τ).loc Cert.KernelI8Ideal.main_arg0)) (m ((c.tc : Thread Cert.KernelI8Ideal.nD Cert.KernelI8Ideal.τ).loc Cert.KernelI8Ideal.main_arg1)) (m ((c.tc : Thread Cert.KernelI8Ideal.nD Cert.KernelI8Ideal.τ).loc Cert.KernelI8Ideal.main_arg2))).1 = (fun _ => 1#1)
    ∧ (Cert.Pre_pre_i8.fn (F := Ideal) (m ((c.tc : Thread Cert.KernelI8Ideal.nD Cert.KernelI8Ideal.τ).loc Cert.KernelI8Ideal.main_arg0)) (m ((c.tc : Thread Cert.KernelI8Ideal.nD Cert.KernelI8Ideal.τ).loc Cert.KernelI8Ideal.main_arg1)) (m ((c.tc : Thread Cert.KernelI8Ideal.nD Cert.KernelI8Ideal.τ).loc Cert.KernelI8Ideal.main_arg2))).2.1 = (fun _ => 1#1)
    ∧ (Cert.Pre_pre_i8.fn (F := Ideal) (m ((c.tc : Thread Cert.KernelI8Ideal.nD Cert.KernelI8Ideal.τ).loc Cert.KernelI8Ideal.main_arg0)) (m ((c.tc : Thread Cert.KernelI8Ideal.nD Cert.KernelI8Ideal.τ).loc Cert.KernelI8Ideal.main_arg1)) (m ((c.tc : Thread Cert.KernelI8Ideal.nD Cert.KernelI8Ideal.τ).loc Cert.KernelI8Ideal.main_arg2))).2.2.1 = (fun _ => 1#1)
    ∧ (Cert.Pre_pre_i8.fn (F := Ideal) (m ((c.tc : Thread Cert.KernelI8Ideal.nD Cert.KernelI8Ideal.τ).loc Cert.KernelI8Ideal.main_arg0)) (m ((c.tc : Thread Cert.KernelI8Ideal.nD Cert.KernelI8Ideal.τ).loc Cert.KernelI8Ideal.main_arg1)) (m ((c.tc : Thread Cert.KernelI8Ideal.nD Cert.KernelI8Ideal.τ).loc Cert.KernelI8Ideal.main_arg2))).2.2.2.1 = (fun _ => 1#1)
    ∧ (Cert.Pre_pre_i8.fn (F := Ideal) (m ((c.tc : Thread Cert.KernelI8Ideal.nD Cert.KernelI8Ideal.τ).loc Cert.KernelI8Ideal.main_arg0)) (m ((c.tc : Thread Cert.KernelI8Ideal.nD Cert.KernelI8Ideal.τ).loc Cert.KernelI8Ideal.main_arg1)) (m ((c.tc : Thread Cert.KernelI8Ideal.nD Cert.KernelI8Ideal.τ).loc Cert.KernelI8Ideal.main_arg2))).2.2.2.2 = (fun _ => 1#1)

def Pre_ReferenceI8Ideal (m : (ℓ : Loc Cert.ReferenceI8Ideal.nD Cert.ReferenceI8Ideal.τ Cert.ReferenceI8Ideal.sig) → Buf (Elt Ideal) ℓ) : Prop :=
  True

def Pre_ReferenceI8Ideal_pre_i8 [hPre_pre_i8 : Cert.Pre_pre_i8.Facts] (m : (ℓ : Loc Cert.ReferenceI8Ideal.nD Cert.ReferenceI8Ideal.τ Cert.ReferenceI8Ideal.sig) → Buf (Elt Ideal) ℓ) : Prop :=
  ∀ c : Dev Cert.ReferenceI8Ideal.nD,
    (Cert.Pre_pre_i8.fn (F := Ideal) (m ((c.tc : Thread Cert.ReferenceI8Ideal.nD Cert.ReferenceI8Ideal.τ).loc Cert.ReferenceI8Ideal.main_arg0)) (m ((c.tc : Thread Cert.ReferenceI8Ideal.nD Cert.ReferenceI8Ideal.τ).loc Cert.ReferenceI8Ideal.main_arg1)) (m ((c.tc : Thread Cert.ReferenceI8Ideal.nD Cert.ReferenceI8Ideal.τ).loc Cert.ReferenceI8Ideal.main_arg2))).1 = (fun _ => 1#1)
    ∧ (Cert.Pre_pre_i8.fn (F := Ideal) (m ((c.tc : Thread Cert.ReferenceI8Ideal.nD Cert.ReferenceI8Ideal.τ).loc Cert.ReferenceI8Ideal.main_arg0)) (m ((c.tc : Thread Cert.ReferenceI8Ideal.nD Cert.ReferenceI8Ideal.τ).loc Cert.ReferenceI8Ideal.main_arg1)) (m ((c.tc : Thread Cert.ReferenceI8Ideal.nD Cert.ReferenceI8Ideal.τ).loc Cert.ReferenceI8Ideal.main_arg2))).2.1 = (fun _ => 1#1)
    ∧ (Cert.Pre_pre_i8.fn (F := Ideal) (m ((c.tc : Thread Cert.ReferenceI8Ideal.nD Cert.ReferenceI8Ideal.τ).loc Cert.ReferenceI8Ideal.main_arg0)) (m ((c.tc : Thread Cert.ReferenceI8Ideal.nD Cert.ReferenceI8Ideal.τ).loc Cert.ReferenceI8Ideal.main_arg1)) (m ((c.tc : Thread Cert.ReferenceI8Ideal.nD Cert.ReferenceI8Ideal.τ).loc Cert.ReferenceI8Ideal.main_arg2))).2.2.1 = (fun _ => 1#1)
    ∧ (Cert.Pre_pre_i8.fn (F := Ideal) (m ((c.tc : Thread Cert.ReferenceI8Ideal.nD Cert.ReferenceI8Ideal.τ).loc Cert.ReferenceI8Ideal.main_arg0)) (m ((c.tc : Thread Cert.ReferenceI8Ideal.nD Cert.ReferenceI8Ideal.τ).loc Cert.ReferenceI8Ideal.main_arg1)) (m ((c.tc : Thread Cert.ReferenceI8Ideal.nD Cert.ReferenceI8Ideal.τ).loc Cert.ReferenceI8Ideal.main_arg2))).2.2.2.1 = (fun _ => 1#1)
    ∧ (Cert.Pre_pre_i8.fn (F := Ideal) (m ((c.tc : Thread Cert.ReferenceI8Ideal.nD Cert.ReferenceI8Ideal.τ).loc Cert.ReferenceI8Ideal.main_arg0)) (m ((c.tc : Thread Cert.ReferenceI8Ideal.nD Cert.ReferenceI8Ideal.τ).loc Cert.ReferenceI8Ideal.main_arg1)) (m ((c.tc : Thread Cert.ReferenceI8Ideal.nD Cert.ReferenceI8Ideal.τ).loc Cert.ReferenceI8Ideal.main_arg2))).2.2.2.2 = (fun _ => 1#1)

def Pre_KernelI4 [hPre_pre_i4 : Cert.Pre_pre_i4.Facts] (m : (ℓ : Loc Cert.KernelI4.nD Cert.KernelI4.τ Cert.KernelI4.sig) → Buf (Elt Bits) ℓ) : Prop :=
  ∀ c : Dev Cert.KernelI4.nD,
    (Cert.Pre_pre_i4.fn (F := Bits) (m ((c.tc : Thread Cert.KernelI4.nD Cert.KernelI4.τ).loc Cert.KernelI4.main_arg0)) (m ((c.tc : Thread Cert.KernelI4.nD Cert.KernelI4.τ).loc Cert.KernelI4.main_arg1)) (m ((c.tc : Thread Cert.KernelI4.nD Cert.KernelI4.τ).loc Cert.KernelI4.main_arg2))).1 = (fun _ => 1#1)
    ∧ (Cert.Pre_pre_i4.fn (F := Bits) (m ((c.tc : Thread Cert.KernelI4.nD Cert.KernelI4.τ).loc Cert.KernelI4.main_arg0)) (m ((c.tc : Thread Cert.KernelI4.nD Cert.KernelI4.τ).loc Cert.KernelI4.main_arg1)) (m ((c.tc : Thread Cert.KernelI4.nD Cert.KernelI4.τ).loc Cert.KernelI4.main_arg2))).2.1 = (fun _ => 1#1)
    ∧ (Cert.Pre_pre_i4.fn (F := Bits) (m ((c.tc : Thread Cert.KernelI4.nD Cert.KernelI4.τ).loc Cert.KernelI4.main_arg0)) (m ((c.tc : Thread Cert.KernelI4.nD Cert.KernelI4.τ).loc Cert.KernelI4.main_arg1)) (m ((c.tc : Thread Cert.KernelI4.nD Cert.KernelI4.τ).loc Cert.KernelI4.main_arg2))).2.2.1 = (fun _ => 1#1)
    ∧ (Cert.Pre_pre_i4.fn (F := Bits) (m ((c.tc : Thread Cert.KernelI4.nD Cert.KernelI4.τ).loc Cert.KernelI4.main_arg0)) (m ((c.tc : Thread Cert.KernelI4.nD Cert.KernelI4.τ).loc Cert.KernelI4.main_arg1)) (m ((c.tc : Thread Cert.KernelI4.nD Cert.KernelI4.τ).loc Cert.KernelI4.main_arg2))).2.2.2.1 = (fun _ => 1#1)
    ∧ (Cert.Pre_pre_i4.fn (F := Bits) (m ((c.tc : Thread Cert.KernelI4.nD Cert.KernelI4.τ).loc Cert.KernelI4.main_arg0)) (m ((c.tc : Thread Cert.KernelI4.nD Cert.KernelI4.τ).loc Cert.KernelI4.main_arg1)) (m ((c.tc : Thread Cert.KernelI4.nD Cert.KernelI4.τ).loc Cert.KernelI4.main_arg2))).2.2.2.2 = (fun _ => 1#1)

def Pre_KernelI4Ideal [hPre_pre_i4 : Cert.Pre_pre_i4.Facts] (m : (ℓ : Loc Cert.KernelI4Ideal.nD Cert.KernelI4Ideal.τ Cert.KernelI4Ideal.sig) → Buf (Elt Ideal) ℓ) : Prop :=
  ∀ c : Dev Cert.KernelI4Ideal.nD,
    (Cert.Pre_pre_i4.fn (F := Ideal) (m ((c.tc : Thread Cert.KernelI4Ideal.nD Cert.KernelI4Ideal.τ).loc Cert.KernelI4Ideal.main_arg0)) (m ((c.tc : Thread Cert.KernelI4Ideal.nD Cert.KernelI4Ideal.τ).loc Cert.KernelI4Ideal.main_arg1)) (m ((c.tc : Thread Cert.KernelI4Ideal.nD Cert.KernelI4Ideal.τ).loc Cert.KernelI4Ideal.main_arg2))).1 = (fun _ => 1#1)
    ∧ (Cert.Pre_pre_i4.fn (F := Ideal) (m ((c.tc : Thread Cert.KernelI4Ideal.nD Cert.KernelI4Ideal.τ).loc Cert.KernelI4Ideal.main_arg0)) (m ((c.tc : Thread Cert.KernelI4Ideal.nD Cert.KernelI4Ideal.τ).loc Cert.KernelI4Ideal.main_arg1)) (m ((c.tc : Thread Cert.KernelI4Ideal.nD Cert.KernelI4Ideal.τ).loc Cert.KernelI4Ideal.main_arg2))).2.1 = (fun _ => 1#1)
    ∧ (Cert.Pre_pre_i4.fn (F := Ideal) (m ((c.tc : Thread Cert.KernelI4Ideal.nD Cert.KernelI4Ideal.τ).loc Cert.KernelI4Ideal.main_arg0)) (m ((c.tc : Thread Cert.KernelI4Ideal.nD Cert.KernelI4Ideal.τ).loc Cert.KernelI4Ideal.main_arg1)) (m ((c.tc : Thread Cert.KernelI4Ideal.nD Cert.KernelI4Ideal.τ).loc Cert.KernelI4Ideal.main_arg2))).2.2.1 = (fun _ => 1#1)
    ∧ (Cert.Pre_pre_i4.fn (F := Ideal) (m ((c.tc : Thread Cert.KernelI4Ideal.nD Cert.KernelI4Ideal.τ).loc Cert.KernelI4Ideal.main_arg0)) (m ((c.tc : Thread Cert.KernelI4Ideal.nD Cert.KernelI4Ideal.τ).loc Cert.KernelI4Ideal.main_arg1)) (m ((c.tc : Thread Cert.KernelI4Ideal.nD Cert.KernelI4Ideal.τ).loc Cert.KernelI4Ideal.main_arg2))).2.2.2.1 = (fun _ => 1#1)
    ∧ (Cert.Pre_pre_i4.fn (F := Ideal) (m ((c.tc : Thread Cert.KernelI4Ideal.nD Cert.KernelI4Ideal.τ).loc Cert.KernelI4Ideal.main_arg0)) (m ((c.tc : Thread Cert.KernelI4Ideal.nD Cert.KernelI4Ideal.τ).loc Cert.KernelI4Ideal.main_arg1)) (m ((c.tc : Thread Cert.KernelI4Ideal.nD Cert.KernelI4Ideal.τ).loc Cert.KernelI4Ideal.main_arg2))).2.2.2.2 = (fun _ => 1#1)

def Pre_ReferenceI4Ideal (m : (ℓ : Loc Cert.ReferenceI4Ideal.nD Cert.ReferenceI4Ideal.τ Cert.ReferenceI4Ideal.sig) → Buf (Elt Ideal) ℓ) : Prop :=
  True

def Pre_ReferenceI4Ideal_pre_i4 [hPre_pre_i4 : Cert.Pre_pre_i4.Facts] (m : (ℓ : Loc Cert.ReferenceI4Ideal.nD Cert.ReferenceI4Ideal.τ Cert.ReferenceI4Ideal.sig) → Buf (Elt Ideal) ℓ) : Prop :=
  ∀ c : Dev Cert.ReferenceI4Ideal.nD,
    (Cert.Pre_pre_i4.fn (F := Ideal) (m ((c.tc : Thread Cert.ReferenceI4Ideal.nD Cert.ReferenceI4Ideal.τ).loc Cert.ReferenceI4Ideal.main_arg0)) (m ((c.tc : Thread Cert.ReferenceI4Ideal.nD Cert.ReferenceI4Ideal.τ).loc Cert.ReferenceI4Ideal.main_arg1)) (m ((c.tc : Thread Cert.ReferenceI4Ideal.nD Cert.ReferenceI4Ideal.τ).loc Cert.ReferenceI4Ideal.main_arg2))).1 = (fun _ => 1#1)
    ∧ (Cert.Pre_pre_i4.fn (F := Ideal) (m ((c.tc : Thread Cert.ReferenceI4Ideal.nD Cert.ReferenceI4Ideal.τ).loc Cert.ReferenceI4Ideal.main_arg0)) (m ((c.tc : Thread Cert.ReferenceI4Ideal.nD Cert.ReferenceI4Ideal.τ).loc Cert.ReferenceI4Ideal.main_arg1)) (m ((c.tc : Thread Cert.ReferenceI4Ideal.nD Cert.ReferenceI4Ideal.τ).loc Cert.ReferenceI4Ideal.main_arg2))).2.1 = (fun _ => 1#1)
    ∧ (Cert.Pre_pre_i4.fn (F := Ideal) (m ((c.tc : Thread Cert.ReferenceI4Ideal.nD Cert.ReferenceI4Ideal.τ).loc Cert.ReferenceI4Ideal.main_arg0)) (m ((c.tc : Thread Cert.ReferenceI4Ideal.nD Cert.ReferenceI4Ideal.τ).loc Cert.ReferenceI4Ideal.main_arg1)) (m ((c.tc : Thread Cert.ReferenceI4Ideal.nD Cert.ReferenceI4Ideal.τ).loc Cert.ReferenceI4Ideal.main_arg2))).2.2.1 = (fun _ => 1#1)
    ∧ (Cert.Pre_pre_i4.fn (F := Ideal) (m ((c.tc : Thread Cert.ReferenceI4Ideal.nD Cert.ReferenceI4Ideal.τ).loc Cert.ReferenceI4Ideal.main_arg0)) (m ((c.tc : Thread Cert.ReferenceI4Ideal.nD Cert.ReferenceI4Ideal.τ).loc Cert.ReferenceI4Ideal.main_arg1)) (m ((c.tc : Thread Cert.ReferenceI4Ideal.nD Cert.ReferenceI4Ideal.τ).loc Cert.ReferenceI4Ideal.main_arg2))).2.2.2.1 = (fun _ => 1#1)
    ∧ (Cert.Pre_pre_i4.fn (F := Ideal) (m ((c.tc : Thread Cert.ReferenceI4Ideal.nD Cert.ReferenceI4Ideal.τ).loc Cert.ReferenceI4Ideal.main_arg0)) (m ((c.tc : Thread Cert.ReferenceI4Ideal.nD Cert.ReferenceI4Ideal.τ).loc Cert.ReferenceI4Ideal.main_arg1)) (m ((c.tc : Thread Cert.ReferenceI4Ideal.nD Cert.ReferenceI4Ideal.τ).loc Cert.ReferenceI4Ideal.main_arg2))).2.2.2.2 = (fun _ => 1#1)

def Pre_KernelF8 [hPre_pre_f8 : Cert.Pre_pre_f8.Facts] (m : (ℓ : Loc Cert.KernelF8.nD Cert.KernelF8.τ Cert.KernelF8.sig) → Buf (Elt Bits) ℓ) : Prop :=
  ∀ c : Dev Cert.KernelF8.nD,
    (Cert.Pre_pre_f8.fn (F := Bits) (m ((c.tc : Thread Cert.KernelF8.nD Cert.KernelF8.τ).loc Cert.KernelF8.main_arg0)) (m ((c.tc : Thread Cert.KernelF8.nD Cert.KernelF8.τ).loc Cert.KernelF8.main_arg1)) (m ((c.tc : Thread Cert.KernelF8.nD Cert.KernelF8.τ).loc Cert.KernelF8.main_arg2))).1 = (fun _ => 1#1)
    ∧ (Cert.Pre_pre_f8.fn (F := Bits) (m ((c.tc : Thread Cert.KernelF8.nD Cert.KernelF8.τ).loc Cert.KernelF8.main_arg0)) (m ((c.tc : Thread Cert.KernelF8.nD Cert.KernelF8.τ).loc Cert.KernelF8.main_arg1)) (m ((c.tc : Thread Cert.KernelF8.nD Cert.KernelF8.τ).loc Cert.KernelF8.main_arg2))).2.1 = (fun _ => 1#1)
    ∧ (Cert.Pre_pre_f8.fn (F := Bits) (m ((c.tc : Thread Cert.KernelF8.nD Cert.KernelF8.τ).loc Cert.KernelF8.main_arg0)) (m ((c.tc : Thread Cert.KernelF8.nD Cert.KernelF8.τ).loc Cert.KernelF8.main_arg1)) (m ((c.tc : Thread Cert.KernelF8.nD Cert.KernelF8.τ).loc Cert.KernelF8.main_arg2))).2.2.1 = (fun _ => 1#1)
    ∧ (Cert.Pre_pre_f8.fn (F := Bits) (m ((c.tc : Thread Cert.KernelF8.nD Cert.KernelF8.τ).loc Cert.KernelF8.main_arg0)) (m ((c.tc : Thread Cert.KernelF8.nD Cert.KernelF8.τ).loc Cert.KernelF8.main_arg1)) (m ((c.tc : Thread Cert.KernelF8.nD Cert.KernelF8.τ).loc Cert.KernelF8.main_arg2))).2.2.2.1 = (fun _ => 1#1)
    ∧ (Cert.Pre_pre_f8.fn (F := Bits) (m ((c.tc : Thread Cert.KernelF8.nD Cert.KernelF8.τ).loc Cert.KernelF8.main_arg0)) (m ((c.tc : Thread Cert.KernelF8.nD Cert.KernelF8.τ).loc Cert.KernelF8.main_arg1)) (m ((c.tc : Thread Cert.KernelF8.nD Cert.KernelF8.τ).loc Cert.KernelF8.main_arg2))).2.2.2.2 = (fun _ => 1#1)

def Pre_KernelF8Ideal [hPre_pre_f8 : Cert.Pre_pre_f8.Facts] (m : (ℓ : Loc Cert.KernelF8Ideal.nD Cert.KernelF8Ideal.τ Cert.KernelF8Ideal.sig) → Buf (Elt Ideal) ℓ) : Prop :=
  ∀ c : Dev Cert.KernelF8Ideal.nD,
    (Cert.Pre_pre_f8.fn (F := Ideal) (m ((c.tc : Thread Cert.KernelF8Ideal.nD Cert.KernelF8Ideal.τ).loc Cert.KernelF8Ideal.main_arg0)) (m ((c.tc : Thread Cert.KernelF8Ideal.nD Cert.KernelF8Ideal.τ).loc Cert.KernelF8Ideal.main_arg1)) (m ((c.tc : Thread Cert.KernelF8Ideal.nD Cert.KernelF8Ideal.τ).loc Cert.KernelF8Ideal.main_arg2))).1 = (fun _ => 1#1)
    ∧ (Cert.Pre_pre_f8.fn (F := Ideal) (m ((c.tc : Thread Cert.KernelF8Ideal.nD Cert.KernelF8Ideal.τ).loc Cert.KernelF8Ideal.main_arg0)) (m ((c.tc : Thread Cert.KernelF8Ideal.nD Cert.KernelF8Ideal.τ).loc Cert.KernelF8Ideal.main_arg1)) (m ((c.tc : Thread Cert.KernelF8Ideal.nD Cert.KernelF8Ideal.τ).loc Cert.KernelF8Ideal.main_arg2))).2.1 = (fun _ => 1#1)
    ∧ (Cert.Pre_pre_f8.fn (F := Ideal) (m ((c.tc : Thread Cert.KernelF8Ideal.nD Cert.KernelF8Ideal.τ).loc Cert.KernelF8Ideal.main_arg0)) (m ((c.tc : Thread Cert.KernelF8Ideal.nD Cert.KernelF8Ideal.τ).loc Cert.KernelF8Ideal.main_arg1)) (m ((c.tc : Thread Cert.KernelF8Ideal.nD Cert.KernelF8Ideal.τ).loc Cert.KernelF8Ideal.main_arg2))).2.2.1 = (fun _ => 1#1)
    ∧ (Cert.Pre_pre_f8.fn (F := Ideal) (m ((c.tc : Thread Cert.KernelF8Ideal.nD Cert.KernelF8Ideal.τ).loc Cert.KernelF8Ideal.main_arg0)) (m ((c.tc : Thread Cert.KernelF8Ideal.nD Cert.KernelF8Ideal.τ).loc Cert.KernelF8Ideal.main_arg1)) (m ((c.tc : Thread Cert.KernelF8Ideal.nD Cert.KernelF8Ideal.τ).loc Cert.KernelF8Ideal.main_arg2))).2.2.2.1 = (fun _ => 1#1)
    ∧ (Cert.Pre_pre_f8.fn (F := Ideal) (m ((c.tc : Thread Cert.KernelF8Ideal.nD Cert.KernelF8Ideal.τ).loc Cert.KernelF8Ideal.main_arg0)) (m ((c.tc : Thread Cert.KernelF8Ideal.nD Cert.KernelF8Ideal.τ).loc Cert.KernelF8Ideal.main_arg1)) (m ((c.tc : Thread Cert.KernelF8Ideal.nD Cert.KernelF8Ideal.τ).loc Cert.KernelF8Ideal.main_arg2))).2.2.2.2 = (fun _ => 1#1)

def Pre_ReferenceF8Ideal (m : (ℓ : Loc Cert.ReferenceF8Ideal.nD Cert.ReferenceF8Ideal.τ Cert.ReferenceF8Ideal.sig) → Buf (Elt Ideal) ℓ) : Prop :=
  True

def Pre_ReferenceF8Ideal_pre_f8 [hPre_pre_f8 : Cert.Pre_pre_f8.Facts] (m : (ℓ : Loc Cert.ReferenceF8Ideal.nD Cert.ReferenceF8Ideal.τ Cert.ReferenceF8Ideal.sig) → Buf (Elt Ideal) ℓ) : Prop :=
  ∀ c : Dev Cert.ReferenceF8Ideal.nD,
    (Cert.Pre_pre_f8.fn (F := Ideal) (m ((c.tc : Thread Cert.ReferenceF8Ideal.nD Cert.ReferenceF8Ideal.τ).loc Cert.ReferenceF8Ideal.main_arg0)) (m ((c.tc : Thread Cert.ReferenceF8Ideal.nD Cert.ReferenceF8Ideal.τ).loc Cert.ReferenceF8Ideal.main_arg1)) (m ((c.tc : Thread Cert.ReferenceF8Ideal.nD Cert.ReferenceF8Ideal.τ).loc Cert.ReferenceF8Ideal.main_arg2))).1 = (fun _ => 1#1)
    ∧ (Cert.Pre_pre_f8.fn (F := Ideal) (m ((c.tc : Thread Cert.ReferenceF8Ideal.nD Cert.ReferenceF8Ideal.τ).loc Cert.ReferenceF8Ideal.main_arg0)) (m ((c.tc : Thread Cert.ReferenceF8Ideal.nD Cert.ReferenceF8Ideal.τ).loc Cert.ReferenceF8Ideal.main_arg1)) (m ((c.tc : Thread Cert.ReferenceF8Ideal.nD Cert.ReferenceF8Ideal.τ).loc Cert.ReferenceF8Ideal.main_arg2))).2.1 = (fun _ => 1#1)
    ∧ (Cert.Pre_pre_f8.fn (F := Ideal) (m ((c.tc : Thread Cert.ReferenceF8Ideal.nD Cert.ReferenceF8Ideal.τ).loc Cert.ReferenceF8Ideal.main_arg0)) (m ((c.tc : Thread Cert.ReferenceF8Ideal.nD Cert.ReferenceF8Ideal.τ).loc Cert.ReferenceF8Ideal.main_arg1)) (m ((c.tc : Thread Cert.ReferenceF8Ideal.nD Cert.ReferenceF8Ideal.τ).loc Cert.ReferenceF8Ideal.main_arg2))).2.2.1 = (fun _ => 1#1)
    ∧ (Cert.Pre_pre_f8.fn (F := Ideal) (m ((c.tc : Thread Cert.ReferenceF8Ideal.nD Cert.ReferenceF8Ideal.τ).loc Cert.ReferenceF8Ideal.main_arg0)) (m ((c.tc : Thread Cert.ReferenceF8Ideal.nD Cert.ReferenceF8Ideal.τ).loc Cert.ReferenceF8Ideal.main_arg1)) (m ((c.tc : Thread Cert.ReferenceF8Ideal.nD Cert.ReferenceF8Ideal.τ).loc Cert.ReferenceF8Ideal.main_arg2))).2.2.2.1 = (fun _ => 1#1)
    ∧ (Cert.Pre_pre_f8.fn (F := Ideal) (m ((c.tc : Thread Cert.ReferenceF8Ideal.nD Cert.ReferenceF8Ideal.τ).loc Cert.ReferenceF8Ideal.main_arg0)) (m ((c.tc : Thread Cert.ReferenceF8Ideal.nD Cert.ReferenceF8Ideal.τ).loc Cert.ReferenceF8Ideal.main_arg1)) (m ((c.tc : Thread Cert.ReferenceF8Ideal.nD Cert.ReferenceF8Ideal.τ).loc Cert.ReferenceF8Ideal.main_arg2))).2.2.2.2 = (fun _ => 1#1)

def quiescent_KernelI8 [hKernelI8 : Cert.KernelI8.Facts] [hPre_pre_i8 : Cert.Pre_pre_i8.Facts] : Prop :=
  ∀ (m : (ℓ : Loc Cert.KernelI8.nD Cert.KernelI8.τ Cert.KernelI8.sig) → Buf (Elt Bits) ℓ) (g : Dev Cert.KernelI8.nD → PrngReg), Pre_KernelI8 m →
    θ_run (Cert.KernelI8.defs (F := Bits)) (onTc (τ := Cert.KernelI8.τ) (Cert.KernelI8.main (F := Bits))) ⟨m, fun _ => 0, g⟩ (fun r => (∀ c : Dev Cert.KernelI8.nD,
      r.2.mem ((c.tc : Thread Cert.KernelI8.nD Cert.KernelI8.τ).loc Cert.KernelI8.main_arg0) = m ((c.tc : Thread Cert.KernelI8.nD Cert.KernelI8.τ).loc Cert.KernelI8.main_arg0)
      ∧ r.2.mem ((c.tc : Thread Cert.KernelI8.nD Cert.KernelI8.τ).loc Cert.KernelI8.main_arg1) = m ((c.tc : Thread Cert.KernelI8.nD Cert.KernelI8.τ).loc Cert.KernelI8.main_arg1)
      ∧ r.2.mem ((c.tc : Thread Cert.KernelI8.nD Cert.KernelI8.τ).loc Cert.KernelI8.main_arg2) = m ((c.tc : Thread Cert.KernelI8.nD Cert.KernelI8.τ).loc Cert.KernelI8.main_arg2))
      ∧ r.2.sem = fun _ => 0)

def quiescent_KernelI8Ideal [hKernelI8Ideal : Cert.KernelI8Ideal.Facts] [hPre_pre_i8 : Cert.Pre_pre_i8.Facts] : Prop :=
  ∀ (m : (ℓ : Loc Cert.KernelI8Ideal.nD Cert.KernelI8Ideal.τ Cert.KernelI8Ideal.sig) → Buf (Elt Ideal) ℓ) (g : Dev Cert.KernelI8Ideal.nD → PrngReg), Pre_KernelI8Ideal m →
    θ_run (Cert.KernelI8Ideal.defs (F := Ideal)) (onTc (τ := Cert.KernelI8Ideal.τ) (Cert.KernelI8Ideal.main (F := Ideal))) ⟨m, fun _ => 0, g⟩ (fun r => (∀ c : Dev Cert.KernelI8Ideal.nD,
      r.2.mem ((c.tc : Thread Cert.KernelI8Ideal.nD Cert.KernelI8Ideal.τ).loc Cert.KernelI8Ideal.main_arg0) = m ((c.tc : Thread Cert.KernelI8Ideal.nD Cert.KernelI8Ideal.τ).loc Cert.KernelI8Ideal.main_arg0)
      ∧ r.2.mem ((c.tc : Thread Cert.KernelI8Ideal.nD Cert.KernelI8Ideal.τ).loc Cert.KernelI8Ideal.main_arg1) = m ((c.tc : Thread Cert.KernelI8Ideal.nD Cert.KernelI8Ideal.τ).loc Cert.KernelI8Ideal.main_arg1)
      ∧ r.2.mem ((c.tc : Thread Cert.KernelI8Ideal.nD Cert.KernelI8Ideal.τ).loc Cert.KernelI8Ideal.main_arg2) = m ((c.tc : Thread Cert.KernelI8Ideal.nD Cert.KernelI8Ideal.τ).loc Cert.KernelI8Ideal.main_arg2))
      ∧ r.2.sem = fun _ => 0)

def quiescent_ReferenceI8Ideal [hReferenceI8Ideal : Cert.ReferenceI8Ideal.Facts] : Prop :=
  ∀ (m : (ℓ : Loc Cert.ReferenceI8Ideal.nD Cert.ReferenceI8Ideal.τ Cert.ReferenceI8Ideal.sig) → Buf (Elt Ideal) ℓ) (g : Dev Cert.ReferenceI8Ideal.nD → PrngReg), Pre_ReferenceI8Ideal m →
    θ_run (Cert.ReferenceI8Ideal.defs (F := Ideal)) (onTc (τ := Cert.ReferenceI8Ideal.τ) (Cert.ReferenceI8Ideal.main (F := Ideal))) ⟨m, fun _ => 0, g⟩ (fun r => (∀ c : Dev Cert.ReferenceI8Ideal.nD,
      r.2.mem ((c.tc : Thread Cert.ReferenceI8Ideal.nD Cert.ReferenceI8Ideal.τ).loc Cert.ReferenceI8Ideal.main_arg0) = m ((c.tc : Thread Cert.ReferenceI8Ideal.nD Cert.ReferenceI8Ideal.τ).loc Cert.ReferenceI8Ideal.main_arg0)
      ∧ r.2.mem ((c.tc : Thread Cert.ReferenceI8Ideal.nD Cert.ReferenceI8Ideal.τ).loc Cert.ReferenceI8Ideal.main_arg1) = m ((c.tc : Thread Cert.ReferenceI8Ideal.nD Cert.ReferenceI8Ideal.τ).loc Cert.ReferenceI8Ideal.main_arg1)
      ∧ r.2.mem ((c.tc : Thread Cert.ReferenceI8Ideal.nD Cert.ReferenceI8Ideal.τ).loc Cert.ReferenceI8Ideal.main_arg2) = m ((c.tc : Thread Cert.ReferenceI8Ideal.nD Cert.ReferenceI8Ideal.τ).loc Cert.ReferenceI8Ideal.main_arg2))
      ∧ r.2.sem = fun _ => 0)

def quiescent_ReferenceI8Ideal_pre_pre_i8 [hReferenceI8Ideal : Cert.ReferenceI8Ideal.Facts] [hPre_pre_i8 : Cert.Pre_pre_i8.Facts] : Prop :=
  ∀ (m : (ℓ : Loc Cert.ReferenceI8Ideal.nD Cert.ReferenceI8Ideal.τ Cert.ReferenceI8Ideal.sig) → Buf (Elt Ideal) ℓ) (g : Dev Cert.ReferenceI8Ideal.nD → PrngReg), Pre_ReferenceI8Ideal_pre_i8 m →
    θ_run (Cert.ReferenceI8Ideal.defs (F := Ideal)) (onTc (τ := Cert.ReferenceI8Ideal.τ) (Cert.ReferenceI8Ideal.main (F := Ideal))) ⟨m, fun _ => 0, g⟩ (fun r => (∀ c : Dev Cert.ReferenceI8Ideal.nD,
      r.2.mem ((c.tc : Thread Cert.ReferenceI8Ideal.nD Cert.ReferenceI8Ideal.τ).loc Cert.ReferenceI8Ideal.main_arg0) = m ((c.tc : Thread Cert.ReferenceI8Ideal.nD Cert.ReferenceI8Ideal.τ).loc Cert.ReferenceI8Ideal.main_arg0)
      ∧ r.2.mem ((c.tc : Thread Cert.ReferenceI8Ideal.nD Cert.ReferenceI8Ideal.τ).loc Cert.ReferenceI8Ideal.main_arg1) = m ((c.tc : Thread Cert.ReferenceI8Ideal.nD Cert.ReferenceI8Ideal.τ).loc Cert.ReferenceI8Ideal.main_arg1)
      ∧ r.2.mem ((c.tc : Thread Cert.ReferenceI8Ideal.nD Cert.ReferenceI8Ideal.τ).loc Cert.ReferenceI8Ideal.main_arg2) = m ((c.tc : Thread Cert.ReferenceI8Ideal.nD Cert.ReferenceI8Ideal.τ).loc Cert.ReferenceI8Ideal.main_arg2))
      ∧ r.2.sem = fun _ => 0)

def quiescent_KernelI4 [hKernelI4 : Cert.KernelI4.Facts] [hPre_pre_i4 : Cert.Pre_pre_i4.Facts] : Prop :=
  ∀ (m : (ℓ : Loc Cert.KernelI4.nD Cert.KernelI4.τ Cert.KernelI4.sig) → Buf (Elt Bits) ℓ) (g : Dev Cert.KernelI4.nD → PrngReg), Pre_KernelI4 m →
    θ_run (Cert.KernelI4.defs (F := Bits)) (onTc (τ := Cert.KernelI4.τ) (Cert.KernelI4.main (F := Bits))) ⟨m, fun _ => 0, g⟩ (fun r => (∀ c : Dev Cert.KernelI4.nD,
      r.2.mem ((c.tc : Thread Cert.KernelI4.nD Cert.KernelI4.τ).loc Cert.KernelI4.main_arg0) = m ((c.tc : Thread Cert.KernelI4.nD Cert.KernelI4.τ).loc Cert.KernelI4.main_arg0)
      ∧ r.2.mem ((c.tc : Thread Cert.KernelI4.nD Cert.KernelI4.τ).loc Cert.KernelI4.main_arg1) = m ((c.tc : Thread Cert.KernelI4.nD Cert.KernelI4.τ).loc Cert.KernelI4.main_arg1)
      ∧ r.2.mem ((c.tc : Thread Cert.KernelI4.nD Cert.KernelI4.τ).loc Cert.KernelI4.main_arg2) = m ((c.tc : Thread Cert.KernelI4.nD Cert.KernelI4.τ).loc Cert.KernelI4.main_arg2))
      ∧ r.2.sem = fun _ => 0)

def quiescent_KernelI4Ideal [hKernelI4Ideal : Cert.KernelI4Ideal.Facts] [hPre_pre_i4 : Cert.Pre_pre_i4.Facts] : Prop :=
  ∀ (m : (ℓ : Loc Cert.KernelI4Ideal.nD Cert.KernelI4Ideal.τ Cert.KernelI4Ideal.sig) → Buf (Elt Ideal) ℓ) (g : Dev Cert.KernelI4Ideal.nD → PrngReg), Pre_KernelI4Ideal m →
    θ_run (Cert.KernelI4Ideal.defs (F := Ideal)) (onTc (τ := Cert.KernelI4Ideal.τ) (Cert.KernelI4Ideal.main (F := Ideal))) ⟨m, fun _ => 0, g⟩ (fun r => (∀ c : Dev Cert.KernelI4Ideal.nD,
      r.2.mem ((c.tc : Thread Cert.KernelI4Ideal.nD Cert.KernelI4Ideal.τ).loc Cert.KernelI4Ideal.main_arg0) = m ((c.tc : Thread Cert.KernelI4Ideal.nD Cert.KernelI4Ideal.τ).loc Cert.KernelI4Ideal.main_arg0)
      ∧ r.2.mem ((c.tc : Thread Cert.KernelI4Ideal.nD Cert.KernelI4Ideal.τ).loc Cert.KernelI4Ideal.main_arg1) = m ((c.tc : Thread Cert.KernelI4Ideal.nD Cert.KernelI4Ideal.τ).loc Cert.KernelI4Ideal.main_arg1)
      ∧ r.2.mem ((c.tc : Thread Cert.KernelI4Ideal.nD Cert.KernelI4Ideal.τ).loc Cert.KernelI4Ideal.main_arg2) = m ((c.tc : Thread Cert.KernelI4Ideal.nD Cert.KernelI4Ideal.τ).loc Cert.KernelI4Ideal.main_arg2))
      ∧ r.2.sem = fun _ => 0)

def quiescent_ReferenceI4Ideal [hReferenceI4Ideal : Cert.ReferenceI4Ideal.Facts] : Prop :=
  ∀ (m : (ℓ : Loc Cert.ReferenceI4Ideal.nD Cert.ReferenceI4Ideal.τ Cert.ReferenceI4Ideal.sig) → Buf (Elt Ideal) ℓ) (g : Dev Cert.ReferenceI4Ideal.nD → PrngReg), Pre_ReferenceI4Ideal m →
    θ_run (Cert.ReferenceI4Ideal.defs (F := Ideal)) (onTc (τ := Cert.ReferenceI4Ideal.τ) (Cert.ReferenceI4Ideal.main (F := Ideal))) ⟨m, fun _ => 0, g⟩ (fun r => (∀ c : Dev Cert.ReferenceI4Ideal.nD,
      r.2.mem ((c.tc : Thread Cert.ReferenceI4Ideal.nD Cert.ReferenceI4Ideal.τ).loc Cert.ReferenceI4Ideal.main_arg0) = m ((c.tc : Thread Cert.ReferenceI4Ideal.nD Cert.ReferenceI4Ideal.τ).loc Cert.ReferenceI4Ideal.main_arg0)
      ∧ r.2.mem ((c.tc : Thread Cert.ReferenceI4Ideal.nD Cert.ReferenceI4Ideal.τ).loc Cert.ReferenceI4Ideal.main_arg1) = m ((c.tc : Thread Cert.ReferenceI4Ideal.nD Cert.ReferenceI4Ideal.τ).loc Cert.ReferenceI4Ideal.main_arg1)
      ∧ r.2.mem ((c.tc : Thread Cert.ReferenceI4Ideal.nD Cert.ReferenceI4Ideal.τ).loc Cert.ReferenceI4Ideal.main_arg2) = m ((c.tc : Thread Cert.ReferenceI4Ideal.nD Cert.ReferenceI4Ideal.τ).loc Cert.ReferenceI4Ideal.main_arg2))
      ∧ r.2.sem = fun _ => 0)

def quiescent_ReferenceI4Ideal_pre_pre_i4 [hReferenceI4Ideal : Cert.ReferenceI4Ideal.Facts] [hPre_pre_i4 : Cert.Pre_pre_i4.Facts] : Prop :=
  ∀ (m : (ℓ : Loc Cert.ReferenceI4Ideal.nD Cert.ReferenceI4Ideal.τ Cert.ReferenceI4Ideal.sig) → Buf (Elt Ideal) ℓ) (g : Dev Cert.ReferenceI4Ideal.nD → PrngReg), Pre_ReferenceI4Ideal_pre_i4 m →
    θ_run (Cert.ReferenceI4Ideal.defs (F := Ideal)) (onTc (τ := Cert.ReferenceI4Ideal.τ) (Cert.ReferenceI4Ideal.main (F := Ideal))) ⟨m, fun _ => 0, g⟩ (fun r => (∀ c : Dev Cert.ReferenceI4Ideal.nD,
      r.2.mem ((c.tc : Thread Cert.ReferenceI4Ideal.nD Cert.ReferenceI4Ideal.τ).loc Cert.ReferenceI4Ideal.main_arg0) = m ((c.tc : Thread Cert.ReferenceI4Ideal.nD Cert.ReferenceI4Ideal.τ).loc Cert.ReferenceI4Ideal.main_arg0)
      ∧ r.2.mem ((c.tc : Thread Cert.ReferenceI4Ideal.nD Cert.ReferenceI4Ideal.τ).loc Cert.ReferenceI4Ideal.main_arg1) = m ((c.tc : Thread Cert.ReferenceI4Ideal.nD Cert.ReferenceI4Ideal.τ).loc Cert.ReferenceI4Ideal.main_arg1)
      ∧ r.2.mem ((c.tc : Thread Cert.ReferenceI4Ideal.nD Cert.ReferenceI4Ideal.τ).loc Cert.ReferenceI4Ideal.main_arg2) = m ((c.tc : Thread Cert.ReferenceI4Ideal.nD Cert.ReferenceI4Ideal.τ).loc Cert.ReferenceI4Ideal.main_arg2))
      ∧ r.2.sem = fun _ => 0)

def quiescent_KernelF8 [hKernelF8 : Cert.KernelF8.Facts] [hPre_pre_f8 : Cert.Pre_pre_f8.Facts] : Prop :=
  ∀ (m : (ℓ : Loc Cert.KernelF8.nD Cert.KernelF8.τ Cert.KernelF8.sig) → Buf (Elt Bits) ℓ) (g : Dev Cert.KernelF8.nD → PrngReg), Pre_KernelF8 m →
    θ_run (Cert.KernelF8.defs (F := Bits)) (onTc (τ := Cert.KernelF8.τ) (Cert.KernelF8.main (F := Bits))) ⟨m, fun _ => 0, g⟩ (fun r => (∀ c : Dev Cert.KernelF8.nD,
      r.2.mem ((c.tc : Thread Cert.KernelF8.nD Cert.KernelF8.τ).loc Cert.KernelF8.main_arg0) = m ((c.tc : Thread Cert.KernelF8.nD Cert.KernelF8.τ).loc Cert.KernelF8.main_arg0)
      ∧ r.2.mem ((c.tc : Thread Cert.KernelF8.nD Cert.KernelF8.τ).loc Cert.KernelF8.main_arg1) = m ((c.tc : Thread Cert.KernelF8.nD Cert.KernelF8.τ).loc Cert.KernelF8.main_arg1)
      ∧ r.2.mem ((c.tc : Thread Cert.KernelF8.nD Cert.KernelF8.τ).loc Cert.KernelF8.main_arg2) = m ((c.tc : Thread Cert.KernelF8.nD Cert.KernelF8.τ).loc Cert.KernelF8.main_arg2))
      ∧ r.2.sem = fun _ => 0)

def quiescent_KernelF8Ideal [hKernelF8Ideal : Cert.KernelF8Ideal.Facts] [hPre_pre_f8 : Cert.Pre_pre_f8.Facts] : Prop :=
  ∀ (m : (ℓ : Loc Cert.KernelF8Ideal.nD Cert.KernelF8Ideal.τ Cert.KernelF8Ideal.sig) → Buf (Elt Ideal) ℓ) (g : Dev Cert.KernelF8Ideal.nD → PrngReg), Pre_KernelF8Ideal m →
    θ_run (Cert.KernelF8Ideal.defs (F := Ideal)) (onTc (τ := Cert.KernelF8Ideal.τ) (Cert.KernelF8Ideal.main (F := Ideal))) ⟨m, fun _ => 0, g⟩ (fun r => (∀ c : Dev Cert.KernelF8Ideal.nD,
      r.2.mem ((c.tc : Thread Cert.KernelF8Ideal.nD Cert.KernelF8Ideal.τ).loc Cert.KernelF8Ideal.main_arg0) = m ((c.tc : Thread Cert.KernelF8Ideal.nD Cert.KernelF8Ideal.τ).loc Cert.KernelF8Ideal.main_arg0)
      ∧ r.2.mem ((c.tc : Thread Cert.KernelF8Ideal.nD Cert.KernelF8Ideal.τ).loc Cert.KernelF8Ideal.main_arg1) = m ((c.tc : Thread Cert.KernelF8Ideal.nD Cert.KernelF8Ideal.τ).loc Cert.KernelF8Ideal.main_arg1)
      ∧ r.2.mem ((c.tc : Thread Cert.KernelF8Ideal.nD Cert.KernelF8Ideal.τ).loc Cert.KernelF8Ideal.main_arg2) = m ((c.tc : Thread Cert.KernelF8Ideal.nD Cert.KernelF8Ideal.τ).loc Cert.KernelF8Ideal.main_arg2))
      ∧ r.2.sem = fun _ => 0)

def quiescent_ReferenceF8Ideal [hReferenceF8Ideal : Cert.ReferenceF8Ideal.Facts] : Prop :=
  ∀ (m : (ℓ : Loc Cert.ReferenceF8Ideal.nD Cert.ReferenceF8Ideal.τ Cert.ReferenceF8Ideal.sig) → Buf (Elt Ideal) ℓ) (g : Dev Cert.ReferenceF8Ideal.nD → PrngReg), Pre_ReferenceF8Ideal m →
    θ_run (Cert.ReferenceF8Ideal.defs (F := Ideal)) (onTc (τ := Cert.ReferenceF8Ideal.τ) (Cert.ReferenceF8Ideal.main (F := Ideal))) ⟨m, fun _ => 0, g⟩ (fun r => (∀ c : Dev Cert.ReferenceF8Ideal.nD,
      r.2.mem ((c.tc : Thread Cert.ReferenceF8Ideal.nD Cert.ReferenceF8Ideal.τ).loc Cert.ReferenceF8Ideal.main_arg0) = m ((c.tc : Thread Cert.ReferenceF8Ideal.nD Cert.ReferenceF8Ideal.τ).loc Cert.ReferenceF8Ideal.main_arg0)
      ∧ r.2.mem ((c.tc : Thread Cert.ReferenceF8Ideal.nD Cert.ReferenceF8Ideal.τ).loc Cert.ReferenceF8Ideal.main_arg1) = m ((c.tc : Thread Cert.ReferenceF8Ideal.nD Cert.ReferenceF8Ideal.τ).loc Cert.ReferenceF8Ideal.main_arg1)
      ∧ r.2.mem ((c.tc : Thread Cert.ReferenceF8Ideal.nD Cert.ReferenceF8Ideal.τ).loc Cert.ReferenceF8Ideal.main_arg2) = m ((c.tc : Thread Cert.ReferenceF8Ideal.nD Cert.ReferenceF8Ideal.τ).loc Cert.ReferenceF8Ideal.main_arg2))
      ∧ r.2.sem = fun _ => 0)

def quiescent_ReferenceF8Ideal_pre_pre_f8 [hReferenceF8Ideal : Cert.ReferenceF8Ideal.Facts] [hPre_pre_f8 : Cert.Pre_pre_f8.Facts] : Prop :=
  ∀ (m : (ℓ : Loc Cert.ReferenceF8Ideal.nD Cert.ReferenceF8Ideal.τ Cert.ReferenceF8Ideal.sig) → Buf (Elt Ideal) ℓ) (g : Dev Cert.ReferenceF8Ideal.nD → PrngReg), Pre_ReferenceF8Ideal_pre_f8 m →
    θ_run (Cert.ReferenceF8Ideal.defs (F := Ideal)) (onTc (τ := Cert.ReferenceF8Ideal.τ) (Cert.ReferenceF8Ideal.main (F := Ideal))) ⟨m, fun _ => 0, g⟩ (fun r => (∀ c : Dev Cert.ReferenceF8Ideal.nD,
      r.2.mem ((c.tc : Thread Cert.ReferenceF8Ideal.nD Cert.ReferenceF8Ideal.τ).loc Cert.ReferenceF8Ideal.main_arg0) = m ((c.tc : Thread Cert.ReferenceF8Ideal.nD Cert.ReferenceF8Ideal.τ).loc Cert.ReferenceF8Ideal.main_arg0)
      ∧ r.2.mem ((c.tc : Thread Cert.ReferenceF8Ideal.nD Cert.ReferenceF8Ideal.τ).loc Cert.ReferenceF8Ideal.main_arg1) = m ((c.tc : Thread Cert.ReferenceF8Ideal.nD Cert.ReferenceF8Ideal.τ).loc Cert.ReferenceF8Ideal.main_arg1)
      ∧ r.2.mem ((c.tc : Thread Cert.ReferenceF8Ideal.nD Cert.ReferenceF8Ideal.τ).loc Cert.ReferenceF8Ideal.main_arg2) = m ((c.tc : Thread Cert.ReferenceF8Ideal.nD Cert.ReferenceF8Ideal.τ).loc Cert.ReferenceF8Ideal.main_arg2))
      ∧ r.2.sem = fun _ => 0)

def preserves_KernelI8_KernelI8Ideal : Prop :=
  True

def algebraic_KernelI8Ideal_ReferenceI8Ideal [hKernelI8Ideal : Cert.KernelI8Ideal.Facts] [hReferenceI8Ideal : Cert.ReferenceI8Ideal.Facts] [hPre_pre_i8 : Cert.Pre_pre_i8.Facts] : Prop :=
  ∀ (m : (ℓ : Loc Cert.KernelI8Ideal.nD Cert.KernelI8Ideal.τ Cert.KernelI8Ideal.sig) → Buf (Elt Ideal) ℓ) (g : Dev Cert.KernelI8Ideal.nD → PrngReg)
    (m' : (ℓ : Loc Cert.ReferenceI8Ideal.nD Cert.ReferenceI8Ideal.τ Cert.ReferenceI8Ideal.sig) → Buf (Elt Ideal) ℓ) (g' : Dev Cert.ReferenceI8Ideal.nD → PrngReg), Pre_KernelI8Ideal m →
    (∀ c : Dev Cert.KernelI8Ideal.nD,
      m' ((c.tc : Thread Cert.ReferenceI8Ideal.nD Cert.ReferenceI8Ideal.τ).loc Cert.ReferenceI8Ideal.main_arg0) = m ((c.tc : Thread Cert.KernelI8Ideal.nD Cert.KernelI8Ideal.τ).loc Cert.KernelI8Ideal.main_arg0)
      ∧ m' ((c.tc : Thread Cert.ReferenceI8Ideal.nD Cert.ReferenceI8Ideal.τ).loc Cert.ReferenceI8Ideal.main_arg1) = m ((c.tc : Thread Cert.KernelI8Ideal.nD Cert.KernelI8Ideal.τ).loc Cert.KernelI8Ideal.main_arg1)
      ∧ m' ((c.tc : Thread Cert.ReferenceI8Ideal.nD Cert.ReferenceI8Ideal.τ).loc Cert.ReferenceI8Ideal.main_arg2) = m ((c.tc : Thread Cert.KernelI8Ideal.nD Cert.KernelI8Ideal.τ).loc Cert.KernelI8Ideal.main_arg2)) →
    ∃ (v0 : (c : Dev Cert.KernelI8Ideal.nD) → Buf (Elt Ideal) ((c.tc : Thread Cert.KernelI8Ideal.nD Cert.KernelI8Ideal.τ).loc Cert.KernelI8Ideal.main_v16)),
      θ_run (Cert.KernelI8Ideal.defs (F := Ideal)) (onTc (τ := Cert.KernelI8Ideal.τ) (Cert.KernelI8Ideal.main (F := Ideal))) ⟨m, fun _ => 0, g⟩ (fun r => ∀ c : Dev Cert.KernelI8Ideal.nD,
          r.2.mem ((c.tc : Thread Cert.KernelI8Ideal.nD Cert.KernelI8Ideal.τ).loc Cert.KernelI8Ideal.main_v16) = v0 c
          ∧ r.2.mem ((c.tc : Thread Cert.KernelI8Ideal.nD Cert.KernelI8Ideal.τ).loc Cert.KernelI8Ideal.main_arg0) = m ((c.tc : Thread Cert.KernelI8Ideal.nD Cert.KernelI8Ideal.τ).loc Cert.KernelI8Ideal.main_arg0)
          ∧ r.2.mem ((c.tc : Thread Cert.KernelI8Ideal.nD Cert.KernelI8Ideal.τ).loc Cert.KernelI8Ideal.main_arg1) = m ((c.tc : Thread Cert.KernelI8Ideal.nD Cert.KernelI8Ideal.τ).loc Cert.KernelI8Ideal.main_arg1)
          ∧ r.2.mem ((c.tc : Thread Cert.KernelI8Ideal.nD Cert.KernelI8Ideal.τ).loc Cert.KernelI8Ideal.main_arg2) = m ((c.tc : Thread Cert.KernelI8Ideal.nD Cert.KernelI8Ideal.τ).loc Cert.KernelI8Ideal.main_arg2))
      ∧ θ_run (Cert.ReferenceI8Ideal.defs (F := Ideal)) (onTc (τ := Cert.ReferenceI8Ideal.τ) (Cert.ReferenceI8Ideal.main (F := Ideal))) ⟨m', fun _ => 0, g'⟩ (fun r => ∀ c : Dev Cert.ReferenceI8Ideal.nD,
          r.2.mem ((c.tc : Thread Cert.ReferenceI8Ideal.nD Cert.ReferenceI8Ideal.τ).loc Cert.ReferenceI8Ideal.main_v71) = v0 c
          ∧ r.2.mem ((c.tc : Thread Cert.ReferenceI8Ideal.nD Cert.ReferenceI8Ideal.τ).loc Cert.ReferenceI8Ideal.main_arg0) = m' ((c.tc : Thread Cert.ReferenceI8Ideal.nD Cert.ReferenceI8Ideal.τ).loc Cert.ReferenceI8Ideal.main_arg0)
          ∧ r.2.mem ((c.tc : Thread Cert.ReferenceI8Ideal.nD Cert.ReferenceI8Ideal.τ).loc Cert.ReferenceI8Ideal.main_arg1) = m' ((c.tc : Thread Cert.ReferenceI8Ideal.nD Cert.ReferenceI8Ideal.τ).loc Cert.ReferenceI8Ideal.main_arg1)
          ∧ r.2.mem ((c.tc : Thread Cert.ReferenceI8Ideal.nD Cert.ReferenceI8Ideal.τ).loc Cert.ReferenceI8Ideal.main_arg2) = m' ((c.tc : Thread Cert.ReferenceI8Ideal.nD Cert.ReferenceI8Ideal.τ).loc Cert.ReferenceI8Ideal.main_arg2))

def preserves_KernelI4_KernelI4Ideal : Prop :=
  True

def algebraic_KernelI4Ideal_ReferenceI4Ideal [hKernelI4Ideal : Cert.KernelI4Ideal.Facts] [hReferenceI4Ideal : Cert.ReferenceI4Ideal.Facts] [hPre_pre_i4 : Cert.Pre_pre_i4.Facts] : Prop :=
  ∀ (m : (ℓ : Loc Cert.KernelI4Ideal.nD Cert.KernelI4Ideal.τ Cert.KernelI4Ideal.sig) → Buf (Elt Ideal) ℓ) (g : Dev Cert.KernelI4Ideal.nD → PrngReg)
    (m' : (ℓ : Loc Cert.ReferenceI4Ideal.nD Cert.ReferenceI4Ideal.τ Cert.ReferenceI4Ideal.sig) → Buf (Elt Ideal) ℓ) (g' : Dev Cert.ReferenceI4Ideal.nD → PrngReg), Pre_KernelI4Ideal m →
    (∀ c : Dev Cert.KernelI4Ideal.nD,
      m' ((c.tc : Thread Cert.ReferenceI4Ideal.nD Cert.ReferenceI4Ideal.τ).loc Cert.ReferenceI4Ideal.main_arg0) = m ((c.tc : Thread Cert.KernelI4Ideal.nD Cert.KernelI4Ideal.τ).loc Cert.KernelI4Ideal.main_arg0)
      ∧ m' ((c.tc : Thread Cert.ReferenceI4Ideal.nD Cert.ReferenceI4Ideal.τ).loc Cert.ReferenceI4Ideal.main_arg1) = m ((c.tc : Thread Cert.KernelI4Ideal.nD Cert.KernelI4Ideal.τ).loc Cert.KernelI4Ideal.main_arg1)
      ∧ m' ((c.tc : Thread Cert.ReferenceI4Ideal.nD Cert.ReferenceI4Ideal.τ).loc Cert.ReferenceI4Ideal.main_arg2) = m ((c.tc : Thread Cert.KernelI4Ideal.nD Cert.KernelI4Ideal.τ).loc Cert.KernelI4Ideal.main_arg2)) →
    ∃ (v0 : (c : Dev Cert.KernelI4Ideal.nD) → Buf (Elt Ideal) ((c.tc : Thread Cert.KernelI4Ideal.nD Cert.KernelI4Ideal.τ).loc Cert.KernelI4Ideal.main_v16)),
      θ_run (Cert.KernelI4Ideal.defs (F := Ideal)) (onTc (τ := Cert.KernelI4Ideal.τ) (Cert.KernelI4Ideal.main (F := Ideal))) ⟨m, fun _ => 0, g⟩ (fun r => ∀ c : Dev Cert.KernelI4Ideal.nD,
          r.2.mem ((c.tc : Thread Cert.KernelI4Ideal.nD Cert.KernelI4Ideal.τ).loc Cert.KernelI4Ideal.main_v16) = v0 c
          ∧ r.2.mem ((c.tc : Thread Cert.KernelI4Ideal.nD Cert.KernelI4Ideal.τ).loc Cert.KernelI4Ideal.main_arg0) = m ((c.tc : Thread Cert.KernelI4Ideal.nD Cert.KernelI4Ideal.τ).loc Cert.KernelI4Ideal.main_arg0)
          ∧ r.2.mem ((c.tc : Thread Cert.KernelI4Ideal.nD Cert.KernelI4Ideal.τ).loc Cert.KernelI4Ideal.main_arg1) = m ((c.tc : Thread Cert.KernelI4Ideal.nD Cert.KernelI4Ideal.τ).loc Cert.KernelI4Ideal.main_arg1)
          ∧ r.2.mem ((c.tc : Thread Cert.KernelI4Ideal.nD Cert.KernelI4Ideal.τ).loc Cert.KernelI4Ideal.main_arg2) = m ((c.tc : Thread Cert.KernelI4Ideal.nD Cert.KernelI4Ideal.τ).loc Cert.KernelI4Ideal.main_arg2))
      ∧ θ_run (Cert.ReferenceI4Ideal.defs (F := Ideal)) (onTc (τ := Cert.ReferenceI4Ideal.τ) (Cert.ReferenceI4Ideal.main (F := Ideal))) ⟨m', fun _ => 0, g'⟩ (fun r => ∀ c : Dev Cert.ReferenceI4Ideal.nD,
          r.2.mem ((c.tc : Thread Cert.ReferenceI4Ideal.nD Cert.ReferenceI4Ideal.τ).loc Cert.ReferenceI4Ideal.main_v74) = v0 c
          ∧ r.2.mem ((c.tc : Thread Cert.ReferenceI4Ideal.nD Cert.ReferenceI4Ideal.τ).loc Cert.ReferenceI4Ideal.main_arg0) = m' ((c.tc : Thread Cert.ReferenceI4Ideal.nD Cert.ReferenceI4Ideal.τ).loc Cert.ReferenceI4Ideal.main_arg0)
          ∧ r.2.mem ((c.tc : Thread Cert.ReferenceI4Ideal.nD Cert.ReferenceI4Ideal.τ).loc Cert.ReferenceI4Ideal.main_arg1) = m' ((c.tc : Thread Cert.ReferenceI4Ideal.nD Cert.ReferenceI4Ideal.τ).loc Cert.ReferenceI4Ideal.main_arg1)
          ∧ r.2.mem ((c.tc : Thread Cert.ReferenceI4Ideal.nD Cert.ReferenceI4Ideal.τ).loc Cert.ReferenceI4Ideal.main_arg2) = m' ((c.tc : Thread Cert.ReferenceI4Ideal.nD Cert.ReferenceI4Ideal.τ).loc Cert.ReferenceI4Ideal.main_arg2))

def preserves_KernelF8_KernelF8Ideal : Prop :=
  True

def algebraic_KernelF8Ideal_ReferenceF8Ideal [hKernelF8Ideal : Cert.KernelF8Ideal.Facts] [hReferenceF8Ideal : Cert.ReferenceF8Ideal.Facts] [hPre_pre_f8 : Cert.Pre_pre_f8.Facts] : Prop :=
  ∀ (m : (ℓ : Loc Cert.KernelF8Ideal.nD Cert.KernelF8Ideal.τ Cert.KernelF8Ideal.sig) → Buf (Elt Ideal) ℓ) (g : Dev Cert.KernelF8Ideal.nD → PrngReg)
    (m' : (ℓ : Loc Cert.ReferenceF8Ideal.nD Cert.ReferenceF8Ideal.τ Cert.ReferenceF8Ideal.sig) → Buf (Elt Ideal) ℓ) (g' : Dev Cert.ReferenceF8Ideal.nD → PrngReg), Pre_KernelF8Ideal m →
    (∀ c : Dev Cert.KernelF8Ideal.nD,
      m' ((c.tc : Thread Cert.ReferenceF8Ideal.nD Cert.ReferenceF8Ideal.τ).loc Cert.ReferenceF8Ideal.main_arg0) = m ((c.tc : Thread Cert.KernelF8Ideal.nD Cert.KernelF8Ideal.τ).loc Cert.KernelF8Ideal.main_arg0)
      ∧ m' ((c.tc : Thread Cert.ReferenceF8Ideal.nD Cert.ReferenceF8Ideal.τ).loc Cert.ReferenceF8Ideal.main_arg1) = m ((c.tc : Thread Cert.KernelF8Ideal.nD Cert.KernelF8Ideal.τ).loc Cert.KernelF8Ideal.main_arg1)
      ∧ m' ((c.tc : Thread Cert.ReferenceF8Ideal.nD Cert.ReferenceF8Ideal.τ).loc Cert.ReferenceF8Ideal.main_arg2) = m ((c.tc : Thread Cert.KernelF8Ideal.nD Cert.KernelF8Ideal.τ).loc Cert.KernelF8Ideal.main_arg2)) →
    ∃ (v0 : (c : Dev Cert.KernelF8Ideal.nD) → Buf (Elt Ideal) ((c.tc : Thread Cert.KernelF8Ideal.nD Cert.KernelF8Ideal.τ).loc Cert.KernelF8Ideal.main_v16)),
      θ_run (Cert.KernelF8Ideal.defs (F := Ideal)) (onTc (τ := Cert.KernelF8Ideal.τ) (Cert.KernelF8Ideal.main (F := Ideal))) ⟨m, fun _ => 0, g⟩ (fun r => ∀ c : Dev Cert.KernelF8Ideal.nD,
          r.2.mem ((c.tc : Thread Cert.KernelF8Ideal.nD Cert.KernelF8Ideal.τ).loc Cert.KernelF8Ideal.main_v16) = v0 c
          ∧ r.2.mem ((c.tc : Thread Cert.KernelF8Ideal.nD Cert.KernelF8Ideal.τ).loc Cert.KernelF8Ideal.main_arg0) = m ((c.tc : Thread Cert.KernelF8Ideal.nD Cert.KernelF8Ideal.τ).loc Cert.KernelF8Ideal.main_arg0)
          ∧ r.2.mem ((c.tc : Thread Cert.KernelF8Ideal.nD Cert.KernelF8Ideal.τ).loc Cert.KernelF8Ideal.main_arg1) = m ((c.tc : Thread Cert.KernelF8Ideal.nD Cert.KernelF8Ideal.τ).loc Cert.KernelF8Ideal.main_arg1)
          ∧ r.2.mem ((c.tc : Thread Cert.KernelF8Ideal.nD Cert.KernelF8Ideal.τ).loc Cert.KernelF8Ideal.main_arg2) = m ((c.tc : Thread Cert.KernelF8Ideal.nD Cert.KernelF8Ideal.τ).loc Cert.KernelF8Ideal.main_arg2))
      ∧ θ_run (Cert.ReferenceF8Ideal.defs (F := Ideal)) (onTc (τ := Cert.ReferenceF8Ideal.τ) (Cert.ReferenceF8Ideal.main (F := Ideal))) ⟨m', fun _ => 0, g'⟩ (fun r => ∀ c : Dev Cert.ReferenceF8Ideal.nD,
          r.2.mem ((c.tc : Thread Cert.ReferenceF8Ideal.nD Cert.ReferenceF8Ideal.τ).loc Cert.ReferenceF8Ideal.main_v57) = v0 c
          ∧ r.2.mem ((c.tc : Thread Cert.ReferenceF8Ideal.nD Cert.ReferenceF8Ideal.τ).loc Cert.ReferenceF8Ideal.main_arg0) = m' ((c.tc : Thread Cert.ReferenceF8Ideal.nD Cert.ReferenceF8Ideal.τ).loc Cert.ReferenceF8Ideal.main_arg0)
          ∧ r.2.mem ((c.tc : Thread Cert.ReferenceF8Ideal.nD Cert.ReferenceF8Ideal.τ).loc Cert.ReferenceF8Ideal.main_arg1) = m' ((c.tc : Thread Cert.ReferenceF8Ideal.nD Cert.ReferenceF8Ideal.τ).loc Cert.ReferenceF8Ideal.main_arg1)
          ∧ r.2.mem ((c.tc : Thread Cert.ReferenceF8Ideal.nD Cert.ReferenceF8Ideal.τ).loc Cert.ReferenceF8Ideal.main_arg2) = m' ((c.tc : Thread Cert.ReferenceF8Ideal.nD Cert.ReferenceF8Ideal.τ).loc Cert.ReferenceF8Ideal.main_arg2))

def Claim : Prop :=
  ∃ (hKernelI8 : Cert.KernelI8.Facts) (hKernelI8Ideal : Cert.KernelI8Ideal.Facts) (hReferenceI8Ideal : Cert.ReferenceI8Ideal.Facts) (hKernelI4 : Cert.KernelI4.Facts) (hKernelI4Ideal : Cert.KernelI4Ideal.Facts) (hReferenceI4Ideal : Cert.ReferenceI4Ideal.Facts) (hKernelF8 : Cert.KernelF8.Facts) (hKernelF8Ideal : Cert.KernelF8Ideal.Facts) (hReferenceF8Ideal : Cert.ReferenceF8Ideal.Facts) (hPre_pre_i8 : Cert.Pre_pre_i8.Facts) (hPre_pre_i4 : Cert.Pre_pre_i4.Facts) (hPre_pre_f8 : Cert.Pre_pre_f8.Facts),
    quiescent_KernelI8 (hKernelI8 := hKernelI8) (hPre_pre_i8 := hPre_pre_i8)
    ∧ quiescent_KernelI8Ideal (hKernelI8Ideal := hKernelI8Ideal) (hPre_pre_i8 := hPre_pre_i8)
    ∧ quiescent_ReferenceI8Ideal (hReferenceI8Ideal := hReferenceI8Ideal)
    ∧ quiescent_ReferenceI8Ideal_pre_pre_i8 (hReferenceI8Ideal := hReferenceI8Ideal) (hPre_pre_i8 := hPre_pre_i8)
    ∧ quiescent_KernelI4 (hKernelI4 := hKernelI4) (hPre_pre_i4 := hPre_pre_i4)
    ∧ quiescent_KernelI4Ideal (hKernelI4Ideal := hKernelI4Ideal) (hPre_pre_i4 := hPre_pre_i4)
    ∧ quiescent_ReferenceI4Ideal (hReferenceI4Ideal := hReferenceI4Ideal)
    ∧ quiescent_ReferenceI4Ideal_pre_pre_i4 (hReferenceI4Ideal := hReferenceI4Ideal) (hPre_pre_i4 := hPre_pre_i4)
    ∧ quiescent_KernelF8 (hKernelF8 := hKernelF8) (hPre_pre_f8 := hPre_pre_f8)
    ∧ quiescent_KernelF8Ideal (hKernelF8Ideal := hKernelF8Ideal) (hPre_pre_f8 := hPre_pre_f8)
    ∧ quiescent_ReferenceF8Ideal (hReferenceF8Ideal := hReferenceF8Ideal)
    ∧ quiescent_ReferenceF8Ideal_pre_pre_f8 (hReferenceF8Ideal := hReferenceF8Ideal) (hPre_pre_f8 := hPre_pre_f8)
    ∧ preserves_KernelI8_KernelI8Ideal
    ∧ algebraic_KernelI8Ideal_ReferenceI8Ideal (hKernelI8Ideal := hKernelI8Ideal) (hReferenceI8Ideal := hReferenceI8Ideal) (hPre_pre_i8 := hPre_pre_i8)
    ∧ preserves_KernelI4_KernelI4Ideal
    ∧ algebraic_KernelI4Ideal_ReferenceI4Ideal (hKernelI4Ideal := hKernelI4Ideal) (hReferenceI4Ideal := hReferenceI4Ideal) (hPre_pre_i4 := hPre_pre_i4)
    ∧ preserves_KernelF8_KernelF8Ideal
    ∧ algebraic_KernelF8Ideal_ReferenceF8Ideal (hKernelF8Ideal := hKernelF8Ideal) (hReferenceF8Ideal := hReferenceF8Ideal) (hPre_pre_f8 := hPre_pre_f8)
-- ==== Pre_pre_f8.lean ====
abbrev S30x67584 : Shape := ⟨2, ![30, 67584]⟩
abbrev S1537 : Shape := ⟨1, ![1537]⟩
abbrev S256x3264 : Shape := ⟨2, ![256, 3264]⟩
abbrev S7 : Shape := ⟨1, ![7]⟩
abbrev S6 : Shape := ⟨1, ![6]⟩
abbrev S6x1 : Shape := ⟨2, ![6, 1]⟩
abbrev S_ : Shape := ⟨0, ![]⟩
abbrev S67584 : Shape := ⟨1, ![67584]⟩
abbrev S1x67584 : Shape := ⟨2, ![1, 67584]⟩
abbrev S6x67584 : Shape := ⟨2, ![6, 67584]⟩
abbrev S1 : Shape := ⟨1, ![1]⟩
abbrev S1536 : Shape := ⟨1, ![1536]⟩

class Facts : Prop where
  slicesBy_S1537_S7_0s256 : S1537.SlicesBy (![0] : Fin 1 → Nat) ![256] S7
  bcast_S6_S6x1_0 : S6.BroadcastsInDim S6x1 (![0] : Fin 1 → Fin S6x1.rank)
  bcast_S_S6x1 : S_.BroadcastsInDim S6x1 (![] : Fin 0 → Fin S6x1.rank)
  bcast_S67584_S1x67584_1 : S67584.BroadcastsInDim S1x67584 (![1] : Fin 1 → Fin S1x67584.rank)
  slices_S7_S6_0 : S7.Slices ![0] S6
  bcast_S6x1_S6x67584_0_1 : S6x1.BroadcastsInDim S6x67584 (![0, 1] : Fin 2 → Fin S6x67584.rank)
  bcast_S1x67584_S6x67584_0_1 : S1x67584.BroadcastsInDim S6x67584 (![0, 1] : Fin 2 → Fin S6x67584.rank)
  slices_S7_S6_1 : S7.Slices ![1] S6
  slices_S30x67584_S1x67584_29_0 : S30x67584.Slices ![29, 0] S1x67584
  shapeCasts_S1x67584_S67584 : S1x67584.ShapeCasts S67584
  slices_S30x67584_S1x67584_28_0 : S30x67584.Slices ![28, 0] S1x67584
  bcast_S_S1x67584 : S_.BroadcastsInDim S1x67584 (![] : Fin 0 → Fin S1x67584.rank)
  slices_S1537_S1_0 : S1537.Slices ![0] S1
  bcast_S_S1 : S_.BroadcastsInDim S1 (![] : Fin 0 → Fin S1.rank)
  slices_S1537_S1536_1 : S1537.Slices ![1] S1536
  slices_S1537_S1536_0 : S1537.Slices ![0] S1536
  slices_S1537_S1_1536 : S1537.Slices ![1536] S1
  slices_S7_S1_5 : S7.Slices ![5] S1

variable [Facts]

def fn_part2 {F : FTy → Type} [FloatOps F] (main_arg1 : IVec S1537 32) (main_v0 : IVec S7 32) (main_v19 : IVec S6x67584 1) (main_v36 : IVec S1x67584 1) (main_v39 : IVec S1 1) (main_v40 : IVec S1536 32) (main_v41 : IVec S1536 32) : IVec S1 1 × IVec S1536 1 × IVec S1 1 × IVec S1 1 × IVec S6x67584 1 :=
  let main_v42 : IVec S1536 1 := cmpi .sge main_v40 main_v41
  let main_v43 : IVec S1 32 := (extractStridedSlice S1 ![1536] · slices_S1537_S1_1536) main_arg1
  let main_c_5 : IVec S_ 32 := constantI S_ 32 61440#32
  let main_v44 : IVec S1 32 := broadcastInDim S1 ![] bcast_S_S1 main_c_5
  let main_v45 : IVec S1 1 := cmpi .sle main_v43 main_v44
  let main_v46 : IVec S1 32 := (extractStridedSlice S1 ![5] · slices_S7_S1_5) main_v0
  let main_c_6 : IVec S_ 32 := constantI S_ 32 61440#32
  let main_v47 : IVec S1 32 := broadcastInDim S1 ![] bcast_S_S1 main_c_6
  let main_v48 : IVec S1 1 := cmpi .slt main_v46 main_v47
  let main_v49 : IVec S6x67584 1 := noti main_v19
  let main_v50 : IVec S6x67584 1 := broadcastInDim S6x67584 ![0, 1] bcast_S1x67584_S6x67584_0_1 main_v36
  let main_v51 : IVec S6x67584 1 := ori main_v49 main_v50
  (main_v39, main_v42, main_v45, main_v48, main_v51)

def fn_part1 {F : FTy → Type} [FloatOps F] (main_arg0 : IVec S30x67584 32) (main_arg1 : IVec S1537 32) (main_v0 : IVec S7 32) (main_v19 : IVec S6x67584 1) (main_v22 : IVec S1x67584 32) : IVec S1 1 × IVec S1536 1 × IVec S1 1 × IVec S1 1 × IVec S6x67584 1 :=
  let main_v23 : IVec S1x67584 32 := (extractStridedSlice S1x67584 ![28, 0] · slices_S30x67584_S1x67584_28_0) main_arg0
  let main_v24 : IVec S67584 32 := shapeCast S67584 main_v23 shapeCasts_S1x67584_S67584
  let main_v25 : IVec S1x67584 32 := broadcastInDim S1x67584 ![1] bcast_S67584_S1x67584_1 main_v24
  let main_c_0 : IVec S_ 32 := constantI S_ 32 0#32
  let main_v26 : IVec S1x67584 32 := broadcastInDim S1x67584 ![] bcast_S_S1x67584 main_c_0
  let main_v27 : IVec S1x67584 1 := cmpi .sge main_v22 main_v26
  let main_c_1 : IVec S_ 32 := constantI S_ 32 256#32
  let main_v28 : IVec S1x67584 32 := broadcastInDim S1x67584 ![] bcast_S_S1x67584 main_c_1
  let main_v29 : IVec S1x67584 1 := cmpi .slt main_v22 main_v28
  let main_v30 : IVec S1x67584 1 := andi main_v27 main_v29
  let main_c_2 : IVec S_ 32 := constantI S_ 32 0#32
  let main_v31 : IVec S1x67584 32 := broadcastInDim S1x67584 ![] bcast_S_S1x67584 main_c_2
  let main_v32 : IVec S1x67584 1 := cmpi .sge main_v25 main_v31
  let main_v33 : IVec S1x67584 1 := andi main_v30 main_v32
  let main_c_3 : IVec S_ 32 := constantI S_ 32 2139095040#32
  let main_v34 : IVec S1x67584 32 := broadcastInDim S1x67584 ![] bcast_S_S1x67584 main_c_3
  let main_v35 : IVec S1x67584 1 := cmpi .slt main_v25 main_v34
  let main_v36 : IVec S1x67584 1 := andi main_v33 main_v35
  let main_v37 : IVec S1 32 := (extractStridedSlice S1 ![0] · slices_S1537_S1_0) main_arg1
  let main_c_4 : IVec S_ 32 := constantI S_ 32 0#32
  let main_v38 : IVec S1 32 := broadcastInDim S1 ![] bcast_S_S1 main_c_4
  let main_v39 : IVec S1 1 := cmpi .eq main_v37 main_v38
  let main_v40 : IVec S1536 32 := (extractStridedSlice S1536 ![1] · slices_S1537_S1536_1) main_arg1
  let main_v41 : IVec S1536 32 := (extractStridedSlice S1536 ![0] · slices_S1537_S1536_0) main_arg1
  fn_part2 (F := F) main_arg1 main_v0 main_v19 main_v36 main_v39 main_v40 main_v41

def fn {F : FTy → Type} [FloatOps F] (main_arg0 : IVec S30x67584 32) (main_arg1 : IVec S1537 32) (main_arg2 : FVec F S256x3264 .bf16) : IVec S1 1 × IVec S1536 1 × IVec S1 1 × IVec S1 1 × IVec S6x67584 1 :=
  let main_v0 : IVec S7 32 := (Host.slice S7 ![0] ![256] · slicesBy_S1537_S7_0s256) main_arg1
  let main_v1 : IVec S6 32 := iotaInDim S6 32 0
  let main_v2 : IVec S6x1 32 := broadcastInDim S6x1 ![0] bcast_S6_S6x1_0 main_v1
  let main_c : IVec S_ 32 := constantI S_ 32 1024#32
  let main_v3 : IVec S6x1 32 := broadcastInDim S6x1 ![] bcast_S_S6x1 main_c
  let main_v4 : IVec S6x1 32 := muli main_v2 main_v3
  let main_v5 : IVec S67584 32 := iotaInDim S67584 32 0
  let main_v6 : IVec S1x67584 32 := broadcastInDim S1x67584 ![1] bcast_S67584_S1x67584_1 main_v5
  let main_v7 : IVec S6 32 := (extractStridedSlice S6 ![0] · slices_S7_S6_0) main_v0
  let main_v8 : IVec S6x1 32 := broadcastInDim S6x1 ![0] bcast_S6_S6x1_0 main_v7
  let main_v9 : IVec S6x1 32 := addi main_v8 main_v4
  let main_v10 : IVec S6x67584 32 := broadcastInDim S6x67584 ![0, 1] bcast_S6x1_S6x67584_0_1 main_v9
  let main_v11 : IVec S6x67584 32 := broadcastInDim S6x67584 ![0, 1] bcast_S1x67584_S6x67584_0_1 main_v6
  let main_v12 : IVec S6x67584 1 := cmpi .sle main_v10 main_v11
  let main_v13 : IVec S6 32 := (extractStridedSlice S6 ![1] · slices_S7_S6_1) main_v0
  let main_v14 : IVec S6x1 32 := broadcastInDim S6x1 ![0] bcast_S6_S6x1_0 main_v13
  let main_v15 : IVec S6x1 32 := addi main_v14 main_v4
  let main_v16 : IVec S6x67584 32 := broadcastInDim S6x67584 ![0, 1] bcast_S1x67584_S6x67584_0_1 main_v6
  let main_v17 : IVec S6x67584 32 := broadcastInDim S6x67584 ![0, 1] bcast_S6x1_S6x67584_0_1 main_v15
  let main_v18 : IVec S6x67584 1 := cmpi .slt main_v16 main_v17
  let main_v19 : IVec S6x67584 1 := andi main_v12 main_v18
  let main_v20 : IVec S1x67584 32 := (extractStridedSlice S1x67584 ![29, 0] · slices_S30x67584_S1x67584_29_0) main_arg0
  let main_v21 : IVec S67584 32 := shapeCast S67584 main_v20 shapeCasts_S1x67584_S67584
  let main_v22 : IVec S1x67584 32 := broadcastInDim S1x67584 ![1] bcast_S67584_S1x67584_1 main_v21
  fn_part1 (F := F) main_arg0 main_arg1 main_v0 main_v19 main_v22
-- ==== Pre_pre_i4.lean ====
abbrev S8x337920 : Shape := ⟨2, ![8, 337920]⟩
abbrev S7681 : Shape := ⟨1, ![7681]⟩
abbrev S256x3264 : Shape := ⟨2, ![256, 3264]⟩
abbrev S31 : Shape := ⟨1, ![31]⟩
abbrev S30 : Shape := ⟨1, ![30]⟩
abbrev S30x1 : Shape := ⟨2, ![30, 1]⟩
abbrev S_ : Shape := ⟨0, ![]⟩
abbrev S337920 : Shape := ⟨1, ![337920]⟩
abbrev S1x337920 : Shape := ⟨2, ![1, 337920]⟩
abbrev S30x337920 : Shape := ⟨2, ![30, 337920]⟩
abbrev S1 : Shape := ⟨1, ![1]⟩
abbrev S7680 : Shape := ⟨1, ![7680]⟩

class Facts : Prop where
  slicesBy_S7681_S31_0s256 : S7681.SlicesBy (![0] : Fin 1 → Nat) ![256] S31
  bcast_S30_S30x1_0 : S30.BroadcastsInDim S30x1 (![0] : Fin 1 → Fin S30x1.rank)
  bcast_S_S30x1 : S_.BroadcastsInDim S30x1 (![] : Fin 0 → Fin S30x1.rank)
  bcast_S337920_S1x337920_1 : S337920.BroadcastsInDim S1x337920 (![1] : Fin 1 → Fin S1x337920.rank)
  slices_S31_S30_0 : S31.Slices ![0] S30
  bcast_S30x1_S30x337920_0_1 : S30x1.BroadcastsInDim S30x337920 (![0, 1] : Fin 2 → Fin S30x337920.rank)
  bcast_S1x337920_S30x337920_0_1 : S1x337920.BroadcastsInDim S30x337920 (![0, 1] : Fin 2 → Fin S30x337920.rank)
  slices_S31_S30_1 : S31.Slices ![1] S30
  slices_S8x337920_S1x337920_7_0 : S8x337920.Slices ![7, 0] S1x337920
  shapeCasts_S1x337920_S337920 : S1x337920.ShapeCasts S337920
  slices_S8x337920_S1x337920_6_0 : S8x337920.Slices ![6, 0] S1x337920
  bcast_S_S1x337920 : S_.BroadcastsInDim S1x337920 (![] : Fin 0 → Fin S1x337920.rank)
  slices_S7681_S1_0 : S7681.Slices ![0] S1
  bcast_S_S1 : S_.BroadcastsInDim S1 (![] : Fin 0 → Fin S1.rank)
  slices_S7681_S7680_1 : S7681.Slices ![1] S7680
  slices_S7681_S7680_0 : S7681.Slices ![0] S7680
  slices_S7681_S1_7680 : S7681.Slices ![7680] S1
  slices_S31_S1_29 : S31.Slices ![29] S1

variable [Facts]

def fn_part2 {F : FTy → Type} [FloatOps F] (main_arg1 : IVec S7681 32) (main_v0 : IVec S31 32) (main_v19 : IVec S30x337920 1) (main_v36 : IVec S1x337920 1) (main_v39 : IVec S1 1) (main_v40 : IVec S7680 32) (main_v41 : IVec S7680 32) : IVec S1 1 × IVec S7680 1 × IVec S1 1 × IVec S1 1 × IVec S30x337920 1 :=
  let main_v42 : IVec S7680 1 := cmpi .sge main_v40 main_v41
  let main_v43 : IVec S1 32 := (extractStridedSlice S1 ![7680] · slices_S7681_S1_7680) main_arg1
  let main_c_5 : IVec S_ 32 := constantI S_ 32 307200#32
  let main_v44 : IVec S1 32 := broadcastInDim S1 ![] bcast_S_S1 main_c_5
  let main_v45 : IVec S1 1 := cmpi .sle main_v43 main_v44
  let main_v46 : IVec S1 32 := (extractStridedSlice S1 ![29] · slices_S31_S1_29) main_v0
  let main_c_6 : IVec S_ 32 := constantI S_ 32 307200#32
  let main_v47 : IVec S1 32 := broadcastInDim S1 ![] bcast_S_S1 main_c_6
  let main_v48 : IVec S1 1 := cmpi .slt main_v46 main_v47
  let main_v49 : IVec S30x337920 1 := noti main_v19
  let main_v50 : IVec S30x337920 1 := broadcastInDim S30x337920 ![0, 1] bcast_S1x337920_S30x337920_0_1 main_v36
  let main_v51 : IVec S30x337920 1 := ori main_v49 main_v50
  (main_v39, main_v42, main_v45, main_v48, main_v51)

def fn_part1 {F : FTy → Type} [FloatOps F] (main_arg0 : IVec S8x337920 32) (main_arg1 : IVec S7681 32) (main_v0 : IVec S31 32) (main_v19 : IVec S30x337920 1) (main_v22 : IVec S1x337920 32) : IVec S1 1 × IVec S7680 1 × IVec S1 1 × IVec S1 1 × IVec S30x337920 1 :=
  let main_v23 : IVec S1x337920 32 := (extractStridedSlice S1x337920 ![6, 0] · slices_S8x337920_S1x337920_6_0) main_arg0
  let main_v24 : IVec S337920 32 := shapeCast S337920 main_v23 shapeCasts_S1x337920_S337920
  let main_v25 : IVec S1x337920 32 := broadcastInDim S1x337920 ![1] bcast_S337920_S1x337920_1 main_v24
  let main_c_0 : IVec S_ 32 := constantI S_ 32 0#32
  let main_v26 : IVec S1x337920 32 := broadcastInDim S1x337920 ![] bcast_S_S1x337920 main_c_0
  let main_v27 : IVec S1x337920 1 := cmpi .sge main_v22 main_v26
  let main_c_1 : IVec S_ 32 := constantI S_ 32 256#32
  let main_v28 : IVec S1x337920 32 := broadcastInDim S1x337920 ![] bcast_S_S1x337920 main_c_1
  let main_v29 : IVec S1x337920 1 := cmpi .slt main_v22 main_v28
  let main_v30 : IVec S1x337920 1 := andi main_v27 main_v29
  let main_c_2 : IVec S_ 32 := constantI S_ 32 0#32
  let main_v31 : IVec S1x337920 32 := broadcastInDim S1x337920 ![] bcast_S_S1x337920 main_c_2
  let main_v32 : IVec S1x337920 1 := cmpi .sge main_v25 main_v31
  let main_v33 : IVec S1x337920 1 := andi main_v30 main_v32
  let main_c_3 : IVec S_ 32 := constantI S_ 32 2139095040#32
  let main_v34 : IVec S1x337920 32 := broadcastInDim S1x337920 ![] bcast_S_S1x337920 main_c_3
  let main_v35 : IVec S1x337920 1 := cmpi .slt main_v25 main_v34
  let main_v36 : IVec S1x337920 1 := andi main_v33 main_v35
  let main_v37 : IVec S1 32 := (extractStridedSlice S1 ![0] · slices_S7681_S1_0) main_arg1
  let main_c_4 : IVec S_ 32 := constantI S_ 32 0#32
  let main_v38 : IVec S1 32 := broadcastInDim S1 ![] bcast_S_S1 main_c_4
  let main_v39 : IVec S1 1 := cmpi .eq main_v37 main_v38
  let main_v40 : IVec S7680 32 := (extractStridedSlice S7680 ![1] · slices_S7681_S7680_1) main_arg1
  let main_v41 : IVec S7680 32 := (extractStridedSlice S7680 ![0] · slices_S7681_S7680_0) main_arg1
  fn_part2 (F := F) main_arg1 main_v0 main_v19 main_v36 main_v39 main_v40 main_v41

def fn {F : FTy → Type} [FloatOps F] (main_arg0 : IVec S8x337920 32) (main_arg1 : IVec S7681 32) (main_arg2 : FVec F S256x3264 .bf16) : IVec S1 1 × IVec S7680 1 × IVec S1 1 × IVec S1 1 × IVec S30x337920 1 :=
  let main_v0 : IVec S31 32 := (Host.slice S31 ![0] ![256] · slicesBy_S7681_S31_0s256) main_arg1
  let main_v1 : IVec S30 32 := iotaInDim S30 32 0
  let main_v2 : IVec S30x1 32 := broadcastInDim S30x1 ![0] bcast_S30_S30x1_0 main_v1
  let main_c : IVec S_ 32 := constantI S_ 32 1024#32
  let main_v3 : IVec S30x1 32 := broadcastInDim S30x1 ![] bcast_S_S30x1 main_c
  let main_v4 : IVec S30x1 32 := muli main_v2 main_v3
  let main_v5 : IVec S337920 32 := iotaInDim S337920 32 0
  let main_v6 : IVec S1x337920 32 := broadcastInDim S1x337920 ![1] bcast_S337920_S1x337920_1 main_v5
  let main_v7 : IVec S30 32 := (extractStridedSlice S30 ![0] · slices_S31_S30_0) main_v0
  let main_v8 : IVec S30x1 32 := broadcastInDim S30x1 ![0] bcast_S30_S30x1_0 main_v7
  let main_v9 : IVec S30x1 32 := addi main_v8 main_v4
  let main_v10 : IVec S30x337920 32 := broadcastInDim S30x337920 ![0, 1] bcast_S30x1_S30x337920_0_1 main_v9
  let main_v11 : IVec S30x337920 32 := broadcastInDim S30x337920 ![0, 1] bcast_S1x337920_S30x337920_0_1 main_v6
  let main_v12 : IVec S30x337920 1 := cmpi .sle main_v10 main_v11
  let main_v13 : IVec S30 32 := (extractStridedSlice S30 ![1] · slices_S31_S30_1) main_v0
  let main_v14 : IVec S30x1 32 := broadcastInDim S30x1 ![0] bcast_S30_S30x1_0 main_v13
  let main_v15 : IVec S30x1 32 := addi main_v14 main_v4
  let main_v16 : IVec S30x337920 32 := broadcastInDim S30x337920 ![0, 1] bcast_S1x337920_S30x337920_0_1 main_v6
  let main_v17 : IVec S30x337920 32 := broadcastInDim S30x337920 ![0, 1] bcast_S30x1_S30x337920_0_1 main_v15
  let main_v18 : IVec S30x337920 1 := cmpi .slt main_v16 main_v17
  let main_v19 : IVec S30x337920 1 := andi main_v12 main_v18
  let main_v20 : IVec S1x337920 32 := (extractStridedSlice S1x337920 ![7, 0] · slices_S8x337920_S1x337920_7_0) main_arg0
  let main_v21 : IVec S337920 32 := shapeCast S337920 main_v20 shapeCasts_S1x337920_S337920
  let main_v22 : IVec S1x337920 32 := broadcastInDim S1x337920 ![1] bcast_S337920_S1x337920_1 main_v21
  fn_part1 (F := F) main_arg0 main_arg1 main_v0 main_v19 main_v22
-- ==== Pre_pre_i8.lean ====
abbrev S18x202752 : Shape := ⟨2, ![18, 202752]⟩
abbrev S4609 : Shape := ⟨1, ![4609]⟩
abbrev S256x3264 : Shape := ⟨2, ![256, 3264]⟩
abbrev S19 : Shape := ⟨1, ![19]⟩
abbrev S18 : Shape := ⟨1, ![18]⟩
abbrev S18x1 : Shape := ⟨2, ![18, 1]⟩
abbrev S_ : Shape := ⟨0, ![]⟩
abbrev S202752 : Shape := ⟨1, ![202752]⟩
abbrev S1x202752 : Shape := ⟨2, ![1, 202752]⟩
abbrev S1 : Shape := ⟨1, ![1]⟩
abbrev S4608 : Shape := ⟨1, ![4608]⟩

class Facts : Prop where
  slicesBy_S4609_S19_0s256 : S4609.SlicesBy (![0] : Fin 1 → Nat) ![256] S19
  bcast_S18_S18x1_0 : S18.BroadcastsInDim S18x1 (![0] : Fin 1 → Fin S18x1.rank)
  bcast_S_S18x1 : S_.BroadcastsInDim S18x1 (![] : Fin 0 → Fin S18x1.rank)
  bcast_S202752_S1x202752_1 : S202752.BroadcastsInDim S1x202752 (![1] : Fin 1 → Fin S1x202752.rank)
  slices_S19_S18_0 : S19.Slices ![0] S18
  bcast_S18x1_S18x202752_0_1 : S18x1.BroadcastsInDim S18x202752 (![0, 1] : Fin 2 → Fin S18x202752.rank)
  bcast_S1x202752_S18x202752_0_1 : S1x202752.BroadcastsInDim S18x202752 (![0, 1] : Fin 2 → Fin S18x202752.rank)
  slices_S19_S18_1 : S19.Slices ![1] S18
  slices_S18x202752_S1x202752_17_0 : S18x202752.Slices ![17, 0] S1x202752
  shapeCasts_S1x202752_S202752 : S1x202752.ShapeCasts S202752
  slices_S18x202752_S1x202752_16_0 : S18x202752.Slices ![16, 0] S1x202752
  bcast_S_S1x202752 : S_.BroadcastsInDim S1x202752 (![] : Fin 0 → Fin S1x202752.rank)
  slices_S4609_S1_0 : S4609.Slices ![0] S1
  bcast_S_S1 : S_.BroadcastsInDim S1 (![] : Fin 0 → Fin S1.rank)
  slices_S4609_S4608_1 : S4609.Slices ![1] S4608
  slices_S4609_S4608_0 : S4609.Slices ![0] S4608
  slices_S4609_S1_4608 : S4609.Slices ![4608] S1
  slices_S19_S1_17 : S19.Slices ![17] S1

variable [Facts]

def fn_part2 {F : FTy → Type} [FloatOps F] (main_arg1 : IVec S4609 32) (main_v0 : IVec S19 32) (main_v19 : IVec S18x202752 1) (main_v36 : IVec S1x202752 1) (main_v39 : IVec S1 1) (main_v40 : IVec S4608 32) (main_v41 : IVec S4608 32) : IVec S1 1 × IVec S4608 1 × IVec S1 1 × IVec S1 1 × IVec S18x202752 1 :=
  let main_v42 : IVec S4608 1 := cmpi .sge main_v40 main_v41
  let main_v43 : IVec S1 32 := (extractStridedSlice S1 ![4608] · slices_S4609_S1_4608) main_arg1
  let main_c_5 : IVec S_ 32 := constantI S_ 32 184320#32
  let main_v44 : IVec S1 32 := broadcastInDim S1 ![] bcast_S_S1 main_c_5
  let main_v45 : IVec S1 1 := cmpi .sle main_v43 main_v44
  let main_v46 : IVec S1 32 := (extractStridedSlice S1 ![17] · slices_S19_S1_17) main_v0
  let main_c_6 : IVec S_ 32 := constantI S_ 32 184320#32
  let main_v47 : IVec S1 32 := broadcastInDim S1 ![] bcast_S_S1 main_c_6
  let main_v48 : IVec S1 1 := cmpi .slt main_v46 main_v47
  let main_v49 : IVec S18x202752 1 := noti main_v19
  let main_v50 : IVec S18x202752 1 := broadcastInDim S18x202752 ![0, 1] bcast_S1x202752_S18x202752_0_1 main_v36
  let main_v51 : IVec S18x202752 1 := ori main_v49 main_v50
  (main_v39, main_v42, main_v45, main_v48, main_v51)

def fn_part1 {F : FTy → Type} [FloatOps F] (main_arg0 : IVec S18x202752 32) (main_arg1 : IVec S4609 32) (main_v0 : IVec S19 32) (main_v19 : IVec S18x202752 1) (main_v22 : IVec S1x202752 32) : IVec S1 1 × IVec S4608 1 × IVec S1 1 × IVec S1 1 × IVec S18x202752 1 :=
  let main_v23 : IVec S1x202752 32 := (extractStridedSlice S1x202752 ![16, 0] · slices_S18x202752_S1x202752_16_0) main_arg0
  let main_v24 : IVec S202752 32 := shapeCast S202752 main_v23 shapeCasts_S1x202752_S202752
  let main_v25 : IVec S1x202752 32 := broadcastInDim S1x202752 ![1] bcast_S202752_S1x202752_1 main_v24
  let main_c_0 : IVec S_ 32 := constantI S_ 32 0#32
  let main_v26 : IVec S1x202752 32 := broadcastInDim S1x202752 ![] bcast_S_S1x202752 main_c_0
  let main_v27 : IVec S1x202752 1 := cmpi .sge main_v22 main_v26
  let main_c_1 : IVec S_ 32 := constantI S_ 32 256#32
  let main_v28 : IVec S1x202752 32 := broadcastInDim S1x202752 ![] bcast_S_S1x202752 main_c_1
  let main_v29 : IVec S1x202752 1 := cmpi .slt main_v22 main_v28
  let main_v30 : IVec S1x202752 1 := andi main_v27 main_v29
  let main_c_2 : IVec S_ 32 := constantI S_ 32 0#32
  let main_v31 : IVec S1x202752 32 := broadcastInDim S1x202752 ![] bcast_S_S1x202752 main_c_2
  let main_v32 : IVec S1x202752 1 := cmpi .sge main_v25 main_v31
  let main_v33 : IVec S1x202752 1 := andi main_v30 main_v32
  let main_c_3 : IVec S_ 32 := constantI S_ 32 2139095040#32
  let main_v34 : IVec S1x202752 32 := broadcastInDim S1x202752 ![] bcast_S_S1x202752 main_c_3
  let main_v35 : IVec S1x202752 1 := cmpi .slt main_v25 main_v34
  let main_v36 : IVec S1x202752 1 := andi main_v33 main_v35
  let main_v37 : IVec S1 32 := (extractStridedSlice S1 ![0] · slices_S4609_S1_0) main_arg1
  let main_c_4 : IVec S_ 32 := constantI S_ 32 0#32
  let main_v38 : IVec S1 32 := broadcastInDim S1 ![] bcast_S_S1 main_c_4
  let main_v39 : IVec S1 1 := cmpi .eq main_v37 main_v38
  let main_v40 : IVec S4608 32 := (extractStridedSlice S4608 ![1] · slices_S4609_S4608_1) main_arg1
  let main_v41 : IVec S4608 32 := (extractStridedSlice S4608 ![0] · slices_S4609_S4608_0) main_arg1
  fn_part2 (F := F) main_arg1 main_v0 main_v19 main_v36 main_v39 main_v40 main_v41

def fn {F : FTy → Type} [FloatOps F] (main_arg0 : IVec S18x202752 32) (main_arg1 : IVec S4609 32) (main_arg2 : FVec F S256x3264 .bf16) : IVec S1 1 × IVec S4608 1 × IVec S1 1 × IVec S1 1 × IVec S18x202752 1 :=
  let main_v0 : IVec S19 32 := (Host.slice S19 ![0] ![256] · slicesBy_S4609_S19_0s256) main_arg1
  let main_v1 : IVec S18 32 := iotaInDim S18 32 0
  let main_v2 : IVec S18x1 32 := broadcastInDim S18x1 ![0] bcast_S18_S18x1_0 main_v1
  let main_c : IVec S_ 32 := constantI S_ 32 1024#32
  let main_v3 : IVec S18x1 32 := broadcastInDim S18x1 ![] bcast_S_S18x1 main_c
  let main_v4 : IVec S18x1 32 := muli main_v2 main_v3
  let main_v5 : IVec S202752 32 := iotaInDim S202752 32 0
  let main_v6 : IVec S1x202752 32 := broadcastInDim S1x202752 ![1] bcast_S202752_S1x202752_1 main_v5
  let main_v7 : IVec S18 32 := (extractStridedSlice S18 ![0] · slices_S19_S18_0) main_v0
  let main_v8 : IVec S18x1 32 := broadcastInDim S18x1 ![0] bcast_S18_S18x1_0 main_v7
  let main_v9 : IVec S18x1 32 := addi main_v8 main_v4
  let main_v10 : IVec S18x202752 32 := broadcastInDim S18x202752 ![0, 1] bcast_S18x1_S18x202752_0_1 main_v9
  let main_v11 : IVec S18x202752 32 := broadcastInDim S18x202752 ![0, 1] bcast_S1x202752_S18x202752_0_1 main_v6
  let main_v12 : IVec S18x202752 1 := cmpi .sle main_v10 main_v11
  let main_v13 : IVec S18 32 := (extractStridedSlice S18 ![1] · slices_S19_S18_1) main_v0
  let main_v14 : IVec S18x1 32 := broadcastInDim S18x1 ![0] bcast_S18_S18x1_0 main_v13
  let main_v15 : IVec S18x1 32 := addi main_v14 main_v4
  let main_v16 : IVec S18x202752 32 := broadcastInDim S18x202752 ![0, 1] bcast_S1x202752_S18x202752_0_1 main_v6
  let main_v17 : IVec S18x202752 32 := broadcastInDim S18x202752 ![0, 1] bcast_S18x1_S18x202752_0_1 main_v15
  let main_v18 : IVec S18x202752 1 := cmpi .slt main_v16 main_v17
  let main_v19 : IVec S18x202752 1 := andi main_v12 main_v18
  let main_v20 : IVec S1x202752 32 := (extractStridedSlice S1x202752 ![17, 0] · slices_S18x202752_S1x202752_17_0) main_arg0
  let main_v21 : IVec S202752 32 := shapeCast S202752 main_v20 shapeCasts_S1x202752_S202752
  let main_v22 : IVec S1x202752 32 := broadcastInDim S1x202752 ![1] bcast_S202752_S1x202752_1 main_v21
  fn_part1 (F := F) main_arg0 main_arg1 main_v0 main_v19 main_v22
-- ==== KernelI8.lean ====
abbrev S18x202752 : Shape := ⟨2, ![18, 202752]⟩
abbrev S4609 : Shape := ⟨1, ![4609]⟩
abbrev S256x3264 : Shape := ⟨2, ![256, 3264]⟩
abbrev S3264x256 : Shape := ⟨2, ![3264, 256]⟩
abbrev S19 : Shape := ⟨1, ![19]⟩
abbrev S18 : Shape := ⟨1, ![18]⟩
abbrev S_ : Shape := ⟨0, ![]⟩
abbrev S1x18 : Shape := ⟨2, ![1, 18]⟩
abbrev S197 : Shape := ⟨1, ![197]⟩
abbrev S197x1 : Shape := ⟨2, ![197, 1]⟩
abbrev S197x18 : Shape := ⟨2, ![197, 18]⟩
abbrev S180x1x1024 : Shape := ⟨3, ![180, 1, 1024]⟩
abbrev S18x1024 : Shape := ⟨2, ![18, 1024]⟩
abbrev S1x1x1024 : Shape := ⟨3, ![1, 1, 1024]⟩
abbrev S1 : Shape := ⟨1, ![1]⟩
abbrev S64x256 : Shape := ⟨2, ![64, 256]⟩
abbrev S1x128 : Shape := ⟨2, ![1, 128]⟩
abbrev S64x128 : Shape := ⟨2, ![64, 128]⟩
abbrev S64x128x1 : Shape := ⟨3, ![64, 128, 1]⟩
abbrev S16x128 : Shape := ⟨2, ![16, 128]⟩
abbrev S128 : Shape := ⟨1, ![128]⟩
abbrev S1x1x128 : Shape := ⟨3, ![1, 1, 128]⟩

abbrev nBuf : Space → Nat
  | .hbm => 37
  | .vmem => 5
  | .smem => 2
  | _ => 0

abbrev bufTy : (tb : Table) → Fin (tcTables nBuf tb) → BufTy
  | .hbm, ⟨0, _⟩ => ⟨S18x202752, .i32⟩
  | .hbm, ⟨1, _⟩ => ⟨S4609, .i32⟩
  | .hbm, ⟨2, _⟩ => ⟨S256x3264, .bf16⟩
  | .hbm, ⟨3, _⟩ => ⟨S3264x256, .bf16⟩
  | .hbm, ⟨4, _⟩ => ⟨S18, .i32⟩
  | .hbm, ⟨5, _⟩ => ⟨S_, .i32⟩
  | .hbm, ⟨6, _⟩ => ⟨S_, .i32⟩
  | .hbm, ⟨7, _⟩ => ⟨S18, .i32⟩
  | .hbm, ⟨8, _⟩ => ⟨S18, .i32⟩
  | .hbm, ⟨9, _⟩ => ⟨S18, .i32⟩
  | .hbm, ⟨10, _⟩ => ⟨S_, .i32⟩
  | .hbm, ⟨11, _⟩ => ⟨S18, .i32⟩
  | .hbm, ⟨12, _⟩ => ⟨S18, .i1⟩
  | .hbm, ⟨13, _⟩ => ⟨S18, .i32⟩
  | .hbm, ⟨14, _⟩ => ⟨S18, .i32⟩
  | .hbm, ⟨15, _⟩ => ⟨S_, .i32⟩
  | .hbm, ⟨16, _⟩ => ⟨S18, .i32⟩
  | .hbm, ⟨17, _⟩ => ⟨S18, .i1⟩
  | .hbm, ⟨18, _⟩ => ⟨S18, .i1⟩
  | .hbm, ⟨19, _⟩ => ⟨S_, .i32⟩
  | .hbm, ⟨20, _⟩ => ⟨S18, .i32⟩
  | .hbm, ⟨21, _⟩ => ⟨S18, .i32⟩
  | .hbm, ⟨22, _⟩ => ⟨S18, .i32⟩
  | .hbm, ⟨23, _⟩ => ⟨S18, .i32⟩
  | .hbm, ⟨24, _⟩ => ⟨S18, .i32⟩
  | .hbm, ⟨25, _⟩ => ⟨S1x18, .i32⟩
  | .hbm, ⟨26, _⟩ => ⟨S197, .i32⟩
  | .hbm, ⟨27, _⟩ => ⟨S197x1, .i32⟩
  | .hbm, ⟨28, _⟩ => ⟨S197x18, .i32⟩
  | .hbm, ⟨29, _⟩ => ⟨S197x18, .i32⟩
  | .hbm, ⟨30, _⟩ => ⟨S197x18, .i1⟩
  | .hbm, ⟨31, _⟩ => ⟨S197x18, .i32⟩
  | .hbm, ⟨32, _⟩ => ⟨S_, .i32⟩
  | .hbm, ⟨33, _⟩ => ⟨S197, .i32⟩
  | .hbm, ⟨34, _⟩ => ⟨S_, .i32⟩
  | .hbm, ⟨35, _⟩ => ⟨S197, .i32⟩
  | .hbm, ⟨36, _⟩ => ⟨S180x1x1024, .f32⟩
  | .local _ .vmem, ⟨0, _⟩ => ⟨S18x1024, .i32⟩
  | .local _ .vmem, ⟨1, _⟩ => ⟨S18x1024, .i32⟩
  | .local _ .vmem, ⟨2, _⟩ => ⟨S3264x256, .bf16⟩
  | .local _ .vmem, ⟨3, _⟩ => ⟨S1x1x1024, .f32⟩
  | .local _ .vmem, ⟨4, _⟩ => ⟨S1x1x1024, .f32⟩
  | .local _ .smem, ⟨0, _⟩ => ⟨S197, .i32⟩
  | .local _ .smem, ⟨1, _⟩ => ⟨S19, .i32⟩
  | _, _ => ⟨S18x202752, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v16 : Ref sig .tc := ⟨.hbm, 36, rfl⟩
abbrev main_v15 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![197], ![false]⟩

abbrev pre0 : Pipeline.Prefetch sig := ⟨2, ![main_v15.idx, main_v1.idx], fun | 0 => main_v15.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 1 → Nat :=
  let v3 : Index := Scalar.indexCast v1
  ![v3.toNat]

def k0_off3 (v1 : BitVec 32) : Fin 1 → Nat :=
  let c1_i32 : BitVec 32 := 1#32
  let v5 : BitVec 32 := Scalar.addi v1 c1_i32
  let v6 : Index := Scalar.indexCast v5
  ![v6.toNat]
def k0_off4 (i : grid0.Coords) : Fin 1 → Nat :=
  let arg0 : BitVec 32 := BitVec.ofNat 32 (i 0).val
  let c1_i32_1 : BitVec 32 := 1#32
  let v10 : BitVec 32 := Scalar.subi arg0 c1_i32_1
  let c0_i32_2 : BitVec 32 := 0#32
  let v11 : BitVec 32 := Scalar.maxsi v10 c0_i32_2
  let v12 : Index := Scalar.indexCast v11
  ![v12.toNat]
def k0_mult1 (v1 : BitVec 32) : BitVec 32 :=
  let c0_i32_4 : BitVec 32 := 0#32
  let c32_i32 : BitVec 32 := 32#32
  let v19 : BitVec 32 := Scalar.muli v1 c32_i32
  let v20 : BitVec 32 := Scalar.addi c0_i32_4 v19
  v20
def k0_mult2 (v1 : BitVec 32) : BitVec 32 :=
  let c2_i32 : BitVec 32 := 2#32
  let c0_i32_4 : BitVec 32 := 0#32
  let c32_i32 : BitVec 32 := 32#32
  let v19 : BitVec 32 := Scalar.muli v1 c32_i32
  let v20 : BitVec 32 := Scalar.addi c0_i32_4 v19
  let v21 : BitVec 32 := v20
  let v22 : BitVec 32 := Scalar.muli c2_i32 v21
  v22
def k0_off5 (v1 : BitVec 32) : Fin 2 → Nat :=
  let c2_i32 : BitVec 32 := 2#32
  let c0_i32_4 : BitVec 32 := 0#32
  let c32_i32 : BitVec 32 := 32#32
  let v19 : BitVec 32 := Scalar.muli v1 c32_i32
  let v20 : BitVec 32 := Scalar.addi c0_i32_4 v19
  let v21 : BitVec 32 := v20
  let v22 : BitVec 32 := Scalar.muli c2_i32 v21
  let v23 : BitVec 32 := v22
  let v24 : Index := Scalar.indexCast v23
  let c0 : Index := 0#32
  ![v24.toNat, 0]

def k0_chk1 (v1 : BitVec 32) : Prop :=
  (∀ a, (k0_off2 v1) a + S1.size a ≤ S19.size a) ∧
  (∀ a, (k0_off3 v1) a + S1.size a ≤ S19.size a) ∧
  (8 ∣ (k0_mult1 v1).toNat) ∧
  (16 ∣ (k0_mult2 v1).toNat) ∧
  (∀ a, (k0_off5 v1) a + S64x256.size a ≤ S3264x256.size a)
theorem k0_off2_inb : ∀ (v1 : BitVec 32) (k0_hw1 : k0_chk1 v1), ∀ a, (k0_off2 v1) a + S1.size a ≤ S19.size a := fun v1 k0_hw1 => k0_hw1.1
theorem k0_off3_inb : ∀ (v1 : BitVec 32) (k0_hw1 : k0_chk1 v1), ∀ a, (k0_off3 v1) a + S1.size a ≤ S19.size a := fun v1 k0_hw1 => k0_hw1.2.1
theorem k0_mult1_dvd : ∀ (v1 : BitVec 32) (k0_hw1 : k0_chk1 v1), 8 ∣ (k0_mult1 v1).toNat := fun v1 k0_hw1 => k0_hw1.2.2.1
theorem k0_mult2_dvd : ∀ (v1 : BitVec 32) (k0_hw1 : k0_chk1 v1), 16 ∣ (k0_mult2 v1).toNat := fun v1 k0_hw1 => k0_hw1.2.2.2.1
theorem k0_off5_inb : ∀ (v1 : BitVec 32) (k0_hw1 : k0_chk1 v1), ∀ a, (k0_off5 v1) a + S64x256.size a ≤ S3264x256.size a := fun v1 k0_hw1 => k0_hw1.2.2.2.2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S197.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S197) ![v0.toNat] S1.size (k0_off1_inb i)) numel1_S1
  let v2 : BitVec 32 := Scalar.subi arg0 v1
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S18x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3264x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceI8Ideal.lean ====
abbrev S18x202752 : Shape := ⟨2, ![18, 202752]⟩
abbrev S4609 : Shape := ⟨1, ![4609]⟩
abbrev S256x3264 : Shape := ⟨2, ![256, 3264]⟩
abbrev S184320 : Shape := ⟨1, ![184320]⟩
abbrev S1 : Shape := ⟨1, ![1]⟩
abbrev S_ : Shape := ⟨0, ![]⟩
abbrev S1x4609 : Shape := ⟨2, ![1, 4609]⟩
abbrev S184320x1 : Shape := ⟨2, ![184320, 1]⟩
abbrev S184320x4609 : Shape := ⟨2, ![184320, 4609]⟩
abbrev S18x184320 : Shape := ⟨2, ![18, 184320]⟩
abbrev S1x184320 : Shape := ⟨2, ![1, 184320]⟩
abbrev S64 : Shape := ⟨1, ![64]⟩
abbrev S64x1 : Shape := ⟨2, ![64, 1]⟩
abbrev S16x184320 : Shape := ⟨2, ![16, 184320]⟩
abbrev S16x4x184320 : Shape := ⟨3, ![16, 4, 184320]⟩
abbrev S64x184320 : Shape := ⟨2, ![64, 184320]⟩
abbrev S256x1152 : Shape := ⟨2, ![256, 1152]⟩
abbrev S256x18x64 : Shape := ⟨3, ![256, 18, 64]⟩
abbrev S184320x2 : Shape := ⟨2, ![184320, 2]⟩
abbrev S184320x64 : Shape := ⟨2, ![184320, 64]⟩
abbrev S180x1x1024 : Shape := ⟨3, ![180, 1, 1024]⟩

abbrev nBuf : Space → Nat
  | .hbm => 116
  | .vmem => 0
  | .smem => 0
  | _ => 0

abbrev bufTy : (tb : Table) → Fin (tcTables nBuf tb) → BufTy
  | .hbm, ⟨0, _⟩ => ⟨S18x202752, .i32⟩
  | .hbm, ⟨1, _⟩ => ⟨S4609, .i32⟩
  | .hbm, ⟨2, _⟩ => ⟨S256x3264, .bf16⟩
  | .hbm, ⟨3, _⟩ => ⟨S184320, .i32⟩
  | .hbm, ⟨4, _⟩ => ⟨S1, .i32⟩
  | .hbm, ⟨5, _⟩ => ⟨S_, .i32⟩
  | .hbm, ⟨6, _⟩ => ⟨S184320, .i32⟩
  | .hbm, ⟨7, _⟩ => ⟨S184320, .i1⟩
  | .hbm, ⟨8, _⟩ => ⟨S1x4609, .i32⟩
  | .hbm, ⟨9, _⟩ => ⟨S184320x1, .i32⟩
  | .hbm, ⟨10, _⟩ => ⟨S184320x4609, .i32⟩
  | .hbm, ⟨11, _⟩ => ⟨S184320x4609, .i32⟩
  | .hbm, ⟨12, _⟩ => ⟨S184320x4609, .i1⟩
  | .hbm, ⟨13, _⟩ => ⟨S184320x4609, .i32⟩
  | .hbm, ⟨14, _⟩ => ⟨S_, .i32⟩
  | .hbm, ⟨15, _⟩ => ⟨S184320, .i32⟩
  | .hbm, ⟨16, _⟩ => ⟨S_, .i32⟩
  | .hbm, ⟨17, _⟩ => ⟨S184320, .i32⟩
  | .hbm, ⟨18, _⟩ => ⟨S184320, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S184320, .i32⟩
  | .hbm, ⟨23, _⟩ => ⟨S184320, .i32⟩
  | .hbm, ⟨24, _⟩ => ⟨S_, .i32⟩
  | .hbm, ⟨25, _⟩ => ⟨S184320, .i32⟩
  | .hbm, ⟨26, _⟩ => ⟨S184320, .i32⟩
  | .hbm, ⟨27, _⟩ => ⟨S_, .i32⟩
  | .hbm, ⟨28, _⟩ => ⟨S_, .i32⟩
  | .hbm, ⟨29, _⟩ => ⟨S184320, .i32⟩
  | .hbm, ⟨30, _⟩ => ⟨S184320, .i32⟩
  | .hbm, ⟨31, _⟩ => ⟨S184320, .i32⟩
  | .hbm, ⟨32, _⟩ => ⟨S_, .i32⟩
  | .hbm, ⟨33, _⟩ => ⟨S184320, .i32⟩
  | .hbm, ⟨34, _⟩ => ⟨S184320, .i1⟩
  | .hbm, ⟨35, _⟩ => ⟨S184320, .i32⟩
  | .hbm, ⟨36, _⟩ => ⟨S184320, .i32⟩
  | .hbm, ⟨37, _⟩ => ⟨S_, .i32⟩
  | .hbm, ⟨38, _⟩ => ⟨S184320, .i32⟩
  | .hbm, ⟨39, _⟩ => ⟨S184320, .i1⟩
  | .hbm, ⟨40, _⟩ => ⟨S184320, .i1⟩
  | .hbm, ⟨41, _⟩ => ⟨S_, .i32⟩
  | .hbm, ⟨42, _⟩ => ⟨S184320, .i32⟩
  | .hbm, ⟨43, _⟩ => ⟨S184320, .i32⟩
  | .hbm, ⟨44, _⟩ => ⟨S184320, .i32⟩
  | .hbm, ⟨45, _⟩ => ⟨S_, .i32⟩
  | .hbm, ⟨46, _⟩ => ⟨S184320, .i32⟩
  | .hbm, ⟨47, _⟩ => ⟨S184320, .i32⟩
  | .hbm, ⟨48, _⟩ => ⟨S184320, .i32⟩
  | .hbm, ⟨49, _⟩ => ⟨S_, .i32⟩
  | .hbm, ⟨50, _⟩ => ⟨S184320, .i32⟩
  | .hbm, ⟨51, _⟩ => ⟨S184320, .i1⟩
  | .hbm, ⟨52, _⟩ => ⟨S_, .i32⟩
  | .hbm, ⟨53, _⟩ => ⟨S184320, .i32⟩
  | .hbm, ⟨54, _⟩ => ⟨S184320, .i32⟩
  | .hbm, ⟨55, _⟩ => ⟨S184320, .i32⟩
  | .hbm, ⟨56, _⟩ => ⟨S184320x1, .i32⟩
  | .hbm, ⟨57, _⟩ => ⟨S18x184320, .i32⟩
  | .hbm, ⟨58, _⟩ => ⟨S1x184320, .i32⟩
  | .hbm, ⟨59, _⟩ => ⟨S184320, .i32⟩
  | .hbm, ⟨60, _⟩ => ⟨S64, .i32⟩
  | .hbm, ⟨61, _⟩ => ⟨S64x1, .i32⟩
  | .hbm, ⟨62, _⟩ => ⟨S16x184320, .i32⟩
  | .hbm, ⟨63, _⟩ => ⟨S16x4x184320, .i32⟩
  | .hbm, ⟨64, _⟩ => ⟨S64x184320, .i32⟩
  | .hbm, ⟨65, _⟩ => ⟨S_, .i32⟩
  | .hbm, ⟨66, _⟩ => ⟨S64x1, .i32⟩
  | .hbm, ⟨67, _⟩ => ⟨S64x1, .i32⟩
  | .hbm, ⟨68, _⟩ => ⟨S_, .i32⟩
  | .hbm, ⟨69, _⟩ => ⟨S64x1, .i32⟩
  | .hbm, ⟨70, _⟩ => ⟨S64x1, .i32⟩
  | .hbm, ⟨71, _⟩ => ⟨S_, .i32⟩
  | .hbm, ⟨72, _⟩ => ⟨S64x1, .i32⟩
  | .hbm, ⟨73, _⟩ => ⟨S64x1, .i32⟩
  | .hbm, ⟨74, _⟩ => ⟨S64x184320, .i32⟩
  | .hbm, ⟨75, _⟩ => ⟨S64x184320, .i32⟩
  | .hbm, ⟨76, _⟩ => ⟨S_, .i32⟩
  | .hbm, ⟨77, _⟩ => ⟨S64x184320, .i32⟩
  | .hbm, ⟨78, _⟩ => ⟨S64x184320, .i32⟩
  | .hbm, ⟨79, _⟩ => ⟨S1x184320, .i32⟩
  | .hbm, ⟨80, _⟩ => ⟨S184320, .i32⟩
  | .hbm, ⟨81, _⟩ => ⟨S184320, .f32⟩
  | .hbm, ⟨82, _⟩ => ⟨S64x184320, .f32⟩
  | .hbm, ⟨83, _⟩ => ⟨S1x184320, .f32⟩
  | .hbm, ⟨84, _⟩ => ⟨S64x184320, .f32⟩
  | .hbm, ⟨85, _⟩ => ⟨S64x184320, .f32⟩
  | .hbm, ⟨86, _⟩ => ⟨S256x1152, .bf16⟩
  | .hbm, ⟨87, _⟩ => ⟨S256x18x64, .bf16⟩
  | .hbm, ⟨88, _⟩ => ⟨S_, .i32⟩
  | .hbm, ⟨89, _⟩ => ⟨S184320, .i32⟩
  | .hbm, ⟨90, _⟩ => ⟨S184320, .i1⟩
  | .hbm, ⟨91, _⟩ => ⟨S_, .i32⟩
  | .hbm, ⟨92, _⟩ => ⟨S184320, .i32⟩
  | .hbm, ⟨93, _⟩ => ⟨S184320, .i32⟩
  | .hbm, ⟨94, _⟩ => ⟨S184320, .i32⟩
  | .hbm, ⟨95, _⟩ => ⟨S_, .i32⟩
  | .hbm, ⟨96, _⟩ => ⟨S184320, .i32⟩
  | .hbm, ⟨97, _⟩ => ⟨S184320, .i1⟩
  | .hbm, ⟨98, _⟩ => ⟨S_, .i32⟩
  | .hbm, ⟨99, _⟩ => ⟨S184320, .i32⟩
  | .hbm, ⟨100, _⟩ => ⟨S184320, .i32⟩
  | .hbm, ⟨101, _⟩ => ⟨S184320, .i32⟩
  | .hbm, ⟨102, _⟩ => ⟨S184320x1, .i32⟩
  | .hbm, ⟨103, _⟩ => ⟨S184320x1, .i32⟩
  | .hbm, ⟨104, _⟩ => ⟨S184320x2, .i32⟩
  | .hbm, ⟨105, _⟩ => ⟨S184320x64, .bf16⟩
  | .hbm, ⟨106, _⟩ => ⟨S184320x64, .f32⟩
  | .hbm, ⟨107, _⟩ => ⟨S184320x64, .f32⟩
  | .hbm, ⟨108, _⟩ => ⟨S184320x64, .f32⟩
  | .hbm, ⟨109, _⟩ => ⟨S_, .f32⟩
  | .hbm, ⟨110, _⟩ => ⟨S184320, .f32⟩
  | .hbm, ⟨111, _⟩ => ⟨S_, .f32⟩
  | .hbm, ⟨112, _⟩ => ⟨S_, .f32⟩
  | .hbm, ⟨113, _⟩ => ⟨S184320, .f32⟩
  | .hbm, ⟨114, _⟩ => ⟨S184320, .f32⟩
  | .hbm, ⟨115, _⟩ => ⟨S180x1x1024, .f32⟩
  | _, _ => ⟨S18x202752, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v15 : Ref sig .tc := ⟨.hbm, 44, rfl⟩
abbrev main_c_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_c_6 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_7 : Ref sig .tc := ⟨.hbm, 65, rfl⟩
abbrev main_v33 : Ref sig .tc := ⟨.hbm, 66, rfl⟩
abbrev main_v34 : Ref sig .tc := ⟨.hbm, 67, rfl⟩
abbrev main_c_8 : Ref sig .tc := ⟨.hbm, 68, rfl⟩
abbrev main_v35 : Ref sig .tc := ⟨.hbm, 69, rfl⟩
abbrev main_v36 : Ref sig .tc := ⟨.hbm, 70, rfl⟩
abbrev main_c_9 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_10 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_11 : Ref sig .tc := ⟨.hbm, 88, rfl⟩
abbrev main_v52 : Ref sig .tc := ⟨.hbm, 89, rfl⟩
abbrev main_v53 : Ref sig .tc := ⟨.hbm, 90, rfl⟩
abbrev main_c_12 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_13 : Ref sig .tc := ⟨.hbm, 95, rfl⟩
abbrev main_v57 : Ref sig .tc := ⟨.hbm, 96, rfl⟩
abbrev main_v58 : Ref sig .tc := ⟨.hbm, 97, rfl⟩
abbrev main_c_14 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst : Ref sig .tc := ⟨.hbm, 109, rfl⟩
abbrev main_v69 : Ref sig .tc := ⟨.hbm, 110, rfl⟩
abbrev main_cst_15 : Ref sig .tc := ⟨.hbm, 111, rfl⟩
abbrev main_call2_v0 : Ref sig .tc := ⟨.hbm, 112, rfl⟩
abbrev main_call2_v1 : Ref sig .tc := ⟨.hbm, 113, rfl⟩
abbrev main_v70 : Ref sig .tc := ⟨.hbm, 114, rfl⟩
abbrev main_v71 : Ref sig .tc := ⟨.hbm, 115, rfl⟩

abbrev nD : Nat := 1
abbrev τ : Topo := Topo.v7x

variable {F : FTy → Type} [FloatOps F]
-- ==== KernelI4.lean ====
abbrev S8x337920 : Shape := ⟨2, ![8, 337920]⟩
abbrev S7681 : Shape := ⟨1, ![7681]⟩
abbrev S256x3264 : Shape := ⟨2, ![256, 3264]⟩
abbrev S3264x256 : Shape := ⟨2, ![3264, 256]⟩
abbrev S31 : Shape := ⟨1, ![31]⟩
abbrev S30 : Shape := ⟨1, ![30]⟩
abbrev S_ : Shape := ⟨0, ![]⟩
abbrev S1x30 : Shape := ⟨2, ![1, 30]⟩
abbrev S329 : Shape := ⟨1, ![329]⟩
abbrev S329x1 : Shape := ⟨2, ![329, 1]⟩
abbrev S329x30 : Shape := ⟨2, ![329, 30]⟩
abbrev S300x1x1024 : Shape := ⟨3, ![300, 1, 1024]⟩
abbrev S8x1024 : Shape := ⟨2, ![8, 1024]⟩
abbrev S1x1x1024 : Shape := ⟨3, ![1, 1, 1024]⟩
abbrev S1 : Shape := ⟨1, ![1]⟩
abbrev S48x256 : Shape := ⟨2, ![48, 256]⟩
abbrev S1x128 : Shape := ⟨2, ![1, 128]⟩
abbrev S48x128 : Shape := ⟨2, ![48, 128]⟩
abbrev S48x128x1 : Shape := ⟨3, ![48, 128, 1]⟩
abbrev S6x128 : Shape := ⟨2, ![6, 128]⟩
abbrev S6x1x128 : Shape := ⟨3, ![6, 1, 128]⟩
abbrev S6x8x128 : Shape := ⟨3, ![6, 8, 128]⟩
abbrev S128 : Shape := ⟨1, ![128]⟩
abbrev S1x1x128 : Shape := ⟨3, ![1, 1, 128]⟩

abbrev nBuf : Space → Nat
  | .hbm => 37
  | .vmem => 5
  | .smem => 2
  | _ => 0

abbrev bufTy : (tb : Table) → Fin (tcTables nBuf tb) → BufTy
  | .hbm, ⟨0, _⟩ => ⟨S8x337920, .i32⟩
  | .hbm, ⟨1, _⟩ => ⟨S7681, .i32⟩
  | .hbm, ⟨2, _⟩ => ⟨S256x3264, .bf16⟩
  | .hbm, ⟨3, _⟩ => ⟨S3264x256, .bf16⟩
  | .hbm, ⟨4, _⟩ => ⟨S30, .i32⟩
  | .hbm, ⟨5, _⟩ => ⟨S_, .i32⟩
  | .hbm, ⟨6, _⟩ => ⟨S_, .i32⟩
  | .hbm, ⟨7, _⟩ => ⟨S30, .i32⟩
  | .hbm, ⟨8, _⟩ => ⟨S30, .i32⟩
  | .hbm, ⟨9, _⟩ => ⟨S30, .i32⟩
  | .hbm, ⟨10, _⟩ => ⟨S_, .i32⟩
  | .hbm, ⟨11, _⟩ => ⟨S30, .i32⟩
  | .hbm, ⟨12, _⟩ => ⟨S30, .i1⟩
  | .hbm, ⟨13, _⟩ => ⟨S30, .i32⟩
  | .hbm, ⟨14, _⟩ => ⟨S30, .i32⟩
  | .hbm, ⟨15, _⟩ => ⟨S_, .i32⟩
  | .hbm, ⟨16, _⟩ => ⟨S30, .i32⟩
  | .hbm, ⟨17, _⟩ => ⟨S30, .i1⟩
  | .hbm, ⟨18, _⟩ => ⟨S30, .i1⟩
  | .hbm, ⟨19, _⟩ => ⟨S_, .i32⟩
  | .hbm, ⟨20, _⟩ => ⟨S30, .i32⟩
  | .hbm, ⟨21, _⟩ => ⟨S30, .i32⟩
  | .hbm, ⟨22, _⟩ => ⟨S30, .i32⟩
  | .hbm, ⟨23, _⟩ => ⟨S30, .i32⟩
  | .hbm, ⟨24, _⟩ => ⟨S30, .i32⟩
  | .hbm, ⟨25, _⟩ => ⟨S1x30, .i32⟩
  | .hbm, ⟨26, _⟩ => ⟨S329, .i32⟩
  | .hbm, ⟨27, _⟩ => ⟨S329x1, .i32⟩
  | .hbm, ⟨28, _⟩ => ⟨S329x30, .i32⟩
  | .hbm, ⟨29, _⟩ => ⟨S329x30, .i32⟩
  | .hbm, ⟨30, _⟩ => ⟨S329x30, .i1⟩
  | .hbm, ⟨31, _⟩ => ⟨S329x30, .i32⟩
  | .hbm, ⟨32, _⟩ => ⟨S_, .i32⟩
  | .hbm, ⟨33, _⟩ => ⟨S329, .i32⟩
  | .hbm, ⟨34, _⟩ => ⟨S_, .i32⟩
  | .hbm, ⟨35, _⟩ => ⟨S329, .i32⟩
  | .hbm, ⟨36, _⟩ => ⟨S300x1x1024, .f32⟩
  | .local _ .vmem, ⟨0, _⟩ => ⟨S8x1024, .i32⟩
  | .local _ .vmem, ⟨1, _⟩ => ⟨S8x1024, .i32⟩
  | .local _ .vmem, ⟨2, _⟩ => ⟨S3264x256, .bf16⟩
  | .local _ .vmem, ⟨3, _⟩ => ⟨S1x1x1024, .f32⟩
  | .local _ .vmem, ⟨4, _⟩ => ⟨S1x1x1024, .f32⟩
  | .local _ .smem, ⟨0, _⟩ => ⟨S329, .i32⟩
  | .local _ .smem, ⟨1, _⟩ => ⟨S31, .i32⟩
  | _, _ => ⟨S8x337920, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v16 : Ref sig .tc := ⟨.hbm, 36, rfl⟩
abbrev main_v15 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![329], ![false]⟩

abbrev pre0 : Pipeline.Prefetch sig := ⟨2, ![main_v15.idx, main_v1.idx], fun | 0 => main_v15.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 1 → Nat :=
  let v3 : Index := Scalar.indexCast v1
  ![v3.toNat]

def k0_off3 (v1 : BitVec 32) : Fin 1 → Nat :=
  let c1_i32 : BitVec 32 := 1#32
  let v5 : BitVec 32 := Scalar.addi v1 c1_i32
  let v6 : Index := Scalar.indexCast v5
  ![v6.toNat]
def k0_off4 (i : grid0.Coords) : Fin 1 → Nat :=
  let arg0 : BitVec 32 := BitVec.ofNat 32 (i 0).val
  let c1_i32_1 : BitVec 32 := 1#32
  let v10 : BitVec 32 := Scalar.subi arg0 c1_i32_1
  let c0_i32_2 : BitVec 32 := 0#32
  let v11 : BitVec 32 := Scalar.maxsi v10 c0_i32_2
  let v12 : Index := Scalar.indexCast v11
  ![v12.toNat]
def k0_mult1 (v1 : BitVec 32) : BitVec 32 :=
  let c576_i32 : BitVec 32 := 576#32
  let c24_i32 : BitVec 32 := 24#32
  let v19 : BitVec 32 := Scalar.muli v1 c24_i32
  let v20 : BitVec 32 := Scalar.addi c576_i32 v19
  v20
def k0_mult2 (v1 : BitVec 32) : BitVec 32 :=
  let c2_i32 : BitVec 32 := 2#32
  let c576_i32 : BitVec 32 := 576#32
  let c24_i32 : BitVec 32 := 24#32
  let v19 : BitVec 32 := Scalar.muli v1 c24_i32
  let v20 : BitVec 32 := Scalar.addi c576_i32 v19
  let v21 : BitVec 32 := v20
  let v22 : BitVec 32 := Scalar.muli c2_i32 v21
  v22
def k0_off5 (v1 : BitVec 32) : Fin 2 → Nat :=
  let c2_i32 : BitVec 32 := 2#32
  let c576_i32 : BitVec 32 := 576#32
  let c24_i32 : BitVec 32 := 24#32
  let v19 : BitVec 32 := Scalar.muli v1 c24_i32
  let v20 : BitVec 32 := Scalar.addi c576_i32 v19
  let v21 : BitVec 32 := v20
  let v22 : BitVec 32 := Scalar.muli c2_i32 v21
  let v23 : BitVec 32 := v22
  let v24 : Index := Scalar.indexCast v23
  let c0 : Index := 0#32
  ![v24.toNat, 0]

def k0_chk1 (v1 : BitVec 32) : Prop :=
  (∀ a, (k0_off2 v1) a + S1.size a ≤ S31.size a) ∧
  (∀ a, (k0_off3 v1) a + S1.size a ≤ S31.size a) ∧
  (8 ∣ (k0_mult1 v1).toNat) ∧
  (16 ∣ (k0_mult2 v1).toNat) ∧
  (∀ a, (k0_off5 v1) a + S48x256.size a ≤ S3264x256.size a)
theorem k0_off2_inb : ∀ (v1 : BitVec 32) (k0_hw1 : k0_chk1 v1), ∀ a, (k0_off2 v1) a + S1.size a ≤ S31.size a := fun v1 k0_hw1 => k0_hw1.1
theorem k0_off3_inb : ∀ (v1 : BitVec 32) (k0_hw1 : k0_chk1 v1), ∀ a, (k0_off3 v1) a + S1.size a ≤ S31.size a := fun v1 k0_hw1 => k0_hw1.2.1
theorem k0_mult1_dvd : ∀ (v1 : BitVec 32) (k0_hw1 : k0_chk1 v1), 8 ∣ (k0_mult1 v1).toNat := fun v1 k0_hw1 => k0_hw1.2.2.1
theorem k0_mult2_dvd : ∀ (v1 : BitVec 32) (k0_hw1 : k0_chk1 v1), 16 ∣ (k0_mult2 v1).toNat := fun v1 k0_hw1 => k0_hw1.2.2.2.1
theorem k0_off5_inb : ∀ (v1 : BitVec 32) (k0_hw1 : k0_chk1 v1), ∀ a, (k0_off5 v1) a + S48x256.size a ≤ S3264x256.size a := fun v1 k0_hw1 => k0_hw1.2.2.2.2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S329.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S329) ![v0.toNat] S1.size (k0_off1_inb i)) numel1_S1
  let v2 : BitVec 32 := Scalar.subi arg0 v1
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S8x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3264x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceI4Ideal.lean ====
abbrev S8x337920 : Shape := ⟨2, ![8, 337920]⟩
abbrev S7681 : Shape := ⟨1, ![7681]⟩
abbrev S256x3264 : Shape := ⟨2, ![256, 3264]⟩
abbrev S307200 : Shape := ⟨1, ![307200]⟩
abbrev S1 : Shape := ⟨1, ![1]⟩
abbrev S_ : Shape := ⟨0, ![]⟩
abbrev S1x7681 : Shape := ⟨2, ![1, 7681]⟩
abbrev S307200x1 : Shape := ⟨2, ![307200, 1]⟩
abbrev S307200x7681 : Shape := ⟨2, ![307200, 7681]⟩
abbrev S8x307200 : Shape := ⟨2, ![8, 307200]⟩
abbrev S1x307200 : Shape := ⟨2, ![1, 307200]⟩
abbrev S48 : Shape := ⟨1, ![48]⟩
abbrev S48x1 : Shape := ⟨2, ![48, 1]⟩
abbrev S6x307200 : Shape := ⟨2, ![6, 307200]⟩
abbrev S6x8x307200 : Shape := ⟨3, ![6, 8, 307200]⟩
abbrev S48x307200 : Shape := ⟨2, ![48, 307200]⟩
abbrev S256x1440 : Shape := ⟨2, ![256, 1440]⟩
abbrev S256x30x48 : Shape := ⟨3, ![256, 30, 48]⟩
abbrev S307200x2 : Shape := ⟨2, ![307200, 2]⟩
abbrev S307200x48 : Shape := ⟨2, ![307200, 48]⟩
abbrev S300x1x1024 : Shape := ⟨3, ![300, 1, 1024]⟩

abbrev nBuf : Space → Nat
  | .hbm => 120
  | .vmem => 0
  | .smem => 0
  | _ => 0

abbrev bufTy : (tb : Table) → Fin (tcTables nBuf tb) → BufTy
  | .hbm, ⟨0, _⟩ => ⟨S8x337920, .i32⟩
  | .hbm, ⟨1, _⟩ => ⟨S7681, .i32⟩
  | .hbm, ⟨2, _⟩ => ⟨S256x3264, .bf16⟩
  | .hbm, ⟨3, _⟩ => ⟨S307200, .i32⟩
  | .hbm, ⟨4, _⟩ => ⟨S1, .i32⟩
  | .hbm, ⟨5, _⟩ => ⟨S_, .i32⟩
  | .hbm, ⟨6, _⟩ => ⟨S307200, .i32⟩
  | .hbm, ⟨7, _⟩ => ⟨S307200, .i1⟩
  | .hbm, ⟨8, _⟩ => ⟨S1x7681, .i32⟩
  | .hbm, ⟨9, _⟩ => ⟨S307200x1, .i32⟩
  | .hbm, ⟨10, _⟩ => ⟨S307200x7681, .i32⟩
  | .hbm, ⟨11, _⟩ => ⟨S307200x7681, .i32⟩
  | .hbm, ⟨12, _⟩ => ⟨S307200x7681, .i1⟩
  | .hbm, ⟨13, _⟩ => ⟨S307200x7681, .i32⟩
  | .hbm, ⟨14, _⟩ => ⟨S_, .i32⟩
  | .hbm, ⟨15, _⟩ => ⟨S307200, .i32⟩
  | .hbm, ⟨16, _⟩ => ⟨S_, .i32⟩
  | .hbm, ⟨17, _⟩ => ⟨S307200, .i32⟩
  | .hbm, ⟨18, _⟩ => ⟨S307200, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S307200, .i32⟩
  | .hbm, ⟨23, _⟩ => ⟨S307200, .i32⟩
  | .hbm, ⟨24, _⟩ => ⟨S_, .i32⟩
  | .hbm, ⟨25, _⟩ => ⟨S307200, .i32⟩
  | .hbm, ⟨26, _⟩ => ⟨S307200, .i32⟩
  | .hbm, ⟨27, _⟩ => ⟨S_, .i32⟩
  | .hbm, ⟨28, _⟩ => ⟨S_, .i32⟩
  | .hbm, ⟨29, _⟩ => ⟨S307200, .i32⟩
  | .hbm, ⟨30, _⟩ => ⟨S307200, .i32⟩
  | .hbm, ⟨31, _⟩ => ⟨S307200, .i32⟩
  | .hbm, ⟨32, _⟩ => ⟨S_, .i32⟩
  | .hbm, ⟨33, _⟩ => ⟨S307200, .i32⟩
  | .hbm, ⟨34, _⟩ => ⟨S307200, .i1⟩
  | .hbm, ⟨35, _⟩ => ⟨S307200, .i32⟩
  | .hbm, ⟨36, _⟩ => ⟨S307200, .i32⟩
  | .hbm, ⟨37, _⟩ => ⟨S_, .i32⟩
  | .hbm, ⟨38, _⟩ => ⟨S307200, .i32⟩
  | .hbm, ⟨39, _⟩ => ⟨S307200, .i1⟩
  | .hbm, ⟨40, _⟩ => ⟨S307200, .i1⟩
  | .hbm, ⟨41, _⟩ => ⟨S_, .i32⟩
  | .hbm, ⟨42, _⟩ => ⟨S307200, .i32⟩
  | .hbm, ⟨43, _⟩ => ⟨S307200, .i32⟩
  | .hbm, ⟨44, _⟩ => ⟨S307200, .i32⟩
  | .hbm, ⟨45, _⟩ => ⟨S_, .i32⟩
  | .hbm, ⟨46, _⟩ => ⟨S307200, .i32⟩
  | .hbm, ⟨47, _⟩ => ⟨S307200, .i32⟩
  | .hbm, ⟨48, _⟩ => ⟨S307200, .i32⟩
  | .hbm, ⟨49, _⟩ => ⟨S_, .i32⟩
  | .hbm, ⟨50, _⟩ => ⟨S307200, .i32⟩
  | .hbm, ⟨51, _⟩ => ⟨S307200, .i1⟩
  | .hbm, ⟨52, _⟩ => ⟨S_, .i32⟩
  | .hbm, ⟨53, _⟩ => ⟨S307200, .i32⟩
  | .hbm, ⟨54, _⟩ => ⟨S307200, .i32⟩
  | .hbm, ⟨55, _⟩ => ⟨S307200, .i32⟩
  | .hbm, ⟨56, _⟩ => ⟨S307200x1, .i32⟩
  | .hbm, ⟨57, _⟩ => ⟨S8x307200, .i32⟩
  | .hbm, ⟨58, _⟩ => ⟨S1x307200, .i32⟩
  | .hbm, ⟨59, _⟩ => ⟨S307200, .i32⟩
  | .hbm, ⟨60, _⟩ => ⟨S48, .i32⟩
  | .hbm, ⟨61, _⟩ => ⟨S48x1, .i32⟩
  | .hbm, ⟨62, _⟩ => ⟨S6x307200, .i32⟩
  | .hbm, ⟨63, _⟩ => ⟨S6x8x307200, .i32⟩
  | .hbm, ⟨64, _⟩ => ⟨S48x307200, .i32⟩
  | .hbm, ⟨65, _⟩ => ⟨S_, .i32⟩
  | .hbm, ⟨66, _⟩ => ⟨S48x1, .i32⟩
  | .hbm, ⟨67, _⟩ => ⟨S48x1, .i32⟩
  | .hbm, ⟨68, _⟩ => ⟨S_, .i32⟩
  | .hbm, ⟨69, _⟩ => ⟨S48x1, .i32⟩
  | .hbm, ⟨70, _⟩ => ⟨S48x1, .i32⟩
  | .hbm, ⟨71, _⟩ => ⟨S48x307200, .i32⟩
  | .hbm, ⟨72, _⟩ => ⟨S48x307200, .i32⟩
  | .hbm, ⟨73, _⟩ => ⟨S_, .i32⟩
  | .hbm, ⟨74, _⟩ => ⟨S48x307200, .i32⟩
  | .hbm, ⟨75, _⟩ => ⟨S48x307200, .i32⟩
  | .hbm, ⟨76, _⟩ => ⟨S_, .i32⟩
  | .hbm, ⟨77, _⟩ => ⟨S48x307200, .i32⟩
  | .hbm, ⟨78, _⟩ => ⟨S48x307200, .i1⟩
  | .hbm, ⟨79, _⟩ => ⟨S_, .i32⟩
  | .hbm, ⟨80, _⟩ => ⟨S48x307200, .i32⟩
  | .hbm, ⟨81, _⟩ => ⟨S48x307200, .i32⟩
  | .hbm, ⟨82, _⟩ => ⟨S48x307200, .i32⟩
  | .hbm, ⟨83, _⟩ => ⟨S1x307200, .i32⟩
  | .hbm, ⟨84, _⟩ => ⟨S307200, .i32⟩
  | .hbm, ⟨85, _⟩ => ⟨S307200, .f32⟩
  | .hbm, ⟨86, _⟩ => ⟨S48x307200, .f32⟩
  | .hbm, ⟨87, _⟩ => ⟨S1x307200, .f32⟩
  | .hbm, ⟨88, _⟩ => ⟨S48x307200, .f32⟩
  | .hbm, ⟨89, _⟩ => ⟨S48x307200, .f32⟩
  | .hbm, ⟨90, _⟩ => ⟨S256x1440, .bf16⟩
  | .hbm, ⟨91, _⟩ => ⟨S256x30x48, .bf16⟩
  | .hbm, ⟨92, _⟩ => ⟨S_, .i32⟩
  | .hbm, ⟨93, _⟩ => ⟨S307200, .i32⟩
  | .hbm, ⟨94, _⟩ => ⟨S307200, .i1⟩
  | .hbm, ⟨95, _⟩ => ⟨S_, .i32⟩
  | .hbm, ⟨96, _⟩ => ⟨S307200, .i32⟩
  | .hbm, ⟨97, _⟩ => ⟨S307200, .i32⟩
  | .hbm, ⟨98, _⟩ => ⟨S307200, .i32⟩
  | .hbm, ⟨99, _⟩ => ⟨S_, .i32⟩
  | .hbm, ⟨100, _⟩ => ⟨S307200, .i32⟩
  | .hbm, ⟨101, _⟩ => ⟨S307200, .i1⟩
  | .hbm, ⟨102, _⟩ => ⟨S_, .i32⟩
  | .hbm, ⟨103, _⟩ => ⟨S307200, .i32⟩
  | .hbm, ⟨104, _⟩ => ⟨S307200, .i32⟩
  | .hbm, ⟨105, _⟩ => ⟨S307200, .i32⟩
  | .hbm, ⟨106, _⟩ => ⟨S307200x1, .i32⟩
  | .hbm, ⟨107, _⟩ => ⟨S307200x1, .i32⟩
  | .hbm, ⟨108, _⟩ => ⟨S307200x2, .i32⟩
  | .hbm, ⟨109, _⟩ => ⟨S307200x48, .bf16⟩
  | .hbm, ⟨110, _⟩ => ⟨S307200x48, .f32⟩
  | .hbm, ⟨111, _⟩ => ⟨S307200x48, .f32⟩
  | .hbm, ⟨112, _⟩ => ⟨S307200x48, .f32⟩
  | .hbm, ⟨113, _⟩ => ⟨S_, .f32⟩
  | .hbm, ⟨114, _⟩ => ⟨S307200, .f32⟩
  | .hbm, ⟨115, _⟩ => ⟨S_, .f32⟩
  | .hbm, ⟨116, _⟩ => ⟨S_, .f32⟩
  | .hbm, ⟨117, _⟩ => ⟨S307200, .f32⟩
  | .hbm, ⟨118, _⟩ => ⟨S307200, .f32⟩
  | .hbm, ⟨119, _⟩ => ⟨S300x1x1024, .f32⟩
  | _, _ => ⟨S8x337920, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v15 : Ref sig .tc := ⟨.hbm, 44, rfl⟩
abbrev main_c_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_c_6 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_7 : Ref sig .tc := ⟨.hbm, 65, rfl⟩
abbrev main_v33 : Ref sig .tc := ⟨.hbm, 66, rfl⟩
abbrev main_v34 : Ref sig .tc := ⟨.hbm, 67, rfl⟩
abbrev main_c_8 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_9 : Ref sig .tc := ⟨.hbm, 73, rfl⟩
abbrev main_v39 : Ref sig .tc := ⟨.hbm, 74, rfl⟩
abbrev main_v40 : Ref sig .tc := ⟨.hbm, 75, rfl⟩
abbrev main_c_10 : Ref sig .tc := ⟨.hbm, 76, rfl⟩
abbrev main_v41 : Ref sig .tc := ⟨.hbm, 77, rfl⟩
abbrev main_v42 : Ref sig .tc := ⟨.hbm, 78, rfl⟩
abbrev main_c_11 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_12 : Ref sig .tc := ⟨.hbm, 92, rfl⟩
abbrev main_v55 : Ref sig .tc := ⟨.hbm, 93, rfl⟩
abbrev main_v56 : Ref sig .tc := ⟨.hbm, 94, rfl⟩
abbrev main_c_13 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_14 : Ref sig .tc := ⟨.hbm, 99, rfl⟩
abbrev main_v60 : Ref sig .tc := ⟨.hbm, 100, rfl⟩
abbrev main_v61 : Ref sig .tc := ⟨.hbm, 101, rfl⟩
abbrev main_c_15 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst : Ref sig .tc := ⟨.hbm, 113, rfl⟩
abbrev main_v72 : Ref sig .tc := ⟨.hbm, 114, rfl⟩
abbrev main_cst_16 : Ref sig .tc := ⟨.hbm, 115, rfl⟩
abbrev main_call3_v0 : Ref sig .tc := ⟨.hbm, 116, rfl⟩
abbrev main_call3_v1 : Ref sig .tc := ⟨.hbm, 117, rfl⟩
abbrev main_v73 : Ref sig .tc := ⟨.hbm, 118, rfl⟩
abbrev main_v74 : Ref sig .tc := ⟨.hbm, 119, rfl⟩

abbrev nD : Nat := 1
abbrev τ : Topo := Topo.v7x

variable {F : FTy → Type} [FloatOps F]
-- ==== KernelF8.lean ====
abbrev S30x67584 : Shape := ⟨2, ![30, 67584]⟩
abbrev S1537 : Shape := ⟨1, ![1537]⟩
abbrev S256x3264 : Shape := ⟨2, ![256, 3264]⟩
abbrev S3264x256 : Shape := ⟨2, ![3264, 256]⟩
abbrev S7 : Shape := ⟨1, ![7]⟩
abbrev S6 : Shape := ⟨1, ![6]⟩
abbrev S_ : Shape := ⟨0, ![]⟩
abbrev S1x6 : Shape := ⟨2, ![1, 6]⟩
abbrev S65 : Shape := ⟨1, ![65]⟩
abbrev S65x1 : Shape := ⟨2, ![65, 1]⟩
abbrev S65x6 : Shape := ⟨2, ![65, 6]⟩
abbrev S60x1x1024 : Shape := ⟨3, ![60, 1, 1024]⟩
abbrev S30x1024 : Shape := ⟨2, ![30, 1024]⟩
abbrev S1x1x1024 : Shape := ⟨3, ![1, 1, 1024]⟩
abbrev S1 : Shape := ⟨1, ![1]⟩
abbrev S112x256 : Shape := ⟨2, ![112, 256]⟩
abbrev S1x128 : Shape := ⟨2, ![1, 128]⟩
abbrev S112x128 : Shape := ⟨2, ![112, 128]⟩
abbrev S112x128x1 : Shape := ⟨3, ![112, 128, 1]⟩
abbrev S28x128 : Shape := ⟨2, ![28, 128]⟩
abbrev S128 : Shape := ⟨1, ![128]⟩
abbrev S1x1x128 : Shape := ⟨3, ![1, 1, 128]⟩

abbrev nBuf : Space → Nat
  | .hbm => 37
  | .vmem => 5
  | .smem => 2
  | _ => 0

abbrev bufTy : (tb : Table) → Fin (tcTables nBuf tb) → BufTy
  | .hbm, ⟨0, _⟩ => ⟨S30x67584, .i32⟩
  | .hbm, ⟨1, _⟩ => ⟨S1537, .i32⟩
  | .hbm, ⟨2, _⟩ => ⟨S256x3264, .bf16⟩
  | .hbm, ⟨3, _⟩ => ⟨S3264x256, .bf16⟩
  | .hbm, ⟨4, _⟩ => ⟨S6, .i32⟩
  | .hbm, ⟨5, _⟩ => ⟨S_, .i32⟩
  | .hbm, ⟨6, _⟩ => ⟨S_, .i32⟩
  | .hbm, ⟨7, _⟩ => ⟨S6, .i32⟩
  | .hbm, ⟨8, _⟩ => ⟨S6, .i32⟩
  | .hbm, ⟨9, _⟩ => ⟨S6, .i32⟩
  | .hbm, ⟨10, _⟩ => ⟨S_, .i32⟩
  | .hbm, ⟨11, _⟩ => ⟨S6, .i32⟩
  | .hbm, ⟨12, _⟩ => ⟨S6, .i1⟩
  | .hbm, ⟨13, _⟩ => ⟨S6, .i32⟩
  | .hbm, ⟨14, _⟩ => ⟨S6, .i32⟩
  | .hbm, ⟨15, _⟩ => ⟨S_, .i32⟩
  | .hbm, ⟨16, _⟩ => ⟨S6, .i32⟩
  | .hbm, ⟨17, _⟩ => ⟨S6, .i1⟩
  | .hbm, ⟨18, _⟩ => ⟨S6, .i1⟩
  | .hbm, ⟨19, _⟩ => ⟨S_, .i32⟩
  | .hbm, ⟨20, _⟩ => ⟨S6, .i32⟩
  | .hbm, ⟨21, _⟩ => ⟨S6, .i32⟩
  | .hbm, ⟨22, _⟩ => ⟨S6, .i32⟩
  | .hbm, ⟨23, _⟩ => ⟨S6, .i32⟩
  | .hbm, ⟨24, _⟩ => ⟨S6, .i32⟩
  | .hbm, ⟨25, _⟩ => ⟨S1x6, .i32⟩
  | .hbm, ⟨26, _⟩ => ⟨S65, .i32⟩
  | .hbm, ⟨27, _⟩ => ⟨S65x1, .i32⟩
  | .hbm, ⟨28, _⟩ => ⟨S65x6, .i32⟩
  | .hbm, ⟨29, _⟩ => ⟨S65x6, .i32⟩
  | .hbm, ⟨30, _⟩ => ⟨S65x6, .i1⟩
  | .hbm, ⟨31, _⟩ => ⟨S65x6, .i32⟩
  | .hbm, ⟨32, _⟩ => ⟨S_, .i32⟩
  | .hbm, ⟨33, _⟩ => ⟨S65, .i32⟩
  | .hbm, ⟨34, _⟩ => ⟨S_, .i32⟩
  | .hbm, ⟨35, _⟩ => ⟨S65, .i32⟩
  | .hbm, ⟨36, _⟩ => ⟨S60x1x1024, .f32⟩
  | .local _ .vmem, ⟨0, _⟩ => ⟨S30x1024, .i32⟩
  | .local _ .vmem, ⟨1, _⟩ => ⟨S30x1024, .i32⟩
  | .local _ .vmem, ⟨2, _⟩ => ⟨S3264x256, .bf16⟩
  | .local _ .vmem, ⟨3, _⟩ => ⟨S1x1x1024, .f32⟩
  | .local _ .vmem, ⟨4, _⟩ => ⟨S1x1x1024, .f32⟩
  | .local _ .smem, ⟨0, _⟩ => ⟨S65, .i32⟩
  | .local _ .smem, ⟨1, _⟩ => ⟨S7, .i32⟩
  | _, _ => ⟨S30x67584, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v16 : Ref sig .tc := ⟨.hbm, 36, rfl⟩
abbrev main_v15 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![65], ![false]⟩

abbrev pre0 : Pipeline.Prefetch sig := ⟨2, ![main_v15.idx, main_v1.idx], fun | 0 => main_v15.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 1 → Nat :=
  let v3 : Index := Scalar.indexCast v1
  ![v3.toNat]

def k0_off3 (v1 : BitVec 32) : Fin 1 → Nat :=
  let c1_i32 : BitVec 32 := 1#32
  let v5 : BitVec 32 := Scalar.addi v1 c1_i32
  let v6 : Index := Scalar.indexCast v5
  ![v6.toNat]
def k0_off4 (i : grid0.Coords) : Fin 1 → Nat :=
  let arg0 : BitVec 32 := BitVec.ofNat 32 (i 0).val
  let c1_i32_1 : BitVec 32 := 1#32
  let v10 : BitVec 32 := Scalar.subi arg0 c1_i32_1
  let c0_i32_2 : BitVec 32 := 0#32
  let v11 : BitVec 32 := Scalar.maxsi v10 c0_i32_2
  let v12 : Index := Scalar.indexCast v11
  ![v12.toNat]
def k0_mult1 (v1 : BitVec 32) : BitVec 32 :=
  let c1296_i32 : BitVec 32 := 1296#32
  let c56_i32 : BitVec 32 := 56#32
  let v19 : BitVec 32 := Scalar.muli v1 c56_i32
  let v20 : BitVec 32 := Scalar.addi c1296_i32 v19
  v20
def k0_mult2 (v1 : BitVec 32) : BitVec 32 :=
  let c2_i32 : BitVec 32 := 2#32
  let c1296_i32 : BitVec 32 := 1296#32
  let c56_i32 : BitVec 32 := 56#32
  let v19 : BitVec 32 := Scalar.muli v1 c56_i32
  let v20 : BitVec 32 := Scalar.addi c1296_i32 v19
  let v21 : BitVec 32 := v20
  let v22 : BitVec 32 := Scalar.muli c2_i32 v21
  v22
def k0_off5 (v1 : BitVec 32) : Fin 2 → Nat :=
  let c2_i32 : BitVec 32 := 2#32
  let c1296_i32 : BitVec 32 := 1296#32
  let c56_i32 : BitVec 32 := 56#32
  let v19 : BitVec 32 := Scalar.muli v1 c56_i32
  let v20 : BitVec 32 := Scalar.addi c1296_i32 v19
  let v21 : BitVec 32 := v20
  let v22 : BitVec 32 := Scalar.muli c2_i32 v21
  let v23 : BitVec 32 := v22
  let v24 : Index := Scalar.indexCast v23
  let c0 : Index := 0#32
  ![v24.toNat, 0]

def k0_chk1 (v1 : BitVec 32) : Prop :=
  (∀ a, (k0_off2 v1) a + S1.size a ≤ S7.size a) ∧
  (∀ a, (k0_off3 v1) a + S1.size a ≤ S7.size a) ∧
  (8 ∣ (k0_mult1 v1).toNat) ∧
  (16 ∣ (k0_mult2 v1).toNat) ∧
  (∀ a, (k0_off5 v1) a + S112x256.size a ≤ S3264x256.size a)
theorem k0_off2_inb : ∀ (v1 : BitVec 32) (k0_hw1 : k0_chk1 v1), ∀ a, (k0_off2 v1) a + S1.size a ≤ S7.size a := fun v1 k0_hw1 => k0_hw1.1
theorem k0_off3_inb : ∀ (v1 : BitVec 32) (k0_hw1 : k0_chk1 v1), ∀ a, (k0_off3 v1) a + S1.size a ≤ S7.size a := fun v1 k0_hw1 => k0_hw1.2.1
theorem k0_mult1_dvd : ∀ (v1 : BitVec 32) (k0_hw1 : k0_chk1 v1), 8 ∣ (k0_mult1 v1).toNat := fun v1 k0_hw1 => k0_hw1.2.2.1
theorem k0_mult2_dvd : ∀ (v1 : BitVec 32) (k0_hw1 : k0_chk1 v1), 16 ∣ (k0_mult2 v1).toNat := fun v1 k0_hw1 => k0_hw1.2.2.2.1
theorem k0_off5_inb : ∀ (v1 : BitVec 32) (k0_hw1 : k0_chk1 v1), ∀ a, (k0_off5 v1) a + S112x256.size a ≤ S3264x256.size a := fun v1 k0_hw1 => k0_hw1.2.2.2.2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65) ![v0.toNat] S1.size (k0_off1_inb i)) numel1_S1
  let v2 : BitVec 32 := Scalar.subi arg0 v1
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S30x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3264x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceF8Ideal.lean ====
abbrev S30x67584 : Shape := ⟨2, ![30, 67584]⟩
abbrev S1537 : Shape := ⟨1, ![1537]⟩
abbrev S256x3264 : Shape := ⟨2, ![256, 3264]⟩
abbrev S61440 : Shape := ⟨1, ![61440]⟩
abbrev S1 : Shape := ⟨1, ![1]⟩
abbrev S_ : Shape := ⟨0, ![]⟩
abbrev S1x1537 : Shape := ⟨2, ![1, 1537]⟩
abbrev S61440x1 : Shape := ⟨2, ![61440, 1]⟩
abbrev S61440x1537 : Shape := ⟨2, ![61440, 1537]⟩
abbrev S30x61440 : Shape := ⟨2, ![30, 61440]⟩
abbrev S1x61440 : Shape := ⟨2, ![1, 61440]⟩
abbrev S256x672 : Shape := ⟨2, ![256, 672]⟩
abbrev S256x6x112 : Shape := ⟨3, ![256, 6, 112]⟩
abbrev S61440x2 : Shape := ⟨2, ![61440, 2]⟩
abbrev S61440x112 : Shape := ⟨2, ![61440, 112]⟩
abbrev S28x61440 : Shape := ⟨2, ![28, 61440]⟩
abbrev S28x61440x4 : Shape := ⟨3, ![28, 61440, 4]⟩
abbrev S61440x28x4 : Shape := ⟨3, ![61440, 28, 4]⟩
abbrev S60x1024x112 : Shape := ⟨3, ![60, 1024, 112]⟩
abbrev S60x112x1024 : Shape := ⟨3, ![60, 112, 1024]⟩
abbrev S60x1x1024 : Shape := ⟨3, ![60, 1, 1024]⟩
abbrev S60x1024 : Shape := ⟨2, ![60, 1024]⟩

abbrev nBuf : Space → Nat
  | .hbm => 94
  | .vmem => 5
  | .smem => 0
  | _ => 0

abbrev bufTy : (tb : Table) → Fin (tcTables nBuf tb) → BufTy
  | .hbm, ⟨0, _⟩ => ⟨S30x67584, .i32⟩
  | .hbm, ⟨1, _⟩ => ⟨S1537, .i32⟩
  | .hbm, ⟨2, _⟩ => ⟨S256x3264, .bf16⟩
  | .hbm, ⟨3, _⟩ => ⟨S61440, .i32⟩
  | .hbm, ⟨4, _⟩ => ⟨S1, .i32⟩
  | .hbm, ⟨5, _⟩ => ⟨S_, .i32⟩
  | .hbm, ⟨6, _⟩ => ⟨S61440, .i32⟩
  | .hbm, ⟨7, _⟩ => ⟨S61440, .i1⟩
  | .hbm, ⟨8, _⟩ => ⟨S1x1537, .i32⟩
  | .hbm, ⟨9, _⟩ => ⟨S61440x1, .i32⟩
  | .hbm, ⟨10, _⟩ => ⟨S61440x1537, .i32⟩
  | .hbm, ⟨11, _⟩ => ⟨S61440x1537, .i32⟩
  | .hbm, ⟨12, _⟩ => ⟨S61440x1537, .i1⟩
  | .hbm, ⟨13, _⟩ => ⟨S61440x1537, .i32⟩
  | .hbm, ⟨14, _⟩ => ⟨S_, .i32⟩
  | .hbm, ⟨15, _⟩ => ⟨S61440, .i32⟩
  | .hbm, ⟨16, _⟩ => ⟨S_, .i32⟩
  | .hbm, ⟨17, _⟩ => ⟨S61440, .i32⟩
  | .hbm, ⟨18, _⟩ => ⟨S61440, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S61440, .i32⟩
  | .hbm, ⟨23, _⟩ => ⟨S61440, .i32⟩
  | .hbm, ⟨24, _⟩ => ⟨S_, .i32⟩
  | .hbm, ⟨25, _⟩ => ⟨S61440, .i32⟩
  | .hbm, ⟨26, _⟩ => ⟨S61440, .i32⟩
  | .hbm, ⟨27, _⟩ => ⟨S_, .i32⟩
  | .hbm, ⟨28, _⟩ => ⟨S_, .i32⟩
  | .hbm, ⟨29, _⟩ => ⟨S61440, .i32⟩
  | .hbm, ⟨30, _⟩ => ⟨S61440, .i32⟩
  | .hbm, ⟨31, _⟩ => ⟨S61440, .i32⟩
  | .hbm, ⟨32, _⟩ => ⟨S_, .i32⟩
  | .hbm, ⟨33, _⟩ => ⟨S61440, .i32⟩
  | .hbm, ⟨34, _⟩ => ⟨S61440, .i1⟩
  | .hbm, ⟨35, _⟩ => ⟨S61440, .i32⟩
  | .hbm, ⟨36, _⟩ => ⟨S61440, .i32⟩
  | .hbm, ⟨37, _⟩ => ⟨S_, .i32⟩
  | .hbm, ⟨38, _⟩ => ⟨S61440, .i32⟩
  | .hbm, ⟨39, _⟩ => ⟨S61440, .i1⟩
  | .hbm, ⟨40, _⟩ => ⟨S61440, .i1⟩
  | .hbm, ⟨41, _⟩ => ⟨S_, .i32⟩
  | .hbm, ⟨42, _⟩ => ⟨S61440, .i32⟩
  | .hbm, ⟨43, _⟩ => ⟨S61440, .i32⟩
  | .hbm, ⟨44, _⟩ => ⟨S61440, .i32⟩
  | .hbm, ⟨45, _⟩ => ⟨S_, .i32⟩
  | .hbm, ⟨46, _⟩ => ⟨S61440, .i32⟩
  | .hbm, ⟨47, _⟩ => ⟨S61440, .i32⟩
  | .hbm, ⟨48, _⟩ => ⟨S61440, .i32⟩
  | .hbm, ⟨49, _⟩ => ⟨S_, .i32⟩
  | .hbm, ⟨50, _⟩ => ⟨S61440, .i32⟩
  | .hbm, ⟨51, _⟩ => ⟨S61440, .i1⟩
  | .hbm, ⟨52, _⟩ => ⟨S_, .i32⟩
  | .hbm, ⟨53, _⟩ => ⟨S61440, .i32⟩
  | .hbm, ⟨54, _⟩ => ⟨S61440, .i32⟩
  | .hbm, ⟨55, _⟩ => ⟨S61440, .i32⟩
  | .hbm, ⟨56, _⟩ => ⟨S61440x1, .i32⟩
  | .hbm, ⟨57, _⟩ => ⟨S30x61440, .i32⟩
  | .hbm, ⟨58, _⟩ => ⟨S1x61440, .i32⟩
  | .hbm, ⟨59, _⟩ => ⟨S61440, .i32⟩
  | .hbm, ⟨60, _⟩ => ⟨S1x61440, .i32⟩
  | .hbm, ⟨61, _⟩ => ⟨S61440, .i32⟩
  | .hbm, ⟨62, _⟩ => ⟨S61440, .f32⟩
  | .hbm, ⟨63, _⟩ => ⟨S256x672, .bf16⟩
  | .hbm, ⟨64, _⟩ => ⟨S256x6x112, .bf16⟩
  | .hbm, ⟨65, _⟩ => ⟨S_, .i32⟩
  | .hbm, ⟨66, _⟩ => ⟨S61440, .i32⟩
  | .hbm, ⟨67, _⟩ => ⟨S61440, .i1⟩
  | .hbm, ⟨68, _⟩ => ⟨S_, .i32⟩
  | .hbm, ⟨69, _⟩ => ⟨S61440, .i32⟩
  | .hbm, ⟨70, _⟩ => ⟨S61440, .i32⟩
  | .hbm, ⟨71, _⟩ => ⟨S61440, .i32⟩
  | .hbm, ⟨72, _⟩ => ⟨S_, .i32⟩
  | .hbm, ⟨73, _⟩ => ⟨S61440, .i32⟩
  | .hbm, ⟨74, _⟩ => ⟨S61440, .i1⟩
  | .hbm, ⟨75, _⟩ => ⟨S_, .i32⟩
  | .hbm, ⟨76, _⟩ => ⟨S61440, .i32⟩
  | .hbm, ⟨77, _⟩ => ⟨S61440, .i32⟩
  | .hbm, ⟨78, _⟩ => ⟨S61440, .i32⟩
  | .hbm, ⟨79, _⟩ => ⟨S61440x1, .i32⟩
  | .hbm, ⟨80, _⟩ => ⟨S61440x1, .i32⟩
  | .hbm, ⟨81, _⟩ => ⟨S61440x2, .i32⟩
  | .hbm, ⟨82, _⟩ => ⟨S61440x112, .bf16⟩
  | .hbm, ⟨83, _⟩ => ⟨S28x61440, .i32⟩
  | .hbm, ⟨84, _⟩ => ⟨S28x61440x4, .fp8e4m3⟩
  | .hbm, ⟨85, _⟩ => ⟨S61440x28x4, .fp8e4m3⟩
  | .hbm, ⟨86, _⟩ => ⟨S60x1024x112, .fp8e4m3⟩
  | .hbm, ⟨87, _⟩ => ⟨S60x112x1024, .fp8e4m3⟩
  | .hbm, ⟨88, _⟩ => ⟨S60x1x1024, .f32⟩
  | .hbm, ⟨89, _⟩ => ⟨S60x1024x112, .bf16⟩
  | .hbm, ⟨90, _⟩ => ⟨S60x112x1024, .bf16⟩
  | .hbm, ⟨91, _⟩ => ⟨S61440, .i32⟩
  | .hbm, ⟨92, _⟩ => ⟨S60x1x1024, .i32⟩
  | .hbm, ⟨93, _⟩ => ⟨S60x1x1024, .f32⟩
  | .local _ .vmem, ⟨0, _⟩ => ⟨S60x112x1024, .fp8e4m3⟩
  | .local _ .vmem, ⟨1, _⟩ => ⟨S60x1x1024, .f32⟩
  | .local _ .vmem, ⟨2, _⟩ => ⟨S60x112x1024, .bf16⟩
  | .local _ .vmem, ⟨3, _⟩ => ⟨S60x1x1024, .i32⟩
  | .local _ .vmem, ⟨4, _⟩ => ⟨S60x1x1024, .f32⟩
  | _, _ => ⟨S30x67584, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v15 : Ref sig .tc := ⟨.hbm, 44, rfl⟩
abbrev main_c_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_c_6 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_7 : Ref sig .tc := ⟨.hbm, 65, rfl⟩
abbrev main_v33 : Ref sig .tc := ⟨.hbm, 66, rfl⟩
abbrev main_v34 : Ref sig .tc := ⟨.hbm, 67, rfl⟩
abbrev main_c_8 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_9 : Ref sig .tc := ⟨.hbm, 72, rfl⟩
abbrev main_v38 : Ref sig .tc := ⟨.hbm, 73, rfl⟩
abbrev main_v39 : Ref sig .tc := ⟨.hbm, 74, rfl⟩
abbrev main_c_10 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S60x112x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S60x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S60x112x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S60x1x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S60x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.I8.BitsKit.lean ====
/- The kernel as it is, with nothing said of its output: what the body's two cases share (the schedule of its windows, its staging
   buffers, the branch conditions, the side condition on the table word the body reads). -/
module

public import proofs.«01_k».proof.Proof.Gen.KernelI8.Launch
public import proofs.«01_k».proof.Proof.Gen.KernelI8.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelI8.Run

open Cert.KernelI8.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 1 (fun _ => rfl) (by decide)) (P := 1) (by decide) t).mpr (Nat.mod_one _) : ∀ t : Fin grid0.N, Pipeline.Window.fetchOf grid0 false cc0_transform_0 t = true)
/-- Window 1 (operand 3 (%0)) is fetched at the first point only, at any contents of the tables (its index map reads none). -/
theorem fetch0_1 (a : (pcfg0 (F := F)).Adm) : ∀ t : Fin (cfg0 a).N, ((cfg0 a).win 1).fetch t = true ↔ t.val % 197 = 0 :=
  (fun t => Pipeline.Window.fetchOf_const cc0_transform_1 (fun _ _ => rfl) (n := 197) (by decide) t : ∀ t : Fin grid0.N, Pipeline.Window.fetchOf grid0 false cc0_transform_1 t = true ↔ t.val % 197 = 0)
-- window 2: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_tc_dot_i8 (grid0.coords t) (Memref.whole main_v15) (Memref.isWhole_whole _) (Memref.whole main_v1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S197 .i32 := Memref.whole main_v15
abbrev htbM0_0 : tbM0_0.IsWhole := Memref.isWhole_whole _
abbrev tbM0_1 : Memref sig .tc .smem S19 .i32 := Memref.whole main_v1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelI8`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-! ## The body's branch conditions -/

/-- The condition of the body's `scf.if` 0: over WORDS the body reads from its tables or input SMEM windows
    (`v1`, `v13`), so no function of the point — a case variable: a hypothesis of each run, a `by_cases`
    of the obligation and an `if` of `outsAt`, stated over the argument blocks' words there. -/
abbrev cond0_0 (i : grid0.Coords) (v1 : BitVec 32) (v13 : BitVec 32) : Prop := (Scalar.cmpi .ne (Scalar.extui (Scalar.ori (Scalar.cmpi .eq (BitVec.ofNat 32 (i 0).val) 0#32) (Scalar.cmpi .ne (Scalar.subi (Scalar.subi (BitVec.ofNat 32 (i 0).val) 1#32) v13) (Scalar.subi (BitVec.ofNat 32 (i 0).val) v1)))) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S18x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S3264x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S197) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S197) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S197) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

end Cert.KernelI8.Run
-- ==== Proof.I8.BitsA.lean ====
/- The body's run in its first case, with nothing said of the output. -/
module

public import proofs.«01_k».proof.Proof.I8.BitsKit

@[expose] public section

set_option maxRecDepth 16384

noncomputable section

namespace Cert.KernelI8.Run

open Cert.KernelI8.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points all): on whole staging memrefs — the inputs' at their contents,
    the FORGOTTEN outputs' (2) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S18x1024 .i32) (harg3 : arg3.IsWhole) (arg4 : Memref sig .tc .vmem S3264x256 .bf16) (harg4 : arg4.IsWhole) (arg5 : Memref sig .tc .vmem S1x1x1024 .f32) (harg5 : arg5.IsWhole)
    (x0 : Vec F S18x1024 .i32) (x1 : Vec F S3264x256 .bf16) (xt0 : TbBuf0 (F := F) c tbM0_0) (xt1 : TbBuf0 (F := F) c tbM0_1) (hc0 : cond0_0 i (tbM0_0.view.readAt (Elt F) (Rect.unit (s := S197) (k0_off1 i) S1.size (k0_off1_inb i)).toLoadRect xt0 (Shape.Idx.first (numel1_S1.symm ▸ Nat.one_pos))) (tbM0_0.view.readAt (Elt F) (Rect.unit (s := S197) (k0_off4 i) S1.size (k0_off4_inb i)).toLoadRect xt0 (Shape.Idx.first (numel1_S1.symm ▸ Nat.one_pos)))) (k0_hw1 : k0_chk1 (tbM0_0.view.readAt (Elt F) (Rect.unit (s := S197) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
            ∗ (iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1) -∗ K ⟨⟩))
          ⊢ wp frame (wpE (defs₀ (F := F)) Variants.none c none) E (cc0_tc_dot_i8 i tbM0_0 htbM0_0 tbM0_1 htbM0_1 arg3 harg3 arg4 harg4 arg5 harg5) K := by
    intro E K
    simp only [cc0_tc_dot_i8_eq_skeleton]; unfold cc0_tc_dot_i8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%d2, %f2, -, H2⟩, HT0, HT1, Hk⟩
    obtain rfl := harg3.eq_unread hf0; obtain rfl := harg4.eq_unread hf1
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _, _; isplitr; swap; · iexact H2
      ipureintro; rfl
    isplitl [HT0]; · iexact HT0
    iexact HT1

end Cert.KernelI8.Run
-- ==== Proof.I8.BitsB.lean ====
/- The body's run in its second case, with nothing said of the output. -/
module

public import proofs.«01_k».proof.Proof.I8.BitsA

@[expose] public section

set_option maxRecDepth 16384

noncomputable section

namespace Cert.KernelI8.Run

open Cert.KernelI8.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points all): on whole staging memrefs — the inputs' at their contents,
    the FORGOTTEN outputs' (2) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S18x1024 .i32) (harg3 : arg3.IsWhole) (arg4 : Memref sig .tc .vmem S3264x256 .bf16) (harg4 : arg4.IsWhole) (arg5 : Memref sig .tc .vmem S1x1x1024 .f32) (harg5 : arg5.IsWhole)
    (x0 : Vec F S18x1024 .i32) (x1 : Vec F S3264x256 .bf16) (xt0 : TbBuf0 (F := F) c tbM0_0) (xt1 : TbBuf0 (F := F) c tbM0_1) (hc0 : ¬cond0_0 i (tbM0_0.view.readAt (Elt F) (Rect.unit (s := S197) (k0_off1 i) S1.size (k0_off1_inb i)).toLoadRect xt0 (Shape.Idx.first (numel1_S1.symm ▸ Nat.one_pos))) (tbM0_0.view.readAt (Elt F) (Rect.unit (s := S197) (k0_off4 i) S1.size (k0_off4_inb i)).toLoadRect xt0 (Shape.Idx.first (numel1_S1.symm ▸ Nat.one_pos)))) (k0_hw1 : k0_chk1 (tbM0_0.view.readAt (Elt F) (Rect.unit (s := S197) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
            ∗ (iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1) -∗ K ⟨⟩))
          ⊢ wp frame (wpE (defs₀ (F := F)) Variants.none c none) E (cc0_tc_dot_i8 i tbM0_0 htbM0_0 tbM0_1 htbM0_1 arg3 harg3 arg4 harg4 arg5 harg5) K := by
    intro E K
    simp only [cc0_tc_dot_i8_eq_skeleton]; unfold cc0_tc_dot_i8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%d2, %f2, -, H2⟩, HT0, HT1, Hk⟩
    obtain rfl := harg3.eq_unread hf0; obtain rfl := harg4.eq_unread hf1
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _, _; isplitr; swap; · iexact H2
      ipureintro; rfl
    isplitl [HT0]; · iexact HT0
    iexact HT1

end Cert.KernelI8.Run
-- ==== Proof.I8.BitsFrame.lean ====
/- The frame of the kernel as it is: for tables within range and side conditions that hold, it runs, leaves its arguments and every counter at zero. -/
module

public import proofs.«01_k».proof.Proof.I8.BitsB
public import Idealize.ShloMosaic.Lib.Claim

@[expose] public section

set_option maxRecDepth 16384

noncomputable section

namespace Cert.KernelI8.Run

open Cert.KernelI8.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (2): nothing reads what the kernel leaves in them, so nothing
    of it is named (Lib/Pipeline/Dat.lean `Dat.toRForget`). -/
def forgets0 : Fin 3 → Bool := fun w => w.val == 2

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, h⟩ => Pipeline.Dat.unnamed (cfg := (cfgM m hO)) ⟨2, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ (∃ d, owns (c : Thread nD τ) (ms0_2 m hO t) fullShare d))

set_option maxHeartbeats 800000 in
/-- The body at any point: the inputs' memrefs hold their blocks (`before0_W`); so the
    run applies; the invariant passes through unread; the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1]
  rw [show (dats m hO hH 0 c).Φ t.succ = (dats m hO hH 0 c).Φ t.castSucc from rfl,
    show (dats m hO hH 0 c).owesAt () t.succ = (dats m hO hH 0 c).owesAt () t.castSucc from rfl,
    after0_0, after0_1]
  rw [show (dats m hO hH 0 c).Φ t.castSucc = iprop(Pipeline.ΦA spec0 c ∗ Pipeline.ΦT pre0 (tbl m) c) from rfl, PhiT0_eq]
  by_cases h0 : cond0_0 (grid0.coords t) (tbM0_0.view.readAt (Elt F) (Rect.unit (s := S197) (k0_off1 (grid0.coords t)) S1.size (k0_off1_inb (grid0.coords t))).toLoadRect (tbl m 0) (Shape.Idx.first (numel1_S1.symm ▸ Nat.one_pos))) (tbM0_0.view.readAt (Elt F) (Rect.unit (s := S197) (k0_off4 (grid0.coords t)) S1.size (k0_off4_inb (grid0.coords t))).toLoadRect (tbl m 0) (Shape.Idx.first (numel1_S1.symm ▸ Nat.one_pos)))
  · iintro ⟨⟨HΦ, ⟨HT0, HT1⟩⟩, Ho, ⟨%d0, H0⟩, ⟨%d1, H1⟩, ⟨%d2, H2⟩⟩
    iapply ((kernelRun0_A c (grid0.coords t) _ _ _ _ _ _ (iblk m hO c 0 t) (iblk m hO c 1 t) (tbl m 0) (tbl m 1) h0 (Hyps.c0 hH c t)) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2
  · iintro ⟨⟨HΦ, ⟨HT0, HT1⟩⟩, Ho, ⟨%d0, H0⟩, ⟨%d1, H1⟩, ⟨%d2, H2⟩⟩
    iapply ((kernelRun0_B c (grid0.coords t) _ _ _ _ _ _ (iblk m hO c 0 t) (iblk m hO c 1 t) (tbl m 0) (tbl m 1) h0 (Hyps.c0 hH c t)) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 2) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (fun c => (dats m hO hH 0 c).toRForget forgets0) (A_eq m hO hH) (run_main m ρ hO hH)

/-- THE FRAME: `Cert.quiescent_KernelI8`'s statement (Defs.lean) at any `F` — Proof.lean cites it at `Bits`:
    `theorem Cert.Proof.claim : Cert.Claim := ⟨Cert.KernelI8.Gen.facts, fun m ρ _ => Cert.KernelI8.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelI8.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO hH) ((θ_run defs _ _).mono (fun _ h => h.2) (run_main_quiescent m ρ hO hH))

end Cert.KernelI8.Run
-- ==== Proof.Words.lean ====
/- Facts about 32-bit words that the three tables share: the bytes of a word as signed codes, read by a reinterpretation
   of rows and by shifts; and the sample that a lane selects. -/
module

public import Idealize.ShloMosaic.Lib.BitcastFour
public import Idealize.ShloMosaic.PureOps

@[expose] public section

namespace Cert.Words

open Idealize.ShloMosaic

/-- Byte `k` of a word, counted from the lowest. -/
def byteOf (w : BitVec 32) (k : ℕ) : BitVec 8 := w.extractLsb' (8 * k) 8

/-- A tile of words read as 8-bit rows: row `b` of a lane is byte `b % 4` of the word in row `b / 4`. -/
theorem bitcast_byte {R r n : ℕ} (x : (⟨2, ![r, n]⟩ : Shape).Idx → BitVec 32)
    (h : (⟨2, ![r, n]⟩ : Shape).Bitcasts 32 ⟨2, ![R, n]⟩ 8) (b : Fin R) (l : Fin n) (a : Fin r) (ha : a.val = b.val / 4) :
    bitcast ⟨2, ![R, n]⟩ 8 x h (ValueIdx.ix2 b l) = byteOf (x (ValueIdx.ix2 a l)) (b.val % 4) := by
  apply BitVec.eq_of_getLsbD_eq
  intro q hq
  rw [bitcast_getLsbD x h _ q hq (by decide)]
  have hrow : (⟨2, ![R, n]⟩ : Shape).row (ValueIdx.ix2 b l) = b.val := rfl
  have e1 : h.srcIdx (ValueIdx.ix2 b l) (((⟨2, ![R, n]⟩ : Shape).row (ValueIdx.ix2 b l) * 8 + q) / 32) (fun a ha =>
          (Nat.div_lt_iff_lt_mul (by decide)).2 (h.pos_lt _ q hq a ha)) = ValueIdx.ix2 a l := by
    funext c
    match c with
    | ⟨0, _⟩ =>
      refine Fin.ext ((h.srcIdx_row _ _ _ ⟨0, Nat.zero_lt_two⟩ rfl).trans ?_)
      rw [hrow]; show _ = a.val; omega
    | ⟨1, _⟩ => exact Fin.ext (h.srcIdx_other _ _ _ ⟨1, Nat.one_lt_two⟩ (by show ¬ 1 + 2 = 2; omega))
  rw [e1, hrow, byteOf, BitVec.getLsbD_extractLsb']
  have : (b.val * 8 + q) % 32 = 8 * (b.val % 4) + q := by omega
  simp [this, hq]

/-- Byte `k` of a word, with its sign, is the word shifted left until the byte stands highest and shifted back. -/
theorem shifts_toInt (w : BitVec 32) (k : ℕ) (hk : k < 4) :
    ((w <<< (24 - 8 * k)).sshiftRight 24).toInt = (byteOf w k).toInt := by
  have e : (w <<< (24 - 8 * k)).sshiftRight 24 = (byteOf w k).signExtend 32 := by
    apply BitVec.eq_of_getLsbD_eq
    intro q hq
    rw [BitVec.getLsbD_sshiftRight, BitVec.getLsbD_signExtend, byteOf]
    simp only [BitVec.getLsbD_extractLsb', BitVec.getLsbD_shiftLeft, BitVec.msb_eq_getLsbD_last]
    have h31 : (31 : ℕ) - (24 - 8 * k) = 8 * k + 7 := by omega
    by_cases h : q < 8
    · have h1 : 24 + q < 32 := by omega
      have h2 : ¬ 24 + q < 24 - 8 * k := by omega
      have h3 : 24 + q - (24 - 8 * k) = 8 * k + q := by omega
      have h4 : ¬ (32 ≤ q) := by omega
      simp [h, h1, h2, h3, h4, hq]
    · have h1 : ¬ 24 + q < 32 := by omega
      have h4 : ¬ (32 ≤ q) := by omega
      have h5 : ¬ 31 < 24 - 8 * k := by omega
      simp [h, h1, h4, h5, h31, hq]
  rw [e, BitVec.toInt_signExtend_of_le (by decide)]

/-- The signed comparisons of words, as propositions about their integers. -/
theorem cmpi_sge {w : ℕ} (a b : BitVec w) : IntOp.cmpi .sge a b = BitVec.ofBool (decide (b.toInt ≤ a.toInt)) := by
  simp only [IntOp.cmpi, BitVec.sle]
theorem cmpi_sle {w : ℕ} (a b : BitVec w) : IntOp.cmpi .sle a b = BitVec.ofBool (decide (a.toInt ≤ b.toInt)) := by
  simp only [IntOp.cmpi, BitVec.sle]
theorem cmpi_slt {w : ℕ} (a b : BitVec w) : IntOp.cmpi .slt a b = BitVec.ofBool (decide (a.toInt < b.toInt)) := by
  simp only [IntOp.cmpi, BitVec.slt]
theorem cmpi_sgt {w : ℕ} (a b : BitVec w) : IntOp.cmpi .sgt a b = BitVec.ofBool (decide (b.toInt < a.toInt)) := by
  simp only [IntOp.cmpi, BitVec.slt]

/-- A number below 2³¹ as a signed word. -/
theorem toInt_ofNat (n : ℕ) (h : n < 2 ^ 31) : (BitVec.ofNat 32 n).toInt = n := by
  rw [BitVec.toInt_eq_toNat_of_lt] <;> simp only [BitVec.toNat_ofNat] <;> omega

/-- A word that is not negative is its number. -/
theorem eq_ofNat_toInt (a : BitVec 32) (h : 0 ≤ a.toInt) : a = BitVec.ofNat 32 a.toInt.toNat := by
  apply BitVec.eq_of_toNat_eq
  rw [BitVec.toNat_ofNat]
  have := a.isLt
  rw [BitVec.toInt_eq_toNat_cond] at *
  split at * <;> omega

/-- A sum that stays below 2³¹ does not wrap. -/
theorem toInt_addi (a : BitVec 32) (k : ℕ) (h : 0 ≤ a.toInt) (hk : a.toInt + k < 2 ^ 31) :
    (IntOp.addi a (BitVec.ofNat 32 k)).toInt = a.toInt + k := by
  have e : IntOp.addi a (BitVec.ofNat 32 k) = BitVec.ofNat 32 (a.toInt.toNat + k) := by
    rw [eq_ofNat_toInt a h, toInt_ofNat _ (by omega)]
    exact (BitVec.ofNat_add ..).symm
  rw [e, toInt_ofNat _ (by omega)]
  omega

/-- A select on a decided bit is an `if`. -/
theorem select_ofBool {α : Type} (c : Prop) [Decidable c] (a b : α) :
    Scalar.select (BitVec.ofBool (decide c)) a b = if c then a else b := by
  by_cases h : c <;> simp [h, Scalar.select]

/-- The conjunction of two decided bits. -/
theorem andi_ofBool (c d : Prop) [Decidable c] [Decidable d] :
    IntOp.andi (BitVec.ofBool (decide c)) (BitVec.ofBool (decide d)) = BitVec.ofBool (decide (c ∧ d)) := by
  by_cases h : c <;> by_cases h' : d <;> simp [h, h', IntOp.andi]

/-- A decided bit is one exactly when its proposition holds. -/
theorem ofBool_eq_one (c : Prop) [Decidable c] : BitVec.ofBool (decide c) = 1#1 ↔ c := by
  by_cases h : c <;> simp [h]

/-- The sample that a lane selects by its word: the low seven bits, in the upper half when the word is at least 128. -/
def sel (w : BitVec 32) : Fin 256 := ⟨(if 128 ≤ w.toInt then 128 else 0) + w.toNat % 128, by split <;> omega⟩

/-- A word that is a sample number selects that sample. -/
theorem sel_val (w : BitVec 32) (h : w.toNat < 256) : (sel w).val = w.toNat := by
  have e : w.toInt = w.toNat := by rw [BitVec.toInt_eq_toNat_cond]; simp; omega
  simp only [sel, e]
  split <;> omega

theorem sel_toInt (w : BitVec 32) (h0 : 0 ≤ w.toInt) (h1 : w.toInt < 256) : (sel w).val = w.toInt.toNat := by
  have e : w.toNat = w.toInt.toNat := by
    have := w.isLt
    rw [BitVec.toInt_eq_toNat_cond] at h0 h1 ⊢
    split at h0 <;> omega
  rw [sel_val _ (by omega), e]

/-- The index of a lane gather, within its 128 lanes. -/
theorem lane_index (w : BitVec 32) :
    (Scalar.select (IntOp.cmpi .slt (IntOp.andi w 127#32) 0#32) (IntOp.addi (IntOp.andi w 127#32) 128#32) (IntOp.andi w 127#32)).toNat % 128
      = w.toNat % 128 := by
  have e : (IntOp.andi w 127#32).toNat = w.toNat % 128 := by
    show (w &&& 127#32).toNat = _
    rw [BitVec.toNat_and]
    exact Nat.and_two_pow_sub_one_eq_mod w.toNat 7
  rw [cmpi_slt, select_ofBool]
  split
  · show (IntOp.andi w 127#32 + 128#32).toNat % 128 = _
    rw [BitVec.toNat_add, e]; simp
  · rw [e]; omega

/-- A select between the two halves of a row of 256, as one read. -/
theorem select_half {α : Type} (w : BitVec 32) (f : Fin 256 → α) (n : ℕ) (hn : n = w.toNat % 128) (h1 : 128 + n < 256) (h2 : n < 256) :
    Scalar.select (IntOp.cmpi .sge w 128#32) (f ⟨128 + n, h1⟩) (f ⟨n, h2⟩) = f (sel w) := by
  subst hn
  rw [cmpi_sge, select_ofBool]
  by_cases h : 128 ≤ w.toInt
  · have e : sel w = ⟨128 + w.toNat % 128, h1⟩ := Fin.ext (by simp [sel, h])
    rw [e]; exact if_pos h
  · have e : sel w = ⟨w.toNat % 128, h2⟩ := Fin.ext (by simp [sel, h])
    rw [e]; exact if_neg h

/-- The position of lane `l` of the group at offset `o` of chunk `p`, as a word. -/
theorem pos_toInt (v2 off : BitVec 32) (p o l : ℕ) (h2 : v2 = BitVec.ofNat 32 p) (ho : off = BitVec.ofNat 32 o) (hp : p < 1000) (hl : o + l < 1024) :
    (IntOp.addi (Scalar.addi (Scalar.muli v2 1024#32) off) (BitVec.ofNat 32 l)).toInt = (p * 1024 + (o + l) : ℕ) := by
  subst h2 ho
  have e : IntOp.addi (Scalar.addi (Scalar.muli (BitVec.ofNat 32 p) 1024#32) (BitVec.ofNat 32 o)) (BitVec.ofNat 32 l) = BitVec.ofNat 32 (p * 1024 + (o + l)) := by
    show BitVec.ofNat 32 p * BitVec.ofNat 32 1024 + BitVec.ofNat 32 o + BitVec.ofNat 32 l = _
    rw [← BitVec.ofNat_mul, ← BitVec.ofNat_add, ← BitVec.ofNat_add, Nat.add_assoc]
  rw [e, BitVec.toInt_eq_toNat_of_lt] <;> simp <;> omega

end Cert.Words
-- ==== Proof.Sched.lean ====
/- The order in which a grid walks chunks of positions shared out over tables. `n` tables own consecutive ranges of
   positions `b 0 ≤ b 1 ≤ … ≤ b n`; a chunk is `1024` positions, and there are `C` chunks. Grid point `g` treats one
   table `T g` and one chunk `g - T g`: table `t` starts at point `b t / 1024 + t`, and `T g` is one less than the number
   of tables that start at or before `g`. From one point to the next either the table or the chunk advances by one. -/
module

public import Idealize.ShloMosaic.Lib.WordCmp

@[expose] public section

namespace Cert.Words

/-- What the walk satisfies. -/
structure Sched (n C : ℕ) (b T : ℕ → ℕ) : Prop where
  zero : T 0 = 0
  step : ∀ g, g + 1 < C + n - 1 → T (g + 1) = T g ∨ T (g + 1) = T g + 1
  lt : ∀ g, g < C + n - 1 → T g < n
  last : T (C + n - 2) = n - 1
  le_of : ∀ t g, t < n → g < C + n - 1 → b t / 1024 + t ≤ g → t ≤ T g
  lt_of : ∀ t g, t < n → g < C + n - 1 → g < b t / 1024 + t → T g < t

/-- The walk of the counted starts. -/
theorem sched_of_count (n C : ℕ) (hn : 0 < n) (hC : 0 < C) (b T : ℕ → ℕ) (h0 : b 0 = 0) (hmono : ∀ t, t + 1 < n → b t ≤ b (t + 1))
    (hlast : b (n - 1) < C * 1024)
    (hT : ∀ g, g < C + n - 1 → T g = ((Finset.range n).filter fun t => b t / 1024 + t ≤ g).card - 1) : Sched n C b T := by
  have hs : ∀ t u, t < u → u < n → b t / 1024 + t < b u / 1024 + u := by
    intro t u h
    induction u, h using Nat.le_induction with
    | base =>
      intro hu
      have := Nat.div_le_div_right (c := 1024) (hmono t hu)
      simp only [Nat.succ_eq_add_one]; omega
    | succ u h ih =>
      intro hu
      have h1 := ih (by omega)
      have := Nat.div_le_div_right (c := 1024) (hmono u hu)
      omega
  have hs' : ∀ t u, t ≤ u → u < n → b t / 1024 + t ≤ b u / 1024 + u := fun t u h hu => by
    rcases h.lt_or_eq with h | rfl
    · exact (hs t u h hu).le
    · exact le_rfl
  have le_of : ∀ t g, t < n → g < C + n - 1 → b t / 1024 + t ≤ g → t ≤ T g := by
    intro t g ht hg h
    rw [hT g hg]
    have : (Finset.range (t + 1)).card ≤ ((Finset.range n).filter fun t => b t / 1024 + t ≤ g).card := by
      apply Finset.card_le_card
      intro u hu
      rw [Finset.mem_range] at hu
      rw [Finset.mem_filter, Finset.mem_range]
      exact ⟨by omega, (hs' u t (by omega) ht).trans h⟩
    rw [Finset.card_range] at this
    omega
  have lt_of : ∀ t g, t < n → g < C + n - 1 → g < b t / 1024 + t → T g < t := by
    intro t g ht hg h
    rw [hT g hg]
    have : ((Finset.range n).filter fun t => b t / 1024 + t ≤ g).card ≤ (Finset.range t).card := by
      apply Finset.card_le_card
      intro u hu
      rw [Finset.mem_filter, Finset.mem_range] at hu
      rw [Finset.mem_range]
      by_contra hc
      have := hs' t u (by omega) hu.1
      omega
    rw [Finset.card_range] at this
    have ht0 : t ≠ 0 := by rintro rfl; rw [h0] at h; simp at h
    omega
  have lt : ∀ g, g < C + n - 1 → T g < n := by
    intro g hg
    rw [hT g hg]
    have := Finset.card_le_card (Finset.filter_subset (fun t => b t / 1024 + t ≤ g) (Finset.range n))
    rw [Finset.card_range] at this
    omega
  have at0 : ∀ g, g < C + n - 1 → b (T g) / 1024 + T g ≤ g := by
    intro g hg
    by_contra hc
    exact absurd (lt_of (T g) g (lt g hg) hg (by omega)) (lt_irrefl _)
  refine ⟨?_, ?_, lt, ?_, le_of, lt_of⟩
  · have := at0 0 (by omega); omega
  · intro g hg
    have h1 := le_of (T g) (g + 1) (lt g (by omega)) hg ((at0 g (by omega)).trans (by omega))
    have h2 : T (g + 1) ≤ T g + 1 := by
      by_contra hc
      have h3 := at0 (g + 1) hg
      have h4 := hs (T g + 1) (T (g + 1)) (by omega) (lt _ hg)
      have h5 := le_of (T g + 1) g (by have := lt _ hg; omega) (by omega) (by omega)
      omega
    omega
  · have h1 := lt (C + n - 2) (by omega)
    have h2 := le_of (n - 1) (C + n - 2) (by omega) (by omega) (by
      have : b (n - 1) / 1024 < C := (Nat.div_lt_iff_lt_mul (by decide)).mpr hlast
      omega)
    omega

namespace Sched

variable {n C : ℕ} {b T : ℕ → ℕ} (S : Sched n C b T)
include S

/-- From a point to a later one the table does not go back. -/
theorem mono {g h : ℕ} (hgh : g ≤ h) (hh : h < C + n - 1) : T g ≤ T h := by
  induction h, hgh using Nat.le_induction with
  | base => exact le_rfl
  | succ h _ ih => have := S.step h hh; have := ih (by omega); omega

/-- Nor by more than the points between. -/
theorem le_add {g h : ℕ} (hgh : g ≤ h) (hh : h < C + n - 1) : T h ≤ T g + (h - g) := by
  induction h, hgh using Nat.le_induction with
  | base => omega
  | succ h _ ih => have := S.step h hh; have := ih (by omega); omega

theorem le_self {g : ℕ} (hg : g < C + n - 1) : T g ≤ g := by
  have := S.le_add (Nat.zero_le g) hg; have := S.zero; omega

/-- The chunk is one of the `C`. -/
theorem chunk_lt (hn : 0 < n) (hC : 0 < C) {g : ℕ} (hg : g < C + n - 1) : g - T g < C := by
  have h1 := S.le_add (show g ≤ C + n - 2 by omega) (by omega)
  have h2 := S.last
  have h3 := S.le_self hg
  omega

/-- The point that treats table `t` and the chunk of a position of its range. -/
theorem at_point {t pos : ℕ} (ht : t < n) (hlo : b t ≤ pos) (hhi : t + 1 < n → pos < b (t + 1)) (hpos : pos < C * 1024) :
    T (pos / 1024 + t) = t := by
  have hp : pos / 1024 < C := (Nat.div_lt_iff_lt_mul (by decide)).mpr hpos
  have h1 := S.le_of t (pos / 1024 + t) ht (by omega) (by have := Nat.div_le_div_right (c := 1024) hlo; omega)
  rcases Nat.lt_or_ge (t + 1) n with h | h
  · have h2 := S.lt_of (t + 1) (pos / 1024 + t) h (by omega) (by have := Nat.div_le_div_right (c := 1024) (hhi h).le; omega)
    omega
  · have := S.lt (pos / 1024 + t) (by omega)
    omega

/-- Blocks that are built up over the points. `D g` is the block after point `g`: where the point's table hits a position
    it takes that table's value there, elsewhere it keeps the block before, or zeros where a new chunk starts. When a chunk
    is finished, every position holds the value of the table that hits it, or zero if none does. -/
theorem accumulate {β : Type} (D val : ℕ → ℕ → β) (z : β) (Hit : ℕ → ℕ → Prop) [∀ t pos, Decidable (Hit t pos)]
    (hat : ∀ t pos, t < n → pos < C * 1024 → Hit t pos → T (pos / 1024 + t) = t)
    (huniq : ∀ t t' pos, t < n → t' < n → Hit t pos → Hit t' pos → t = t') (hn : 0 < n) (hC : 0 < C)
    (h0 : ∀ y, y < 1024 → D 0 y = if Hit (T 0) ((0 - T 0) * 1024 + y) then val (T 0) ((0 - T 0) * 1024 + y) else z)
    (hD : ∀ g, g + 1 < C + n - 1 → ∀ y, y < 1024 → D (g + 1) y = if Hit (T (g + 1)) ((g + 1 - T (g + 1)) * 1024 + y)
      then val (T (g + 1)) ((g + 1 - T (g + 1)) * 1024 + y) else if T (g + 1) = T g then z else D g y)
    (g : ℕ) (hg : g < C + n - 1) (hl : g + 1 = C + n - 1 ∨ T (g + 1) = T g) (y : ℕ) (hy : y < 1024) :
    (∀ t, t < n → Hit t ((g - T g) * 1024 + y) → D g y = val t ((g - T g) * 1024 + y))
      ∧ ((∀ t, t < n → ¬ Hit t ((g - T g) * 1024 + y)) → D g y = z) := by
  have inv : ∀ g, g < C + n - 1 → (∀ t, t ≤ T g → Hit t ((g - T g) * 1024 + y) → D g y = val t ((g - T g) * 1024 + y))
      ∧ ((∀ t, t ≤ T g → ¬ Hit t ((g - T g) * 1024 + y)) → D g y = z) := by
    intro g
    induction g with
    | zero =>
      intro hg
      have e := S.zero
      rw [h0 y hy]
      refine ⟨fun t ht hh => ?_, fun hh => if_neg (hh _ (le_refl _))⟩
      have : t = T 0 := by omega
      subst this
      rw [if_pos hh]
    | succ g ih =>
      intro hg
      have hlt := S.lt (g + 1) hg
      have hle := S.le_self hg
      have hch := S.chunk_lt hn hC hg
      rw [hD g hg y hy]
      rcases S.step g hg with h | h
      · rw [if_pos h]
        refine ⟨fun t ht hh => ?_, fun hh => if_neg (hh _ (le_refl _))⟩
        by_cases htt : t = T (g + 1)
        · subst htt; rw [if_pos hh]
        · exfalso
          have hpt := hat t _ (by omega) (by omega) hh
          rw [show ((g + 1 - T (g + 1)) * 1024 + y) / 1024 = g + 1 - T (g + 1) by omega] at hpt
          have := S.le_add (g := g + 1 - T (g + 1) + t) (h := g) (by omega) (by omega)
          rw [hpt] at this
          omega
      · rw [if_neg (show ¬ T (g + 1) = T g by omega)]
        have hp : g + 1 - T (g + 1) = g - T g := by omega
        have ih := ih (by omega)
        refine ⟨fun t ht hh => ?_, fun hh => ?_⟩
        · by_cases htt : t = T (g + 1)
          · subst htt; rw [if_pos hh]
          · rw [if_neg fun h' => htt (huniq _ _ _ (by omega) hlt hh h')]
            rw [hp] at hh ⊢
            exact ih.1 t (by omega) hh
        · rw [if_neg (hh _ (le_refl _))]
          rw [hp] at hh
          exact ih.2 fun t ht => hh t (by omega)
  have hlt := S.lt g hg
  have hle := S.le_self hg
  have hch := S.chunk_lt hn hC hg
  have seen : ∀ t, t < n → Hit t ((g - T g) * 1024 + y) → t ≤ T g := by
    intro t ht hh
    by_contra hne
    have hpt := hat t _ ht (by omega) hh
    rw [show ((g - T g) * 1024 + y) / 1024 = g - T g by omega] at hpt
    rcases hl with hl | hl
    · have := S.last
      rw [show C + n - 2 = g by omega] at this
      omega
    · have := S.le_add (g := g + 1) (h := g - T g + t) (by omega) (by omega)
      rw [hpt, hl] at this
      omega
  exact ⟨fun t ht hh => (inv g hg).1 t (seen t ht hh) hh, fun hh => (inv g hg).2 fun t ht => hh t (by omega)⟩

/-- Every chunk is some point's. -/
theorem chunk_surj (hn : 0 < n) (p : ℕ) (hp : p < C) : ∃ g, g < C + n - 1 ∧ g - T g = p := by
  induction p with
  | zero => exact ⟨0, by omega, by omega⟩
  | succ p ih =>
    have hz : ∃ g, p + 1 ≤ g - T g ∧ g < C + n - 1 := ⟨C + n - 2, by have := S.last; omega, by omega⟩
    classical
    have h1 := Nat.find_spec hz
    have h2 := fun k => Nat.find_min hz (m := k)
    generalize Nat.find hz = g at h1 h2
    refine ⟨g, h1.2, ?_⟩
    obtain ⟨k, rfl⟩ : ∃ k, g = k + 1 := ⟨g - 1, by omega⟩
    have h3 := h2 k (by omega)
    have := S.le_self (g := k) (by omega)
    have := S.le_self h1.2
    rcases S.step k h1.2 with h | h <;> omega

end Sched

end Cert.Words
-- ==== Proof.TableWords.lean ====
/- The word arithmetic of the prefetched tables: a rounding-down division by 1024 spelt with a truncating one, the count
   of the tables that start at or before a grid point, and the offsets' order. -/
module

public import proofs.«01_k».proof.Proof.Words
public import proofs.«01_k».proof.Proof.Sched
public import Idealize.ShloMosaic.Lib.Routing.Words
public import Idealize.ShloMosaic.Lib.IndicatorCount

@[expose] public section

namespace Cert.Words

open Idealize.ShloMosaic

/-- A word divided by 1024, rounding down, spelt with the truncating division and its remainder. -/
def fdivW (x : BitVec 32) : BitVec 32 :=
  Scalar.select
    (IntOp.andi (IntOp.cmpi .ne (if x = 0 then 0 else if x.msb = true then -1 else 1) (if (1024#32 : BitVec 32) = 0 then 0 else if (1024#32 : BitVec 32).msb = true then -1 else 1 : BitVec 32))
      (IntOp.cmpi .ne (IntOp.remsi .host x 1024#32) 0#32))
    (IntOp.subi (IntOp.divsi .host x 1024#32) 1#32)
    (IntOp.divsi .host x 1024#32)

/-- On a number below 2³¹ it is the quotient. -/
theorem fdivW_ofNat (a : ℕ) (ha : a < 2 ^ 31) : fdivW (BitVec.ofNat 32 a) = BitVec.ofNat 32 (a / 1024) := by
  have hr : IntOp.remsi .host (BitVec.ofNat 32 a) 1024#32 = BitVec.ofNat 32 (a % 1024) := Routing.remsi_word .host ha (b := 1024) (by decide) (by decide)
  have hd : IntOp.divsi .host (BitVec.ofNat 32 a) 1024#32 = BitVec.ofNat 32 (a / 1024) := Routing.divsi_word .host ha (b := 1024) (by decide) (by decide)
  unfold fdivW
  rw [hr, hd]
  have hm : (BitVec.ofNat 32 a).msb = false := by
    rw [BitVec.msb_eq_decide]; simp; omega
  have h1 : (if (1024#32 : BitVec 32) = 0 then 0 else if (1024#32 : BitVec 32).msb = true then -1 else 1 : BitVec 32) = 1 := by decide
  rw [h1, hm]
  have hc : IntOp.andi (IntOp.cmpi .ne (if BitVec.ofNat 32 a = 0 then 0 else if false = true then -1 else 1 : BitVec 32) 1)
      (IntOp.cmpi .ne (BitVec.ofNat 32 (a % 1024)) 0#32) = 0#1 := by
    by_cases h : BitVec.ofNat 32 a = 0
    · have : a = 0 := by
        have := congrArg BitVec.toNat h
        simp at this; omega
      subst this; decide
    · rw [if_neg h, if_neg (by decide)]
      have : IntOp.cmpi .ne (1 : BitVec 32) 1 = 0#1 := by decide
      rw [this]
      exact BitVec.zero_and
  rw [hc]; rfl

/-- The table of a grid point: the count, less one, of the starts at or before it. -/
theorem tmap_word (n : ℕ) (hn : 0 < n) (hn' : n < 2 ^ 30) (x : Fin n → BitVec 32) (b : ℕ → ℕ) (hx : ∀ t : Fin n, x t = BitVec.ofNat 32 (b t.val))
    (hb : ∀ t, b t < 2 ^ 30) (h0 : b 0 = 0) (g : ℕ) (hg : g < 2 ^ 30) :
    IntOp.subi (Finset.fold IntOp.addi (0#32) (fun t : Fin n => BitVec.setWidth 32 (IntOp.cmpi .sle (IntOp.addi (fdivW (x t)) (BitVec.ofNat 32 t.val)) (BitVec.ofNat 32 g))) Finset.univ) 1#32
      = BitVec.ofNat 32 (((Finset.range n).filter fun t => b t / 1024 + t ≤ g).card - 1) := by
  rw [IndicatorCount.fold_addi_setWidth_eq_card]
  have hp : ∀ t : Fin n, (IntOp.cmpi .sle (IntOp.addi (fdivW (x t)) (BitVec.ofNat 32 t.val)) (BitVec.ofNat 32 g) = 1#1) ↔ b t.val / 1024 + t.val ≤ g := by
    intro t
    have hbt := hb t.val
    have e : IntOp.addi (fdivW (x t)) (BitVec.ofNat 32 t.val) = BitVec.ofNat 32 (b t.val / 1024 + t.val) := by
      rw [hx, fdivW_ofNat _ (by omega)]
      exact (BitVec.ofNat_add ..).symm
    rw [e, cmpi_sle, ofBool_eq_one, BitVec.toInt_eq_toNat_of_lt, BitVec.toInt_eq_toNat_of_lt] <;> simp only [BitVec.toNat_ofNat] <;> omega
  have hc : (Finset.univ.filter fun t : Fin n => IntOp.cmpi .sle (IntOp.addi (fdivW (x t)) (BitVec.ofNat 32 t.val)) (BitVec.ofNat 32 g) = 1#1).card
      = ((Finset.range n).filter fun t => b t / 1024 + t ≤ g).card := by
    rw [← Finset.card_map ⟨Fin.val, Fin.val_injective⟩]
    congr 1
    ext t
    simp only [Finset.mem_map, Finset.mem_filter, Finset.mem_univ, true_and, Finset.mem_range, Function.Embedding.coeFn_mk]
    constructor
    · rintro ⟨u, hu, rfl⟩; exact ⟨u.isLt, (hp u).mp hu⟩
    · rintro ⟨ht, h⟩; exact ⟨⟨t, ht⟩, (hp _).mpr h, rfl⟩
  rw [hc]
  have h1 : 1 ≤ ((Finset.range n).filter fun t => b t / 1024 + t ≤ g).card :=
    Finset.card_pos.mpr ⟨0, by rw [Finset.mem_filter, Finset.mem_range]; exact ⟨hn, by rw [h0]; simp⟩⟩
  show BitVec.ofNat 32 _ - BitVec.ofNat 32 1 = _
  rw [BitVec.ofNat_sub_ofNat_of_le _ _ (by decide) h1]

/-- The offsets of `n` tables of 256 bags, within `C` chunks: from zero, never decreasing, the last table starting and
    the last bag ending inside. -/
structure GoodOff (n C : ℕ) (o : ℕ → ℤ) : Prop where
  zero : o 0 = 0
  mono : ∀ i, i < 256 * n → o i ≤ o (i + 1)
  last : o (256 * n) ≤ C * 1024
  start : o (256 * (n - 1)) < C * 1024

/-- Position `pos` is one of table `t`'s: from its first offset on, before the next table's. -/
abbrev Hit (o : ℕ → ℤ) (t pos : ℕ) : Prop := o (256 * t) ≤ (pos : ℤ) ∧ (pos : ℤ) < o (256 * (t + 1))

namespace GoodOff

variable {n C : ℕ} {o : ℕ → ℤ} (H : GoodOff n C o)
include H

theorem le {i j : ℕ} (hij : i ≤ j) (hj : j ≤ 256 * n) : o i ≤ o j := by
  induction j, hij using Nat.le_induction with
  | base => exact le_rfl
  | succ j _ ih => exact (ih (by omega)).trans (H.mono j (by omega))

theorem nonneg {i : ℕ} (hi : i ≤ 256 * n) : 0 ≤ o i := by
  have := H.le (Nat.zero_le i) hi; rw [H.zero] at this; exact this

theorem le_last {i : ℕ} (hi : i ≤ 256 * n) : o i ≤ C * 1024 := (H.le hi le_rfl).trans H.last

/-- The walk over the tables' bounds. -/
theorem sched (hn : 0 < n) (hC : 0 < C) (T : ℕ → ℕ)
    (hT : ∀ g, g < C + n - 1 → T g = ((Finset.range n).filter fun t => (o (256 * t)).toNat / 1024 + t ≤ g).card - 1) :
    Sched n C (fun t => (o (256 * t)).toNat) T :=
  sched_of_count n C hn hC _ T (by simp [H.zero]) (fun t ht => Int.toNat_le_toNat (H.le (by omega) (by omega)))
    (by have := H.start; have := H.nonneg (i := 256 * (n - 1)) (by omega); omega) hT

/-- No two tables hold one position. -/
theorem hit_uniq (t t' pos : ℕ) (ht : t < n) (ht' : t' < n) (h : Hit o t pos) (h' : Hit o t' pos) : t = t' := by
  obtain ⟨h1, h2⟩ := h
  obtain ⟨h3, h4⟩ := h'
  rcases Nat.lt_trichotomy t t' with hl | hl | hl
  · have := H.le (i := 256 * (t + 1)) (j := 256 * t') (by omega) (by omega); omega
  · exact hl
  · have := H.le (i := 256 * (t' + 1)) (j := 256 * t) (by omega) (by omega); omega

/-- A position before the last offset is one of some table's. -/
theorem hit_of_lt (pos : ℕ) (h : (pos : ℤ) < o (256 * n)) : ∃ t, t < n ∧ Hit o t pos := by
  have key : ∀ k, k ≤ n → (pos : ℤ) < o (256 * k) → ∃ t, t < k ∧ Hit o t pos := fun k => by
    induction k with
    | zero => intro _ h0; rw [Nat.mul_zero, H.zero] at h0; omega
    | succ k ih =>
      intro hk h1
      by_cases h2 : (pos : ℤ) < o (256 * k)
      · obtain ⟨t, ht, hh⟩ := ih (by omega) h2
        exact ⟨t, by omega, hh⟩
      · exact ⟨k, by omega, by omega, h1⟩
  exact key n le_rfl h

/-- The point that treats a table's position. -/
theorem hit_at {T : ℕ → ℕ} (S : Sched n C (fun t => (o (256 * t)).toNat) T) (t pos : ℕ) (ht : t < n) (hpos : pos < C * 1024) (h : Hit o t pos) :
    T (pos / 1024 + t) = t :=
  S.at_point ht (by have := h.1; omega) (fun _ => by have := h.2; omega) hpos

end GoodOff

end Cert.Words
-- ==== Proof.I8.Bits.lean ====
/- The two tables the kernel prefetches, as the host computes them from the offsets: the bounds are every 256th offset,
   and the table of a grid point is one less than the number of tables whose start lies at or before it. -/
module

public import proofs.«01_k».proof.Proof.I8.BitsFrame
public import proofs.«01_k».proof.Proof.Words
public import proofs.«01_k».proof.Proof.TableWords
public import Idealize.ShloMosaic.Lib.Claim
public import Idealize.ShloMosaic.Lib.Pointwise

@[expose] public section

set_option maxRecDepth 16384

noncomputable section

namespace Cert.KernelI8.Run

open Cert.KernelI8.Gen Cert.Words
open Idealize.ShloMosaic Idealize.ShloMosaic.TcCoe Idealize.SL.Sem

variable {F : FTy → Type} [FloatOps F]
variable (m : (ℓ : Loc nD τ sig) → Buf (Elt F) ℓ)

/-- The first position of each table, divided into chunks (rounding down), as the host's operations spell it. -/
def fdiv (x : Vec F S18 .i32) : Vec F S18 .i32 :=
  select (andi (cmpi .ne (signi x) (broadcastInDim S18 ![] bcast_S_S18 (signi (constantI S_ 32 1024#32))))
      (cmpi .ne (Host.remsi x (broadcastInDim S18 ![] bcast_S_S18 (constantI S_ 32 1024#32))) (broadcastInDim S18 ![] bcast_S_S18 (constantI S_ 32 0#32))))
    (subi (Host.divsi x (broadcastInDim S18 ![] bcast_S_S18 (constantI S_ 32 1024#32))) (broadcastInDim S18 ![] bcast_S_S18 (constantI S_ 32 1#32)))
    (Host.divsi x (broadcastInDim S18 ![] bcast_S_S18 (constantI S_ 32 1024#32)))

/-- The table of each grid point, as the host's operations spell it. -/
def tmapOf (off : Vec F S4609 .i32) : Vec F S197 .i32 :=
  subi
    (Host.reduce IntOp.addi
      (extui 32 (cmpi .sle
          (broadcastInDim S197x18 ![0, 1] bcast_S1x18_S197x18_0_1 (broadcastInDim S1x18 ![1] bcast_S18_S1x18_1
            (addi (fdiv (F := F) (extractStridedSlice S18 ![0] (Host.slice S19 ![0] ![256] off slicesBy_S4609_S19_0s256) slices_S19_S18_0)) (iotaInDim S18 32 0))))
          (broadcastInDim S197x18 ![0, 1] bcast_S197x1_S197x18_0_1 (broadcastInDim S197x1 ![0] bcast_S197_S197x1_0 (iotaInDim S197 32 0)))) natLt_1_32)
      (constantI S_ 32 0#32) reducesTo_S197x18_S197_d1 h_S_)
    (broadcastInDim S197 ![] bcast_S_S197 (constantI S_ 32 1#32))

theorem V_tmap (c : Dev nD) : V m c main_v15 = tmapOf (F := F) (m ((c : Thread nD τ).loc main_arg1)) := by
  unfold V
  simp only [hostOps0, hostOps0_1, hostOps0_2, List.flatten_cons, List.flatten_nil, List.append_nil, List.cons_append, List.nil_append]
  after_results
  rfl

theorem V_bounds (c : Dev nD) : V m c main_v1 = Host.slice S19 ![0] ![256] (m ((c : Thread nD τ).loc main_arg1)) slicesBy_S4609_S19_0s256 := by
  unfold V
  simp only [hostOps0, hostOps0_1, hostOps0_2, List.flatten_cons, List.flatten_nil, List.append_nil, List.cons_append, List.nil_append]
  after_results

theorem V_go (c : Dev nD) : V m c main_v0 = transpose S3264x256 [1, 0] (m ((c : Thread nD τ).loc main_arg2)) transposes_S256x3264_S3264x256_1_0 := by
  unfold V
  simp only [hostOps0, hostOps0_1, hostOps0_2, List.flatten_cons, List.flatten_nil, List.append_nil, List.cons_append, List.nil_append]
  after_results

/-- The offsets, as integers. -/
def offOf (off : Vec F S4609 .i32) (i : ℕ) : ℤ := (off (ix1 ⟨min i 4608, by omega⟩)).toInt
abbrev offI (i : ℕ) : ℤ := offOf (F := F) (m (((0 : Dev nD) : Thread nD τ).loc main_arg1)) i

/-- The gradient, transposed. -/
theorem V_go_apply (c : Dev nD) (r : Fin 3264) (k : Fin 256) : V m c main_v0 (ix2 r k) = m ((c : Thread nD τ).loc main_arg2) (ix2 k r) := by
  rw [V_go]
  generalize m _ = off
  pointwise

/-- The bounds. -/
theorem tbl1_toInt (k : Fin 19) : (tbl m 1 (ix1 k)).toInt = offI m (256 * k.val) := by
  have e : tbl m 1 (ix1 k) = m (((0 : Dev nD) : Thread nD τ).loc main_arg1) (ix1 ⟨256 * k.val, by omega⟩) := by
    show V m (0 : Dev nD) main_v1 (ix1 k) = _
    rw [V_bounds]
    generalize m _ = off
    pointwise
  have hk : (⟨min (256 * k.val) 4608, by omega⟩ : Fin 4609) = ⟨256 * k.val, by omega⟩ := Fin.ext (by simp only; omega)
  rw [e]
  show _ = offOf _ _
  unfold offOf
  rw [hk]

/-- The table of a grid point is the count, less one, of the starts at or before it. -/
theorem tmapOf_apply (off : Vec F S4609 .i32) (HG : GoodOff 18 180 (offOf (F := F) off)) (g : Fin 197) :
    tmapOf (F := F) off (ix1 g) = BitVec.ofNat 32 (((Finset.range 18).filter fun t => (offOf (F := F) off (256 * min t 18)).toNat / 1024 + t ≤ g.val).card - 1) := by
  pointwise [tmapOf, fdiv]
  refine tmap_word 18 (by decide) (by decide) (fun t : Fin 18 => off (ix1 ⟨256 * t.val, by omega⟩)) (fun t => (offOf (F := F) off (256 * min t 18)).toNat) ?_ ?_ ?_ g.val (by omega)
  · intro t
    have h := HG.nonneg (i := 256 * t.val) (by omega)
    have e : offOf (F := F) off (256 * t.val) = (off (ix1 ⟨256 * t.val, by omega⟩)).toInt := by
      unfold offOf
      congr 3
      exact Fin.ext (by simp only; omega)
    have hm : min t.val 18 = t.val := by omega
    simp only [hm]
    rw [e] at h ⊢
    generalize off _ = w at h ⊢
    have h2 : w.toInt = w.toNat := BitVec.toInt_eq_toNat_of_lt (BitVec.toInt_pos_iff.mp h)
    rw [h2, Int.toNat_natCast, BitVec.ofNat_toNat, BitVec.setWidth_eq]
  · intro t
    have := HG.le_last (i := 256 * min t 18) (by omega)
    omega
  · simp [HG.zero]

/-- The table that grid point `g` treats. -/
def tb (g : ℕ) : ℕ := (tbl m 0 (ix1 ⟨min g 196, by omega⟩)).toNat

theorem tbl0_eq (g : Fin 197) : tbl m 0 (ix1 g) = BitVec.ofNat 32 (tb m g.val) := by
  have hg : (⟨min g.val 196, by omega⟩ : Fin 197) = g := Fin.ext (by simp only; omega)
  unfold tb
  rw [hg]
  exact (fun w : BitVec 32 => (by rw [BitVec.ofNat_toNat, BitVec.setWidth_eq] : w = BitVec.ofNat 32 w.toNat)) _

variable (HG : GoodOff 18 180 (offI m))

include HG in
/-- The grid walks the tables' chunks in order. -/
theorem sched : Sched 18 180 (fun t => (offI m (256 * t)).toNat) (tb m) := by
  refine HG.sched (by decide) (by decide) _ fun g hg => ?_
  unfold tb
  have e : tbl m 0 (ix1 ⟨min g 196, by omega⟩) = _ := (congrFun (V_tmap m 0) _).trans (tmapOf_apply _ HG ⟨min g 196, by omega⟩)
  rw [e, BitVec.toNat_ofNat]
  have hc : ∀ p : ℕ → Prop, [DecidablePred p] → ((Finset.range 18).filter p).card - 1 < 2 ^ 32 := fun p _ => by
    have := Finset.card_le_card (Finset.filter_subset p (Finset.range 18))
    rw [Finset.card_range] at this
    omega
  rw [Nat.mod_eq_of_lt (hc _)]
  congr 2
  apply Finset.filter_congr
  intro t ht
  rw [Finset.mem_range] at ht
  have h1 : min t 18 = t := by omega
  have h2 : min g 196 = g := by omega
  simp only [h1, h2]

include HG in
theorem tb_lt (g : Fin 197) : tb m g.val < 18 := (sched m HG).lt g.val (by omega)

/-- A load of one word of the first table. -/
theorem read0 (off : Fin 1 → ℕ) (inb) (g : Fin 197) (h : off 0 = g.val) (h1) :
    tbM0_0.view.readAt (Elt F) (Rect.unit (s := S197) off S1.size inb).toLoadRect (tbl m 0) (Shape.Idx.first h1) = BitVec.ofNat 32 (tb m g.val) := by
  rw [← tbl0_eq]
  refine congrArg (tbl m 0) (funext fun a => Fin.ext ?_)
  match a with
  | ⟨0, _⟩ => exact (congrArg (· + 1 * (Shape.Idx.first h1 0).val) h).trans (by
      have h0 : ∀ q : Fin 1, g.val + 1 * q.val = g.val := fun q => by omega
      exact h0 (Shape.Idx.first h1 0))

/-- A load of one word of the second table. -/
theorem read1 (off : Fin 1 → ℕ) (inb) (k : Fin 19) (h : off 0 = k.val) (h1) :
    BitVec.toInt (tbM0_1.view.readAt (Elt F) (Rect.unit (s := S19) off S1.size inb).toLoadRect (tbl m 1) (Shape.Idx.first h1)) = offI m (256 * k.val) := by
  rw [← tbl1_toInt]
  refine congrArg (fun i => BitVec.toInt (tbl m 1 i)) (funext fun a => Fin.ext ?_)
  match a with
  | ⟨0, _⟩ => exact (congrArg (· + 1 * (Shape.Idx.first h1 0).val) h).trans (by
      have h0 : ∀ q : Fin 1, k.val + 1 * q.val = k.val := fun q => by omega
      exact h0 (Shape.Idx.first h1 0))

/-- The place of a grid point's word, and of the one before it. -/
theorem off1_val (i : grid0.Coords) : k0_off1 i 0 = (i 0).val := by
  have h : (i 0).val < 197 := (i 0).isLt
  show (BitVec.ofNat 32 (i 0).val).toNat = _
  simp only [BitVec.toNat_ofNat]; omega

theorem off4_val (i : grid0.Coords) : k0_off4 i 0 = (i 0).val - 1 := by
  have h : (i 0).val < 197 := (i 0).isLt
  have h' : ∀ k : Fin 197, (Scalar.maxsi (Scalar.subi (BitVec.ofNat 32 k.val) 1#32) 0#32).toNat = k.val - 1 := by decide +kernel
  exact h' ⟨(i 0).val, h⟩

/-- What the body assumes of a table number, and the places of the bounds it reads. -/
theorem chk (t : Fin 18) : k0_chk1 (BitVec.ofNat 32 t.val) := by
  revert t; decide +kernel

theorem off2_val (t : Fin 18) : k0_off2 (BitVec.ofNat 32 t.val) 0 = t.val ∧ k0_off3 (BitVec.ofNat 32 t.val) 0 = t.val + 1 := by
  revert t; decide +kernel

/-- The chunk of grid point `g` as a word. -/
theorem chunk_word (T g : ℕ) (h : T ≤ g) (hg : g < 2 ^ 32) : Scalar.subi (BitVec.ofNat 32 g) (BitVec.ofNat 32 T) = BitVec.ofNat 32 (g - T) :=
  BitVec.ofNat_sub_ofNat_of_le _ _ (by omega) h

include HG in
/-- The block a point writes is its chunk. -/
theorem trans2 (i : grid0.Coords) : cc0_transform_2 k0_off1_inb numel1_S1 (tbl m) i = ![(i 0).val - tb m (i 0).val, 0, 0] := by
  have hi : (i 0).val < 197 := (i 0).isLt
  have e : (tbl m).at 0 (Rect.unit (s := S197) (k0_off1 i) S1.size (k0_off1_inb i)) numel1_S1 = BitVec.ofNat 32 (tb m (i 0).val) := read0 m _ _ ⟨(i 0).val, hi⟩ (off1_val i) _
  have h1 := (sched m HG).le_self (g := (i 0).val) (by omega)
  show ![(Scalar.subi (BitVec.ofNat 32 (i 0).val) ((tbl m).at 0 (Rect.unit (s := S197) (k0_off1 i) S1.size (k0_off1_inb i)) numel1_S1)).toNat, 0, 0] = _
  rw [e, chunk_word _ _ h1 (by omega), BitVec.toNat_ofNat, Nat.mod_eq_of_lt (by omega)]

include HG in
/-- The pipeline's side condition: every block it writes lies in the array. -/
theorem ok : Ok m := by
  intro i
  have hi : (i 0).val < 197 := (i 0).isLt
  have h2 := (sched m HG).chunk_lt (by decide) (by decide) (g := (i 0).val) (by omega)
  refine ⟨fun a => ?_, Or.inl rfl⟩
  rw [trans2 m HG]
  match a with
  | ⟨0, _⟩ => show ((i 0).val - tb m (i 0).val + 1) * 1 ≤ 180; omega
  | ⟨1, _⟩ => show (0 + 1) * 1 ≤ 1; omega
  | ⟨2, _⟩ => show (0 + 1) * 1024 ≤ 1024; omega

include HG in
/-- The side conditions the body assumes hold at every point. -/
theorem hyps (hO : Ok m) : Hyps m hO := fun c t => by
  have hi : (grid0.coords t 0).val < 197 := (grid0.coords t 0).isLt
  rw [read0 m _ _ ⟨(grid0.coords t 0).val, hi⟩ (off1_val _)]
  exact chk ⟨tb m (grid0.coords t 0).val, tb_lt m HG ⟨_, hi⟩⟩

end Cert.KernelI8.Run
-- ==== Proof.I8.Pre.lean ====
/- What the precondition says: the offsets start at zero, never fall, end within the array, the last table starts inside it;
   and in the columns that a table holds the sample is one of the 256 and the scale is a number at least zero. -/
module

public import proofs.«01_k».proof.Proof.Gen.Pre_pre_i8
public import proofs.«01_k».proof.Proof.TableWords
public import Idealize.ShloMosaic.Lib.Pointwise

@[expose] public section

set_option maxRecDepth 16384

namespace Cert.Pre_pre_i8.Gen

open Cert.Pre_pre_i8 Cert.Words
open Idealize.ShloMosaic Idealize.ShloMosaic.Tactic

variable {F : FTy → Type} [FloatOps F]
variable (W : IVec S18x202752 32) (off : IVec S4609 32) (go : FVec F S256x3264 .bf16)

theorem fn_zero : (fn (F := F) W off go).1 (ix1 0) = IntOp.cmpi .eq (off (ix1 0)) 0#32 := by
  show cmpi .eq (extractStridedSlice S1 ![0] off slices_S4609_S1_0) (broadcastInDim S1 ![] bcast_S_S1 (constantI S_ 32 0#32)) (ix1 0) = _
  pointwise

theorem fn_mono (i : Fin 4608) : (fn (F := F) W off go).2.1 (ix1 i) = IntOp.cmpi .sge (off (ix1 ⟨1 + i.val, by omega⟩)) (off (ix1 ⟨i.val, by omega⟩)) := by
  show cmpi .sge (extractStridedSlice S4608 ![1] off slices_S4609_S4608_1) (extractStridedSlice S4608 ![0] off slices_S4609_S4608_0) (ix1 i) = _
  pointwise

theorem fn_last : (fn (F := F) W off go).2.2.1 (ix1 0) = IntOp.cmpi .sle (off (ix1 4608)) 184320#32 := by
  show cmpi .sle (extractStridedSlice S1 ![4608] off slices_S4609_S1_4608) (broadcastInDim S1 ![] bcast_S_S1 (constantI S_ 32 184320#32)) (ix1 0) = _
  pointwise

theorem fn_start : (fn (F := F) W off go).2.2.2.1 (ix1 0) = IntOp.cmpi .slt (off (ix1 4352)) 184320#32 := by
  show cmpi .slt (extractStridedSlice S1 ![17] (Host.slice S19 ![0] ![256] off slicesBy_S4609_S19_0s256) slices_S19_S1_17) (broadcastInDim S1 ![] bcast_S_S1 (constantI S_ 32 184320#32)) (ix1 0) = _
  pointwise

theorem fn_live (t : Fin 18) (j : Fin 202752) : (fn (F := F) W off go).2.2.2.2 (ix2 t j)
    = IntOp.ori (~~~IntOp.andi (IntOp.cmpi .sle (IntOp.addi (off (ix1 ⟨256 * t.val, by omega⟩)) (IntOp.muli (BitVec.ofNat 32 t.val) 1024#32)) (BitVec.ofNat 32 j.val))
          (IntOp.cmpi .slt (BitVec.ofNat 32 j.val) (IntOp.addi (off (ix1 ⟨256 * (1 + t.val), by omega⟩)) (IntOp.muli (BitVec.ofNat 32 t.val) 1024#32))))
        (IntOp.andi (IntOp.andi (IntOp.andi (IntOp.cmpi .sge (W (ix2 17 j)) 0#32) (IntOp.cmpi .slt (W (ix2 17 j)) 256#32)) (IntOp.cmpi .sge (W (ix2 16 j)) 0#32))
          (IntOp.cmpi .slt (W (ix2 16 j)) 2139095040#32)) := by
  dsimp only [fn, fn_part1, fn_part2]
  pointwise

/-- The offset at a position of the array, as an integer. -/
abbrev offAt (i : ℕ) : ℤ := (off (ix1 ⟨min i 4608, by omega⟩)).toInt

variable (h : (fn (F := F) W off go).1 = (fun _ => 1#1) ∧ (fn (F := F) W off go).2.1 = (fun _ => 1#1) ∧ (fn (F := F) W off go).2.2.1 = (fun _ => 1#1)
  ∧ (fn (F := F) W off go).2.2.2.1 = (fun _ => 1#1) ∧ (fn (F := F) W off go).2.2.2.2 = (fun _ => 1#1))
include h

/-- The offsets start at zero, never fall, end inside the array; the last table starts inside it. -/
theorem good : GoodOff 18 180 (offAt off) := by
  obtain ⟨h0, h1, h2, h3, -⟩ := h
  refine ⟨?_, fun i hi => ?_, ?_, ?_⟩
  · have e := (fn_zero (F := F) W off go).symm.trans (congrFun h0 _)
    have e' : off (ix1 0) = 0#32 := by
      simpa [IntOp.cmpi, (by decide : ∀ x : Bool, BitVec.ofBool x = 1#1 ↔ x = true)] using e
    show (off (ix1 0)).toInt = 0
    rw [e']; rfl
  · have e := (fn_mono (F := F) W off go ⟨i, by omega⟩).symm.trans (congrFun h1 _)
    rw [cmpi_sge, ofBool_eq_one] at e
    have e1 : (⟨min i 4608, by omega⟩ : Fin 4609) = ⟨i, by omega⟩ := Fin.ext (by show min i 4608 = i; omega)
    have e2 : (⟨min (i + 1) 4608, by omega⟩ : Fin 4609) = ⟨1 + i, by omega⟩ := Fin.ext (by show min (i + 1) 4608 = 1 + i; omega)
    show (off (ix1 ⟨min i 4608, _⟩)).toInt ≤ (off (ix1 ⟨min (i + 1) 4608, _⟩)).toInt
    rw [e1, e2]; exact e
  · have e := (fn_last (F := F) W off go).symm.trans (congrFun h2 _)
    rw [cmpi_sle, ofBool_eq_one] at e
    exact e
  · have e := (fn_start (F := F) W off go).symm.trans (congrFun h3 _)
    rw [cmpi_slt, ofBool_eq_one] at e
    exact e

/-- In a column that holds one of table `t`'s positions, the sample is below 256 and the scale word is that of a number
    at least zero. -/
theorem live (t : Fin 18) (pos : ℕ) (hp : pos < 184320) (hit : Hit (offAt off) t.val pos) (j : Fin 202752) (hj : j.val = pos + 1024 * t.val) :
    ((0 : ℤ) ≤ (W (ix2 17 j)).toInt ∧ (W (ix2 17 j)).toInt < 256) ∧ (0 : ℤ) ≤ (W (ix2 16 j)).toInt ∧ (W (ix2 16 j)).toInt < 2139095040 := by
  have HG := good (F := F) W off go h
  obtain ⟨-, -, -, -, h4⟩ := h
  have e := (fn_live (F := F) W off go t j).symm.trans (congrFun h4 _)
  have ht := t.isLt
  have hm : IntOp.muli (BitVec.ofNat 32 t.val) 1024#32 = BitVec.ofNat 32 (1024 * t.val) := by
    rw [Nat.mul_comm]; exact (BitVec.ofNat_mul ..).symm
  have a1 : offAt off (256 * t.val) = (off (ix1 ⟨256 * t.val, by omega⟩)).toInt := by
    show (off (ix1 ⟨min (256 * t.val) 4608, _⟩)).toInt = _
    congr 3; exact Fin.ext (by show min (256 * t.val) 4608 = 256 * t.val; omega)
  have a2 : offAt off (256 * (t.val + 1)) = (off (ix1 ⟨256 * (1 + t.val), by omega⟩)).toInt := by
    show (off (ix1 ⟨min (256 * (t.val + 1)) 4608, _⟩)).toInt = _
    congr 3; exact Fin.ext (by show min (256 * (t.val + 1)) 4608 = 256 * (1 + t.val); omega)
  have b1 := HG.nonneg (i := 256 * t.val) (by omega)
  have b2 := HG.le_last (i := 256 * t.val) (by omega)
  have b3 := HG.nonneg (i := 256 * (t.val + 1)) (by omega)
  have b4 := HG.le_last (i := 256 * (t.val + 1)) (by omega)
  obtain ⟨c1, c2⟩ := hit
  rw [a1] at b1 b2 c1
  rw [a2] at b3 b4 c2
  have hjt : (BitVec.ofNat 32 j.val).toInt = j.val := toInt_ofNat _ (by omega)
  rw [hm, cmpi_sle, cmpi_slt, toInt_addi _ (1024 * t.val) b1 (by omega), toInt_addi _ (1024 * t.val) b3 (by omega), hjt, andi_ofBool,
    decide_eq_true (by constructor <;> omega), cmpi_sge, cmpi_slt, cmpi_sge, cmpi_slt, andi_ofBool, andi_ofBool, andi_ofBool] at e
  have e' := (by decide : ∀ x : Bool, IntOp.ori (~~~ (BitVec.ofBool true)) (BitVec.ofBool x) = 1#1 → x = true) _ e
  have e'' := of_decide_eq_true e'
  exact ⟨e''.1.1, e''.1.2, e''.2⟩

end Cert.Pre_pre_i8.Gen
-- ==== Proof.I8.Quiet.lean ====
/- The frame of the kernel as it is: under the precondition it runs, leaves its arguments and every counter at zero. -/
module

public import proofs.«01_k».proof.Defs
public import proofs.«01_k».proof.Proof.I8.Bits
public import proofs.«01_k».proof.Proof.I8.Pre

@[expose] public section

set_option maxRecDepth 16384

namespace Cert.Proof.I8

open Idealize.ShloMosaic Idealize.ShloMosaic.TcCoe Idealize.SL.Sem Cert.Words

/-- The kernel runs and leaves its arguments. -/
theorem quiescent : Cert.quiescent_KernelI8 (hKernelI8 := Cert.KernelI8.Gen.facts) (hPre_pre_i8 := Cert.Pre_pre_i8.Gen.facts) := fun m ρ h => by
  have HG : GoodOff 18 180 (Cert.KernelI8.Run.offI m) := Cert.Pre_pre_i8.Gen.good (F := Bits) _ _ _ (h 0)
  exact Cert.KernelI8.Run.frame m ρ (Cert.KernelI8.Run.ok m HG) (Cert.KernelI8.Run.hyps m HG _)

end Cert.Proof.I8
-- ==== Proof.I8.Kit.lean ====
/- The frame kit of the idealized program `KernelI8Ideal`: the host lines before the kernel call, the prefetched
   tables read off the launch memory, the windows' blocks, the body's branch condition and its assumed side
   conditions. It follows the kit that is generated for the program before idealization. -/
module

public import proofs.«01_k».proof.Proof.Gen.KernelI8Ideal.Launch
public import proofs.«01_k».proof.Proof.Gen.KernelI8Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelI8Ideal.Run

open Cert.KernelI8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline schedule and the body at a point -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 1 (fun _ => rfl) (by decide)) (P := 1) (by decide) t).mpr (Nat.mod_one _) : ∀ t : Fin grid0.N, Pipeline.Window.fetchOf grid0 false cc0_transform_0 t = true)
/-- Window 1 (operand 3 (%0)) is fetched at the first point only, at any contents of the tables (its index map reads none). -/
theorem fetch0_1 (a : (pcfg0 (F := F)).Adm) : ∀ t : Fin (cfg0 a).N, ((cfg0 a).win 1).fetch t = true ↔ t.val % 197 = 0 :=
  (fun t => Pipeline.Window.fetchOf_const cc0_transform_1 (fun _ _ => rfl) (n := 197) (by decide) t : ∀ t : Fin grid0.N, Pipeline.Window.fetchOf grid0 false cc0_transform_1 t = true ↔ t.val % 197 = 0)
-- window 2: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_tc_dot_i8 (grid0.coords t) (Memref.whole main_v15) (Memref.isWhole_whole _) (Memref.whole main_v1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S197 .i32 := Memref.whole main_v15
abbrev htbM0_0 : tbM0_0.IsWhole := Memref.isWhole_whole _
abbrev tbM0_1 : Memref sig .tc .smem S19 .i32 := Memref.whole main_v1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelI8Ideal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-! ## The body's branch conditions -/

/-- The condition of the body's `scf.if` 0: over WORDS the body reads from its tables or input SMEM windows
    (`v1`, `v13`), so no function of the point — a case variable: a hypothesis of each run, a `by_cases`
    of the obligation and an `if` of `outsAt`, stated over the argument blocks' words there. -/
abbrev cond0_0 (i : grid0.Coords) (v1 : BitVec 32) (v13 : BitVec 32) : Prop := (Scalar.cmpi .ne (Scalar.extui (Scalar.ori (Scalar.cmpi .eq (BitVec.ofNat 32 (i 0).val) 0#32) (Scalar.cmpi .ne (Scalar.subi (Scalar.subi (BitVec.ofNat 32 (i 0).val) 1#32) v13) (Scalar.subi (BitVec.ofNat 32 (i 0).val) v1)))) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S18x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S3264x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S197) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S197) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S197) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

end Cert.KernelI8Ideal.Run

end
-- ==== Proof.I8.Piece.lean ====
/- One group of 128 lanes of the kernel body, at the ideal instance: the payload of each of the eight stores is one
   function `piece` of the group's offset and of the words loaded for it, and `piece_apply` says what that function is
   at a lane: inside the table's range of positions the dot product of the row's codes with the gradient column of the
   lane's sample, times the lane's scale; outside it what the block held before. -/
module

public import proofs.«01_k».proof.Proof.Gen.KernelI8Ideal.Skeleton
public import proofs.«01_k».proof.Proof.Words
public import Idealize.ShloMosaic.Lib.Pointwise

@[expose] public section

set_option maxRecDepth 16384

noncomputable section

namespace Cert.KernelI8Ideal.Run

open Cert.KernelI8Ideal.Gen
open Idealize.ShloMosaic Idealize.SL.Sem

/-- The block that one of the eight stores writes, from the offset of its 128 lanes in the chunk and the words loaded. -/
def piece (off v2 v4 v7 : BitVec 32) (v25 : Vec Ideal S64x256 .bf16) (v28 : Vec Ideal S1x128 .i32) (v56 : Vec Ideal S16x128 .i32) (v62 : Vec Ideal S1x128 .i32) (v75 : Vec Ideal S1x1x128 .f32) : FVec Ideal S1x1x128 .f32 :=
  have v42 : FVec Ideal S64x128 .f32 := extractStridedSlice S64x128 ![0, 128] (k0_pay3 v25) slices_S64x256_o0_128_S64x128
  have v43 : IVec S64x128 32 := broadcast S64x128 0#32
  have v44 : IVec S64x128 1 := cmpi .slt (k0_pay4 v28) v43
  have v45 : IVec S64x128 32 := broadcast S64x128 128#32
  have v46 : IVec S64x128 32 := addi (k0_pay4 v28) v45
  have v47 : IVec S64x128 32 := select v44 v46 (k0_pay4 v28)
  have v48 : IVec S64x128x1 32 := shapeCast S64x128x1 v47 shapeCasts_S64x128_S64x128x1
  have v49 : IVec S64x128 32 := shapeCast S64x128 v48 shapeCasts_S64x128x1_S64x128
  have v50 : FVec Ideal S64x128 .f32 := dynamicGather 1 v42 v49
  have v51 : IVec S1x128 32 := broadcast S1x128 128#32
  have v52 : IVec S1x128 1 := cmpi .sge v28 v51
  have v53 : IVec S1x128 1 := shapeCast S1x128 v52 shapeCasts_S1x128_S1x128
  have v54 : IVec S64x128 1 := broadcastTo S64x128 v53 broadcasts_S1x128_S64x128
  have v55 : FVec Ideal S64x128 .f32 := select v54 v50 (k0_pay5 v25 v28)
  have v57 : IVec S64x128 8 := bitcast S64x128 8 v56 bitcasts_S16x128_w32_S64x128_w8
  have v58 : FVec Ideal S64x128 .f32 := sitofp .f32 v57
  have v59 : FVec Ideal S64x128 .f32 := mulf v58 v55
  have v60 : FVec Ideal S128 .f32 := multiReduction .add [0] S128 v59 0x00000000#32 reduces_S64x128_S128 (.inl rfl) rfl
  have v61 : FVec Ideal S1x128 .f32 := shapeCast S1x128 v60 shapeCasts_S128_S1x128
  have v63 : FVec Ideal S1x128 .f32 := bitcastToFloat .f32 v62
  let v64 : BitVec 32 := Scalar.muli v2 1024#32
  let v65 : BitVec 32 := Scalar.addi v64 off
  have v66 : IVec S1x128 32 := iota .tc S1x128 32 [1] iota_S1x128_d1_w32
  have v67 : IVec S1x128 32 := broadcast S1x128 v65
  have v68 : IVec S1x128 32 := addi v67 v66
  have v69 : IVec S1x128 32 := broadcast S1x128 v4
  have v70 : IVec S1x128 1 := cmpi .sge v68 v69
  have v71 : IVec S1x128 32 := broadcast S1x128 v7
  have v72 : IVec S1x128 1 := cmpi .slt v68 v71
  have v73 : IVec S1x128 1 := andi v70 v72
  have v74 : FVec Ideal S1x128 .f32 := mulf v61 v63
  have v76 : FVec Ideal S1x128 .f32 := shapeCast S1x128 v75 shapeCasts_S1x1x128_S1x128
  have v77 : FVec Ideal S1x128 .f32 := select v73 v74 v76
  have v80 : FVec Ideal S1x1x128 .f32 := shapeCast S1x1x128 v77 shapeCasts_S1x128_S1x1x128
  v80

open Cert.Words

/-- The piece at a lane: inside the table's range the scaled dot product, outside it what was there. -/
theorem piece_apply (off v2 v4 v7 : BitVec 32) (p o : ℕ) (h2 : v2 = BitVec.ofNat 32 p) (ho : off = BitVec.ofNat 32 o) (hp : p < 1000) (ho' : o ≤ 896)
    (v25 : Vec Ideal S64x256 .bf16) (v28 : Vec Ideal S1x128 .i32) (v56 : Vec Ideal S16x128 .i32) (v62 : Vec Ideal S1x128 .i32) (v75 : Vec Ideal S1x1x128 .f32) (l : Fin 128) :
    piece off v2 v4 v7 v25 v28 v56 v62 v75 (ix3 0 0 l)
      = if v4.toInt ≤ (p * 1024 + (o + l.val) : ℕ) ∧ (p * 1024 + (o + l.val) : ℕ) < v7.toInt then
          (∑ b : Fin 64, (((byteOf (v56 (ix2 ⟨b.val / 4, by omega⟩ l)) (b.val % 4)).toInt : ℝ) : EReal) * v25 (ix2 b (sel (v28 (ix2 0 l)))))
            * Ideal.ofBits .f32 (v62 (ix2 0 l))
        else v75 (ix3 0 0 l) := by
  pointwise [piece, k0_pay3, k0_pay4, k0_pay5]
  rw [cmpi_sge, cmpi_slt, andi_ofBool, select_ofBool, pos_toInt v2 off p o l.val h2 ho hp (by omega)]
  refine if_congr Iff.rfl (congrArg (· * _) (Finset.sum_congr rfl fun b _ => ?_)) rfl
  rw [select_half (v28 (ix2 0 l)) (fun k => v25 (ix2 b k)) _ (lane_index _), ix2_eq_valueIdx, bitcast_byte _ _ b l ⟨b.val / 4, by omega⟩ rfl]
  rfl

end Cert.KernelI8Ideal.Run
-- ==== Proof.I8.Step.lean ====
/- What one grid point of the kernel does to the block it writes: inside the table's range of positions each lane gets
   its scaled dot product, outside it the lane keeps what it held (`step`); each of the eight stored pieces is that
   function on its 128 lanes (`piece_step`). -/
module

public import proofs.«01_k».proof.Proof.I8.Piece
public import Idealize.ShloMosaic.Lib.Pipeline.ValueKit
public import Idealize.ShloMosaic.Lib.WritesUnit

@[expose] public section

set_option maxRecDepth 16384

noncomputable section

namespace Cert.KernelI8Ideal.Run

open Cert.KernelI8Ideal.Gen Cert.Words
open Idealize.ShloMosaic Idealize.SL.Sem

/-- The dot product of a column of words with the gradient column of its sample, scaled: words `x0` of a chunk (code
    words, scale, sample), the transposed gradient `x1`, table `t`, lane `l`. -/
def dotAt (t : Fin 18) (x0 : Vec Ideal S18x1024 .i32) (x1 : Vec Ideal S3264x256 .bf16) (l : Fin 1024) : EReal :=
  (∑ b : Fin 64, (((byteOf (x0 (ix2 ⟨b.val / 4, by omega⟩ l)) (b.val % 4)).toInt : ℝ) : EReal)
      * (x1 (ix2 ⟨0 + 64 * t.val + b.val, by omega⟩ (sel (x0 (ix2 17 l)))) : EReal))
    * Ideal.ofBits .f32 (x0 (ix2 16 l))

/-- The block after a point at chunk `p` and table `t`, whose positions are those from `lo` up to `hi`. -/
def step (p : ℕ) (t : Fin 18) (lo hi : ℤ) (x0 : Vec Ideal S18x1024 .i32) (x1 : Vec Ideal S3264x256 .bf16)
    (d : Vec Ideal S1x1x1024 .f32) : Vec Ideal S1x1x1024 .f32 := fun y =>
  if lo ≤ (p * 1024 + (y 2).val : ℕ) ∧ (p * 1024 + (y 2).val : ℕ) < hi then dotAt t x0 x1 (y 2) else d y

/-- The rows of the transposed gradient that table `t` reads. -/
theorem off5_val (t : Fin 18) : k0_off5 (BitVec.ofNat 32 t.val) 0 = 0 + 64 * t.val ∧ k0_off5 (BitVec.ofNat 32 t.val) 1 = 0 := by
  revert t; decide

/-- One stored piece, at offset `o`, is `step` on its lanes. -/
theorem piece_step (v1 off v2 v4 v7 : BitVec 32) (p o : ℕ) (t : Fin 18) (h1 : v1 = BitVec.ofNat 32 t.val) (h2 : v2 = BitVec.ofNat 32 p) (ho : off = BitVec.ofNat 32 o)
    (hp : p < 1000) (ho' : o ≤ 896) (x0 : Vec Ideal S18x1024 .i32) (x1 : Vec Ideal S3264x256 .bf16) (d : Vec Ideal S1x1x1024 .f32)
    (i1 i2 i3 i4 i5 i6) (x : S1x1x128.Idx) :
    piece off v2 v4 v7 (View.ld x1 (Rect.unit (s := S3264x256) (k0_off5 v1) S64x256.size i1)) (View.ld x0 (Rect.unit (s := S18x1024) ![17, o] S1x128.size i2))
        (View.ld x0 (Rect.unit (s := S18x1024) ![0, o] S16x128.size i3)) (View.ld x0 (Rect.unit (s := S18x1024) ![16, o] S1x128.size i4))
        (View.ld d (Rect.unit (s := S1x1x1024) ![0, 0, o] S1x1x128.size i5)) x
      = step p t v4.toInt v7.toInt x0 x1 d ((Rect.unit (s := S1x1x1024) ![0, 0, o] S1x1x128.size i6).emb x) := by
  subst h1
  obtain ⟨e0, e1⟩ := off5_val t
  obtain ⟨l, rfl⟩ : ∃ l : Fin 128, x = ix3 0 0 l :=
    ⟨x 2, (eq_ix3 x).trans (by rw [Fin.fin_one_eq_zero (x 0), Fin.fin_one_eq_zero (x 1)])⟩
  rw [piece_apply off v2 v4 v7 p o h2 ho hp ho']
  have hy : (Rect.unit (s := S1x1x1024) ![0, 0, o] S1x1x128.size i6).emb (ix3 0 0 l) = (ix3 0 0 ⟨o + l.val, by omega⟩ : S1x1x1024.Idx) := by
    funext c; apply Fin.ext;
    match c with
    | ⟨0, _⟩ => rfl
    | ⟨1, _⟩ => rfl
    | ⟨2, _⟩ => exact Rect.idx_unit_val _ _ _ _ _
  rw [hy]
  have r17 : View.ld x0 (Rect.unit (s := S18x1024) ![17, o] S1x128.size i2) (ix2 0 l) = x0 (ix2 17 ⟨o + l.val, by omega⟩) :=
    View.ld_unit_apply_of x0 _ _ _ _ _ (fun c => by match c with | ⟨0, _⟩ => rfl | ⟨1, _⟩ => rfl)
  have r16 : View.ld x0 (Rect.unit (s := S18x1024) ![16, o] S1x128.size i4) (ix2 0 l) = x0 (ix2 16 ⟨o + l.val, by omega⟩) :=
    View.ld_unit_apply_of x0 _ _ _ _ _ (fun c => by match c with | ⟨0, _⟩ => rfl | ⟨1, _⟩ => rfl)
  have rd : View.ld d (Rect.unit (s := S1x1x1024) ![0, 0, o] S1x1x128.size i5) (ix3 0 0 l) = d (ix3 0 0 ⟨o + l.val, by omega⟩) :=
    View.ld_unit_apply_of d _ _ _ _ _ (fun c => by match c with | ⟨0, _⟩ => rfl | ⟨1, _⟩ => rfl | ⟨2, _⟩ => rfl)
  have rc : ∀ b : Fin 64, View.ld x0 (Rect.unit (s := S18x1024) ![0, o] S16x128.size i3) (ix2 ⟨b.val / 4, by omega⟩ l) = x0 (ix2 ⟨b.val / 4, by omega⟩ ⟨o + l.val, by omega⟩) := fun b =>
    View.ld_unit_apply_of x0 _ _ _ _ _ (fun c => by match c with | ⟨0, _⟩ => exact (Nat.zero_add _).symm | ⟨1, _⟩ => rfl)
  have rg : ∀ (b : Fin 64) (k : Fin 256), View.ld x1 (Rect.unit (s := S3264x256) (k0_off5 (BitVec.ofNat 32 t.val)) S64x256.size i1) (ix2 b k) = x1 (ix2 ⟨0 + 64 * t.val + b.val, by omega⟩ k) := fun b k =>
    View.ld_unit_apply_of x1 _ _ _ _ _ (fun c => by
      match c with
      | ⟨0, _⟩ => exact (congrArg (· + b.val) e0).symm
      | ⟨1, _⟩ => exact ((congrArg (· + k.val) e1).trans (Nat.zero_add _)).symm)
  rw [r17, r16, rd]
  simp only [rc, rg]
  rfl

/-- From lane `o` on, the stores `L` leave zeros. -/
def Past {sp : Space} (v : View sig .tc sp S1x1x1024 .f32) (o : ℕ) (L : List (View.Piece (Elt Ideal) S1x1x1024 .f32)) : Prop :=
  ∀ (f : v.ty.Contents (Elt Ideal)) (y : S1x1x1024.Idx), o ≤ (y 2).val → v.read (Elt Ideal) (v.writes (Elt Ideal) f L) y = Ideal.ofBits .f32 (0#32)

/-- The zeroing store. -/
theorem past_zero {sp : Space} (v : View sig .tc sp S1x1x1024 .f32) (inb) :
    Past v 0 [⟨Rect.unit (s := S1x1x1024) ![0, 0, 0] S1x1x1024.size inb, (k0_pay2 (F := Ideal))⟩] := fun f y _ =>
  View.read_writes_cons_unit_of_mem v f inb (k0_pay2 (F := Ideal)) [] y y rfl fun a => by
    match a with
    | ⟨0, _⟩ => exact (Nat.zero_add _).symm
    | ⟨1, _⟩ => exact (Nat.zero_add _).symm
    | ⟨2, _⟩ => exact (Nat.zero_add _).symm

/-- A store of the lanes from `o` leaves the later ones. -/
theorem past_cons {sp : Space} (v : View sig .tc sp S1x1x1024 .f32) {o : ℕ} {L} (inb) (w) (h : Past v o L) :
    Past v (o + 128) (⟨Rect.unit (s := S1x1x1024) ![0, 0, o] S1x1x128.size inb, w⟩ :: L) := fun f y hy =>
  (View.read_writes_cons_unit_of_not_mem v f inb w L y rfl 2 (Or.inr hy)).trans (h f y (by omega))

/-- A load of the lanes from `o` reads zeros there. -/
theorem past_readCov {sp : Space} (v : View sig .tc sp S1x1x1024 .f32) {o : ℕ} {L} (inb) (h : Past v o L) :
    v.readCov L (Rect.unit (s := S1x1x1024) ![0, 0, o] S1x1x128.size inb).toLoadRect
      = View.ld (fun _ => Ideal.ofBits .f32 (0#32) : Vec Ideal S1x1x1024 .f32) (Rect.unit (s := S1x1x1024) ![0, 0, o] S1x1x128.size inb) :=
  funext fun x => h v.junk _ (by
    show o ≤ o + 1 * (x 2).val
    omega)

end Cert.KernelI8Ideal.Run
-- ==== Proof.I8.RunA.lean ====
/- The body at a grid point that starts a new output block: whatever the block held, it is left holding `step` over zeros. -/
module

public import proofs.«01_k».proof.Proof.I8.Kit
public import proofs.«01_k».proof.Proof.I8.Step

@[expose] public section

-- membership in a rectangle of production extents (`View.cover_of_tiled`): the elaborator's structural look
-- recurses once per coordinate of the long axes
set_option maxRecDepth 16384

noncomputable section

namespace Cert.KernelI8Ideal.Run

open Cert.KernelI8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body at a point that starts its output block. -/
theorem kernelRun0_A (c : Dev nD) (i : grid0.Coords) (arg3 : Memref sig .tc .vmem S18x1024 .i32) (harg3 : arg3.IsWhole) (arg4 : Memref sig .tc .vmem S3264x256 .bf16) (harg4 : arg4.IsWhole) (arg5 : Memref sig .tc .vmem S1x1x1024 .f32) (harg5 : arg5.IsWhole)
    (x0 : Vec Ideal S18x1024 .i32) (x1 : Vec Ideal S3264x256 .bf16) (xt0 : TbBuf0 (F := Ideal) c tbM0_0) (xt1 : TbBuf0 (F := Ideal) c tbM0_1) (hc0 : cond0_0 i (tbM0_0.view.readAt (Elt Ideal) (Rect.unit (s := S197) (k0_off1 i) S1.size (k0_off1_inb i)).toLoadRect xt0 (Shape.Idx.first (numel1_S1.symm ▸ Nat.one_pos))) (tbM0_0.view.readAt (Elt Ideal) (Rect.unit (s := S197) (k0_off4 i) S1.size (k0_off4_inb i)).toLoadRect xt0 (Shape.Idx.first (numel1_S1.symm ▸ Nat.one_pos)))) (k0_hw1 : k0_chk1 (tbM0_0.view.readAt (Elt Ideal) (Rect.unit (s := S197) (k0_off1 i) S1.size (k0_off1_inb i)).toLoadRect xt0 (Shape.Idx.first (numel1_S1.symm ▸ Nat.one_pos)))) (p : ℕ) (hp : p < 1000) (t : Fin 18)
    (ht : (tbM0_0.view.readAt (Elt Ideal) (Rect.unit (s := S197) (k0_off1 i) S1.size (k0_off1_inb i)).toLoadRect xt0 (Shape.Idx.first (numel1_S1.symm ▸ Nat.one_pos))) = BitVec.ofNat 32 t.val) (hv2 : Scalar.subi (BitVec.ofNat 32 (i 0).val) (tbM0_0.view.readAt (Elt Ideal) (Rect.unit (s := S197) (k0_off1 i) S1.size (k0_off1_inb i)).toLoadRect xt0 (Shape.Idx.first (numel1_S1.symm ▸ Nat.one_pos))) = BitVec.ofNat 32 p)
    (lo hi : ℤ) (hlo : BitVec.toInt (tbM0_1.view.readAt (Elt Ideal) (Rect.unit (s := S19) (k0_off2 (tbM0_0.view.readAt (Elt Ideal) (Rect.unit (s := S197) (k0_off1 i) S1.size (k0_off1_inb i)).toLoadRect xt0 (Shape.Idx.first (numel1_S1.symm ▸ Nat.one_pos)))) S1.size (k0_off2_inb _ k0_hw1)).toLoadRect xt1 (Shape.Idx.first (numel1_S1.symm ▸ Nat.one_pos))) = lo) (hhi : BitVec.toInt (tbM0_1.view.readAt (Elt Ideal) (Rect.unit (s := S19) (k0_off3 (tbM0_0.view.readAt (Elt Ideal) (Rect.unit (s := S197) (k0_off1 i) S1.size (k0_off1_inb i)).toLoadRect xt0 (Shape.Idx.first (numel1_S1.symm ▸ Nat.one_pos)))) S1.size (k0_off3_inb _ k0_hw1)).toLoadRect xt1 (Shape.Idx.first (numel1_S1.symm ▸ Nat.one_pos))) = hi) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare (step p t lo hi x0 x1 (fun _ => Ideal.ofBits .f32 (0#32))) ∗ tbPt0 c tbM0_0 xt0 ∗ tbPt0 c tbM0_1 xt1) -∗ K ⟨⟩))
          ⊢ wp frame (wpE (defs₀ (F := Ideal)) Variants.none c none) E (cc0_tc_dot_i8 i tbM0_0 htbM0_0 tbM0_1 htbM0_1 arg3 harg3 arg4 harg4 arg5 harg5) K := by
    intro E K
    simp only [cc0_tc_dot_i8_eq_skeleton]; unfold cc0_tc_dot_i8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%d2, %f2, -, H2⟩, HT0, HT1, Hk⟩
    obtain rfl := harg3.eq_unread hf0; obtain rfl := harg4.eq_unread hf1
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      have e0 : kernelRun0_A.sl.v75 c arg5 = View.ld (fun _ => Ideal.ofBits .f32 (0#32) : Vec Ideal S1x1x1024 .f32) (Rect.unit (s := S1x1x1024) ![0, 0, 0] S1x1x128.size inb_S1x1x1024_S1x1x128_0_0_0) :=
        past_readCov arg5.view _ (past_zero arg5.view _)
      have e1 : kernelRun0_A.sl.v128 c i arg3 harg3 arg4 harg4 arg5 x0 x1 xt0 xt1 k0_hw1 = View.ld (fun _ => Ideal.ofBits .f32 (0#32) : Vec Ideal S1x1x1024 .f32) (Rect.unit (s := S1x1x1024) ![0, 0, 128] S1x1x128.size inb_S1x1x1024_S1x1x128_0_0_128) :=
        past_readCov arg5.view _ (past_cons arg5.view _ _ (past_zero arg5.view _))
      have e2 : kernelRun0_A.sl.v181 c i arg3 harg3 arg4 harg4 arg5 x0 x1 xt0 xt1 k0_hw1 = View.ld (fun _ => Ideal.ofBits .f32 (0#32) : Vec Ideal S1x1x1024 .f32) (Rect.unit (s := S1x1x1024) ![0, 0, 256] S1x1x128.size inb_S1x1x1024_S1x1x128_0_0_256) :=
        past_readCov arg5.view _ (past_cons arg5.view _ _ (past_cons arg5.view _ _ (past_zero arg5.view _)))
      have e3 : kernelRun0_A.sl.v234 c i arg3 harg3 arg4 harg4 arg5 x0 x1 xt0 xt1 k0_hw1 = View.ld (fun _ => Ideal.ofBits .f32 (0#32) : Vec Ideal S1x1x1024 .f32) (Rect.unit (s := S1x1x1024) ![0, 0, 384] S1x1x128.size inb_S1x1x1024_S1x1x128_0_0_384) :=
        past_readCov arg5.view _ (past_cons arg5.view _ _ (past_cons arg5.view _ _ (past_cons arg5.view _ _ (past_zero arg5.view _))))
      have e4 : kernelRun0_A.sl.v287 c i arg3 harg3 arg4 harg4 arg5 x0 x1 xt0 xt1 k0_hw1 = View.ld (fun _ => Ideal.ofBits .f32 (0#32) : Vec Ideal S1x1x1024 .f32) (Rect.unit (s := S1x1x1024) ![0, 0, 512] S1x1x128.size inb_S1x1x1024_S1x1x128_0_0_512) :=
        past_readCov arg5.view _ (past_cons arg5.view _ _ (past_cons arg5.view _ _ (past_cons arg5.view _ _ (past_cons arg5.view _ _ (past_zero arg5.view _)))))
      have e5 : kernelRun0_A.sl.v340 c i arg3 harg3 arg4 harg4 arg5 x0 x1 xt0 xt1 k0_hw1 = View.ld (fun _ => Ideal.ofBits .f32 (0#32) : Vec Ideal S1x1x1024 .f32) (Rect.unit (s := S1x1x1024) ![0, 0, 640] S1x1x128.size inb_S1x1x1024_S1x1x128_0_0_640) :=
        past_readCov arg5.view _ (past_cons arg5.view _ _ (past_cons arg5.view _ _ (past_cons arg5.view _ _ (past_cons arg5.view _ _ (past_cons arg5.view _ _ (past_zero arg5.view _))))))
      have e6 : kernelRun0_A.sl.v393 c i arg3 harg3 arg4 harg4 arg5 x0 x1 xt0 xt1 k0_hw1 = View.ld (fun _ => Ideal.ofBits .f32 (0#32) : Vec Ideal S1x1x1024 .f32) (Rect.unit (s := S1x1x1024) ![0, 0, 768] S1x1x128.size inb_S1x1x1024_S1x1x128_0_0_768) :=
        past_readCov arg5.view _ (past_cons arg5.view _ _ (past_cons arg5.view _ _ (past_cons arg5.view _ _ (past_cons arg5.view _ _ (past_cons arg5.view _ _ (past_cons arg5.view _ _ (past_zero arg5.view _)))))))
      have e7 : kernelRun0_A.sl.v446 c i arg3 harg3 arg4 harg4 arg5 x0 x1 xt0 xt1 k0_hw1 = View.ld (fun _ => Ideal.ofBits .f32 (0#32) : Vec Ideal S1x1x1024 .f32) (Rect.unit (s := S1x1x1024) ![0, 0, 896] S1x1x128.size inb_S1x1x1024_S1x1x128_0_0_896) :=
        past_readCov arg5.view _ (past_cons arg5.view _ _ (past_cons arg5.view _ _ (past_cons arg5.view _ _ (past_cons arg5.view _ _ (past_cons arg5.view _ _ (past_cons arg5.view _ _ (past_cons arg5.view _ _ (past_zero arg5.view _))))))))
      unfold kernelRun0_A.sl.H2_8 kernelRun0_A.sl.H2_7 kernelRun0_A.sl.H2_6 kernelRun0_A.sl.H2_5 kernelRun0_A.sl.H2_4 kernelRun0_A.sl.H2_3 kernelRun0_A.sl.H2_2 kernelRun0_A.sl.H2_1
      rw [e7, e6, e5, e4, e3, e2, e1, e0]
      sl_unfold_run_names
      simp only [View.readAt_eq_ld, harg3.read_unread, harg4.read_unread]
      subst hlo hhi
      funext y
      show View.read _ _ (View.writes _ _ (View.writes _ _ f2 [⟨Rect.unit (s := S1x1x1024) ![0, 0, 0] S1x1x1024.size inb_S1x1x1024_S1x1x1024_0_0_0, k0_pay2 (F := Ideal)⟩]) [_, _, _, _, _, _, _, _]) y = _
      refine View.read_writes_apply_of_pieces _ _ _ _ ?_ y (View.cover_of_tiledL _ ![1, 1, 128] (by sl_kernel_rfl) y)
      intro q hq
      simp only [List.mem_cons, List.not_mem_nil, or_false] at hq
      rcases hq with rfl | rfl | rfl | rfl | rfl | rfl | rfl | rfl
      · exact fun x => piece_step _ (896#32) _ _ _ p 896 t ht hv2 rfl hp (by decide) x0 x1 _ _ _ _ _ _ inb_S1x1x1024_S1x1x128_0_0_896 x
      · exact fun x => piece_step _ (768#32) _ _ _ p 768 t ht hv2 rfl hp (by decide) x0 x1 _ _ _ _ _ _ inb_S1x1x1024_S1x1x128_0_0_768 x
      · exact fun x => piece_step _ (640#32) _ _ _ p 640 t ht hv2 rfl hp (by decide) x0 x1 _ _ _ _ _ _ inb_S1x1x1024_S1x1x128_0_0_640 x
      · exact fun x => piece_step _ (512#32) _ _ _ p 512 t ht hv2 rfl hp (by decide) x0 x1 _ _ _ _ _ _ inb_S1x1x1024_S1x1x128_0_0_512 x
      · exact fun x => piece_step _ (384#32) _ _ _ p 384 t ht hv2 rfl hp (by decide) x0 x1 _ _ _ _ _ _ inb_S1x1x1024_S1x1x128_0_0_384 x
      · exact fun x => piece_step _ (256#32) _ _ _ p 256 t ht hv2 rfl hp (by decide) x0 x1 _ _ _ _ _ _ inb_S1x1x1024_S1x1x128_0_0_256 x
      · exact fun x => piece_step _ (128#32) _ _ _ p 128 t ht hv2 rfl hp (by decide) x0 x1 _ _ _ _ _ _ inb_S1x1x1024_S1x1x128_0_0_128 x
      · exact fun x => piece_step _ (0#32) _ _ _ p 0 t ht hv2 rfl hp (by decide) x0 x1 _ _ _ _ _ _ inb_S1x1x1024_S1x1x128_0_0_0 x
    isplitl [HT0]; · iexact HT0
    iexact HT1

end Cert.KernelI8Ideal.Run

end
-- ==== Proof.I8.RunB.lean ====
/- The body at a grid point that goes on with its output block: the block is left holding `step` over what it held. -/
module

public import proofs.«01_k».proof.Proof.I8.Kit
public import proofs.«01_k».proof.Proof.I8.Step

@[expose] public section

-- membership in a rectangle of production extents (`View.cover_of_tiled`): the elaborator's structural look
-- recurses once per coordinate of the long axes
set_option maxRecDepth 16384

noncomputable section

namespace Cert.KernelI8Ideal.Run

open Cert.KernelI8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body at a point that goes on with its output block. -/
theorem kernelRun0_B (c : Dev nD) (i : grid0.Coords) (arg3 : Memref sig .tc .vmem S18x1024 .i32) (harg3 : arg3.IsWhole) (arg4 : Memref sig .tc .vmem S3264x256 .bf16) (harg4 : arg4.IsWhole) (arg5 : Memref sig .tc .vmem S1x1x1024 .f32) (harg5 : arg5.IsWhole)
    (x0 : Vec Ideal S18x1024 .i32) (x1 : Vec Ideal S3264x256 .bf16) (xt0 : TbBuf0 (F := Ideal) c tbM0_0) (xt1 : TbBuf0 (F := Ideal) c tbM0_1) (d : Vec Ideal S1x1x1024 .f32) (hc0 : ¬cond0_0 i (tbM0_0.view.readAt (Elt Ideal) (Rect.unit (s := S197) (k0_off1 i) S1.size (k0_off1_inb i)).toLoadRect xt0 (Shape.Idx.first (numel1_S1.symm ▸ Nat.one_pos))) (tbM0_0.view.readAt (Elt Ideal) (Rect.unit (s := S197) (k0_off4 i) S1.size (k0_off4_inb i)).toLoadRect xt0 (Shape.Idx.first (numel1_S1.symm ▸ Nat.one_pos)))) (k0_hw1 : k0_chk1 (tbM0_0.view.readAt (Elt Ideal) (Rect.unit (s := S197) (k0_off1 i) S1.size (k0_off1_inb i)).toLoadRect xt0 (Shape.Idx.first (numel1_S1.symm ▸ Nat.one_pos)))) (p : ℕ) (hp : p < 1000) (t : Fin 18)
    (ht : (tbM0_0.view.readAt (Elt Ideal) (Rect.unit (s := S197) (k0_off1 i) S1.size (k0_off1_inb i)).toLoadRect xt0 (Shape.Idx.first (numel1_S1.symm ▸ Nat.one_pos))) = BitVec.ofNat 32 t.val) (hv2 : Scalar.subi (BitVec.ofNat 32 (i 0).val) (tbM0_0.view.readAt (Elt Ideal) (Rect.unit (s := S197) (k0_off1 i) S1.size (k0_off1_inb i)).toLoadRect xt0 (Shape.Idx.first (numel1_S1.symm ▸ Nat.one_pos))) = BitVec.ofNat 32 p)
    (lo hi : ℤ) (hlo : BitVec.toInt (tbM0_1.view.readAt (Elt Ideal) (Rect.unit (s := S19) (k0_off2 (tbM0_0.view.readAt (Elt Ideal) (Rect.unit (s := S197) (k0_off1 i) S1.size (k0_off1_inb i)).toLoadRect xt0 (Shape.Idx.first (numel1_S1.symm ▸ Nat.one_pos)))) S1.size (k0_off2_inb _ k0_hw1)).toLoadRect xt1 (Shape.Idx.first (numel1_S1.symm ▸ Nat.one_pos))) = lo) (hhi : BitVec.toInt (tbM0_1.view.readAt (Elt Ideal) (Rect.unit (s := S19) (k0_off3 (tbM0_0.view.readAt (Elt Ideal) (Rect.unit (s := S197) (k0_off1 i) S1.size (k0_off1_inb i)).toLoadRect xt0 (Shape.Idx.first (numel1_S1.symm ▸ Nat.one_pos)))) S1.size (k0_off3_inb _ k0_hw1)).toLoadRect xt1 (Shape.Idx.first (numel1_S1.symm ▸ Nat.one_pos))) = hi) :
      ∀ (E : Set ℕ) (K : PUnit → sProp 𝕄),
        iprop(owns (c : Thread nD τ) arg3 fullShare x0 ∗ owns (c : Thread nD τ) arg4 fullShare x1 ∗ owns (c : Thread nD τ) arg5 fullShare d ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare (step p t lo hi x0 x1 d) ∗ tbPt0 c tbM0_0 xt0 ∗ tbPt0 c tbM0_1 xt1) -∗ K ⟨⟩))
          ⊢ wp frame (wpE (defs₀ (F := Ideal)) Variants.none c none) E (cc0_tc_dot_i8 i tbM0_0 htbM0_0 tbM0_1 htbM0_1 arg3 harg3 arg4 harg4 arg5 harg5) K := by
    intro E K
    simp only [cc0_tc_dot_i8_eq_skeleton]; unfold cc0_tc_dot_i8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, HT0, HT1, Hk⟩
    obtain rfl := harg3.eq_unread hf0; obtain rfl := harg4.eq_unread hf1; obtain rfl := harg5.eq_unread hf2
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      simp only [View.readAt_eq_ld, harg3.read_unread, harg4.read_unread, harg5.read_unread]
      subst hlo hhi
      funext y
      refine View.read_writes_apply_of_pieces _ _ _ _ ?_ y (View.cover_of_tiledL _ ![1, 1, 128] (by sl_kernel_rfl) y)
      intro q hq
      simp only [List.mem_cons, List.not_mem_nil, or_false] at hq
      rcases hq with rfl | rfl | rfl | rfl | rfl | rfl | rfl | rfl
      · exact fun x => piece_step _ (896#32) _ _ _ p 896 t ht hv2 rfl hp (by decide) x0 x1 d _ _ _ _ _ inb_S1x1x1024_S1x1x128_0_0_896 x
      · exact fun x => piece_step _ (768#32) _ _ _ p 768 t ht hv2 rfl hp (by decide) x0 x1 d _ _ _ _ _ inb_S1x1x1024_S1x1x128_0_0_768 x
      · exact fun x => piece_step _ (640#32) _ _ _ p 640 t ht hv2 rfl hp (by decide) x0 x1 d _ _ _ _ _ inb_S1x1x1024_S1x1x128_0_0_640 x
      · exact fun x => piece_step _ (512#32) _ _ _ p 512 t ht hv2 rfl hp (by decide) x0 x1 d _ _ _ _ _ inb_S1x1x1024_S1x1x128_0_0_512 x
      · exact fun x => piece_step _ (384#32) _ _ _ p 384 t ht hv2 rfl hp (by decide) x0 x1 d _ _ _ _ _ inb_S1x1x1024_S1x1x128_0_0_384 x
      · exact fun x => piece_step _ (256#32) _ _ _ p 256 t ht hv2 rfl hp (by decide) x0 x1 d _ _ _ _ _ inb_S1x1x1024_S1x1x128_0_0_256 x
      · exact fun x => piece_step _ (128#32) _ _ _ p 128 t ht hv2 rfl hp (by decide) x0 x1 d _ _ _ _ _ inb_S1x1x1024_S1x1x128_0_0_128 x
      · exact fun x => piece_step _ (0#32) _ _ _ p 0 t ht hv2 rfl hp (by decide) x0 x1 d _ _ _ _ _ inb_S1x1x1024_S1x1x128_0_0_0 x
    isplitl [HT0]; · iexact HT0
    iexact HT1

end Cert.KernelI8Ideal.Run

end
-- ==== Proof.I8.Tables.lean ====
/- The two tables the kernel prefetches, as the host computes them from the offsets: the bounds are every 256th offset,
   and the table of a grid point is one less than the number of tables whose start lies at or before it. -/
module

public import proofs.«01_k».proof.Proof.I8.Kit
public import proofs.«01_k».proof.Proof.Words
public import proofs.«01_k».proof.Proof.TableWords
public import Idealize.ShloMosaic.Lib.Claim
public import Idealize.ShloMosaic.Lib.Pointwise

@[expose] public section

set_option maxRecDepth 16384

noncomputable section

namespace Cert.KernelI8Ideal.Run

open Cert.KernelI8Ideal.Gen Cert.Words
open Idealize.ShloMosaic Idealize.ShloMosaic.TcCoe Idealize.SL.Sem

variable {F : FTy → Type} [FloatOps F]
variable (m : (ℓ : Loc nD τ sig) → Buf (Elt F) ℓ)

/-- The first position of each table, divided into chunks (rounding down), as the host's operations spell it. -/
def fdiv (x : Vec F S18 .i32) : Vec F S18 .i32 :=
  select (andi (cmpi .ne (signi x) (broadcastInDim S18 ![] bcast_S_S18 (signi (constantI S_ 32 1024#32))))
      (cmpi .ne (Host.remsi x (broadcastInDim S18 ![] bcast_S_S18 (constantI S_ 32 1024#32))) (broadcastInDim S18 ![] bcast_S_S18 (constantI S_ 32 0#32))))
    (subi (Host.divsi x (broadcastInDim S18 ![] bcast_S_S18 (constantI S_ 32 1024#32))) (broadcastInDim S18 ![] bcast_S_S18 (constantI S_ 32 1#32)))
    (Host.divsi x (broadcastInDim S18 ![] bcast_S_S18 (constantI S_ 32 1024#32)))

/-- The table of each grid point, as the host's operations spell it. -/
def tmapOf (off : Vec F S4609 .i32) : Vec F S197 .i32 :=
  subi
    (Host.reduce IntOp.addi
      (extui 32 (cmpi .sle
          (broadcastInDim S197x18 ![0, 1] bcast_S1x18_S197x18_0_1 (broadcastInDim S1x18 ![1] bcast_S18_S1x18_1
            (addi (fdiv (F := F) (extractStridedSlice S18 ![0] (Host.slice S19 ![0] ![256] off slicesBy_S4609_S19_0s256) slices_S19_S18_0)) (iotaInDim S18 32 0))))
          (broadcastInDim S197x18 ![0, 1] bcast_S197x1_S197x18_0_1 (broadcastInDim S197x1 ![0] bcast_S197_S197x1_0 (iotaInDim S197 32 0)))) natLt_1_32)
      (constantI S_ 32 0#32) reducesTo_S197x18_S197_d1 h_S_)
    (broadcastInDim S197 ![] bcast_S_S197 (constantI S_ 32 1#32))

theorem V_tmap (c : Dev nD) : V m c main_v15 = tmapOf (F := F) (m ((c : Thread nD τ).loc main_arg1)) := by
  unfold V
  simp only [hostOps0, hostOps0_1, hostOps0_2, List.flatten_cons, List.flatten_nil, List.append_nil, List.cons_append, List.nil_append]
  after_results
  rfl

theorem V_bounds (c : Dev nD) : V m c main_v1 = Host.slice S19 ![0] ![256] (m ((c : Thread nD τ).loc main_arg1)) slicesBy_S4609_S19_0s256 := by
  unfold V
  simp only [hostOps0, hostOps0_1, hostOps0_2, List.flatten_cons, List.flatten_nil, List.append_nil, List.cons_append, List.nil_append]
  after_results

theorem V_go (c : Dev nD) : V m c main_v0 = transpose S3264x256 [1, 0] (m ((c : Thread nD τ).loc main_arg2)) transposes_S256x3264_S3264x256_1_0 := by
  unfold V
  simp only [hostOps0, hostOps0_1, hostOps0_2, List.flatten_cons, List.flatten_nil, List.append_nil, List.cons_append, List.nil_append]
  after_results

/-- The offsets, as integers. -/
def offOf (off : Vec F S4609 .i32) (i : ℕ) : ℤ := (off (ix1 ⟨min i 4608, by omega⟩)).toInt
abbrev offI (i : ℕ) : ℤ := offOf (F := F) (m (((0 : Dev nD) : Thread nD τ).loc main_arg1)) i

/-- The gradient, transposed. -/
theorem V_go_apply (c : Dev nD) (r : Fin 3264) (k : Fin 256) : V m c main_v0 (ix2 r k) = m ((c : Thread nD τ).loc main_arg2) (ix2 k r) := by
  rw [V_go]
  generalize m _ = off
  pointwise

/-- The bounds. -/
theorem tbl1_toInt (k : Fin 19) : (tbl m 1 (ix1 k)).toInt = offI m (256 * k.val) := by
  have e : tbl m 1 (ix1 k) = m (((0 : Dev nD) : Thread nD τ).loc main_arg1) (ix1 ⟨256 * k.val, by omega⟩) := by
    show V m (0 : Dev nD) main_v1 (ix1 k) = _
    rw [V_bounds]
    generalize m _ = off
    pointwise
  have hk : (⟨min (256 * k.val) 4608, by omega⟩ : Fin 4609) = ⟨256 * k.val, by omega⟩ := Fin.ext (by simp only; omega)
  rw [e]
  show _ = offOf _ _
  unfold offOf
  rw [hk]

/-- The table of a grid point is the count, less one, of the starts at or before it. -/
theorem tmapOf_apply (off : Vec F S4609 .i32) (HG : GoodOff 18 180 (offOf (F := F) off)) (g : Fin 197) :
    tmapOf (F := F) off (ix1 g) = BitVec.ofNat 32 (((Finset.range 18).filter fun t => (offOf (F := F) off (256 * min t 18)).toNat / 1024 + t ≤ g.val).card - 1) := by
  pointwise [tmapOf, fdiv]
  refine tmap_word 18 (by decide) (by decide) (fun t : Fin 18 => off (ix1 ⟨256 * t.val, by omega⟩)) (fun t => (offOf (F := F) off (256 * min t 18)).toNat) ?_ ?_ ?_ g.val (by omega)
  · intro t
    have h := HG.nonneg (i := 256 * t.val) (by omega)
    have e : offOf (F := F) off (256 * t.val) = (off (ix1 ⟨256 * t.val, by omega⟩)).toInt := by
      unfold offOf
      congr 3
      exact Fin.ext (by simp only; omega)
    have hm : min t.val 18 = t.val := by omega
    simp only [hm]
    rw [e] at h ⊢
    generalize off _ = w at h ⊢
    have h2 : w.toInt = w.toNat := BitVec.toInt_eq_toNat_of_lt (BitVec.toInt_pos_iff.mp h)
    rw [h2, Int.toNat_natCast, BitVec.ofNat_toNat, BitVec.setWidth_eq]
  · intro t
    have := HG.le_last (i := 256 * min t 18) (by omega)
    omega
  · simp [HG.zero]

/-- The table that grid point `g` treats. -/
def tb (g : ℕ) : ℕ := (tbl m 0 (ix1 ⟨min g 196, by omega⟩)).toNat

theorem tbl0_eq (g : Fin 197) : tbl m 0 (ix1 g) = BitVec.ofNat 32 (tb m g.val) := by
  have hg : (⟨min g.val 196, by omega⟩ : Fin 197) = g := Fin.ext (by simp only; omega)
  unfold tb
  rw [hg]
  exact (fun w : BitVec 32 => (by rw [BitVec.ofNat_toNat, BitVec.setWidth_eq] : w = BitVec.ofNat 32 w.toNat)) _

variable (HG : GoodOff 18 180 (offI m))

include HG in
/-- The grid walks the tables' chunks in order. -/
theorem sched : Sched 18 180 (fun t => (offI m (256 * t)).toNat) (tb m) := by
  refine HG.sched (by decide) (by decide) _ fun g hg => ?_
  unfold tb
  have e : tbl m 0 (ix1 ⟨min g 196, by omega⟩) = _ := (congrFun (V_tmap m 0) _).trans (tmapOf_apply _ HG ⟨min g 196, by omega⟩)
  rw [e, BitVec.toNat_ofNat]
  have hc : ∀ p : ℕ → Prop, [DecidablePred p] → ((Finset.range 18).filter p).card - 1 < 2 ^ 32 := fun p _ => by
    have := Finset.card_le_card (Finset.filter_subset p (Finset.range 18))
    rw [Finset.card_range] at this
    omega
  rw [Nat.mod_eq_of_lt (hc _)]
  congr 2
  apply Finset.filter_congr
  intro t ht
  rw [Finset.mem_range] at ht
  have h1 : min t 18 = t := by omega
  have h2 : min g 196 = g := by omega
  simp only [h1, h2]

include HG in
theorem tb_lt (g : Fin 197) : tb m g.val < 18 := (sched m HG).lt g.val (by omega)

/-- A load of one word of the first table. -/
theorem read0 (off : Fin 1 → ℕ) (inb) (g : Fin 197) (h : off 0 = g.val) (h1) :
    tbM0_0.view.readAt (Elt F) (Rect.unit (s := S197) off S1.size inb).toLoadRect (tbl m 0) (Shape.Idx.first h1) = BitVec.ofNat 32 (tb m g.val) := by
  rw [← tbl0_eq]
  refine congrArg (tbl m 0) (funext fun a => Fin.ext ?_)
  match a with
  | ⟨0, _⟩ => exact (congrArg (· + 1 * (Shape.Idx.first h1 0).val) h).trans (by
      have h0 : ∀ q : Fin 1, g.val + 1 * q.val = g.val := fun q => by omega
      exact h0 (Shape.Idx.first h1 0))

/-- A load of one word of the second table. -/
theorem read1 (off : Fin 1 → ℕ) (inb) (k : Fin 19) (h : off 0 = k.val) (h1) :
    BitVec.toInt (tbM0_1.view.readAt (Elt F) (Rect.unit (s := S19) off S1.size inb).toLoadRect (tbl m 1) (Shape.Idx.first h1)) = offI m (256 * k.val) := by
  rw [← tbl1_toInt]
  refine congrArg (fun i => BitVec.toInt (tbl m 1 i)) (funext fun a => Fin.ext ?_)
  match a with
  | ⟨0, _⟩ => exact (congrArg (· + 1 * (Shape.Idx.first h1 0).val) h).trans (by
      have h0 : ∀ q : Fin 1, k.val + 1 * q.val = k.val := fun q => by omega
      exact h0 (Shape.Idx.first h1 0))

/-- The place of a grid point's word, and of the one before it. -/
theorem off1_val (i : grid0.Coords) : k0_off1 i 0 = (i 0).val := by
  have h : (i 0).val < 197 := (i 0).isLt
  show (BitVec.ofNat 32 (i 0).val).toNat = _
  simp only [BitVec.toNat_ofNat]; omega

theorem off4_val (i : grid0.Coords) : k0_off4 i 0 = (i 0).val - 1 := by
  have h : (i 0).val < 197 := (i 0).isLt
  have h' : ∀ k : Fin 197, (Scalar.maxsi (Scalar.subi (BitVec.ofNat 32 k.val) 1#32) 0#32).toNat = k.val - 1 := by decide +kernel
  exact h' ⟨(i 0).val, h⟩

/-- What the body assumes of a table number, and the places of the bounds it reads. -/
theorem chk (t : Fin 18) : k0_chk1 (BitVec.ofNat 32 t.val) := by
  revert t; decide +kernel

theorem off2_val (t : Fin 18) : k0_off2 (BitVec.ofNat 32 t.val) 0 = t.val ∧ k0_off3 (BitVec.ofNat 32 t.val) 0 = t.val + 1 := by
  revert t; decide +kernel

/-- The chunk of grid point `g` as a word. -/
theorem chunk_word (T g : ℕ) (h : T ≤ g) (hg : g < 2 ^ 32) : Scalar.subi (BitVec.ofNat 32 g) (BitVec.ofNat 32 T) = BitVec.ofNat 32 (g - T) :=
  BitVec.ofNat_sub_ofNat_of_le _ _ (by omega) h

include HG in
/-- The block a point writes is its chunk. -/
theorem trans2 (i : grid0.Coords) : cc0_transform_2 k0_off1_inb numel1_S1 (tbl m) i = ![(i 0).val - tb m (i 0).val, 0, 0] := by
  have hi : (i 0).val < 197 := (i 0).isLt
  have e : (tbl m).at 0 (Rect.unit (s := S197) (k0_off1 i) S1.size (k0_off1_inb i)) numel1_S1 = BitVec.ofNat 32 (tb m (i 0).val) := read0 m _ _ ⟨(i 0).val, hi⟩ (off1_val i) _
  have h1 := (sched m HG).le_self (g := (i 0).val) (by omega)
  show ![(Scalar.subi (BitVec.ofNat 32 (i 0).val) ((tbl m).at 0 (Rect.unit (s := S197) (k0_off1 i) S1.size (k0_off1_inb i)) numel1_S1)).toNat, 0, 0] = _
  rw [e, chunk_word _ _ h1 (by omega), BitVec.toNat_ofNat, Nat.mod_eq_of_lt (by omega)]

include HG in
/-- The pipeline's side condition: every block it writes lies in the array. -/
theorem ok : Ok m := by
  intro i
  have hi : (i 0).val < 197 := (i 0).isLt
  have h2 := (sched m HG).chunk_lt (by decide) (by decide) (g := (i 0).val) (by omega)
  refine ⟨fun a => ?_, Or.inl rfl⟩
  rw [trans2 m HG]
  match a with
  | ⟨0, _⟩ => show ((i 0).val - tb m (i 0).val + 1) * 1 ≤ 180; omega
  | ⟨1, _⟩ => show (0 + 1) * 1 ≤ 1; omega
  | ⟨2, _⟩ => show (0 + 1) * 1024 ≤ 1024; omega

include HG in
/-- The side conditions the body assumes hold at every point. -/
theorem hyps (hO : Ok m) : Hyps m hO := fun c t => by
  have hi : (grid0.coords t 0).val < 197 := (grid0.coords t 0).isLt
  rw [read0 m _ _ ⟨(grid0.coords t 0).val, hi⟩ (off1_val _)]
  exact chk ⟨tb m (grid0.coords t 0).val, tb_lt m HG ⟨_, hi⟩⟩

end Cert.KernelI8Ideal.Run
-- ==== Proof.I8.Data.lean ====
/- What the kernel's output block holds point by point (`dAt`): a point that starts a block of the output puts its table's
   dot products over zeros, one that goes on with the block puts them over what the point before left. The pipeline's
   proof data with these contents, the body's obligation, and the run. -/
module

public import proofs.«01_k».proof.Proof.I8.RunA
public import proofs.«01_k».proof.Proof.I8.RunB
public import proofs.«01_k».proof.Proof.I8.Tables

@[expose] public section

set_option maxRecDepth 16384

noncomputable section

namespace Cert.KernelI8Ideal.Run

open Cert.KernelI8Ideal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
variable (HG : GoodOff 18 180 (offI m))

/-! ## The points -/

/-- There are 197 grid points, and a point's coordinate is its number. -/
theorem N_eq : grid0.N = 197 := by decide +kernel
theorem coord (t : Fin grid0.N) : (grid0.coords t 0).val = t.val := by
  rw [Pipeline.Grid.coords_val (G := grid0) t 0 (S := 1) (B := 197) (by decide +kernel) rfl, Nat.div_one, Nat.mod_eq_of_lt (N_eq ▸ t.isLt)]

/-- The output block's index at a point: the chunk. -/
theorem index2 (t : Fin (cfgM m (ok m HG)).N) : ((cfgM m (ok m HG)).win 2).index t = ![t.val - tb m t.val, 0, 0] := by
  have h : cc0_transform_2 k0_off1_inb numel1_S1 (tbl m) (grid0.coords t) = _ := trans2 m HG (grid0.coords t)
  rw [coord] at h
  exact h

/-- When the body starts a new output block: at the first point, and where the chunk changes. -/
theorem cond_iff (i : grid0.Coords) (v1 v13 : BitVec 32) :
    cond0_0 i v1 v13 ↔ (i 0).val = 0 ∨ Scalar.subi (Scalar.subi (BitVec.ofNat 32 (i 0).val) 1#32) v13 ≠ Scalar.subi (BitVec.ofNat 32 (i 0).val) v1 := by
  have hb : ∀ a b : BitVec 1, (Scalar.cmpi .ne (Scalar.extui (Scalar.ori a b) : BitVec 32) 0#32 = 1#1) ↔ (a = 1#1 ∨ b = 1#1) := by decide
  have hi : (i 0).val < 197 := (i 0).isLt
  have h0 : (BitVec.ofNat 32 (i 0).val = 0#32) ↔ (i 0).val = 0 := by
    constructor
    · intro h
      have := congrArg BitVec.toNat h
      simp at this; omega
    · intro h; rw [h]
  show (Scalar.cmpi .ne (Scalar.extui (Scalar.ori _ _) : BitVec 32) 0#32 = 1#1) ↔ _
  rw [hb, ← h0]
  have e1 : ∀ a b : BitVec 32, Scalar.cmpi .eq a b = 1#1 ↔ a = b := fun a b => by
    show BitVec.ofBool (a == b) = 1#1 ↔ _
    rw [(by decide : ∀ x : Bool, BitVec.ofBool x = 1#1 ↔ x = true) (a == b), beq_iff_eq]
  have e2 : ∀ a b : BitVec 32, Scalar.cmpi .ne a b = 1#1 ↔ a ≠ b := fun a b => by
    show BitVec.ofBool (a != b) = 1#1 ↔ _
    rw [(by decide : ∀ x : Bool, BitVec.ofBool x = 1#1 ↔ x = true) (a != b), bne_iff_ne]
  rw [e1, e2]

/-! ## The contents -/

/-- The table of a point. -/
def tbF (g : ℕ) : Fin 18 := ⟨tb m g % 18, Nat.mod_lt _ (by decide)⟩

/-- A point by its number. -/
def pt (g : ℕ) : Fin grid0.N := ⟨min g 196, by rw [N_eq]; omega⟩

/-- Zeros. -/
def zeros : Vec Ideal S1x1x1024 .f32 := fun _ => Ideal.ofBits .f32 (0#32)

/-- One point's work on its block. -/
def work (c : Dev nD) (g : ℕ) (d : Vec Ideal S1x1x1024 .f32) : Vec Ideal S1x1x1024 .f32 :=
  step (g - tb m g) (tbF m g) (offI m (256 * tb m g)) (offI m (256 * (tb m g + 1))) (iblk m (ok m HG) c 0 (pt g)) (iblk m (ok m HG) c 1 (pt g)) d

/-- The output block after point `g`. -/
def dAt (c : Dev nD) : ℕ → Vec Ideal S1x1x1024 .f32
  | 0 => work m HG c 0 zeros
  | g + 1 => work m HG c (g + 1) (if tb m (g + 1) = tb m g then zeros else dAt c g)

/-! ## The pipeline's proof data -/

/-- The proof data: the inputs' blocks as the region finds them, the output block at `dAt`. -/
def dats (_ : Fin 1) (c : Dev nD) : Dat τ (Elt Ideal) Unit ℕ (UR sig nD τ) ℕ (cfgM m (ok m HG)) c where
  A w := V m c (Pipeline.arrRef spec0 w)
  after w t := match w with
    | ⟨0, _⟩ => iblk m (ok m HG) c 0 t
    | ⟨1, _⟩ => iblk m (ok m HG) c 1 t
    | ⟨2, _⟩ => dAt m HG c t.val
  Φ _ := iprop(Pipeline.ΦA spec0 c ∗ Pipeline.ΦT pre0 (tbl m) c)
  q _ := fullShare
  owed _ := 0

theorem A_eq (c : Dev nD) (w : Fin (cfgM m (ok m HG)).W) : (dats m HG 0 c).A w = V m c (Pipeline.arrRef spec0 w) := by
  dsimp only [dats]
theorem after0_0 (c : Dev nD) (t : Fin (cfgM m (ok m HG)).N) : (dats m HG 0 c).after 0 t = iblk m (ok m HG) c 0 t := by dsimp only [dats]; try rfl
theorem after0_1 (c : Dev nD) (t : Fin (cfgM m (ok m HG)).N) : (dats m HG 0 c).after 1 t = iblk m (ok m HG) c 1 t := by dsimp only [dats]; try rfl
theorem after0_2 (c : Dev nD) (t : Fin (cfgM m (ok m HG)).N) : (dats m HG 0 c).after 2 t = dAt m HG c t.val := by dsimp only [dats]; try rfl
theorem before0_0 (c : Dev nD) (t : Fin (cfgM m (ok m HG)).N) (d) : (dats m HG 0 c).before 0 t d = iblk m (ok m HG) c 0 t :=
  before0_0_of m (ok m HG) (dats m HG 0 c) (A_eq m HG c 0) (after0_0 m HG c) t d
theorem before0_1 (c : Dev nD) (t : Fin (cfgM m (ok m HG)).N) (d) : (dats m HG 0 c).before 1 t d = iblk m (ok m HG) c 1 t :=
  before0_1_of m (ok m HG) (dats m HG 0 c) (A_eq m HG c 1) (after0_1 m HG c) t d

/-- At a point that goes on with its block the body finds what the point before left. -/
theorem before0_2 (c : Dev nD) (t : Fin (cfgM m (ok m HG)).N) (g : ℕ) (ht : t.val = g + 1) (h : tb m (g + 1) = tb m g + 1) (d) :
    (dats m HG 0 c).before 2 t d = dAt m HG c g := by
  have hN : t.val < 197 := N_eq ▸ t.isLt
  have hf : ((cfgM m (ok m HG)).win 2).flush ⟨t.val - 1, Nat.lt_of_le_of_lt (Nat.sub_le _ _) t.isLt⟩ = false := by
    rw [Bool.eq_false_iff]
    intro hf
    have hN' : (cfgM m (ok m HG)).grid.N = 197 := N_eq
    rcases (((cfgM m (ok m HG)).win 2).flush_out rfl _).mp hf with e | ⟨h1, hne⟩
    · have e' := e.trans hN'; simp only at e'; omega
    · refine hne ?_
      rw [index2 m HG, index2 m HG]
      have e1 : t.val - 1 = g := by omega
      have e2 : t.val - 1 + 1 = g + 1 := by omega
      simp only [e1, e2, h]
      rw [show g + 1 - (tb m g + 1) = g - tb m g by omega]
  rw [(dats m HG 0 c).before_out_kept 2 rfl t (by omega) hf (fun _ => rfl) (fun _ _ => rfl), after0_2]
  congr 1
  simp only; omega

/-! ## The body obligation -/

def bodyPre (c : Dev nD) (t : Fin (cfgM m (ok m HG)).N) : sProp 𝕄 :=
  iprop((dats m HG 0 c).Φ t.castSucc ∗ (dats m HG 0 c).owesAt () t.castSucc
    ∗ (∃ d, owns (c : Thread nD τ) (ms0_0 m (ok m HG) t) fullShare ((dats m HG 0 c).before 0 t d))
    ∗ (∃ d, owns (c : Thread nD τ) (ms0_1 m (ok m HG) t) fullShare ((dats m HG 0 c).before 1 t d))
    ∗ (∃ d, owns (c : Thread nD τ) (ms0_2 m (ok m HG) t) fullShare ((dats m HG 0 c).before 2 t d)))

def bodyPost (c : Dev nD) (t : Fin (cfgM m (ok m HG)).N) : sProp 𝕄 :=
  iprop((dats m HG 0 c).Φ t.succ ∗ (dats m HG 0 c).owesAt () t.succ
    ∗ owns (c : Thread nD τ) (ms0_0 m (ok m HG) t) fullShare ((dats m HG 0 c).after 0 t)
    ∗ owns (c : Thread nD τ) (ms0_1 m (ok m HG) t) fullShare ((dats m HG 0 c).after 1 t)
    ∗ owns (c : Thread nD τ) (ms0_2 m (ok m HG) t) fullShare ((dats m HG 0 c).after 2 t))

set_option maxHeartbeats 800000 in
/-- The body at any point. -/
theorem sound_body (c : Dev nD) (t : Fin (cfgM m (ok m HG)).N) :
    bodyPre m HG c t ⊢ wp frame (wpE (defs₀ (F := Ideal)) Variants.none c none) Set.univ (bodyAt0 (adm m (ok m HG)) t) (fun _ => bodyPost m HG c t) := by
  have S := sched m HG
  have hN : t.val < 197 := N_eq ▸ t.isLt
  have hi : (grid0.coords t 0).val = t.val := coord t
  have hT : tb m t.val < 18 := S.lt t.val (by omega)
  have hle := S.le_self (g := t.val) (by omega)
  have hch := S.chunk_lt (by decide) (by decide) (g := t.val) (by omega)
  have hpt : pt t.val = t := Fin.ext (by show min t.val 196 = t.val; omega)
  have hF : (tbF m t.val).val = tb m t.val := Nat.mod_eq_of_lt hT
  have r1 : tbM0_0.view.readAt (Elt Ideal) (Rect.unit (s := S197) (k0_off1 (grid0.coords t)) S1.size (k0_off1_inb (grid0.coords t))).toLoadRect (tbl m 0) (Shape.Idx.first (numel1_S1.symm ▸ Nat.one_pos)) = BitVec.ofNat 32 (tb m t.val) :=
    read0 m _ _ ⟨t.val, hN⟩ ((off1_val _).trans hi) _
  have r4 : tbM0_0.view.readAt (Elt Ideal) (Rect.unit (s := S197) (k0_off4 (grid0.coords t)) S1.size (k0_off4_inb (grid0.coords t))).toLoadRect (tbl m 0) (Shape.Idx.first (numel1_S1.symm ▸ Nat.one_pos)) = BitVec.ofNat 32 (tb m (t.val - 1)) :=
    read0 m _ _ ⟨t.val - 1, by omega⟩ ((off4_val _).trans (by rw [hi])) _
  have ht' : tbM0_0.view.readAt (Elt Ideal) (Rect.unit (s := S197) (k0_off1 (grid0.coords t)) S1.size (k0_off1_inb (grid0.coords t))).toLoadRect (tbl m 0) (Shape.Idx.first (numel1_S1.symm ▸ Nat.one_pos)) = BitVec.ofNat 32 (tbF m t.val).val :=
    r1.trans (by rw [hF])
  have hp : Scalar.subi (BitVec.ofNat 32 (grid0.coords t 0).val) (tbM0_0.view.readAt (Elt Ideal) (Rect.unit (s := S197) (k0_off1 (grid0.coords t)) S1.size (k0_off1_inb (grid0.coords t))).toLoadRect (tbl m 0) (Shape.Idx.first (numel1_S1.symm ▸ Nat.one_pos))) = BitVec.ofNat 32 (t.val - tb m t.val) := by
    rw [r1, hi]; exact chunk_word _ _ hle (by omega)
  have hH := hyps m HG (ok m HG)
  have hlo : BitVec.toInt (tbM0_1.view.readAt (Elt Ideal) (Rect.unit (s := S19) (k0_off2 (tbM0_0.view.readAt (Elt Ideal) (Rect.unit (s := S197) (k0_off1 (grid0.coords t)) S1.size (k0_off1_inb (grid0.coords t))).toLoadRect (tbl m 0) (Shape.Idx.first (numel1_S1.symm ▸ Nat.one_pos)))) S1.size (k0_off2_inb _ (Hyps.c0 hH c t))).toLoadRect (tbl m 1) (Shape.Idx.first (numel1_S1.symm ▸ Nat.one_pos))) = offI m (256 * tb m t.val) :=
    read1 m _ _ ⟨tb m t.val, by omega⟩ ((congrArg (fun w => k0_off2 w 0) ht').trans ((off2_val _).1.trans hF)) _
  have hhi : BitVec.toInt (tbM0_1.view.readAt (Elt Ideal) (Rect.unit (s := S19) (k0_off3 (tbM0_0.view.readAt (Elt Ideal) (Rect.unit (s := S197) (k0_off1 (grid0.coords t)) S1.size (k0_off1_inb (grid0.coords t))).toLoadRect (tbl m 0) (Shape.Idx.first (numel1_S1.symm ▸ Nat.one_pos)))) S1.size (k0_off3_inb _ (Hyps.c0 hH c t))).toLoadRect (tbl m 1) (Shape.Idx.first (numel1_S1.symm ▸ Nat.one_pos))) = offI m (256 * (tb m t.val + 1)) :=
    read1 m _ _ ⟨tb m t.val + 1, by omega⟩ ((congrArg (fun w => k0_off3 w 0) ht').trans ((off2_val _).2.trans (by rw [hF]))) _
  have hwork : ∀ d, work m HG c t.val d = step (t.val - tb m t.val) (tbF m t.val) (offI m (256 * tb m t.val)) (offI m (256 * (tb m t.val + 1))) (iblk m (ok m HG) c 0 t) (iblk m (ok m HG) c 1 t) d := fun d => by
    unfold work; rw [hpt]
  unfold bodyPre bodyPost bodyAt0
  simp only [before0_0, before0_1]
  rw [show (dats m HG 0 c).Φ t.succ = (dats m HG 0 c).Φ t.castSucc from rfl,
    show (dats m HG 0 c).owesAt () t.succ = (dats m HG 0 c).owesAt () t.castSucc from rfl,
    after0_0, after0_1, after0_2]
  rw [show (dats m HG 0 c).Φ t.castSucc = iprop(Pipeline.ΦA spec0 c ∗ Pipeline.ΦT pre0 (tbl m) c) from rfl, PhiT0_eq]
  by_cases h0 : cond0_0 (grid0.coords t) (tbM0_0.view.readAt (Elt Ideal) (Rect.unit (s := S197) (k0_off1 (grid0.coords t)) S1.size (k0_off1_inb (grid0.coords t))).toLoadRect (tbl m 0) (Shape.Idx.first (numel1_S1.symm ▸ Nat.one_pos))) (tbM0_0.view.readAt (Elt Ideal) (Rect.unit (s := S197) (k0_off4 (grid0.coords t)) S1.size (k0_off4_inb (grid0.coords t))).toLoadRect (tbl m 0) (Shape.Idx.first (numel1_S1.symm ▸ Nat.one_pos)))
  · have hd : dAt m HG c t.val = step (t.val - tb m t.val) (tbF m t.val) (offI m (256 * tb m t.val)) (offI m (256 * (tb m t.val + 1))) (iblk m (ok m HG) c 0 t) (iblk m (ok m HG) c 1 t) (fun _ => Ideal.ofBits .f32 (0#32)) := by
      rw [cond_iff, r1, r4, hi] at h0
      rw [show (fun _ => Ideal.ofBits .f32 (0#32)) = zeros from rfl, ← hwork]
      obtain hz | ⟨g, hg⟩ : t.val = 0 ∨ ∃ g, t.val = g + 1 := by
        rcases Nat.eq_zero_or_pos t.val with h | h
        · exact .inl h
        · exact .inr ⟨t.val - 1, by omega⟩
      · rw [hz]; rfl
      · rw [hg] at h0 hle hN ⊢
        have h3 : tb m (g + 1) = tb m g := by
          rcases S.step g (by omega) with h | h
          · exact h
          · exfalso
            rcases h0 with h0 | h0
            · omega
            · refine h0 ?_
              have e1 : Scalar.subi (BitVec.ofNat 32 (g + 1)) 1#32 = BitVec.ofNat 32 g := chunk_word 1 (g + 1) (by omega) (by omega)
              have := S.le_self (g := g) (by omega)
              rw [e1, chunk_word _ _ hle (by omega)]
              show Scalar.subi (BitVec.ofNat 32 g) (BitVec.ofNat 32 (tb m g)) = _
              rw [chunk_word _ _ this (by omega), h]
              congr 1; omega
        show work m HG c (g + 1) (if tb m (g + 1) = tb m g then zeros else dAt m HG c g) = _
        rw [if_pos h3]
    rw [hd]
    iintro ⟨⟨HΦ, ⟨HT0, HT1⟩⟩, Ho, ⟨%d0, H0⟩, ⟨%d1, H1⟩, ⟨%d2, H2⟩⟩
    iapply ((kernelRun0_A c (grid0.coords t) _ _ _ _ _ _ (iblk m (ok m HG) c 0 t) (iblk m (ok m HG) c 1 t) (tbl m 0) (tbl m 1) h0 (Hyps.c0 hH c t) _ (by omega) (tbF m t.val) ht' hp _ _ hlo hhi) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2
  · obtain ⟨g, hg, h3⟩ : ∃ g, t.val = g + 1 ∧ tb m (g + 1) = tb m g + 1 := by
      rw [cond_iff, r1, r4, hi] at h0
      push Not at h0
      refine ⟨t.val - 1, by omega, ?_⟩
      have hg : t.val = t.val - 1 + 1 := by omega
      generalize t.val - 1 = g at hg h0
      rw [hg] at h0 hle hN
      rcases S.step g (by omega) with h | h
      · exfalso
        have e1 : Scalar.subi (BitVec.ofNat 32 (g + 1)) 1#32 = BitVec.ofNat 32 g := chunk_word 1 (g + 1) (by omega) (by omega)
        have h5 := S.le_self (g := g) (by omega)
        have h4 := h0.2
        rw [e1, chunk_word _ _ hle (by omega), chunk_word _ _ h5 (by omega), h] at h4
        have := congrArg BitVec.toNat h4
        simp only [BitVec.toNat_ofNat] at this
        omega
      · exact h
    have hd : dAt m HG c t.val = step (t.val - tb m t.val) (tbF m t.val) (offI m (256 * tb m t.val)) (offI m (256 * (tb m t.val + 1))) (iblk m (ok m HG) c 0 t) (iblk m (ok m HG) c 1 t) (dAt m HG c g) := by
      rw [← hwork, hg]
      show work m HG c (g + 1) (if tb m (g + 1) = tb m g then zeros else dAt m HG c g) = _
      rw [if_neg (by omega)]
    rw [hd]
    simp only [before0_2 m HG c t g hg h3]
    iintro ⟨⟨HΦ, ⟨HT0, HT1⟩⟩, Ho, ⟨%d0, H0⟩, ⟨%d1, H1⟩, ⟨%d2, H2⟩⟩
    iapply ((kernelRun0_B c (grid0.coords t) _ _ _ _ _ _ (iblk m (ok m HG) c 0 t) (iblk m (ok m HG) c 1 t) (tbl m 0) (tbl m 1) (dAt m HG c g) h0 (Hyps.c0 hH c t) _ (by omega) (tbF m t.val) ht' hp _ _ hlo hhi) Set.univ _)
    isplitl [H0]; · iexact H0
    isplitl [H1]; · iexact H1
    isplitl [H2]; · iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2

theorem defs₀_row (t : Fin (cfgM m (ok m HG)).N) :
    defs₀ (F := Ideal) .tc (cfgM m (ok m HG)).body ((cfgM m (ok m HG)).bodyArgs t ((cfgM m (ok m HG)).slots t)) = bodyAt0 (adm m (ok m HG)) t := by
  unfold defs₀; rw [Defs.onTc_tc]

/-- The body's obligation, at every point. -/
theorem body_obligation (c : Dev nD) : BodyObligation (dats m HG 0 c) (defs₀ (F := Ideal)) Variants.none () Set.univ := fun t => by
  rw [bigSep_W0, bigSep_W0, defs₀_row m HG]
  exact triple_restated (sound_body m HG c t) rfl .rfl fun _ => .rfl

/-! ## The run -/

set_option backward.isDefEq.respectTransparency.types false in
/-- The run: at every final state each array holds what the proof data say, and every counter is zero. -/
theorem run_main_quiescent : θ_run defs (onTc (τ := τ) (main (F := Ideal))) (s₀ m ρ)
    (fun r => (Pipeline.FramePost (Pipeline.pin pcfgs fun _ => adm m (ok m HG)) (dats m HG) (0 : Fin 1) (V m)) r ∧ r.2.sem = fun _ => 0) :=
  Pipeline.θ_run_frameP (Q' := _) pcfgs (fun _ => adm m (ok m HG)) (dats m HG) (0 : Fin 1) launch0 defs₀ Variants.none m ρ main
    (hbody := fun c => (body_obligation m HG c).loose) (hshare := fun c => (dats m HG 0 c).share_full fun _ => rfl)
    (howed := fun _ _ => rfl) (V := V m) (hmain := hmain m Variants.none) (hA := A_eq m HG) (hpf := V_pre m) (hΦ := fun _ _ => rfl)

end Cert.KernelI8Ideal.Run
-- ==== Proof.I8.Final.lean ====
/- The result array after the run: a position that a table holds carries that table's scaled dot product at the
   position's column of words, any other position zero. -/
module

public import proofs.«01_k».proof.Proof.I8.Data
public import Idealize.ShloMosaic.Lib.Pipeline.Covers

@[expose] public section

set_option maxRecDepth 16384

noncomputable section

namespace Cert.KernelI8Ideal.Run

open Cert.KernelI8Ideal.Gen Cert.Words
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg)
variable (HG : GoodOff 18 180 (offI m))

/-- The scaled dot product at column `k` of the words, for table `t`. -/
def cellAt (W : Vec Ideal S18x202752 .i32) (GO : Vec Ideal S256x3264 .bf16) (t : Fin 18) (k : Fin 202752) : EReal :=
  (∑ b : Fin 64, (((byteOf (W (ix2 ⟨b.val / 4, by omega⟩ k)) (b.val % 4)).toInt : ℝ) : EReal) * GO (ix2 (sel (W (ix2 17 k))) ⟨0 + 64 * t.val + b.val, by omega⟩))
    * Ideal.ofBits .f32 (W (ix2 16 k))

/-- Column `pos + 1024·t` of the words, cut at the last. -/
def colF (t pos : ℕ) : Fin 202752 := ⟨min (pos + 1024 * t) 202751, by omega⟩

/-- What table `t` leaves at position `pos`. -/
def valAt (c : Dev nD) (t pos : ℕ) : EReal :=
  cellAt (m ((c : Thread nD τ).loc main_arg0)) (m ((c : Thread nD τ).loc main_arg2)) ⟨t % 18, Nat.mod_lt _ (by decide)⟩ (colF t pos)

/-- The words' block at a point: the point's 1024 columns. -/
theorem iblk0_apply (c : Dev nD) (t : Fin grid0.N) (r : Fin 18) (l : Fin 1024) (k : Fin 202752) (hk : k.val = t.val * 1024 + l.val) :
    iblk m (ok m HG) c 0 t (ix2 r l) = m ((c : Thread nD τ).loc main_arg0) (ix2 r k) := by
  have hc := coord t
  have hN : t.val < 197 := N_eq ▸ t.isLt
  refine Eq.trans (b := V m c main_arg0 (ix2 r k)) ?_ (congrFun (V_main_arg0 m c) (ix2 r k))
  unfold iblk
  refine congrArg (V m c main_arg0) (funext fun a => Fin.ext ?_)
  have e1 : ((cfgM m (ok m HG)).win 0).index t (1 : Fin 2) = t.val := by
    show (BitVec.ofNat 32 (grid0.coords t 0).val).toNat = t.val
    rw [hc, BitVec.toNat_ofNat]; omega
  match a with
  | ⟨0, _⟩ => exact (((cfgM m (ok m HG)).win 0).rect_emb_val t (ix2 r l : S18x1024.Idx) (0 : Fin 2)).trans (show 0 * 18 + r.val = r.val by omega)
  | ⟨1, _⟩ => exact (((cfgM m (ok m HG)).win 0).rect_emb_val t (ix2 r l : S18x1024.Idx) (1 : Fin 2)).trans ((congrArg (fun q => q * 1024 + l.val) e1).trans hk.symm)

/-- The gradient's block: the whole transposed gradient. -/
theorem iblk1_apply (c : Dev nD) (t : Fin grid0.N) (r : Fin 3264) (k : Fin 256) :
    iblk m (ok m HG) c 1 t (ix2 r k) = m ((c : Thread nD τ).loc main_arg2) (ix2 k r) := by
  refine Eq.trans (b := V m c main_v0 (ix2 r k)) ?_ (V_go_apply m c r k)
  unfold iblk
  refine congrArg (V m c main_v0) (funext fun a => Fin.ext ?_)
  match a with
  | ⟨0, _⟩ => exact (((cfgM m (ok m HG)).win 1).rect_emb_val t (ix2 r k : S3264x256.Idx) (0 : Fin 2)).trans (show 0 * 3264 + r.val = r.val by omega)
  | ⟨1, _⟩ => exact (((cfgM m (ok m HG)).win 1).rect_emb_val t (ix2 r k : S3264x256.Idx) (1 : Fin 2)).trans (show 0 * 256 + k.val = k.val by omega)

/-- One point's work at a lane. -/
theorem work_apply (c : Dev nD) (g : ℕ) (hg : g < 197) (d : Vec Ideal S1x1x1024 .f32) (y : ℕ) (hy : y < 1024) :
    work m HG c g d (ix3 0 0 ⟨y, hy⟩) = if Hit (offI m) (tb m g) ((g - tb m g) * 1024 + y)
      then valAt m c (tb m g) ((g - tb m g) * 1024 + y) else d (ix3 0 0 ⟨y, hy⟩) := by
  have S := sched m HG
  have hT : tb m g < 18 := S.lt g (by omega)
  have hle := S.le_self (g := g) (by omega)
  have hpt : (pt g).val = g := by show min g 196 = g; omega
  have hk : (colF (tb m g) ((g - tb m g) * 1024 + y)).val = (pt g).val * 1024 + y := by
    rw [hpt]; show min _ _ = _; omega
  unfold work step valAt cellAt
  refine if_congr Iff.rfl ?_ rfl
  show dotAt _ _ _ ⟨y, hy⟩ = _
  unfold dotAt
  simp only [iblk0_apply m HG c (pt g) _ ⟨y, hy⟩ _ hk, iblk1_apply m HG c]
  rfl

/-- The result array: where a table holds the position, its value; elsewhere zero. -/
theorem out_cell (c : Dev nD) (p : Fin 180) (y : Fin 1024) :
    (∀ t, t < 18 → Hit (offI m) t (p.val * 1024 + y.val) → (dats m HG 0 c).arrAt 2 (cfgM m (ok m HG)).N (ix3 p 0 y) = valAt m c t (p.val * 1024 + y.val))
      ∧ ((∀ t, t < 18 → ¬ Hit (offI m) t (p.val * 1024 + y.val)) → (dats m HG 0 c).arrAt 2 (cfgM m (ok m HG)).N (ix3 p 0 y) = Ideal.ofBits .f32 (0#32)) := by
  have S := sched m HG
  refine (dats m HG 0 c).arrAt_forall_of_covers 2
    (fun (i : S180x1x1024.Idx) (v : EReal) => (∀ t, t < 18 → Hit (offI m) t ((i 0).val * 1024 + (i 2).val) → v = valAt m c t ((i 0).val * 1024 + (i 2).val))
      ∧ ((∀ t, t < 18 → ¬ Hit (offI m) t ((i 0).val * 1024 + (i 2).val)) → v = Ideal.ofBits .f32 (0#32))) ?_ ?_ (ix3 p 0 y)
  · refine Window.covers_of_index_surj _ rfl (show ∀ a : Fin 3, 0 < S1x1x1024.size a by decide) fun β => ?_
    have b0 : (β (0 : Fin 3)).val < 180 := lt_of_lt_of_eq (β (0 : Fin 3)).isLt (show ((cfgM m (ok m HG)).win 2).nblk (0 : Fin 3) = 180 from (by decide : (180 + 1 - 1) / 1 = 180))
    have b1 : (β (1 : Fin 3)).val < 1 := lt_of_lt_of_eq (β (1 : Fin 3)).isLt (show ((cfgM m (ok m HG)).win 2).nblk (1 : Fin 3) = 1 from (by decide : (1 + 1 - 1) / 1 = 1))
    have b2 : (β (2 : Fin 3)).val < 1 := lt_of_lt_of_eq (β (2 : Fin 3)).isLt (show ((cfgM m (ok m HG)).win 2).nblk (2 : Fin 3) = 1 from (by decide : (1024 + 1024 - 1) / 1024 = 1))
    obtain ⟨g, hg, hp⟩ := S.chunk_surj (by decide) (β (0 : Fin 3)).val b0
    refine ⟨⟨g, by show g < grid0.N; rw [N_eq]; exact hg⟩, fun a => ?_⟩
    rw [index2 m HG]
    match a with
    | ⟨0, _⟩ => exact hp
    | ⟨1, _⟩ => exact (Nat.lt_one_iff.mp b1).symm
    | ⟨2, _⟩ => exact (Nat.lt_one_iff.mp b2).symm
  · intro t hf y
    have hN : t.val < 197 := N_eq ▸ t.isLt
    have hl : t.val + 1 = 180 + 18 - 1 ∨ tb m (t.val + 1) = tb m t.val := by
      have hN' : (cfgM m (ok m HG)).grid.N = 197 := N_eq
      rcases (((cfgM m (ok m HG)).win 2).flush_out rfl _).mp hf with e | ⟨h1, hne⟩
      · exact .inl (e.trans hN')
      · right
        have h1' : t.val + 1 < 197 := N_eq ▸ h1
        rcases S.step t.val (by omega) with h | h
        · exact h
        · refine absurd ?_ hne
          rw [index2 m HG, index2 m HG]
          simp only [h]
          rw [show t.val + 1 - (tb m t.val + 1) = t.val - tb m t.val by omega]
    obtain ⟨l, rfl⟩ : ∃ l : Fin 1024, y = (ix3 0 0 l : S1x1x1024.Idx) :=
      ⟨y (2 : Fin 3), (eq_ix3 (n0 := 1) (n1 := 1) (n2 := 1024) y).trans (by rw [Fin.fin_one_eq_zero (y (0 : Fin 3)), Fin.fin_one_eq_zero (y (1 : Fin 3))])⟩
    have key := S.accumulate (fun g y => if h : y < 1024 then dAt m HG c g (ix3 0 0 ⟨y, h⟩) else 0) (fun t pos => valAt m c t pos) (Ideal.ofBits .f32 (0#32)) (Hit (offI m))
      (fun t pos ht hp h => HG.hit_at S t pos ht hp h) (fun t t' pos ht ht' h h' => HG.hit_uniq t t' pos ht ht' h h') (by decide) (by decide)
      (fun y hy => by
        simp only [dif_pos hy]
        exact work_apply m HG c 0 (by decide) _ y hy)
      (fun g hg y hy => by
        simp only [dif_pos hy]
        refine (work_apply m HG c (g + 1) (by omega) _ y hy).trans ?_
        by_cases h : tb m (g + 1) = tb m g
        · rw [if_pos h, if_pos h]; rfl
        · rw [if_neg h, if_neg h])
      t.val (by omega) hl l.val l.isLt
    simp only [dif_pos l.isLt] at key
    have i0 : ((((cfgM m (ok m HG)).win 2).blk t).view.emb (ix3 0 0 l : S1x1x1024.Idx) (0 : Fin 3)).val = t.val - tb m t.val := by
      have e := congrFun (index2 m HG t) (0 : Fin 3)
      exact ((((cfgM m (ok m HG)).win 2).rect_emb_val t (ix3 0 0 l : S1x1x1024.Idx) (0 : Fin 3)).trans (congrArg (fun q => q * 1 + 0) e)).trans (show (t.val - tb m t.val) * 1 + 0 = _ by omega)
    have i2 : ((((cfgM m (ok m HG)).win 2).blk t).view.emb (ix3 0 0 l : S1x1x1024.Idx) (2 : Fin 3)).val = l.val := by
      have e := congrFun (index2 m HG t) (2 : Fin 3)
      exact ((((cfgM m (ok m HG)).win 2).rect_emb_val t (ix3 0 0 l : S1x1x1024.Idx) (2 : Fin 3)).trans (congrArg (fun q => q * 1024 + l.val) e)).trans (show 0 * 1024 + l.val = _ by omega)
    have hv : _root_.cast (congrArg (Elt Ideal) (((cfgM m (ok m HG)).win 2).blk t).view.elt_eq.symm) ((dats m HG 0 c).after 2 t (((cfgM m (ok m HG)).win 2).xinj ((cfgM m (ok m HG)).grid.coords t) (ix3 0 0 l : S1x1x1024.Idx))) = dAt m HG c t.val (ix3 0 0 l) := by
      rw [after0_2]; rfl
    rw [hv]
    simp only [i0, i2]
    exact key

end Cert.KernelI8Ideal.Run
-- ==== Proof.BagWords.lean ====
/- The word arithmetic of the reference's index computation: the bag of a position by a count of the offsets at or before
   it, clipped; its table by a division by 256; the column of a table's position. -/
module

public import proofs.«01_k».proof.Proof.TableWords

@[expose] public section

namespace Cert.Words

open Idealize.ShloMosaic

/-- The count, less one and clipped to the bags, of the offsets at or before a position. -/
def bagW (n : ℕ) (x : Fin (256 * n + 1) → BitVec 32) (pos : ℕ) : BitVec 32 :=
  IntOp.minsi (BitVec.ofNat 32 (256 * n - 1)) (IntOp.maxsi 0#32
    (IntOp.subi (Finset.fold IntOp.addi 0#32 (fun k => BitVec.setWidth 32 (IntOp.cmpi .sle (x k) (BitVec.ofNat 32 pos))) Finset.univ) 1#32))

/-- For a position of table `t` it is one of that table's 256 bags. -/
theorem bagW_hit {n C : ℕ} {o : ℕ → ℤ} (HG : GoodOff n C o) (hn : n < 2 ^ 16) (x : Fin (256 * n + 1) → BitVec 32) (hx : ∀ k, (x k).toInt = o k.val)
    (t pos : ℕ) (ht : t < n) (hp : pos < 2 ^ 31) (hit : Hit o t pos) : ∃ q, q / 256 = t ∧ bagW n x pos = BitVec.ofNat 32 q := by
  unfold bagW
  rw [IndicatorCount.fold_addi_setWidth_eq_card]
  set S := Finset.univ.filter fun k : Fin (256 * n + 1) => IntOp.cmpi .sle (x k) (BitVec.ofNat 32 pos) = 1#1 with hS
  have hmem : ∀ k : Fin (256 * n + 1), k ∈ S ↔ o k.val ≤ pos := fun k => by
    rw [hS, Finset.mem_filter, cmpi_sle, ofBool_eq_one, hx, toInt_ofNat _ hp]; simp
  have hmap : (S.map ⟨Fin.val, Fin.val_injective⟩).card = S.card := Finset.card_map _
  obtain ⟨h1, h2⟩ := hit
  have lo : 256 * t + 1 ≤ S.card := by
    rw [← hmap]
    refine le_trans (le_of_eq (Finset.card_range _).symm) (Finset.card_le_card fun k hk => ?_)
    rw [Finset.mem_range] at hk
    rw [Finset.mem_map]
    exact ⟨⟨k, by omega⟩, (hmem _).2 ((HG.le (by show k ≤ 256 * t; omega) (by omega)).trans h1), rfl⟩
  have hi : S.card ≤ 256 * (t + 1) := by
    rw [← hmap]
    refine le_trans (Finset.card_le_card fun k hk => ?_) (le_of_eq (Finset.card_range (256 * (t + 1))))
    rw [Finset.mem_map] at hk
    obtain ⟨k, hk, rfl⟩ := hk
    rw [Finset.mem_range]
    by_contra hc
    have := HG.le (i := 256 * (t + 1)) (j := k.val) (by simpa using hc) (by omega)
    have := (hmem k).1 hk
    omega
  refine ⟨S.card - 1, by omega, ?_⟩
  have e : IntOp.subi (BitVec.ofNat 32 S.card) 1#32 = BitVec.ofNat 32 (S.card - 1) := by
    show BitVec.ofNat 32 _ - BitVec.ofNat 32 1 = _
    rw [BitVec.ofNat_sub_ofNat_of_le _ _ (by decide) (by omega)]
  rw [e]
  have i1 : (BitVec.ofNat 32 (S.card - 1)).toInt = (S.card - 1 : ℕ) := toInt_ofNat _ (by omega)
  have i2 : (BitVec.ofNat 32 (256 * n - 1)).toInt = (256 * n - 1 : ℕ) := toInt_ofNat _ (by omega)
  have em : IntOp.maxsi 0#32 (BitVec.ofNat 32 (S.card - 1)) = BitVec.ofNat 32 (S.card - 1) := by
    unfold IntOp.maxsi
    rw [if_neg (by simp only [BitVec.slt, decide_eq_true_eq, i1]; show ¬ ((S.card - 1 : ℕ) : ℤ) < 0; omega)]
  rw [em]
  unfold IntOp.minsi
  rw [if_neg (by simp only [BitVec.slt, decide_eq_true_eq, i1, i2]; omega)]

/-- A word divided by 256, rounding down, spelt with the truncating division and its remainder. -/
def fdiv256 (x : BitVec 32) : BitVec 32 :=
  Scalar.select
    (IntOp.andi (IntOp.cmpi .ne (if x = 0 then 0 else if x.msb = true then -1 else 1) (if (256#32 : BitVec 32) = 0 then 0 else if (256#32 : BitVec 32).msb = true then -1 else 1 : BitVec 32))
      (IntOp.cmpi .ne (IntOp.remsi .host x 256#32) 0#32))
    (IntOp.subi (IntOp.divsi .host x 256#32) 1#32)
    (IntOp.divsi .host x 256#32)

/-- On a number below 2³¹ it is the quotient. -/
theorem fdiv256_ofNat (a : ℕ) (ha : a < 2 ^ 31) : fdiv256 (BitVec.ofNat 32 a) = BitVec.ofNat 32 (a / 256) := by
  have hr : IntOp.remsi .host (BitVec.ofNat 32 a) 256#32 = BitVec.ofNat 32 (a % 256) := Routing.remsi_word .host ha (b := 256) (by decide) (by decide)
  have hd : IntOp.divsi .host (BitVec.ofNat 32 a) 256#32 = BitVec.ofNat 32 (a / 256) := Routing.divsi_word .host ha (b := 256) (by decide) (by decide)
  unfold fdiv256
  rw [hr, hd]
  have hm : (BitVec.ofNat 32 a).msb = false := by
    rw [BitVec.msb_eq_decide]; simp; omega
  have h1 : (if (256#32 : BitVec 32) = 0 then 0 else if (256#32 : BitVec 32).msb = true then -1 else 1 : BitVec 32) = 1 := by decide
  rw [h1, hm]
  have hc : IntOp.andi (IntOp.cmpi .ne (if BitVec.ofNat 32 a = 0 then 0 else if false = true then -1 else 1 : BitVec 32) 1)
      (IntOp.cmpi .ne (BitVec.ofNat 32 (a % 256)) 0#32) = 0#1 := by
    by_cases h : BitVec.ofNat 32 a = 0
    · have : a = 0 := by
        have := congrArg BitVec.toNat h
        simp at this; omega
      subst this; decide
    · rw [if_neg h, if_neg (by decide)]
      have : IntOp.cmpi .ne (1 : BitVec 32) 1 = 0#1 := by decide
      rw [this]
      exact BitVec.zero_and
  rw [hc]; rfl

/-- An index counted from the end when it is negative. -/
def wrapW (N : ℕ) (x : BitVec 32) : BitVec 32 := Scalar.select (IntOp.cmpi .slt x 0#32) (IntOp.addi x (BitVec.ofNat 32 N)) x

/-- It leaves a number that is not negative alone. -/
theorem wrapW_nonneg (N : ℕ) (x : BitVec 32) (h : 0 ≤ x.toInt) : wrapW N x = x := by
  unfold wrapW
  rw [cmpi_slt, select_ofBool, if_neg (by show ¬ x.toInt < 0; omega)]

end Cert.Words
-- ==== Proof.Gathers.lean ====
/- Two gathers read at an index: whole columns of a rank-2 operand, one column number per result column; and the rows along
   the last axis of a rank-3 operand, at one pair of numbers per result row. -/
module

public import Idealize.ShloMosaic.Lib.ValueIdx
public import Idealize.ShloMosaic.Lib.Pointwise

@[expose] public section

namespace Cert.Gathers

open Idealize.ShloMosaic

variable {α : Type}

/-- The dimension numbers of a gather of whole columns. -/
abbrev colDims (P N R : Nat) (wf : GatherDims.WF ⟨2, ![P, N]⟩ ⟨2, ![R, 1]⟩ ⟨2, ![P, R]⟩ [0] [1] [] [1] [] 1 ![P, 1]) :
    GatherDims ⟨2, ![P, N]⟩ ⟨2, ![R, 1]⟩ ⟨2, ![P, R]⟩ where
  offsetDims := [0]
  collapsedSliceDims := [1]
  operandBatchingDims := []
  startIndicesBatchingDims := []
  startIndexMap := [1]
  indexVectorDim := 1
  sliceSizes := ![P, 1]
  wf := wf

/-- Where result column `k` names the column `b` of the operand, the result's column is that column. -/
theorem gather_col {P N R : Nat} (wf : GatherDims.WF ⟨2, ![P, N]⟩ ⟨2, ![R, 1]⟩ ⟨2, ![P, R]⟩ [0] [1] [] [1] [] 1 ![P, 1])
    (x : (⟨2, ![P, N]⟩ : Shape).Idx → α) (idx : IVec ⟨2, ![R, 1]⟩ 32) (a : Fin P) (k : Fin R) (b : Fin N)
    (hb : (idx (ix2 k (0 : Fin 1))).toInt.toNat = b.val) :
    Host.gather (colDims P N R wf) x idx (ix2 a k) = x (ix2 a b) := by
  unfold Host.gather
  congr 1
  funext q
  refine Fin.ext ?_
  show (colDims P N R wf).start (ix2 a k) idx q + (colDims P N R wf).batchCoord (ix2 a k) q + (colDims P N R wf).offCoord (ix2 a k) q = _
  have hq : q = 0 ∨ q = 1 := by
    match q with
    | ⟨0, _⟩ => exact Or.inl rfl
    | ⟨1, _⟩ => exact Or.inr rfl
  rcases hq with rfl | rfl
  · rw [GatherDims.batchCoord_eq_zero _ _ _ List.not_mem_nil]
    unfold GatherDims.start
    have hm : (0 : Fin 2) ∉ ([1] : List (Fin 2)) := by decide
    rw [dif_neg (show ¬ (0 : Fin 2) ∈ (colDims P N R wf).startIndexMap from hm)]
    unfold GatherDims.offCoord
    rw [dif_pos ((GatherDims.mem_sKept _ _).2 ⟨hm, List.not_mem_nil⟩)]
    rw [Nat.zero_add]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims P N R wf).startIndexMap from List.mem_singleton.mpr rfl)]
    have hsi : (colDims P N R wf).siIdx (ix2 a k) ⟨List.idxOf (1 : Fin 2) (colDims P N R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi, hb]
    show min b.val (N - 1) = b.val
    have := b.isLt
    omega

/-- The dimension numbers of a gather of last-axis rows at pairs. -/
abbrev pairDims (A B D R : Nat) (wf : GatherDims.WF ⟨3, ![A, B, D]⟩ ⟨2, ![R, 2]⟩ ⟨2, ![R, D]⟩ [1] [0, 1] [] [0, 1] [] 1 ![1, 1, D]) :
    GatherDims ⟨3, ![A, B, D]⟩ ⟨2, ![R, 2]⟩ ⟨2, ![R, D]⟩ where
  offsetDims := [1]
  collapsedSliceDims := [0, 1]
  operandBatchingDims := []
  startIndicesBatchingDims := []
  startIndexMap := [0, 1]
  indexVectorDim := 1
  sliceSizes := ![1, 1, D]
  wf := wf

/-- Where result row `k` names the pair `(a, b)`, the result's row is the operand's row there. -/
theorem gather_pair {A B D R : Nat} (wf : GatherDims.WF ⟨3, ![A, B, D]⟩ ⟨2, ![R, 2]⟩ ⟨2, ![R, D]⟩ [1] [0, 1] [] [0, 1] [] 1 ![1, 1, D])
    (x : (⟨3, ![A, B, D]⟩ : Shape).Idx → α) (idx : IVec ⟨2, ![R, 2]⟩ 32) (k : Fin R) (d : Fin D) (a : Fin A) (b : Fin B)
    (ha : (idx (ix2 k (0 : Fin 2))).toInt.toNat = a.val) (hb : (idx (ix2 k (1 : Fin 2))).toInt.toNat = b.val) :
    Host.gather (pairDims A B D R wf) x idx (ix2 k d) = x (ix3 a b d) := by
  unfold Host.gather
  congr 1
  funext q
  refine Fin.ext ?_
  show (pairDims A B D R wf).start (ix2 k d) idx q + (pairDims A B D R wf).batchCoord (ix2 k d) q + (pairDims A B D R wf).offCoord (ix2 k d) q = _
  rw [GatherDims.batchCoord_eq_zero _ _ _ List.not_mem_nil]
  have hq : q = 0 ∨ q = 1 ∨ q = 2 := by
    match q with
    | ⟨0, _⟩ => exact Or.inl rfl
    | ⟨1, _⟩ => exact Or.inr (Or.inl rfl)
    | ⟨2, _⟩ => exact Or.inr (Or.inr rfl)
  rcases hq with rfl | rfl | rfl
  · rw [GatherDims.offCoord_eq_zero _ _ _ (fun h => ((GatherDims.mem_sKept _ _).mp h).1 List.mem_cons_self)]
    simp only [Nat.add_zero]
    unfold GatherDims.start
    rw [dif_pos (show (0 : Fin 3) ∈ (pairDims A B D R wf).startIndexMap from List.mem_cons_self)]
    have hsi : (pairDims A B D R wf).siIdx (ix2 k d) ⟨List.idxOf (0 : Fin 3) (pairDims A B D R wf).startIndexMap,
        List.idxOf_lt_length_iff.2 List.mem_cons_self⟩ = ix2 k (0 : Fin 2) := by
      funext b; refine Fin.ext ?_
      match b with
      | ⟨0, _⟩ => rfl
      | ⟨1, _⟩ => rfl
    rw [hsi, ha]
    show min a.val (A - 1) = a.val
    have := a.isLt
    omega
  · have hm : (1 : Fin 3) ∈ ([0, 1] : List (Fin 3)) := by decide
    rw [GatherDims.offCoord_eq_zero _ _ _ (fun h => ((GatherDims.mem_sKept _ _).mp h).1 hm)]
    simp only [Nat.add_zero]
    unfold GatherDims.start
    rw [dif_pos (show (1 : Fin 3) ∈ (pairDims A B D R wf).startIndexMap from hm)]
    have hsi : (pairDims A B D R wf).siIdx (ix2 k d) ⟨List.idxOf (1 : Fin 3) (pairDims A B D R wf).startIndexMap,
        List.idxOf_lt_length_iff.2 hm⟩ = ix2 k (1 : Fin 2) := by
      funext b; refine Fin.ext ?_
      match b with
      | ⟨0, _⟩ => rfl
      | ⟨1, _⟩ => rfl
    rw [hsi, hb]
    show min b.val (B - 1) = b.val
    have := b.isLt
    omega
  · have hm : (2 : Fin 3) ∉ ([0, 1] : List (Fin 3)) := by decide
    unfold GatherDims.start
    rw [dif_neg (show ¬ (2 : Fin 3) ∈ (pairDims A B D R wf).startIndexMap from hm)]
    unfold GatherDims.offCoord
    rw [dif_pos ((GatherDims.mem_sKept _ _).2 ⟨hm, List.not_mem_nil⟩)]
    rw [Nat.zero_add]
    rfl

end Cert.Gathers
-- ==== Proof.Scale.lean ====
/- A scale that is a number at least zero comes out of a sum of extended reals. -/
module

public import proofs.«01_k».proof.Proof.Words
public import Idealize.ShloMosaic.PureOps.Ideal

@[expose] public section

noncomputable section

namespace Cert.Words

open Idealize.ShloMosaic

/-- A word below infinity's, without sign, is a number at least zero. -/
theorem ofBits_real (w : BitVec 32) (h0 : 0 ≤ w.toInt) (h1 : w.toInt < 2139095040) : ∃ r : ℝ, 0 ≤ r ∧ Ideal.ofBits .f32 w = (r : EReal) := by
  have hw : w.toNat < 2139095040 := by
    have := w.isLt
    rw [BitVec.toInt_eq_toNat_cond] at h0 h1
    split at h0 <;> omega
  show ∃ r : ℝ, 0 ≤ r ∧ Ideal.ieee 8 23 w = (r : EReal)
  unfold Ideal.ieee
  have hn : (w.extractLsb' (8 + 23) 1 == 1#1) = false := by
    rw [beq_eq_false_iff_ne]
    intro h
    have := congrArg BitVec.toNat h
    rw [BitVec.extractLsb'_toNat, Nat.shiftRight_eq_div_pow] at this
    rw [Nat.div_eq_of_lt (by omega)] at this
    exact absurd this (by decide)
  have he : (w.extractLsb' 23 8).toNat ≠ 2 ^ 8 - 1 := by
    rw [BitVec.extractLsb'_toNat, Nat.shiftRight_eq_div_pow]
    omega
  simp only [hn]
  rw [if_neg he]
  split
  · exact ⟨_, mul_nonneg (mul_nonneg (by simp) (Nat.cast_nonneg _)) (zpow_nonneg (by norm_num) _), rfl⟩
  · exact ⟨_, mul_nonneg (mul_nonneg (by simp) (Nat.cast_nonneg _)) (zpow_nonneg (by norm_num) _), rfl⟩

/-- The sum of the scaled products is the scaled sum of the products. -/
theorem sum_scale {ι : Type} [Fintype ι] (f g : ι → EReal) (s : EReal) (r : ℝ) (hr : 0 ≤ r) (hs : s = (r : EReal)) :
    ∑ x, f x * s * g x = (∑ x, f x * g x) * s := by
  classical
  have h : ∀ S : Finset ι, ∑ x ∈ S, f x * s * g x = (∑ x ∈ S, f x * g x) * s := fun S => by
    induction S using Finset.induction_on with
    | empty => simp
    | insert a S ha ih =>
      rw [Finset.sum_insert ha, Finset.sum_insert ha, ih, EReal.right_distrib_of_nonneg_of_ne_top
        (by rw [hs]; exact_mod_cast hr) (by rw [hs]; exact EReal.coe_ne_top r), mul_right_comm]
  exact h _

/-- Code `b` of a word row by shifts: the byte moved to the top and back. -/
theorem shifts_code (w : BitVec 32) (b : ℕ) :
    (IntOp.shrsi .host (IntOp.shli .host w (IntOp.subi 24#32 (IntOp.muli 8#32 (IntOp.andi (BitVec.ofNat 32 b) 3#32)))) 24#32).toInt
      = (byteOf w (b % 4)).toInt := by
  have ha : IntOp.andi (BitVec.ofNat 32 b) 3#32 = BitVec.ofNat 32 (b % 4) := by
    apply BitVec.eq_of_toNat_eq
    show (BitVec.ofNat 32 b &&& 3#32).toNat = _
    rw [BitVec.toNat_and, BitVec.toNat_ofNat, BitVec.toNat_ofNat]
    show (b % 2 ^ 32) &&& (2 ^ 2 - 1) = _
    rw [Nat.and_two_pow_sub_one_eq_mod, BitVec.toNat_ofNat]; omega
  have hb : b % 4 < 4 := Nat.mod_lt _ (by decide)
  rw [ha]
  generalize b % 4 = k at hb
  have hs : IntOp.subi 24#32 (IntOp.muli 8#32 (BitVec.ofNat 32 k)) = BitVec.ofNat 32 (24 - 8 * k) := by
    interval_cases k <;> decide
  rw [hs, ← shifts_toInt w k hb]
  unfold IntOp.shli IntOp.shrsi
  have e : (BitVec.ofNat 32 (24 - 8 * k)).toNat = 24 - 8 * k := by rw [BitVec.toNat_ofNat]; omega
  rw [if_pos (show (24#32 : BitVec 32).toNat < 32 by decide), if_pos (show (BitVec.ofNat 32 (24 - 8 * k)).toNat < 32 by rw [e]; omega)]
  show ((w <<< BitVec.ofNat 32 (24 - 8 * k)).sshiftRight' 24#32).toInt = _
  rw [BitVec.shiftLeft_eq', e]
  rfl

end Cert.Words
-- ==== Proof.I8.Ref.lean ====
/- The reference's result, cell by cell: the sum over a row of the decoded words times the scale times the gradient row of
   the cell's sample, in the cells a table holds, and zero past the last offset. -/
module

public import proofs.«01_k».proof.Proof.Gen.ReferenceI8Ideal.Run
public import proofs.«01_k».proof.Proof.BagWords
public import proofs.«01_k».proof.Proof.Gathers
public import proofs.«01_k».proof.Proof.Scale
public import Idealize.ShloMosaic.Lib.Pointwise

@[expose] public section

set_option maxRecDepth 16384

namespace Cert.ReferenceI8Ideal.Value

open Cert.ReferenceI8Ideal Cert.ReferenceI8Ideal.Gen Cert.Words Cert.Gathers
open Idealize.ShloMosaic Idealize.ShloMosaic.Tactic

variable {F : FTy → Type} [FloatOps F]

/-- The bag of every position. -/
def bagV (off : IVec S4609 32) : IVec S184320 32 :=
  minsi (broadcastInDim S184320 ![] bcast_S_S184320 (id (constantI S_ 32 4607#32))) (maxsi (broadcastInDim S184320 ![] bcast_S_S184320 (id (constantI S_ 32 0#32))) (subi (Host.reduce IntOp.addi (extui 32 (cmpi .sle (broadcastInDim S184320x4609 ![0, 1] bcast_S1x4609_S184320x4609_0_1 (broadcastInDim S1x4609 ![1] bcast_S4609_S1x4609_1 off)) (broadcastInDim S184320x4609 ![0, 1] bcast_S184320x1_S184320x4609_0_1 (broadcastInDim S184320x1 ![0] bcast_S184320_S184320x1_0 (iotaInDim S184320 32 0)))) natLt_1_32) (constantI S_ 32 0#32) reducesTo_S184320x4609_S184320_d1 h_S_) (broadcastInDim S184320 ![] bcast_S_S184320 (constantI S_ 32 1#32))))

/-- The table of every bag. -/
def tabV (bagV : IVec S184320 32) : IVec S184320 32 :=
  select (andi (cmpi .ne (signi bagV) (broadcastInDim S184320 ![] bcast_S_S184320 (signi (id (constantI S_ 32 256#32))))) (cmpi .ne (Host.remsi bagV (broadcastInDim S184320 ![] bcast_S_S184320 (id (constantI S_ 32 256#32)))) (broadcastInDim S184320 ![] bcast_S_S184320 (constantI S_ 32 0#32)))) (subi (Host.divsi bagV (broadcastInDim S184320 ![] bcast_S_S184320 (id (constantI S_ 32 256#32)))) (broadcastInDim S184320 ![] bcast_S_S184320 (constantI S_ 32 1#32))) (Host.divsi bagV (broadcastInDim S184320 ![] bcast_S_S184320 (id (constantI S_ 32 256#32))))

/-- The column of the array that every position of a table reads. -/
def colV (tV : IVec S184320 32) : IVec S184320 32 :=
  select (cmpi .slt (addi (iotaInDim S184320 32 0) (muli tV (broadcastInDim S184320 ![] bcast_S_S184320 (constantI S_ 32 1024#32)))) (broadcastInDim S184320 ![] bcast_S_S184320 (constantI S_ 32 0#32))) (addi (addi (iotaInDim S184320 32 0) (muli tV (broadcastInDim S184320 ![] bcast_S_S184320 (constantI S_ 32 1024#32)))) (broadcastInDim S184320 ![] bcast_S_S184320 (constantI S_ 32 202752#32))) (addi (iotaInDim S184320 32 0) (muli tV (broadcastInDim S184320 ![] bcast_S_S184320 (constantI S_ 32 1024#32))))

/-- The columns read. -/
def gotV (W : IVec S18x202752 32) (col : IVec S184320 32) : IVec S18x184320 32 :=
  Host.gather gather_S18x202752_S184320x1_S18x184320_0_1_n_n_1_1_181 W (broadcastInDim S184320x1 ![0] bcast_S184320_S184320x1_0 col)

/-- The sample and the table of every position, side by side. -/
def pairV (gotV : IVec S18x184320 32) (tV : IVec S184320 32) : IVec S184320x2 32 :=
  concatenate S184320x2 1 [⟨S184320x1, (broadcastInDim S184320x1 ![0] bcast_S184320_S184320x1_0 (select (cmpi .slt (shapeCast _ (extractStridedSlice S1x184320 ![17, 0] gotV slices_S18x184320_S1x184320_17_0) shapeCasts_S1x184320_S184320) (broadcastInDim S184320 ![] bcast_S_S184320 (constantI S_ 32 0#32))) (addi (shapeCast _ (extractStridedSlice S1x184320 ![17, 0] gotV slices_S18x184320_S1x184320_17_0) shapeCasts_S1x184320_S184320) (broadcastInDim S184320 ![] bcast_S_S184320 (constantI S_ 32 256#32))) (shapeCast _ (extractStridedSlice S1x184320 ![17, 0] gotV slices_S18x184320_S1x184320_17_0) shapeCasts_S1x184320_S184320)))⟩, ⟨S184320x1, (broadcastInDim S184320x1 ![0] bcast_S184320_S184320x1_0 (select (cmpi .slt tV (broadcastInDim S184320 ![] bcast_S_S184320 (constantI S_ 32 0#32))) (addi tV (broadcastInDim S184320 ![] bcast_S_S184320 (constantI S_ 32 18#32))) tV))⟩] concatenates_S184320x1_S184320x1_S184320x2_d1

/-- The gradient rows of the pairs. -/
def rowV (go : FVec F S256x3264 .bf16) (pairV : IVec S184320x2 32) : FVec F S184320x64 .bf16 :=
  Host.gather gather_S256x18x64_S184320x2_S184320x64_1_01_n_n_01_1_1164 (shapeCast _ (extractStridedSlice S256x1152 ![0, 0] go slices_S256x3264_S256x1152_0_0) shapeCasts_S256x1152_S256x18x64) pairV

/-- The decoded, scaled words times the gradient rows. -/
def prodV (gotV : IVec S18x184320 32) (rowV : FVec F S184320x64 .bf16) : FVec F S184320x64 .f32 :=
  mulf (transpose S184320x64 [1, 0] (mulf (sitofp .f32 (Host.shrsi (Host.shli (shapeCast _ (broadcastInDim S16x4x184320 ![0, 2] bcast_S16x184320_S16x4x184320_0_2 (extractStridedSlice S16x184320 ![0, 0] gotV slices_S18x184320_S16x184320_0_0)) shapeCasts_S16x4x184320_S64x184320) (broadcastInDim S64x184320 ![0, 1] bcast_S64x1_S64x184320_0_1 (subi (broadcastInDim S64x1 ![] bcast_S_S64x1 (constantI S_ 32 24#32)) (muli (broadcastInDim S64x1 ![] bcast_S_S64x1 (constantI S_ 32 8#32)) (andi (broadcastInDim S64x1 ![0] bcast_S64_S64x1_0 (iotaInDim S64 32 0)) (broadcastInDim S64x1 ![] bcast_S_S64x1 (constantI S_ 32 3#32))))))) (broadcastInDim S64x184320 ![] bcast_S_S64x184320 (constantI S_ 32 24#32)))) (broadcastInDim S64x184320 ![0, 1] bcast_S1x184320_S64x184320_0_1 (broadcastInDim S1x184320 ![1] bcast_S184320_S1x184320_1 (bitcastToFloat (F := F) .f32 (shapeCast _ (extractStridedSlice S1x184320 ![16, 0] gotV slices_S18x184320_S1x184320_16_0) shapeCasts_S1x184320_S184320))))) transposes_S64x184320_S184320x64_1_0) (extf .f32 rowV bitsLt_bf16_f32)

/-- The sums, kept before the last offset. -/
def sumV (off : IVec S4609 32) (prodV : FVec F S184320x64 .f32) : FVec F S180x1x1024 .f32 :=
  shapeCast _ (select (cmpi .slt (iotaInDim S184320 32 0) (broadcastInDim S184320 ![] bcast_S_S184320 (shapeCast _ (extractStridedSlice S1 ![4608] off slices_S4609_S1_4608) shapeCasts_S1_S_))) (Host.reduceAdd prodV (constant S_ .f32 0x00000000#32) reducesTo_S184320x64_S184320_d1 h_S_) (broadcastInDim S184320 ![] bcast_S_S184320 (id (constant S_ .f32 0x00000000#32)))) shapeCasts_S184320_S180x1x1024

/-- The whole result, of the words, the offsets and the gradient. -/
def resV (W : IVec S18x202752 32) (off : IVec S4609 32) (go : FVec F S256x3264 .bf16) : FVec F S180x1x1024 .f32 :=
  sumV off (prodV (gotV W (colV (tabV (bagV off)))) (rowV go (pairV (gotV W (colV (tabV (bagV off)))) (tabV (bagV off)))))

/-- The reference's result, in those parts. -/
theorem res_eq (m : (ℓ : Loc nD τ sig) → Buf (Elt F) ℓ) (c : Dev nD) :
    res_out0 m c = resV (m ((c.tc : Thread nD τ).loc main_arg0)) (m ((c.tc : Thread nD τ).loc main_arg1)) (m ((c.tc : Thread nD τ).loc main_arg2)) := by
  unfold res_out0 res_main_v71
  rfl

theorem bagV_apply (off : IVec S4609 32) (p : Fin 184320) : bagV off (ix1 p) = bagW 18 (fun k => off (ix1 k)) p.val := by
  unfold bagV
  pointwise
  rfl

theorem tabV_apply (b : IVec S184320 32) (p : Fin 184320) : tabV b (ix1 p) = fdiv256 (b (ix1 p)) := by
  unfold tabV
  pointwise
  rfl

theorem colV_apply (t : IVec S184320 32) (p : Fin 184320) :
    colV t (ix1 p) = wrapW 202752 (IntOp.addi (BitVec.ofNat 32 p.val) (IntOp.muli (t (ix1 p)) 1024#32)) := by
  unfold colV
  pointwise
  rfl

theorem pairV_apply0 (g : IVec S18x184320 32) (t : IVec S184320 32) (p : Fin 184320) : pairV g t (ix2 p 0) = wrapW 256 (g (ix2 17 p)) := by
  unfold pairV
  pointwise
  rfl

theorem pairV_apply1 (g : IVec S18x184320 32) (t : IVec S184320 32) (p : Fin 184320) : pairV g t (ix2 p 1) = wrapW 18 (t (ix1 p)) := by
  unfold pairV
  pointwise
  rfl

theorem prodV_apply (g : IVec S18x184320 32) (r : FVec Ideal S184320x64 .bf16) (p : Fin 184320) (d : Fin 64) :
    prodV g r (ix2 p d) = (((byteOf (g (ix2 ⟨d.val / 4, by omega⟩ p)) (d.val % 4)).toInt : ℝ) : EReal) * Ideal.ofBits .f32 (g (ix2 16 p)) * r (ix2 p d) := by
  rw [← shifts_code]
  unfold prodV
  pointwise
  rfl

theorem sumV_apply (off : IVec S4609 32) (v : FVec Ideal S184320x64 .f32) (p : Fin 180) (y : Fin 1024) :
    sumV off v (ix3 p 0 y) = Scalar.select (IntOp.cmpi .slt (BitVec.ofNat 32 (p.val * 1024 + y.val)) (off (ix1 4608)))
      (∑ x, v (ix2 ⟨p.val * 1024 + y.val, by omega⟩ x)) (Ideal.ofBits .f32 (0#32)) := by
  unfold sumV
  show _ = Scalar.select _ _ (id (constant (F := Ideal) S_ .f32 0#32) ix0)
  generalize hz : id (constant (F := Ideal) S_ .f32 0#32) = z
  pointwise

/-- The columns read, where a position's column is in the array. -/
theorem gotV_apply (W : IVec S18x202752 32) (col : IVec S184320 32) (a : Fin 18) (p : Fin 184320) (k : Fin 202752)
    (hk : (col (ix1 p)).toInt.toNat = k.val) : gotV W col (ix2 a p) = W (ix2 a k) := by
  unfold gotV
  refine gather_col (P := 18) (N := 202752) (R := 184320) _ W _ a p k ?_
  have e : (broadcastInDim S184320x1 ![0] bcast_S184320_S184320x1_0 col : IVec S184320x1 32) (ix2 p 0) = col (ix1 p) := by pointwise
  exact (congrArg (fun x : BitVec 32 => x.toInt.toNat) e).trans hk

/-- The gradient row of a position whose pair is a sample and a table. -/
theorem rowV_apply (go : FVec F S256x3264 .bf16) (pr : IVec S184320x2 32) (p : Fin 184320) (d : Fin 64) (s : Fin 256) (t : Fin 18)
    (hs : (pr (ix2 p 0)).toInt.toNat = s.val) (ht : (pr (ix2 p 1)).toInt.toNat = t.val) :
    rowV go pr (ix2 p d) = go (ix2 s ⟨0 + 64 * t.val + d.val, by omega⟩) := by
  unfold rowV
  refine (gather_pair (A := 256) (B := 18) (D := 64) (R := 184320) _ _ pr p d s t hs ht).trans ?_
  pointwise
  exact congrArg (fun q => go (ix2 s q)) (Fin.ext (show t.val * 64 + d.val = 64 * t.val + d.val by omega))

end Cert.ReferenceI8Ideal.Value
-- ==== Proof.I8.Cells.lean ====
/- The reference's cells in closed form: in a cell that a table holds, the sum over the row of the scaled codes times the gradient
   row of the cell's sample; in any other cell, zero. -/
module

public import proofs.«01_k».proof.Proof.I8.Ref
public import proofs.«01_k».proof.Proof.I8.Pre

@[expose] public section

set_option maxRecDepth 16384

namespace Cert.ReferenceI8Ideal.Value

open Cert.ReferenceI8Ideal Cert.ReferenceI8Ideal.Gen Cert.Words
open Cert.Pre_pre_i8.Gen (offAt)
open Idealize.ShloMosaic

/-- A position that table `t` holds is of table `t`. -/
theorem tab_hit (off : IVec S4609 32) (HG : GoodOff 18 180 (offAt off)) (P : Fin 184320) (t : Fin 18) (hit : Hit (offAt off) t.val P.val) :
    tabV (bagV off) (ix1 P) = BitVec.ofNat 32 t.val := by
  have ht := t.isLt
  have hP := P.isLt
  obtain ⟨q, hq, hbag⟩ := bagW_hit HG (by decide) (fun k => off (ix1 k)) (fun k => by
    show _ = (off (ix1 ⟨min k.val 4608, _⟩)).toInt
    congr 3; exact Fin.ext (by show k.val = min k.val 4608; have := k.isLt; omega)) t.val P.val ht (by omega) hit
  rw [tabV_apply, bagV_apply, hbag, fdiv256_ofNat _ (by omega), hq]

/-- The column it reads. -/
theorem col_hit (b : IVec S184320 32) (P : Fin 184320) (t : Fin 18) (k : Fin 202752) (hk : k.val = P.val + 1024 * t.val)
    (htab : b (ix1 P) = BitVec.ofNat 32 t.val) : (colV b (ix1 P)).toInt.toNat = k.val := by
  have hkl := k.isLt
  have e : IntOp.addi (BitVec.ofNat 32 P.val) (IntOp.muli (BitVec.ofNat 32 t.val) 1024#32) = BitVec.ofNat 32 k.val := by
    have e1 : IntOp.muli (BitVec.ofNat 32 t.val) 1024#32 = BitVec.ofNat 32 (t.val * 1024) := (BitVec.ofNat_mul ..).symm
    rw [e1, hk, Nat.mul_comm 1024]
    exact (BitVec.ofNat_add ..).symm
  have ek : (BitVec.ofNat 32 k.val).toInt = k.val := toInt_ofNat _ (by omega)
  rw [colV_apply, htab, e, wrapW_nonneg _ _ (by rw [ek]; omega), ek]
  exact Int.toNat_natCast _

/-- The gradient row it reads. -/
theorem row_hit (go : FVec Ideal S256x3264 .bf16) (g : IVec S18x184320 32) (b : IVec S184320 32) (P : Fin 184320) (t : Fin 18) (d : Fin 64)
    (htab : b (ix1 P) = BitVec.ofNat 32 t.val) (w : BitVec 32) (hw : g (ix2 17 P) = w) (hs : (0 : ℤ) ≤ w.toInt ∧ w.toInt < 256) :
    rowV go (pairV g b) (ix2 P d) = go (ix2 (sel w) ⟨0 + 64 * t.val + d.val, by omega⟩) := by
  have ht := t.isLt
  have et : (BitVec.ofNat 32 t.val).toInt = t.val := toInt_ofNat _ (by omega)
  refine rowV_apply go _ P d (sel w) t ?_ ?_
  · rw [pairV_apply0, hw, wrapW_nonneg _ _ hs.1, sel_toInt _ hs.1 hs.2]
  · rw [pairV_apply1, htab, wrapW_nonneg _ _ (by rw [et]; omega), et]
    exact Int.toNat_natCast _

/-- A cell that table `t` holds. -/
theorem resV_hit (W : IVec S18x202752 32) (off : IVec S4609 32) (go : FVec Ideal S256x3264 .bf16)
    (HG : GoodOff 18 180 (offAt off)) (p : Fin 180) (y : Fin 1024) (t : Fin 18) (hit : Hit (offAt off) t.val (p.val * 1024 + y.val))
    (k : Fin 202752) (hk : k.val = p.val * 1024 + y.val + 1024 * t.val) (hs : (0 : ℤ) ≤ (W (ix2 17 k)).toInt ∧ (W (ix2 17 k)).toInt < 256) :
    resV W off go (ix3 p 0 y) = ∑ d : Fin 64, (((byteOf (W (ix2 ⟨d.val / 4, by omega⟩ k)) (d.val % 4)).toInt : ℝ) : EReal)
      * Ideal.ofBits .f32 (W (ix2 16 k)) * go (ix2 (sel (W (ix2 17 k))) ⟨0 + 64 * t.val + d.val, by omega⟩) := by
  have hpy : p.val * 1024 + y.val < 184320 := by omega
  have htab := tab_hit off HG ⟨p.val * 1024 + y.val, hpy⟩ t hit
  unfold resV
  generalize tabV (bagV off) = b at htab ⊢
  have hcol := col_hit b ⟨p.val * 1024 + y.val, hpy⟩ t k hk htab
  have hgot := fun a => gotV_apply W (colV b) a ⟨p.val * 1024 + y.val, hpy⟩ k hcol
  generalize gotV W (colV b) = g at hgot ⊢
  have hrow := fun d => row_hit go g b ⟨p.val * 1024 + y.val, hpy⟩ t d htab _ (hgot 17) hs
  generalize rowV go (pairV g b) = r at hrow ⊢
  have hprod := fun d => prodV_apply g r ⟨p.val * 1024 + y.val, hpy⟩ d
  generalize prodV g r = v at hprod ⊢
  have hlt : ((p.val * 1024 + y.val : ℕ) : ℤ) < (off (ix1 4608)).toInt := by
    have h2 := HG.le (i := 256 * (t.val + 1)) (j := 256 * 18) (by have := t.isLt; omega) le_rfl
    exact lt_of_lt_of_le hit.2 h2
  rw [sumV_apply, cmpi_slt, toInt_ofNat _ (by omega), select_ofBool, if_pos hlt]
  refine Finset.sum_congr rfl fun d _ => ?_
  rw [hprod, hgot, hgot, hrow]

/-- A cell that no table holds. -/
theorem resV_miss (W : IVec S18x202752 32) (off : IVec S4609 32) (go : FVec Ideal S256x3264 .bf16)
    (HG : GoodOff 18 180 (offAt off)) (p : Fin 180) (y : Fin 1024) (miss : ∀ t, t < 18 → ¬ Hit (offAt off) t (p.val * 1024 + y.val)) :
    resV W off go (ix3 p 0 y) = Ideal.ofBits .f32 (0#32) := by
  have hlt : ¬ ((p.val * 1024 + y.val : ℕ) : ℤ) < (off (ix1 4608)).toInt := fun h => by
    obtain ⟨t, ht, hh⟩ := HG.hit_of_lt (p.val * 1024 + y.val) (show _ < offAt off (256 * 18) from h)
    exact miss t ht hh
  unfold resV
  generalize prodV (F := Ideal) _ _ = v
  rw [sumV_apply, cmpi_slt, toInt_ofNat _ (by omega), select_ofBool, if_neg hlt]

end Cert.ReferenceI8Ideal.Value
-- ==== Proof.I8.Same.lean ====
/- The ideal kernel's result is the reference's: in a cell that a table holds, the scaled sum of the codes times the gradient row is
   the sum of the scaled codes times the row; in any other both leave zero. -/
module

public import proofs.«01_k».proof.Proof.I8.Final
public import proofs.«01_k».proof.Proof.I8.Cells

@[expose] public section

set_option maxRecDepth 16384

noncomputable section

namespace Cert.KernelI8Ideal.Run

open Cert.KernelI8Ideal.Gen Cert.Words
open Idealize.ShloMosaic Idealize.ShloMosaic.TcCoe Idealize.SL.Sem

variable (m : (ℓ : Loc nD τ sig) → Buf (Elt Ideal) ℓ) (HG : GoodOff 18 180 (offI m))

/-- An index of the result is a chunk, 0 and a place in the chunk. -/
theorem exists_cell (x : S180x1x1024.Idx) : ∃ (p : Fin 180) (y : Fin 1024), x = ix3 p 0 y :=
  ⟨x 0, x 2, by
    funext i
    match i with
    | 0 => rfl
    | 1 => exact Subsingleton.elim (α := Fin 1) _ _
    | 2 => rfl⟩

/-- The array the kernel leaves, as the reference's function of the arguments. -/
theorem out_eq (h : ∀ (t : Fin 18) (pos : ℕ), pos < 184320 → Hit (offI m) t.val pos → ∀ j : Fin 202752, j.val = pos + 1024 * t.val →
      ((0 : ℤ) ≤ ((m (((0 : Dev nD) : Thread nD τ).loc main_arg0) : IVec S18x202752 32) (ix2 17 j)).toInt
        ∧ ((m (((0 : Dev nD) : Thread nD τ).loc main_arg0) : IVec S18x202752 32) (ix2 17 j)).toInt < 256)
      ∧ (0 : ℤ) ≤ ((m (((0 : Dev nD) : Thread nD τ).loc main_arg0) : IVec S18x202752 32) (ix2 16 j)).toInt
        ∧ ((m (((0 : Dev nD) : Thread nD τ).loc main_arg0) : IVec S18x202752 32) (ix2 16 j)).toInt < 2139095040) :
    (dats m HG 0 0).arrAt 2 (cfgM m (ok m HG)).N = Cert.ReferenceI8Ideal.Value.resV (F := Ideal) (m (((0 : Dev nD) : Thread nD τ).loc main_arg0))
      (m (((0 : Dev nD) : Thread nD τ).loc main_arg1)) (m (((0 : Dev nD) : Thread nD τ).loc main_arg2)) := by
  funext x
  obtain ⟨p, y, rfl⟩ := exists_cell x
  have hc := out_cell m HG 0 p y
  by_cases hex : ∃ t, t < 18 ∧ Hit (offI m) t (p.val * 1024 + y.val)
  · obtain ⟨t, ht, hit⟩ := hex
    have hpos : p.val * 1024 + y.val < 184320 := by omega
    have hk : (colF t (p.val * 1024 + y.val)).val = p.val * 1024 + y.val + 1024 * t := by
      show min (p.val * 1024 + y.val + 1024 * t) 202751 = _
      omega
    have hl := h ⟨t, ht⟩ (p.val * 1024 + y.val) hpos hit _ hk
    have et : (⟨t % 18, Nat.mod_lt _ (by decide)⟩ : Fin 18) = ⟨t, ht⟩ := Fin.ext (Nat.mod_eq_of_lt ht)
    obtain ⟨r, hr, hsr⟩ := ofBits_real _ hl.2.1 hl.2.2
    refine (hc.1 t ht hit).trans (Eq.trans ?_ (Cert.ReferenceI8Ideal.Value.resV_hit _ _ _ HG p y ⟨t, ht⟩ hit _ hk hl.1).symm)
    unfold valAt cellAt
    rw [et]
    exact (sum_scale _ _ _ r hr hsr).symm
  · have miss : ∀ t, t < 18 → ¬ Hit (offI m) t (p.val * 1024 + y.val) := fun t ht hit => hex ⟨t, ht, hit⟩
    exact (hc.2 miss).trans (Cert.ReferenceI8Ideal.Value.resV_miss _ _ _ HG p y miss).symm

end Cert.KernelI8Ideal.Run
-- ==== Proof.I8.Equal.lean ====
/- The claims of the ideal kernel and of the reference: both run and leave their arguments, and from equal arguments they leave equal
   results. -/
module

public import proofs.«01_k».proof.Defs
public import proofs.«01_k».proof.Proof.I8.Same

@[expose] public section

set_option maxRecDepth 16384

noncomputable section

namespace Cert.Proof.I8

open Idealize.ShloMosaic Idealize.ShloMosaic.TcCoe Idealize.SL.Sem Cert.Words

/-- What the ideal kernel's run leaves: its arguments, every counter at zero, and the array of the closed form. -/
theorem idealRun (m : (ℓ : Loc Cert.KernelI8Ideal.nD Cert.KernelI8Ideal.τ Cert.KernelI8Ideal.sig) → Buf (Elt Ideal) ℓ) (g : Dev Cert.KernelI8Ideal.nD → PrngReg)
    (HG : GoodOff 18 180 (Cert.KernelI8Ideal.Run.offI m)) :
    θ_run (Cert.KernelI8Ideal.defs (F := Ideal)) (onTc (τ := Cert.KernelI8Ideal.τ) (Cert.KernelI8Ideal.main (F := Ideal))) ⟨m, fun _ => 0, g⟩ (fun r => (∀ c : Dev Cert.KernelI8Ideal.nD,
      r.2.mem ((c.tc : Thread Cert.KernelI8Ideal.nD Cert.KernelI8Ideal.τ).loc Cert.KernelI8Ideal.main_v16) = (Cert.KernelI8Ideal.Run.dats m HG 0 c).arrAt 2 (Cert.KernelI8Ideal.Run.cfgM m (Cert.KernelI8Ideal.Run.ok m HG)).N
      ∧ r.2.mem ((c.tc : Thread Cert.KernelI8Ideal.nD Cert.KernelI8Ideal.τ).loc Cert.KernelI8Ideal.main_arg0) = m ((c.tc : Thread Cert.KernelI8Ideal.nD Cert.KernelI8Ideal.τ).loc Cert.KernelI8Ideal.main_arg0)
      ∧ r.2.mem ((c.tc : Thread Cert.KernelI8Ideal.nD Cert.KernelI8Ideal.τ).loc Cert.KernelI8Ideal.main_arg1) = m ((c.tc : Thread Cert.KernelI8Ideal.nD Cert.KernelI8Ideal.τ).loc Cert.KernelI8Ideal.main_arg1)
      ∧ r.2.mem ((c.tc : Thread Cert.KernelI8Ideal.nD Cert.KernelI8Ideal.τ).loc Cert.KernelI8Ideal.main_arg2) = m ((c.tc : Thread Cert.KernelI8Ideal.nD Cert.KernelI8Ideal.τ).loc Cert.KernelI8Ideal.main_arg2))
      ∧ r.2.sem = fun _ => 0) :=
  (θ_run Cert.KernelI8Ideal.defs _ _).mono (fun r hr => ⟨fun c =>
    ⟨hr.1.out_eq c 2,
     (hr.1.in_eq c 0 rfl).trans (Cert.KernelI8Ideal.Run.V_main_arg0 m c),
     ((hr.1 c).2 Cert.KernelI8Ideal.main_arg1 (by decide : Cert.KernelI8Ideal.main_arg1 ∈ Pipeline.restRefs Cert.KernelI8Ideal.sig Cert.KernelI8Ideal.spec0)).trans (Cert.KernelI8Ideal.Run.V_main_arg1 m c),
     ((hr.1 c).2 Cert.KernelI8Ideal.main_arg2 (by decide : Cert.KernelI8Ideal.main_arg2 ∈ Pipeline.restRefs Cert.KernelI8Ideal.sig Cert.KernelI8Ideal.spec0)).trans (Cert.KernelI8Ideal.Run.V_main_arg2 m c)⟩, hr.2⟩)
    (Cert.KernelI8Ideal.Run.run_main_quiescent m g HG)

/-- The ideal kernel runs and leaves its arguments. -/
theorem quiescentIdeal : Cert.quiescent_KernelI8Ideal (hKernelI8Ideal := Cert.KernelI8Ideal.Gen.facts) (hPre_pre_i8 := Cert.Pre_pre_i8.Gen.facts) := fun m ρ h =>
  (θ_run Cert.KernelI8Ideal.defs _ _).mono (fun _ hr => ⟨fun c => (hr.1 c).2, hr.2⟩) (idealRun m ρ (Cert.Pre_pre_i8.Gen.good (F := Ideal) _ _ _ (h 0)))

/-- The reference runs and leaves its arguments. -/
theorem quiescentReference : Cert.quiescent_ReferenceI8Ideal (hReferenceI8Ideal := Cert.ReferenceI8Ideal.Gen.facts) := fun m ρ _ =>
  (θ_run Cert.ReferenceI8Ideal.defs _ _).mono (fun r h => ⟨fun c => (h c).2, sem_eq_zero_of_no_sems (by decide) r.2⟩) (Cert.ReferenceI8Ideal.Value.run m ρ)

/-- The same under the precondition. -/
theorem quiescentReferencePre : Cert.quiescent_ReferenceI8Ideal_pre_pre_i8 (hReferenceI8Ideal := Cert.ReferenceI8Ideal.Gen.facts) (hPre_pre_i8 := Cert.Pre_pre_i8.Gen.facts) := fun m ρ _ =>
  (θ_run Cert.ReferenceI8Ideal.defs _ _).mono (fun r h => ⟨fun c => (h c).2, sem_eq_zero_of_no_sems (by decide) r.2⟩) (Cert.ReferenceI8Ideal.Value.run m ρ)

/-- The two results are one, where the arguments are. -/
theorem sameResult (m : (ℓ : Loc Cert.KernelI8Ideal.nD Cert.KernelI8Ideal.τ Cert.KernelI8Ideal.sig) → Buf (Elt Ideal) ℓ)
    (m' : (ℓ : Loc Cert.ReferenceI8Ideal.nD Cert.ReferenceI8Ideal.τ Cert.ReferenceI8Ideal.sig) → Buf (Elt Ideal) ℓ)
    (h : Cert.Pre_KernelI8Ideal (hPre_pre_i8 := Cert.Pre_pre_i8.Gen.facts) m) (HG : GoodOff 18 180 (Cert.KernelI8Ideal.Run.offI m))
    (h0 : m' (((0 : Dev Cert.KernelI8Ideal.nD).tc : Thread Cert.ReferenceI8Ideal.nD Cert.ReferenceI8Ideal.τ).loc Cert.ReferenceI8Ideal.main_arg0) = m (((0 : Dev Cert.KernelI8Ideal.nD).tc : Thread Cert.KernelI8Ideal.nD Cert.KernelI8Ideal.τ).loc Cert.KernelI8Ideal.main_arg0))
    (h1 : m' (((0 : Dev Cert.KernelI8Ideal.nD).tc : Thread Cert.ReferenceI8Ideal.nD Cert.ReferenceI8Ideal.τ).loc Cert.ReferenceI8Ideal.main_arg1) = m (((0 : Dev Cert.KernelI8Ideal.nD).tc : Thread Cert.KernelI8Ideal.nD Cert.KernelI8Ideal.τ).loc Cert.KernelI8Ideal.main_arg1))
    (h2 : m' (((0 : Dev Cert.KernelI8Ideal.nD).tc : Thread Cert.ReferenceI8Ideal.nD Cert.ReferenceI8Ideal.τ).loc Cert.ReferenceI8Ideal.main_arg2) = m (((0 : Dev Cert.KernelI8Ideal.nD).tc : Thread Cert.KernelI8Ideal.nD Cert.KernelI8Ideal.τ).loc Cert.KernelI8Ideal.main_arg2)) :
    (Cert.KernelI8Ideal.Run.dats m HG 0 0).arrAt 2 (Cert.KernelI8Ideal.Run.cfgM m (Cert.KernelI8Ideal.Run.ok m HG)).N = Cert.ReferenceI8Ideal.Value.res_out0 m' (0 : Dev Cert.KernelI8Ideal.nD) := by
  refine (Cert.KernelI8Ideal.Run.out_eq m HG fun t pos hp hit j hj => Cert.Pre_pre_i8.Gen.live (F := Ideal) _ _ _ (h 0) t pos hp hit j hj).trans ?_
  rw [Cert.ReferenceI8Ideal.Value.res_eq]
  exact congr (congr (congrArg (Cert.ReferenceI8Ideal.Value.resV (F := Ideal)) h0.symm) h1.symm) h2.symm

/-- One function: from equal arguments, equal results. -/
theorem algebraic : Cert.algebraic_KernelI8Ideal_ReferenceI8Ideal (hKernelI8Ideal := Cert.KernelI8Ideal.Gen.facts) (hReferenceI8Ideal := Cert.ReferenceI8Ideal.Gen.facts) (hPre_pre_i8 := Cert.Pre_pre_i8.Gen.facts) := fun m g m' g' h hin => by
  have HG : GoodOff 18 180 (Cert.KernelI8Ideal.Run.offI m) := Cert.Pre_pre_i8.Gen.good (F := Ideal) _ _ _ (h 0)
  refine ⟨fun c => Cert.ReferenceI8Ideal.Value.res_out0 m' c, ?_, ?_⟩
  · refine (θ_run Cert.KernelI8Ideal.defs _ _).mono (fun r hr c => ?_) (idealRun m g HG)
    obtain rfl : c = 0 := Subsingleton.elim _ _
    exact ⟨(hr.1 0).1.trans (sameResult m m' h HG (hin 0).1 (hin 0).2.1 (hin 0).2.2), (hr.1 0).2⟩
  · exact (θ_run Cert.ReferenceI8Ideal.defs _ _).mono (fun r h c => h c) (Cert.ReferenceI8Ideal.Value.run m' g')

end Cert.Proof.I8
-- ==== Proof.I4.BitsKit.lean ====
/- The kernel as it is, with nothing said of its output: what the body's two cases share (the schedule of its windows, its staging
   buffers, the branch conditions, the side condition on the table word the body reads). -/
module

public import proofs.«01_k».proof.Proof.Gen.KernelI4.Launch
public import proofs.«01_k».proof.Proof.Gen.KernelI4.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelI4.Run

open Cert.KernelI4.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 1 (fun _ => rfl) (by decide)) (P := 1) (by decide) t).mpr (Nat.mod_one _) : ∀ t : Fin grid0.N, Pipeline.Window.fetchOf grid0 false cc0_transform_0 t = true)
/-- Window 1 (operand 3 (%0)) is fetched at the first point only, at any contents of the tables (its index map reads none). -/
theorem fetch0_1 (a : (pcfg0 (F := F)).Adm) : ∀ t : Fin (cfg0 a).N, ((cfg0 a).win 1).fetch t = true ↔ t.val % 329 = 0 :=
  (fun t => Pipeline.Window.fetchOf_const cc0_transform_1 (fun _ _ => rfl) (n := 329) (by decide) t : ∀ t : Fin grid0.N, Pipeline.Window.fetchOf grid0 false cc0_transform_1 t = true ↔ t.val % 329 = 0)
-- window 2: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_tc_dot_i4 (grid0.coords t) (Memref.whole main_v15) (Memref.isWhole_whole _) (Memref.whole main_v1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S329 .i32 := Memref.whole main_v15
abbrev htbM0_0 : tbM0_0.IsWhole := Memref.isWhole_whole _
abbrev tbM0_1 : Memref sig .tc .smem S31 .i32 := Memref.whole main_v1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelI4`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-! ## The body's branch conditions -/

/-- The condition of the body's `scf.if` 0: over WORDS the body reads from its tables or input SMEM windows
    (`v1`, `v13`), so no function of the point — a case variable: a hypothesis of each run, a `by_cases`
    of the obligation and an `if` of `outsAt`, stated over the argument blocks' words there. -/
abbrev cond0_0 (i : grid0.Coords) (v1 : BitVec 32) (v13 : BitVec 32) : Prop := (Scalar.cmpi .ne (Scalar.extui (Scalar.ori (Scalar.cmpi .eq (BitVec.ofNat 32 (i 0).val) 0#32) (Scalar.cmpi .ne (Scalar.subi (Scalar.subi (BitVec.ofNat 32 (i 0).val) 1#32) v13) (Scalar.subi (BitVec.ofNat 32 (i 0).val) v1)))) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S8x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S3264x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S329) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S329) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S329) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

end Cert.KernelI4.Run
-- ==== Proof.I4.BitsA.lean ====
/- The body's run in its first case, with nothing said of the output. -/
module

public import proofs.«01_k».proof.Proof.I4.BitsKit

@[expose] public section

set_option maxRecDepth 16384

noncomputable section

namespace Cert.KernelI4.Run

open Cert.KernelI4.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points all): on whole staging memrefs — the inputs' at their contents,
    the FORGOTTEN outputs' (2) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S8x1024 .i32) (harg3 : arg3.IsWhole) (arg4 : Memref sig .tc .vmem S3264x256 .bf16) (harg4 : arg4.IsWhole) (arg5 : Memref sig .tc .vmem S1x1x1024 .f32) (harg5 : arg5.IsWhole)
    (x0 : Vec F S8x1024 .i32) (x1 : Vec F S3264x256 .bf16) (xt0 : TbBuf0 (F := F) c tbM0_0) (xt1 : TbBuf0 (F := F) c tbM0_1) (hc0 : cond0_0 i (tbM0_0.view.readAt (Elt F) (Rect.unit (s := S329) (k0_off1 i) S1.size (k0_off1_inb i)).toLoadRect xt0 (Shape.Idx.first (numel1_S1.symm ▸ Nat.one_pos))) (tbM0_0.view.readAt (Elt F) (Rect.unit (s := S329) (k0_off4 i) S1.size (k0_off4_inb i)).toLoadRect xt0 (Shape.Idx.first (numel1_S1.symm ▸ Nat.one_pos)))) (k0_hw1 : k0_chk1 (tbM0_0.view.readAt (Elt F) (Rect.unit (s := S329) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
            ∗ (iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1) -∗ K ⟨⟩))
          ⊢ wp frame (wpE (defs₀ (F := F)) Variants.none c none) E (cc0_tc_dot_i4 i tbM0_0 htbM0_0 tbM0_1 htbM0_1 arg3 harg3 arg4 harg4 arg5 harg5) K := by
    intro E K
    simp only [cc0_tc_dot_i4_eq_skeleton]; unfold cc0_tc_dot_i4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%d2, %f2, -, H2⟩, HT0, HT1, Hk⟩
    obtain rfl := harg3.eq_unread hf0; obtain rfl := harg4.eq_unread hf1
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _, _; isplitr; swap; · iexact H2
      ipureintro; rfl
    isplitl [HT0]; · iexact HT0
    iexact HT1

end Cert.KernelI4.Run
-- ==== Proof.I4.BitsB.lean ====
/- The body's run in its second case, with nothing said of the output. -/
module

public import proofs.«01_k».proof.Proof.I4.BitsA

@[expose] public section

set_option maxRecDepth 16384

noncomputable section

namespace Cert.KernelI4.Run

open Cert.KernelI4.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points all): on whole staging memrefs — the inputs' at their contents,
    the FORGOTTEN outputs' (2) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S8x1024 .i32) (harg3 : arg3.IsWhole) (arg4 : Memref sig .tc .vmem S3264x256 .bf16) (harg4 : arg4.IsWhole) (arg5 : Memref sig .tc .vmem S1x1x1024 .f32) (harg5 : arg5.IsWhole)
    (x0 : Vec F S8x1024 .i32) (x1 : Vec F S3264x256 .bf16) (xt0 : TbBuf0 (F := F) c tbM0_0) (xt1 : TbBuf0 (F := F) c tbM0_1) (hc0 : ¬cond0_0 i (tbM0_0.view.readAt (Elt F) (Rect.unit (s := S329) (k0_off1 i) S1.size (k0_off1_inb i)).toLoadRect xt0 (Shape.Idx.first (numel1_S1.symm ▸ Nat.one_pos))) (tbM0_0.view.readAt (Elt F) (Rect.unit (s := S329) (k0_off4 i) S1.size (k0_off4_inb i)).toLoadRect xt0 (Shape.Idx.first (numel1_S1.symm ▸ Nat.one_pos)))) (k0_hw1 : k0_chk1 (tbM0_0.view.readAt (Elt F) (Rect.unit (s := S329) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
            ∗ (iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1) -∗ K ⟨⟩))
          ⊢ wp frame (wpE (defs₀ (F := F)) Variants.none c none) E (cc0_tc_dot_i4 i tbM0_0 htbM0_0 tbM0_1 htbM0_1 arg3 harg3 arg4 harg4 arg5 harg5) K := by
    intro E K
    simp only [cc0_tc_dot_i4_eq_skeleton]; unfold cc0_tc_dot_i4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%d2, %f2, -, H2⟩, HT0, HT1, Hk⟩
    obtain rfl := harg3.eq_unread hf0; obtain rfl := harg4.eq_unread hf1
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _, _; isplitr; swap; · iexact H2
      ipureintro; rfl
    isplitl [HT0]; · iexact HT0
    iexact HT1

end Cert.KernelI4.Run
-- ==== Proof.I4.BitsFrame.lean ====
/- The frame of the kernel as it is: for tables within range and side conditions that hold, it runs, leaves its arguments and every counter at zero. -/
module

public import proofs.«01_k».proof.Proof.I4.BitsB
public import Idealize.ShloMosaic.Lib.Claim

@[expose] public section

set_option maxRecDepth 16384

noncomputable section

namespace Cert.KernelI4.Run

open Cert.KernelI4.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (2): nothing reads what the kernel leaves in them, so nothing
    of it is named (Lib/Pipeline/Dat.lean `Dat.toRForget`). -/
def forgets0 : Fin 3 → Bool := fun w => w.val == 2

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, h⟩ => Pipeline.Dat.unnamed (cfg := (cfgM m hO)) ⟨2, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ (∃ d, owns (c : Thread nD τ) (ms0_2 m hO t) fullShare d))

set_option maxHeartbeats 800000 in
/-- The body at any point: the inputs' memrefs hold their blocks (`before0_W`); so the
    run applies; the invariant passes through unread; the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1]
  rw [show (dats m hO hH 0 c).Φ t.succ = (dats m hO hH 0 c).Φ t.castSucc from rfl,
    show (dats m hO hH 0 c).owesAt () t.succ = (dats m hO hH 0 c).owesAt () t.castSucc from rfl,
    after0_0, after0_1]
  rw [show (dats m hO hH 0 c).Φ t.castSucc = iprop(Pipeline.ΦA spec0 c ∗ Pipeline.ΦT pre0 (tbl m) c) from rfl, PhiT0_eq]
  by_cases h0 : cond0_0 (grid0.coords t) (tbM0_0.view.readAt (Elt F) (Rect.unit (s := S329) (k0_off1 (grid0.coords t)) S1.size (k0_off1_inb (grid0.coords t))).toLoadRect (tbl m 0) (Shape.Idx.first (numel1_S1.symm ▸ Nat.one_pos))) (tbM0_0.view.readAt (Elt F) (Rect.unit (s := S329) (k0_off4 (grid0.coords t)) S1.size (k0_off4_inb (grid0.coords t))).toLoadRect (tbl m 0) (Shape.Idx.first (numel1_S1.symm ▸ Nat.one_pos)))
  · iintro ⟨⟨HΦ, ⟨HT0, HT1⟩⟩, Ho, ⟨%d0, H0⟩, ⟨%d1, H1⟩, ⟨%d2, H2⟩⟩
    iapply ((kernelRun0_A c (grid0.coords t) _ _ _ _ _ _ (iblk m hO c 0 t) (iblk m hO c 1 t) (tbl m 0) (tbl m 1) h0 (Hyps.c0 hH c t)) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2
  · iintro ⟨⟨HΦ, ⟨HT0, HT1⟩⟩, Ho, ⟨%d0, H0⟩, ⟨%d1, H1⟩, ⟨%d2, H2⟩⟩
    iapply ((kernelRun0_B c (grid0.coords t) _ _ _ _ _ _ (iblk m hO c 0 t) (iblk m hO c 1 t) (tbl m 0) (tbl m 1) h0 (Hyps.c0 hH c t)) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 2) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (fun c => (dats m hO hH 0 c).toRForget forgets0) (A_eq m hO hH) (run_main m ρ hO hH)

/-- THE FRAME: `Cert.quiescent_KernelI4`'s statement (Defs.lean) at any `F` — Proof.lean cites it at `Bits`:
    `theorem Cert.Proof.claim : Cert.Claim := ⟨Cert.KernelI4.Gen.facts, fun m ρ _ => Cert.KernelI4.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelI4.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO hH) ((θ_run defs _ _).mono (fun _ h => h.2) (run_main_quiescent m ρ hO hH))

end Cert.KernelI4.Run
-- ==== Proof.I4.Bits.lean ====
/- The two tables the kernel prefetches, as the host computes them from the offsets: the bounds are every 256th offset,
   and the table of a grid point is one less than the number of tables whose start lies at or before it. -/
module

public import proofs.«01_k».proof.Proof.I4.BitsFrame
public import proofs.«01_k».proof.Proof.Words
public import proofs.«01_k».proof.Proof.TableWords
public import Idealize.ShloMosaic.Lib.Claim
public import Idealize.ShloMosaic.Lib.Pointwise

@[expose] public section

set_option maxRecDepth 16384

noncomputable section

namespace Cert.KernelI4.Run

open Cert.KernelI4.Gen Cert.Words
open Idealize.ShloMosaic Idealize.ShloMosaic.TcCoe Idealize.SL.Sem

variable {F : FTy → Type} [FloatOps F]
variable (m : (ℓ : Loc nD τ sig) → Buf (Elt F) ℓ)

/-- The first position of each table, divided into chunks (rounding down), as the host's operations spell it. -/
def fdiv (x : Vec F S30 .i32) : Vec F S30 .i32 :=
  select (andi (cmpi .ne (signi x) (broadcastInDim S30 ![] bcast_S_S30 (signi (constantI S_ 32 1024#32))))
      (cmpi .ne (Host.remsi x (broadcastInDim S30 ![] bcast_S_S30 (constantI S_ 32 1024#32))) (broadcastInDim S30 ![] bcast_S_S30 (constantI S_ 32 0#32))))
    (subi (Host.divsi x (broadcastInDim S30 ![] bcast_S_S30 (constantI S_ 32 1024#32))) (broadcastInDim S30 ![] bcast_S_S30 (constantI S_ 32 1#32)))
    (Host.divsi x (broadcastInDim S30 ![] bcast_S_S30 (constantI S_ 32 1024#32)))

/-- The table of each grid point, as the host's operations spell it. -/
def tmapOf (off : Vec F S7681 .i32) : Vec F S329 .i32 :=
  subi
    (Host.reduce IntOp.addi
      (extui 32 (cmpi .sle
          (broadcastInDim S329x30 ![0, 1] bcast_S1x30_S329x30_0_1 (broadcastInDim S1x30 ![1] bcast_S30_S1x30_1
            (addi (fdiv (F := F) (extractStridedSlice S30 ![0] (Host.slice S31 ![0] ![256] off slicesBy_S7681_S31_0s256) slices_S31_S30_0)) (iotaInDim S30 32 0))))
          (broadcastInDim S329x30 ![0, 1] bcast_S329x1_S329x30_0_1 (broadcastInDim S329x1 ![0] bcast_S329_S329x1_0 (iotaInDim S329 32 0)))) natLt_1_32)
      (constantI S_ 32 0#32) reducesTo_S329x30_S329_d1 h_S_)
    (broadcastInDim S329 ![] bcast_S_S329 (constantI S_ 32 1#32))

theorem V_tmap (c : Dev nD) : V m c main_v15 = tmapOf (F := F) (m ((c : Thread nD τ).loc main_arg1)) := by
  unfold V
  simp only [hostOps0, hostOps0_1, hostOps0_2, List.flatten_cons, List.flatten_nil, List.append_nil, List.cons_append, List.nil_append]
  after_results
  rfl

theorem V_bounds (c : Dev nD) : V m c main_v1 = Host.slice S31 ![0] ![256] (m ((c : Thread nD τ).loc main_arg1)) slicesBy_S7681_S31_0s256 := by
  unfold V
  simp only [hostOps0, hostOps0_1, hostOps0_2, List.flatten_cons, List.flatten_nil, List.append_nil, List.cons_append, List.nil_append]
  after_results

theorem V_go (c : Dev nD) : V m c main_v0 = transpose S3264x256 [1, 0] (m ((c : Thread nD τ).loc main_arg2)) transposes_S256x3264_S3264x256_1_0 := by
  unfold V
  simp only [hostOps0, hostOps0_1, hostOps0_2, List.flatten_cons, List.flatten_nil, List.append_nil, List.cons_append, List.nil_append]
  after_results

/-- The offsets, as integers. -/
def offOf (off : Vec F S7681 .i32) (i : ℕ) : ℤ := (off (ix1 ⟨min i 7680, by omega⟩)).toInt
abbrev offI (i : ℕ) : ℤ := offOf (F := F) (m (((0 : Dev nD) : Thread nD τ).loc main_arg1)) i

/-- The gradient, transposed. -/
theorem V_go_apply (c : Dev nD) (r : Fin 3264) (k : Fin 256) : V m c main_v0 (ix2 r k) = m ((c : Thread nD τ).loc main_arg2) (ix2 k r) := by
  rw [V_go]
  generalize m _ = off
  pointwise

/-- The bounds. -/
theorem tbl1_toInt (k : Fin 31) : (tbl m 1 (ix1 k)).toInt = offI m (256 * k.val) := by
  have e : tbl m 1 (ix1 k) = m (((0 : Dev nD) : Thread nD τ).loc main_arg1) (ix1 ⟨256 * k.val, by omega⟩) := by
    show V m (0 : Dev nD) main_v1 (ix1 k) = _
    rw [V_bounds]
    generalize m _ = off
    pointwise
  have hk : (⟨min (256 * k.val) 7680, by omega⟩ : Fin 7681) = ⟨256 * k.val, by omega⟩ := Fin.ext (by simp only; omega)
  rw [e]
  show _ = offOf _ _
  unfold offOf
  rw [hk]

/-- The table of a grid point is the count, less one, of the starts at or before it. -/
theorem tmapOf_apply (off : Vec F S7681 .i32) (HG : GoodOff 30 300 (offOf (F := F) off)) (g : Fin 329) :
    tmapOf (F := F) off (ix1 g) = BitVec.ofNat 32 (((Finset.range 30).filter fun t => (offOf (F := F) off (256 * min t 30)).toNat / 1024 + t ≤ g.val).card - 1) := by
  pointwise [tmapOf, fdiv]
  refine tmap_word 30 (by decide) (by decide) (fun t : Fin 30 => off (ix1 ⟨256 * t.val, by omega⟩)) (fun t => (offOf (F := F) off (256 * min t 30)).toNat) ?_ ?_ ?_ g.val (by omega)
  · intro t
    have h := HG.nonneg (i := 256 * t.val) (by omega)
    have e : offOf (F := F) off (256 * t.val) = (off (ix1 ⟨256 * t.val, by omega⟩)).toInt := by
      unfold offOf
      congr 3
      exact Fin.ext (by simp only; omega)
    have hm : min t.val 30 = t.val := by omega
    simp only [hm]
    rw [e] at h ⊢
    generalize off _ = w at h ⊢
    have h2 : w.toInt = w.toNat := BitVec.toInt_eq_toNat_of_lt (BitVec.toInt_pos_iff.mp h)
    rw [h2, Int.toNat_natCast, BitVec.ofNat_toNat, BitVec.setWidth_eq]
  · intro t
    have := HG.le_last (i := 256 * min t 30) (by omega)
    omega
  · simp [HG.zero]

/-- The table that grid point `g` treats. -/
def tb (g : ℕ) : ℕ := (tbl m 0 (ix1 ⟨min g 328, by omega⟩)).toNat

theorem tbl0_eq (g : Fin 329) : tbl m 0 (ix1 g) = BitVec.ofNat 32 (tb m g.val) := by
  have hg : (⟨min g.val 328, by omega⟩ : Fin 329) = g := Fin.ext (by simp only; omega)
  unfold tb
  rw [hg]
  exact (fun w : BitVec 32 => (by rw [BitVec.ofNat_toNat, BitVec.setWidth_eq] : w = BitVec.ofNat 32 w.toNat)) _

variable (HG : GoodOff 30 300 (offI m))

include HG in
/-- The grid walks the tables' chunks in order. -/
theorem sched : Sched 30 300 (fun t => (offI m (256 * t)).toNat) (tb m) := by
  refine HG.sched (by decide) (by decide) _ fun g hg => ?_
  unfold tb
  have e : tbl m 0 (ix1 ⟨min g 328, by omega⟩) = _ := (congrFun (V_tmap m 0) _).trans (tmapOf_apply _ HG ⟨min g 328, by omega⟩)
  rw [e, BitVec.toNat_ofNat]
  have hc : ∀ p : ℕ → Prop, [DecidablePred p] → ((Finset.range 30).filter p).card - 1 < 2 ^ 32 := fun p _ => by
    have := Finset.card_le_card (Finset.filter_subset p (Finset.range 30))
    rw [Finset.card_range] at this
    omega
  rw [Nat.mod_eq_of_lt (hc _)]
  congr 2
  apply Finset.filter_congr
  intro t ht
  rw [Finset.mem_range] at ht
  have h1 : min t 30 = t := by omega
  have h2 : min g 328 = g := by omega
  simp only [h1, h2]

include HG in
theorem tb_lt (g : Fin 329) : tb m g.val < 30 := (sched m HG).lt g.val (by omega)

/-- A load of one word of the first table. -/
theorem read0 (off : Fin 1 → ℕ) (inb) (g : Fin 329) (h : off 0 = g.val) (h1) :
    tbM0_0.view.readAt (Elt F) (Rect.unit (s := S329) off S1.size inb).toLoadRect (tbl m 0) (Shape.Idx.first h1) = BitVec.ofNat 32 (tb m g.val) := by
  rw [← tbl0_eq]
  refine congrArg (tbl m 0) (funext fun a => Fin.ext ?_)
  match a with
  | ⟨0, _⟩ => exact (congrArg (· + 1 * (Shape.Idx.first h1 0).val) h).trans (by
      have h0 : ∀ q : Fin 1, g.val + 1 * q.val = g.val := fun q => by omega
      exact h0 (Shape.Idx.first h1 0))

/-- A load of one word of the second table. -/
theorem read1 (off : Fin 1 → ℕ) (inb) (k : Fin 31) (h : off 0 = k.val) (h1) :
    BitVec.toInt (tbM0_1.view.readAt (Elt F) (Rect.unit (s := S31) off S1.size inb).toLoadRect (tbl m 1) (Shape.Idx.first h1)) = offI m (256 * k.val) := by
  rw [← tbl1_toInt]
  refine congrArg (fun i => BitVec.toInt (tbl m 1 i)) (funext fun a => Fin.ext ?_)
  match a with
  | ⟨0, _⟩ => exact (congrArg (· + 1 * (Shape.Idx.first h1 0).val) h).trans (by
      have h0 : ∀ q : Fin 1, k.val + 1 * q.val = k.val := fun q => by omega
      exact h0 (Shape.Idx.first h1 0))

/-- The place of a grid point's word, and of the one before it. -/
theorem off1_val (i : grid0.Coords) : k0_off1 i 0 = (i 0).val := by
  have h : (i 0).val < 329 := (i 0).isLt
  show (BitVec.ofNat 32 (i 0).val).toNat = _
  simp only [BitVec.toNat_ofNat]; omega

theorem off4_val (i : grid0.Coords) : k0_off4 i 0 = (i 0).val - 1 := by
  have h : (i 0).val < 329 := (i 0).isLt
  have h' : ∀ k : Fin 329, (Scalar.maxsi (Scalar.subi (BitVec.ofNat 32 k.val) 1#32) 0#32).toNat = k.val - 1 := by decide +kernel
  exact h' ⟨(i 0).val, h⟩

/-- What the body assumes of a table number, and the places of the bounds it reads. -/
theorem chk (t : Fin 30) : k0_chk1 (BitVec.ofNat 32 t.val) := by
  revert t; decide +kernel

theorem off2_val (t : Fin 30) : k0_off2 (BitVec.ofNat 32 t.val) 0 = t.val ∧ k0_off3 (BitVec.ofNat 32 t.val) 0 = t.val + 1 := by
  revert t; decide +kernel

/-- The chunk of grid point `g` as a word. -/
theorem chunk_word (T g : ℕ) (h : T ≤ g) (hg : g < 2 ^ 32) : Scalar.subi (BitVec.ofNat 32 g) (BitVec.ofNat 32 T) = BitVec.ofNat 32 (g - T) :=
  BitVec.ofNat_sub_ofNat_of_le _ _ (by omega) h

include HG in
/-- The block a point writes is its chunk. -/
theorem trans2 (i : grid0.Coords) : cc0_transform_2 k0_off1_inb numel1_S1 (tbl m) i = ![(i 0).val - tb m (i 0).val, 0, 0] := by
  have hi : (i 0).val < 329 := (i 0).isLt
  have e : (tbl m).at 0 (Rect.unit (s := S329) (k0_off1 i) S1.size (k0_off1_inb i)) numel1_S1 = BitVec.ofNat 32 (tb m (i 0).val) := read0 m _ _ ⟨(i 0).val, hi⟩ (off1_val i) _
  have h1 := (sched m HG).le_self (g := (i 0).val) (by omega)
  show ![(Scalar.subi (BitVec.ofNat 32 (i 0).val) ((tbl m).at 0 (Rect.unit (s := S329) (k0_off1 i) S1.size (k0_off1_inb i)) numel1_S1)).toNat, 0, 0] = _
  rw [e, chunk_word _ _ h1 (by omega), BitVec.toNat_ofNat, Nat.mod_eq_of_lt (by omega)]

include HG in
/-- The pipeline's side condition: every block it writes lies in the array. -/
theorem ok : Ok m := by
  intro i
  have hi : (i 0).val < 329 := (i 0).isLt
  have h2 := (sched m HG).chunk_lt (by decide) (by decide) (g := (i 0).val) (by omega)
  refine ⟨fun a => ?_, Or.inl rfl⟩
  rw [trans2 m HG]
  match a with
  | ⟨0, _⟩ => show ((i 0).val - tb m (i 0).val + 1) * 1 ≤ 300; omega
  | ⟨1, _⟩ => show (0 + 1) * 1 ≤ 1; omega
  | ⟨2, _⟩ => show (0 + 1) * 1024 ≤ 1024; omega

include HG in
/-- The side conditions the body assumes hold at every point. -/
theorem hyps (hO : Ok m) : Hyps m hO := fun c t => by
  have hi : (grid0.coords t 0).val < 329 := (grid0.coords t 0).isLt
  rw [read0 m _ _ ⟨(grid0.coords t 0).val, hi⟩ (off1_val _)]
  exact chk ⟨tb m (grid0.coords t 0).val, tb_lt m HG ⟨_, hi⟩⟩

end Cert.KernelI4.Run
-- ==== Proof.I4.Pre.lean ====
/- What the precondition says: the offsets start at zero, never fall, end within the array, the last table starts inside it;
   and in the columns that a table holds the sample is one of the 256 and the scale is a number at least zero. -/
module

public import proofs.«01_k».proof.Proof.Gen.Pre_pre_i4
public import proofs.«01_k».proof.Proof.TableWords
public import Idealize.ShloMosaic.Lib.Pointwise

@[expose] public section

set_option maxRecDepth 16384

namespace Cert.Pre_pre_i4.Gen

open Cert.Pre_pre_i4 Cert.Words
open Idealize.ShloMosaic Idealize.ShloMosaic.Tactic

variable {F : FTy → Type} [FloatOps F]
variable (W : IVec S8x337920 32) (off : IVec S7681 32) (go : FVec F S256x3264 .bf16)

theorem fn_zero : (fn (F := F) W off go).1 (ix1 0) = IntOp.cmpi .eq (off (ix1 0)) 0#32 := by
  show cmpi .eq (extractStridedSlice S1 ![0] off slices_S7681_S1_0) (broadcastInDim S1 ![] bcast_S_S1 (constantI S_ 32 0#32)) (ix1 0) = _
  pointwise

theorem fn_mono (i : Fin 7680) : (fn (F := F) W off go).2.1 (ix1 i) = IntOp.cmpi .sge (off (ix1 ⟨1 + i.val, by omega⟩)) (off (ix1 ⟨i.val, by omega⟩)) := by
  show cmpi .sge (extractStridedSlice S7680 ![1] off slices_S7681_S7680_1) (extractStridedSlice S7680 ![0] off slices_S7681_S7680_0) (ix1 i) = _
  pointwise

theorem fn_last : (fn (F := F) W off go).2.2.1 (ix1 0) = IntOp.cmpi .sle (off (ix1 7680)) 307200#32 := by
  show cmpi .sle (extractStridedSlice S1 ![7680] off slices_S7681_S1_7680) (broadcastInDim S1 ![] bcast_S_S1 (constantI S_ 32 307200#32)) (ix1 0) = _
  pointwise

theorem fn_start : (fn (F := F) W off go).2.2.2.1 (ix1 0) = IntOp.cmpi .slt (off (ix1 7424)) 307200#32 := by
  show cmpi .slt (extractStridedSlice S1 ![29] (Host.slice S31 ![0] ![256] off slicesBy_S7681_S31_0s256) slices_S31_S1_29) (broadcastInDim S1 ![] bcast_S_S1 (constantI S_ 32 307200#32)) (ix1 0) = _
  pointwise

theorem fn_live (t : Fin 30) (j : Fin 337920) : (fn (F := F) W off go).2.2.2.2 (ix2 t j)
    = IntOp.ori (~~~IntOp.andi (IntOp.cmpi .sle (IntOp.addi (off (ix1 ⟨256 * t.val, by omega⟩)) (IntOp.muli (BitVec.ofNat 32 t.val) 1024#32)) (BitVec.ofNat 32 j.val))
          (IntOp.cmpi .slt (BitVec.ofNat 32 j.val) (IntOp.addi (off (ix1 ⟨256 * (1 + t.val), by omega⟩)) (IntOp.muli (BitVec.ofNat 32 t.val) 1024#32))))
        (IntOp.andi (IntOp.andi (IntOp.andi (IntOp.cmpi .sge (W (ix2 7 j)) 0#32) (IntOp.cmpi .slt (W (ix2 7 j)) 256#32)) (IntOp.cmpi .sge (W (ix2 6 j)) 0#32))
          (IntOp.cmpi .slt (W (ix2 6 j)) 2139095040#32)) := by
  dsimp only [fn, fn_part1, fn_part2]
  pointwise

/-- The offset at a position of the array, as an integer. -/
abbrev offAt (i : ℕ) : ℤ := (off (ix1 ⟨min i 7680, by omega⟩)).toInt

variable (h : (fn (F := F) W off go).1 = (fun _ => 1#1) ∧ (fn (F := F) W off go).2.1 = (fun _ => 1#1) ∧ (fn (F := F) W off go).2.2.1 = (fun _ => 1#1)
  ∧ (fn (F := F) W off go).2.2.2.1 = (fun _ => 1#1) ∧ (fn (F := F) W off go).2.2.2.2 = (fun _ => 1#1))
include h

/-- The offsets start at zero, never fall, end inside the array; the last table starts inside it. -/
theorem good : GoodOff 30 300 (offAt off) := by
  obtain ⟨h0, h1, h2, h3, -⟩ := h
  refine ⟨?_, fun i hi => ?_, ?_, ?_⟩
  · have e := (fn_zero (F := F) W off go).symm.trans (congrFun h0 _)
    have e' : off (ix1 0) = 0#32 := by
      simpa [IntOp.cmpi, (by decide : ∀ x : Bool, BitVec.ofBool x = 1#1 ↔ x = true)] using e
    show (off (ix1 0)).toInt = 0
    rw [e']; rfl
  · have e := (fn_mono (F := F) W off go ⟨i, by omega⟩).symm.trans (congrFun h1 _)
    rw [cmpi_sge, ofBool_eq_one] at e
    have e1 : (⟨min i 7680, by omega⟩ : Fin 7681) = ⟨i, by omega⟩ := Fin.ext (by show min i 7680 = i; omega)
    have e2 : (⟨min (i + 1) 7680, by omega⟩ : Fin 7681) = ⟨1 + i, by omega⟩ := Fin.ext (by show min (i + 1) 7680 = 1 + i; omega)
    show (off (ix1 ⟨min i 7680, _⟩)).toInt ≤ (off (ix1 ⟨min (i + 1) 7680, _⟩)).toInt
    rw [e1, e2]; exact e
  · have e := (fn_last (F := F) W off go).symm.trans (congrFun h2 _)
    rw [cmpi_sle, ofBool_eq_one] at e
    exact e
  · have e := (fn_start (F := F) W off go).symm.trans (congrFun h3 _)
    rw [cmpi_slt, ofBool_eq_one] at e
    exact e

/-- In a column that holds one of table `t`'s positions, the sample is below 256 and the scale word is that of a number
    at least zero. -/
theorem live (t : Fin 30) (pos : ℕ) (hp : pos < 307200) (hit : Hit (offAt off) t.val pos) (j : Fin 337920) (hj : j.val = pos + 1024 * t.val) :
    ((0 : ℤ) ≤ (W (ix2 7 j)).toInt ∧ (W (ix2 7 j)).toInt < 256) ∧ (0 : ℤ) ≤ (W (ix2 6 j)).toInt ∧ (W (ix2 6 j)).toInt < 2139095040 := by
  have HG := good (F := F) W off go h
  obtain ⟨-, -, -, -, h4⟩ := h
  have e := (fn_live (F := F) W off go t j).symm.trans (congrFun h4 _)
  have ht := t.isLt
  have hm : IntOp.muli (BitVec.ofNat 32 t.val) 1024#32 = BitVec.ofNat 32 (1024 * t.val) := by
    rw [Nat.mul_comm]; exact (BitVec.ofNat_mul ..).symm
  have a1 : offAt off (256 * t.val) = (off (ix1 ⟨256 * t.val, by omega⟩)).toInt := by
    show (off (ix1 ⟨min (256 * t.val) 7680, _⟩)).toInt = _
    congr 3; exact Fin.ext (by show min (256 * t.val) 7680 = 256 * t.val; omega)
  have a2 : offAt off (256 * (t.val + 1)) = (off (ix1 ⟨256 * (1 + t.val), by omega⟩)).toInt := by
    show (off (ix1 ⟨min (256 * (t.val + 1)) 7680, _⟩)).toInt = _
    congr 3; exact Fin.ext (by show min (256 * (t.val + 1)) 7680 = 256 * (1 + t.val); omega)
  have b1 := HG.nonneg (i := 256 * t.val) (by omega)
  have b2 := HG.le_last (i := 256 * t.val) (by omega)
  have b3 := HG.nonneg (i := 256 * (t.val + 1)) (by omega)
  have b4 := HG.le_last (i := 256 * (t.val + 1)) (by omega)
  obtain ⟨c1, c2⟩ := hit
  rw [a1] at b1 b2 c1
  rw [a2] at b3 b4 c2
  have hjt : (BitVec.ofNat 32 j.val).toInt = j.val := toInt_ofNat _ (by omega)
  rw [hm, cmpi_sle, cmpi_slt, toInt_addi _ (1024 * t.val) b1 (by omega), toInt_addi _ (1024 * t.val) b3 (by omega), hjt, andi_ofBool,
    decide_eq_true (by constructor <;> omega), cmpi_sge, cmpi_slt, cmpi_sge, cmpi_slt, andi_ofBool, andi_ofBool, andi_ofBool] at e
  have e' := (by decide : ∀ x : Bool, IntOp.ori (~~~ (BitVec.ofBool true)) (BitVec.ofBool x) = 1#1 → x = true) _ e
  have e'' := of_decide_eq_true e'
  exact ⟨e''.1.1, e''.1.2, e''.2⟩

end Cert.Pre_pre_i4.Gen
-- ==== Proof.I4.Quiet.lean ====
/- The frame of the kernel as it is: under the precondition it runs, leaves its arguments and every counter at zero. -/
module

public import proofs.«01_k».proof.Defs
public import proofs.«01_k».proof.Proof.I4.Bits
public import proofs.«01_k».proof.Proof.I4.Pre

@[expose] public section

set_option maxRecDepth 16384

namespace Cert.Proof.I4

open Idealize.ShloMosaic Idealize.ShloMosaic.TcCoe Idealize.SL.Sem Cert.Words

/-- The kernel runs and leaves its arguments. -/
theorem quiescent : Cert.quiescent_KernelI4 (hKernelI4 := Cert.KernelI4.Gen.facts) (hPre_pre_i4 := Cert.Pre_pre_i4.Gen.facts) := fun m ρ h => by
  have HG : GoodOff 30 300 (Cert.KernelI4.Run.offI m) := Cert.Pre_pre_i4.Gen.good (F := Bits) _ _ _ (h 0)
  exact Cert.KernelI4.Run.frame m ρ (Cert.KernelI4.Run.ok m HG) (Cert.KernelI4.Run.hyps m HG _)

end Cert.Proof.I4
-- ==== Proof.I4.Kit.lean ====
/- The frame kit of the idealized program `KernelI4Ideal`: the host lines before the kernel call, the prefetched
   tables read off the launch memory, the windows' blocks, the body's branch condition and its assumed side
   conditions. It follows the kit that is generated for the program before idealization. -/
module

public import proofs.«01_k».proof.Proof.Gen.KernelI4Ideal.Launch
public import proofs.«01_k».proof.Proof.Gen.KernelI4Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelI4Ideal.Run

open Cert.KernelI4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline schedule and the body at a point -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 1 (fun _ => rfl) (by decide)) (P := 1) (by decide) t).mpr (Nat.mod_one _) : ∀ t : Fin grid0.N, Pipeline.Window.fetchOf grid0 false cc0_transform_0 t = true)
/-- Window 1 (operand 3 (%0)) is fetched at the first point only, at any contents of the tables (its index map reads none). -/
theorem fetch0_1 (a : (pcfg0 (F := F)).Adm) : ∀ t : Fin (cfg0 a).N, ((cfg0 a).win 1).fetch t = true ↔ t.val % 329 = 0 :=
  (fun t => Pipeline.Window.fetchOf_const cc0_transform_1 (fun _ _ => rfl) (n := 329) (by decide) t : ∀ t : Fin grid0.N, Pipeline.Window.fetchOf grid0 false cc0_transform_1 t = true ↔ t.val % 329 = 0)
-- window 2: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_tc_dot_i4 (grid0.coords t) (Memref.whole main_v15) (Memref.isWhole_whole _) (Memref.whole main_v1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S329 .i32 := Memref.whole main_v15
abbrev htbM0_0 : tbM0_0.IsWhole := Memref.isWhole_whole _
abbrev tbM0_1 : Memref sig .tc .smem S31 .i32 := Memref.whole main_v1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelI4Ideal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-! ## The body's branch conditions -/

/-- The condition of the body's `scf.if` 0: over WORDS the body reads from its tables or input SMEM windows
    (`v1`, `v13`), so no function of the point — a case variable: a hypothesis of each run, a `by_cases`
    of the obligation and an `if` of `outsAt`, stated over the argument blocks' words there. -/
abbrev cond0_0 (i : grid0.Coords) (v1 : BitVec 32) (v13 : BitVec 32) : Prop := (Scalar.cmpi .ne (Scalar.extui (Scalar.ori (Scalar.cmpi .eq (BitVec.ofNat 32 (i 0).val) 0#32) (Scalar.cmpi .ne (Scalar.subi (Scalar.subi (BitVec.ofNat 32 (i 0).val) 1#32) v13) (Scalar.subi (BitVec.ofNat 32 (i 0).val) v1)))) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S8x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S3264x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S329) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S329) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S329) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

end Cert.KernelI4Ideal.Run

end
-- ==== Proof.Nibbles.lean ====
/- The half bytes of a 32-bit word as signed codes, read in two ways: the half byte shifted to the top of the word and
   back with its sign, and the half byte shifted to the bottom, masked, and lowered by 16 when it is 8 or more. -/
module

public import proofs.«01_k».proof.Proof.Words
public import Mathlib.Tactic.IntervalCases

@[expose] public section

namespace Cert.Words

open Idealize.ShloMosaic

/-- Half byte `k` of a word, counted from the lowest. -/
def nibOf (w : BitVec 32) (k : ℕ) : BitVec 4 := w.extractLsb' (4 * k) 4

/-- Half byte `k` of a word, with its sign, is the word shifted left until it stands highest and shifted back. -/
theorem shifts_nib (w : BitVec 32) (k : ℕ) (hk : k < 8) :
    ((w <<< (28 - 4 * k)).sshiftRight 28).toInt = (nibOf w k).toInt := by
  have e : (w <<< (28 - 4 * k)).sshiftRight 28 = (nibOf w k).signExtend 32 := by
    apply BitVec.eq_of_getLsbD_eq
    intro q hq
    rw [BitVec.getLsbD_sshiftRight, BitVec.getLsbD_signExtend, nibOf]
    simp only [BitVec.getLsbD_extractLsb', BitVec.getLsbD_shiftLeft, BitVec.msb_eq_getLsbD_last]
    have h31 : (31 : ℕ) - (28 - 4 * k) = 4 * k + 3 := by omega
    by_cases h : q < 4
    · have h1 : 28 + q < 32 := by omega
      have h2 : ¬ 28 + q < 28 - 4 * k := by omega
      have h3 : 28 + q - (28 - 4 * k) = 4 * k + q := by omega
      have h4 : ¬ (32 ≤ q) := by omega
      simp [h, h1, h2, h3, h4, hq]
    · have h1 : ¬ 28 + q < 32 := by omega
      have h4 : ¬ (32 ≤ q) := by omega
      have h5 : ¬ 31 < 28 - 4 * k := by omega
      simp [h, h1, h4, h5, h31, hq]
  rw [e, BitVec.toInt_signExtend_of_le (by decide)]

/-- The low three bits of a row number. -/
theorem low_three (b : ℕ) : IntOp.andi (BitVec.ofNat 32 b) 7#32 = BitVec.ofNat 32 (b % 8) := by
  apply BitVec.eq_of_toNat_eq
  show (BitVec.ofNat 32 b &&& 7#32).toNat = _
  rw [BitVec.toNat_and, BitVec.toNat_ofNat, BitVec.toNat_ofNat]
  show (b % 2 ^ 32) &&& (2 ^ 3 - 1) = _
  rw [Nat.and_two_pow_sub_one_eq_mod, BitVec.toNat_ofNat]; omega

/-- Code `b` of a word row by shifts with the sign: the half byte moved to the top and back. -/
theorem signed_nib (u : ArithUnit) (w : BitVec 32) (b : ℕ) :
    (IntOp.shrsi u (IntOp.shli u w (IntOp.subi 28#32 (IntOp.muli 4#32 (IntOp.andi (BitVec.ofNat 32 b) 7#32)))) 28#32).toInt
      = (nibOf w (b % 8)).toInt := by
  have hb : b % 8 < 8 := Nat.mod_lt _ (by decide)
  rw [low_three]
  generalize b % 8 = k at hb
  have hs : IntOp.subi 28#32 (IntOp.muli 4#32 (BitVec.ofNat 32 k)) = BitVec.ofNat 32 (28 - 4 * k) := by
    interval_cases k <;> decide
  rw [hs, ← shifts_nib w k hb]
  unfold IntOp.shli IntOp.shrsi
  have e : (BitVec.ofNat 32 (28 - 4 * k)).toNat = 28 - 4 * k := by rw [BitVec.toNat_ofNat]; omega
  rw [if_pos (show (28#32 : BitVec 32).toNat < 32 by decide), if_pos (show (BitVec.ofNat 32 (28 - 4 * k)).toNat < 32 by rw [e]; omega)]
  show ((w <<< BitVec.ofNat 32 (28 - 4 * k)).sshiftRight' 28#32).toInt = _
  rw [BitVec.shiftLeft_eq', e]
  rfl

/-- A number below 16, read as four bits with their sign. -/
theorem toInt_four (x : BitVec 4) :
    (Scalar.select (IntOp.cmpi .sge (x.setWidth 32) 8#32) (IntOp.subi (x.setWidth 32) 16#32) (x.setWidth 32)).toInt = x.toInt := by
  revert x; decide

/-- Code `b` of a word row by mask: the half byte moved to the bottom, and 16 less when it is 8 or more. -/
theorem masked_nib (u : ArithUnit) (w : BitVec 32) (b : ℕ) (v : BitVec 32)
    (hv : v = IntOp.andi (IntOp.shrui u w (IntOp.muli 4#32 (IntOp.andi (BitVec.ofNat 32 b) 7#32))) 15#32) :
    (Scalar.select (IntOp.cmpi .sge v 8#32) (IntOp.subi v 16#32) v).toInt = (nibOf w (b % 8)).toInt := by
  have hb : b % 8 < 8 := Nat.mod_lt _ (by decide)
  rw [low_three] at hv
  generalize b % 8 = k at hb hv
  have hs : IntOp.muli 4#32 (BitVec.ofNat 32 k) = BitVec.ofNat 32 (4 * k) := by
    interval_cases k <;> decide
  have e : (BitVec.ofNat 32 (4 * k)).toNat = 4 * k := by rw [BitVec.toNat_ofNat]; omega
  have hx : v = (nibOf w k).setWidth 32 := by
    rw [hv, hs]
    unfold IntOp.shrui
    rw [if_pos (show (BitVec.ofNat 32 (4 * k)).toNat < 32 by rw [e]; omega)]
    apply BitVec.eq_of_toNat_eq
    show ((w >>> BitVec.ofNat 32 (4 * k)) &&& 15#32).toNat = _
    rw [BitVec.ushiftRight_eq', e, BitVec.toNat_and, BitVec.toNat_setWidth, nibOf, BitVec.extractLsb'_toNat, BitVec.toNat_ushiftRight]
    show (w.toNat >>> (4 * k)) &&& (2 ^ 4 - 1) = _
    rw [Nat.and_two_pow_sub_one_eq_mod]
    omega
  rw [hx, toInt_four]

end Cert.Words
-- ==== Proof.I4.Piece.lean ====
/- One group of 128 lanes of the kernel body, at the ideal instance: the payload of each of the eight stores is one
   function `piece` of the group's offset and of the words loaded for it, and `piece_apply` says what that function is
   at a lane: inside the table's range of positions the dot product of the row's codes with the gradient column of the
   lane's sample, times the lane's scale; outside it what the block held before. -/
module

public import proofs.«01_k».proof.Proof.Gen.KernelI4Ideal.Skeleton
public import proofs.«01_k».proof.Proof.Nibbles
public import Idealize.ShloMosaic.Lib.Pointwise

@[expose] public section

set_option maxRecDepth 16384

noncomputable section

namespace Cert.KernelI4Ideal.Run

open Cert.KernelI4Ideal.Gen
open Idealize.ShloMosaic Idealize.SL.Sem

/-- The block that one of the eight stores writes, from the offset of its 128 lanes in the chunk and the words loaded. -/
def piece (off v2 v4 v7 : BitVec 32) (v25 : Vec Ideal S48x256 .bf16) (v28 : Vec Ideal S1x128 .i32) (v56 : Vec Ideal S6x128 .i32) (v62 : Vec Ideal S1x128 .i32) (v75 : Vec Ideal S1x1x128 .f32) : FVec Ideal S1x1x128 .f32 :=
  have v42 : FVec Ideal S48x128 .f32 := extractStridedSlice S48x128 ![0, 128] (k0_pay2 v25) slices_S48x256_o0_128_S48x128
  have v43 : IVec S48x128 32 := broadcast S48x128 0#32
  have v44 : IVec S48x128 1 := cmpi .slt (k0_pay3 v28) v43
  have v45 : IVec S48x128 32 := broadcast S48x128 128#32
  have v46 : IVec S48x128 32 := addi (k0_pay3 v28) v45
  have v47 : IVec S48x128 32 := select v44 v46 (k0_pay3 v28)
  have v48 : IVec S48x128x1 32 := shapeCast S48x128x1 v47 shapeCasts_S48x128_S48x128x1
  have v49 : IVec S48x128 32 := shapeCast S48x128 v48 shapeCasts_S48x128x1_S48x128
  have v50 : FVec Ideal S48x128 .f32 := dynamicGather 1 v42 v49
  have v51 : IVec S1x128 32 := broadcast S1x128 128#32
  have v52 : IVec S1x128 1 := cmpi .sge v28 v51
  have v53 : IVec S1x128 1 := shapeCast S1x128 v52 shapeCasts_S1x128_S1x128
  have v54 : IVec S48x128 1 := broadcastTo S48x128 v53 broadcasts_S1x128_S48x128
  have v55 : FVec Ideal S48x128 .f32 := select v54 v50 (k0_pay4 v25 v28)
  have w57 : IVec S6x1x128 32 := shapeCast S6x1x128 v56 shapeCasts_S6x128_S6x1x128
  have w58 : IVec S6x8x128 32 := broadcastTo S6x8x128 w57 broadcasts_S6x1x128_S6x8x128
  have w59 : IVec S48x128 32 := shapeCast S48x128 w58 shapeCasts_S6x8x128_S48x128
  have w60 : IVec S48x128 32 := iota .tc S48x128 32 [0] iota_S48x128_d0_w32
  have w61 : IVec S48x128 32 := broadcast S48x128 7#32
  have w62 : IVec S48x128 32 := andi w60 w61
  have w63 : IVec S48x128 32 := broadcast S48x128 4#32
  have w64 : IVec S48x128 32 := muli w63 w62
  have w65 : IVec S48x128 32 := broadcast S48x128 28#32
  have w66 : IVec S48x128 32 := subi w65 w64
  have w67 : IVec S48x128 32 := shli w59 w66
  have w68 : IVec S48x128 32 := broadcast S48x128 28#32
  have w69 : IVec S48x128 32 := shrsi w67 w68
  have v58 : FVec Ideal S48x128 .f32 := sitofp .f32 w69
  have v59 : FVec Ideal S48x128 .f32 := mulf v58 v55
  have v60 : FVec Ideal S128 .f32 := multiReduction .add [0] S128 v59 0x00000000#32 reduces_S48x128_S128 (.inl rfl) rfl
  have v61 : FVec Ideal S1x128 .f32 := shapeCast S1x128 v60 shapeCasts_S128_S1x128
  have v63 : FVec Ideal S1x128 .f32 := bitcastToFloat .f32 v62
  let v64 : BitVec 32 := Scalar.muli v2 1024#32
  let v65 : BitVec 32 := Scalar.addi v64 off
  have v66 : IVec S1x128 32 := iota .tc S1x128 32 [1] iota_S1x128_d1_w32
  have v67 : IVec S1x128 32 := broadcast S1x128 v65
  have v68 : IVec S1x128 32 := addi v67 v66
  have v69 : IVec S1x128 32 := broadcast S1x128 v4
  have v70 : IVec S1x128 1 := cmpi .sge v68 v69
  have v71 : IVec S1x128 32 := broadcast S1x128 v7
  have v72 : IVec S1x128 1 := cmpi .slt v68 v71
  have v73 : IVec S1x128 1 := andi v70 v72
  have v74 : FVec Ideal S1x128 .f32 := mulf v61 v63
  have v76 : FVec Ideal S1x128 .f32 := shapeCast S1x128 v75 shapeCasts_S1x1x128_S1x128
  have v77 : FVec Ideal S1x128 .f32 := select v73 v74 v76
  have v80 : FVec Ideal S1x1x128 .f32 := shapeCast S1x1x128 v77 shapeCasts_S1x128_S1x1x128
  v80

open Cert.Words

/-- The piece at a lane: inside the table's range the scaled dot product, outside it what was there. -/
theorem piece_apply (off v2 v4 v7 : BitVec 32) (p o : ℕ) (h2 : v2 = BitVec.ofNat 32 p) (ho : off = BitVec.ofNat 32 o) (hp : p < 1000) (ho' : o ≤ 896)
    (v25 : Vec Ideal S48x256 .bf16) (v28 : Vec Ideal S1x128 .i32) (v56 : Vec Ideal S6x128 .i32) (v62 : Vec Ideal S1x128 .i32) (v75 : Vec Ideal S1x1x128 .f32) (l : Fin 128) :
    piece off v2 v4 v7 v25 v28 v56 v62 v75 (ix3 0 0 l)
      = if v4.toInt ≤ (p * 1024 + (o + l.val) : ℕ) ∧ (p * 1024 + (o + l.val) : ℕ) < v7.toInt then
          (∑ b : Fin 48, (((nibOf (v56 (ix2 ⟨b.val / 8, by omega⟩ l)) (b.val % 8)).toInt : ℝ) : EReal) * v25 (ix2 b (sel (v28 (ix2 0 l)))))
            * Ideal.ofBits .f32 (v62 (ix2 0 l))
        else v75 (ix3 0 0 l) := by
  pointwise [piece, k0_pay2, k0_pay3, k0_pay4]
  rw [cmpi_sge, cmpi_slt, andi_ofBool, select_ofBool, pos_toInt v2 off p o l.val h2 ho hp (by omega)]
  refine if_congr Iff.rfl (congrArg (· * _) (Finset.sum_congr rfl fun b _ => ?_)) rfl
  rw [select_half (v28 (ix2 0 l)) (fun k => v25 (ix2 b k)) _ (lane_index _), ← signed_nib .vector _ b.val]
  rfl

end Cert.KernelI4Ideal.Run
-- ==== Proof.I4.Step.lean ====
/- What one grid point of the kernel does to the block it writes: inside the table's range of positions each lane gets
   its scaled dot product, outside it the lane keeps what it held (`step`); each of the eight stored pieces is that
   function on its 128 lanes (`piece_step`). -/
module

public import proofs.«01_k».proof.Proof.I4.Piece
public import Idealize.ShloMosaic.Lib.Pipeline.ValueKit
public import Idealize.ShloMosaic.Lib.WritesUnit

@[expose] public section

set_option maxRecDepth 16384

noncomputable section

namespace Cert.KernelI4Ideal.Run

open Cert.KernelI4Ideal.Gen Cert.Words
open Idealize.ShloMosaic Idealize.SL.Sem

/-- The dot product of a column of words with the gradient column of its sample, scaled: words `x0` of a chunk (code
    words, scale, sample), the transposed gradient `x1`, table `t`, lane `l`. -/
def dotAt (t : Fin 30) (x0 : Vec Ideal S8x1024 .i32) (x1 : Vec Ideal S3264x256 .bf16) (l : Fin 1024) : EReal :=
  (∑ b : Fin 48, (((nibOf (x0 (ix2 ⟨b.val / 8, by omega⟩ l)) (b.val % 8)).toInt : ℝ) : EReal)
      * (x1 (ix2 ⟨1152 + 48 * t.val + b.val, by omega⟩ (sel (x0 (ix2 7 l)))) : EReal))
    * Ideal.ofBits .f32 (x0 (ix2 6 l))

/-- The block after a point at chunk `p` and table `t`, whose positions are those from `lo` up to `hi`. -/
def step (p : ℕ) (t : Fin 30) (lo hi : ℤ) (x0 : Vec Ideal S8x1024 .i32) (x1 : Vec Ideal S3264x256 .bf16)
    (d : Vec Ideal S1x1x1024 .f32) : Vec Ideal S1x1x1024 .f32 := fun y =>
  if lo ≤ (p * 1024 + (y 2).val : ℕ) ∧ (p * 1024 + (y 2).val : ℕ) < hi then dotAt t x0 x1 (y 2) else d y

/-- The rows of the transposed gradient that table `t` reads. -/
theorem off5_val (t : Fin 30) : k0_off5 (BitVec.ofNat 32 t.val) 0 = 1152 + 48 * t.val ∧ k0_off5 (BitVec.ofNat 32 t.val) 1 = 0 := by
  revert t; decide

/-- One stored piece, at offset `o`, is `step` on its lanes. -/
theorem piece_step (v1 off v2 v4 v7 : BitVec 32) (p o : ℕ) (t : Fin 30) (h1 : v1 = BitVec.ofNat 32 t.val) (h2 : v2 = BitVec.ofNat 32 p) (ho : off = BitVec.ofNat 32 o)
    (hp : p < 1000) (ho' : o ≤ 896) (x0 : Vec Ideal S8x1024 .i32) (x1 : Vec Ideal S3264x256 .bf16) (d : Vec Ideal S1x1x1024 .f32)
    (i1 i2 i3 i4 i5 i6) (x : S1x1x128.Idx) :
    piece off v2 v4 v7 (View.ld x1 (Rect.unit (s := S3264x256) (k0_off5 v1) S48x256.size i1)) (View.ld x0 (Rect.unit (s := S8x1024) ![7, o] S1x128.size i2))
        (View.ld x0 (Rect.unit (s := S8x1024) ![0, o] S6x128.size i3)) (View.ld x0 (Rect.unit (s := S8x1024) ![6, o] S1x128.size i4))
        (View.ld d (Rect.unit (s := S1x1x1024) ![0, 0, o] S1x1x128.size i5)) x
      = step p t v4.toInt v7.toInt x0 x1 d ((Rect.unit (s := S1x1x1024) ![0, 0, o] S1x1x128.size i6).emb x) := by
  subst h1
  obtain ⟨e0, e1⟩ := off5_val t
  obtain ⟨l, rfl⟩ : ∃ l : Fin 128, x = ix3 0 0 l :=
    ⟨x 2, (eq_ix3 x).trans (by rw [Fin.fin_one_eq_zero (x 0), Fin.fin_one_eq_zero (x 1)])⟩
  rw [piece_apply off v2 v4 v7 p o h2 ho hp ho']
  have hy : (Rect.unit (s := S1x1x1024) ![0, 0, o] S1x1x128.size i6).emb (ix3 0 0 l) = (ix3 0 0 ⟨o + l.val, by omega⟩ : S1x1x1024.Idx) := by
    funext c; apply Fin.ext;
    match c with
    | ⟨0, _⟩ => rfl
    | ⟨1, _⟩ => rfl
    | ⟨2, _⟩ => exact Rect.idx_unit_val _ _ _ _ _
  rw [hy]
  have r17 : View.ld x0 (Rect.unit (s := S8x1024) ![7, o] S1x128.size i2) (ix2 0 l) = x0 (ix2 7 ⟨o + l.val, by omega⟩) :=
    View.ld_unit_apply_of x0 _ _ _ _ _ (fun c => by match c with | ⟨0, _⟩ => rfl | ⟨1, _⟩ => rfl)
  have r16 : View.ld x0 (Rect.unit (s := S8x1024) ![6, o] S1x128.size i4) (ix2 0 l) = x0 (ix2 6 ⟨o + l.val, by omega⟩) :=
    View.ld_unit_apply_of x0 _ _ _ _ _ (fun c => by match c with | ⟨0, _⟩ => rfl | ⟨1, _⟩ => rfl)
  have rd : View.ld d (Rect.unit (s := S1x1x1024) ![0, 0, o] S1x1x128.size i5) (ix3 0 0 l) = d (ix3 0 0 ⟨o + l.val, by omega⟩) :=
    View.ld_unit_apply_of d _ _ _ _ _ (fun c => by match c with | ⟨0, _⟩ => rfl | ⟨1, _⟩ => rfl | ⟨2, _⟩ => rfl)
  have rc : ∀ b : Fin 48, View.ld x0 (Rect.unit (s := S8x1024) ![0, o] S6x128.size i3) (ix2 ⟨b.val / 8, by omega⟩ l) = x0 (ix2 ⟨b.val / 8, by omega⟩ ⟨o + l.val, by omega⟩) := fun b =>
    View.ld_unit_apply_of x0 _ _ _ _ _ (fun c => by match c with | ⟨0, _⟩ => exact (Nat.zero_add _).symm | ⟨1, _⟩ => rfl)
  have rg : ∀ (b : Fin 48) (k : Fin 256), View.ld x1 (Rect.unit (s := S3264x256) (k0_off5 (BitVec.ofNat 32 t.val)) S48x256.size i1) (ix2 b k) = x1 (ix2 ⟨1152 + 48 * t.val + b.val, by omega⟩ k) := fun b k =>
    View.ld_unit_apply_of x1 _ _ _ _ _ (fun c => by
      match c with
      | ⟨0, _⟩ => exact (congrArg (· + b.val) e0).symm
      | ⟨1, _⟩ => exact ((congrArg (· + k.val) e1).trans (Nat.zero_add _)).symm)
  rw [r17, r16, rd]
  simp only [rc, rg]
  rfl

/-- From lane `o` on, the stores `L` leave zeros. -/
def Past {sp : Space} (v : View sig .tc sp S1x1x1024 .f32) (o : ℕ) (L : List (View.Piece (Elt Ideal) S1x1x1024 .f32)) : Prop :=
  ∀ (f : v.ty.Contents (Elt Ideal)) (y : S1x1x1024.Idx), o ≤ (y 2).val → v.read (Elt Ideal) (v.writes (Elt Ideal) f L) y = Ideal.ofBits .f32 (0#32)

/-- The zeroing store. -/
theorem past_zero {sp : Space} (v : View sig .tc sp S1x1x1024 .f32) (inb) :
    Past v 0 [⟨Rect.unit (s := S1x1x1024) ![0, 0, 0] S1x1x1024.size inb, (k0_pay1 (F := Ideal))⟩] := fun f y _ =>
  View.read_writes_cons_unit_of_mem v f inb (k0_pay1 (F := Ideal)) [] y y rfl fun a => by
    match a with
    | ⟨0, _⟩ => exact (Nat.zero_add _).symm
    | ⟨1, _⟩ => exact (Nat.zero_add _).symm
    | ⟨2, _⟩ => exact (Nat.zero_add _).symm

/-- A store of the lanes from `o` leaves the later ones. -/
theorem past_cons {sp : Space} (v : View sig .tc sp S1x1x1024 .f32) {o : ℕ} {L} (inb) (w) (h : Past v o L) :
    Past v (o + 128) (⟨Rect.unit (s := S1x1x1024) ![0, 0, o] S1x1x128.size inb, w⟩ :: L) := fun f y hy =>
  (View.read_writes_cons_unit_of_not_mem v f inb w L y rfl 2 (Or.inr hy)).trans (h f y (by omega))

/-- A load of the lanes from `o` reads zeros there. -/
theorem past_readCov {sp : Space} (v : View sig .tc sp S1x1x1024 .f32) {o : ℕ} {L} (inb) (h : Past v o L) :
    v.readCov L (Rect.unit (s := S1x1x1024) ![0, 0, o] S1x1x128.size inb).toLoadRect
      = View.ld (fun _ => Ideal.ofBits .f32 (0#32) : Vec Ideal S1x1x1024 .f32) (Rect.unit (s := S1x1x1024) ![0, 0, o] S1x1x128.size inb) :=
  funext fun x => h v.junk _ (by
    show o ≤ o + 1 * (x 2).val
    omega)

end Cert.KernelI4Ideal.Run
-- ==== Proof.I4.RunA.lean ====
/- The body at a grid point that starts a new output block: whatever the block held, it is left holding `step` over zeros. -/
module

public import proofs.«01_k».proof.Proof.I4.Kit
public import proofs.«01_k».proof.Proof.I4.Step

@[expose] public section

-- membership in a rectangle of production extents (`View.cover_of_tiled`): the elaborator's structural look
-- recurses once per coordinate of the long axes
set_option maxRecDepth 16384

noncomputable section

namespace Cert.KernelI4Ideal.Run

open Cert.KernelI4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body at a point that starts its output block. -/
theorem kernelRun0_A (c : Dev nD) (i : grid0.Coords) (arg3 : Memref sig .tc .vmem S8x1024 .i32) (harg3 : arg3.IsWhole) (arg4 : Memref sig .tc .vmem S3264x256 .bf16) (harg4 : arg4.IsWhole) (arg5 : Memref sig .tc .vmem S1x1x1024 .f32) (harg5 : arg5.IsWhole)
    (x0 : Vec Ideal S8x1024 .i32) (x1 : Vec Ideal S3264x256 .bf16) (xt0 : TbBuf0 (F := Ideal) c tbM0_0) (xt1 : TbBuf0 (F := Ideal) c tbM0_1) (hc0 : cond0_0 i (tbM0_0.view.readAt (Elt Ideal) (Rect.unit (s := S329) (k0_off1 i) S1.size (k0_off1_inb i)).toLoadRect xt0 (Shape.Idx.first (numel1_S1.symm ▸ Nat.one_pos))) (tbM0_0.view.readAt (Elt Ideal) (Rect.unit (s := S329) (k0_off4 i) S1.size (k0_off4_inb i)).toLoadRect xt0 (Shape.Idx.first (numel1_S1.symm ▸ Nat.one_pos)))) (k0_hw1 : k0_chk1 (tbM0_0.view.readAt (Elt Ideal) (Rect.unit (s := S329) (k0_off1 i) S1.size (k0_off1_inb i)).toLoadRect xt0 (Shape.Idx.first (numel1_S1.symm ▸ Nat.one_pos)))) (p : ℕ) (hp : p < 1000) (t : Fin 30)
    (ht : (tbM0_0.view.readAt (Elt Ideal) (Rect.unit (s := S329) (k0_off1 i) S1.size (k0_off1_inb i)).toLoadRect xt0 (Shape.Idx.first (numel1_S1.symm ▸ Nat.one_pos))) = BitVec.ofNat 32 t.val) (hv2 : Scalar.subi (BitVec.ofNat 32 (i 0).val) (tbM0_0.view.readAt (Elt Ideal) (Rect.unit (s := S329) (k0_off1 i) S1.size (k0_off1_inb i)).toLoadRect xt0 (Shape.Idx.first (numel1_S1.symm ▸ Nat.one_pos))) = BitVec.ofNat 32 p)
    (lo hi : ℤ) (hlo : BitVec.toInt (tbM0_1.view.readAt (Elt Ideal) (Rect.unit (s := S31) (k0_off2 (tbM0_0.view.readAt (Elt Ideal) (Rect.unit (s := S329) (k0_off1 i) S1.size (k0_off1_inb i)).toLoadRect xt0 (Shape.Idx.first (numel1_S1.symm ▸ Nat.one_pos)))) S1.size (k0_off2_inb _ k0_hw1)).toLoadRect xt1 (Shape.Idx.first (numel1_S1.symm ▸ Nat.one_pos))) = lo) (hhi : BitVec.toInt (tbM0_1.view.readAt (Elt Ideal) (Rect.unit (s := S31) (k0_off3 (tbM0_0.view.readAt (Elt Ideal) (Rect.unit (s := S329) (k0_off1 i) S1.size (k0_off1_inb i)).toLoadRect xt0 (Shape.Idx.first (numel1_S1.symm ▸ Nat.one_pos)))) S1.size (k0_off3_inb _ k0_hw1)).toLoadRect xt1 (Shape.Idx.first (numel1_S1.symm ▸ Nat.one_pos))) = hi) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare (step p t lo hi x0 x1 (fun _ => Ideal.ofBits .f32 (0#32))) ∗ tbPt0 c tbM0_0 xt0 ∗ tbPt0 c tbM0_1 xt1) -∗ K ⟨⟩))
          ⊢ wp frame (wpE (defs₀ (F := Ideal)) Variants.none c none) E (cc0_tc_dot_i4 i tbM0_0 htbM0_0 tbM0_1 htbM0_1 arg3 harg3 arg4 harg4 arg5 harg5) K := by
    intro E K
    simp only [cc0_tc_dot_i4_eq_skeleton]; unfold cc0_tc_dot_i4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%d2, %f2, -, H2⟩, HT0, HT1, Hk⟩
    obtain rfl := harg3.eq_unread hf0; obtain rfl := harg4.eq_unread hf1
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      have e0 : kernelRun0_A.sl.v87 c arg5 = View.ld (fun _ => Ideal.ofBits .f32 (0#32) : Vec Ideal S1x1x1024 .f32) (Rect.unit (s := S1x1x1024) ![0, 0, 0] S1x1x128.size inb_S1x1x1024_S1x1x128_0_0_0) :=
        past_readCov arg5.view _ (past_zero arg5.view _)
      have e1 : kernelRun0_A.sl.v152 c i arg3 harg3 arg4 harg4 arg5 x0 x1 xt0 xt1 k0_hw1 = View.ld (fun _ => Ideal.ofBits .f32 (0#32) : Vec Ideal S1x1x1024 .f32) (Rect.unit (s := S1x1x1024) ![0, 0, 128] S1x1x128.size inb_S1x1x1024_S1x1x128_0_0_128) :=
        past_readCov arg5.view _ (past_cons arg5.view _ _ (past_zero arg5.view _))
      have e2 : kernelRun0_A.sl.v217 c i arg3 harg3 arg4 harg4 arg5 x0 x1 xt0 xt1 k0_hw1 = View.ld (fun _ => Ideal.ofBits .f32 (0#32) : Vec Ideal S1x1x1024 .f32) (Rect.unit (s := S1x1x1024) ![0, 0, 256] S1x1x128.size inb_S1x1x1024_S1x1x128_0_0_256) :=
        past_readCov arg5.view _ (past_cons arg5.view _ _ (past_cons arg5.view _ _ (past_zero arg5.view _)))
      have e3 : kernelRun0_A.sl.v282 c i arg3 harg3 arg4 harg4 arg5 x0 x1 xt0 xt1 k0_hw1 = View.ld (fun _ => Ideal.ofBits .f32 (0#32) : Vec Ideal S1x1x1024 .f32) (Rect.unit (s := S1x1x1024) ![0, 0, 384] S1x1x128.size inb_S1x1x1024_S1x1x128_0_0_384) :=
        past_readCov arg5.view _ (past_cons arg5.view _ _ (past_cons arg5.view _ _ (past_cons arg5.view _ _ (past_zero arg5.view _))))
      have e4 : kernelRun0_A.sl.v347 c i arg3 harg3 arg4 harg4 arg5 x0 x1 xt0 xt1 k0_hw1 = View.ld (fun _ => Ideal.ofBits .f32 (0#32) : Vec Ideal S1x1x1024 .f32) (Rect.unit (s := S1x1x1024) ![0, 0, 512] S1x1x128.size inb_S1x1x1024_S1x1x128_0_0_512) :=
        past_readCov arg5.view _ (past_cons arg5.view _ _ (past_cons arg5.view _ _ (past_cons arg5.view _ _ (past_cons arg5.view _ _ (past_zero arg5.view _)))))
      have e5 : kernelRun0_A.sl.v412 c i arg3 harg3 arg4 harg4 arg5 x0 x1 xt0 xt1 k0_hw1 = View.ld (fun _ => Ideal.ofBits .f32 (0#32) : Vec Ideal S1x1x1024 .f32) (Rect.unit (s := S1x1x1024) ![0, 0, 640] S1x1x128.size inb_S1x1x1024_S1x1x128_0_0_640) :=
        past_readCov arg5.view _ (past_cons arg5.view _ _ (past_cons arg5.view _ _ (past_cons arg5.view _ _ (past_cons arg5.view _ _ (past_cons arg5.view _ _ (past_zero arg5.view _))))))
      have e6 : kernelRun0_A.sl.v477 c i arg3 harg3 arg4 harg4 arg5 x0 x1 xt0 xt1 k0_hw1 = View.ld (fun _ => Ideal.ofBits .f32 (0#32) : Vec Ideal S1x1x1024 .f32) (Rect.unit (s := S1x1x1024) ![0, 0, 768] S1x1x128.size inb_S1x1x1024_S1x1x128_0_0_768) :=
        past_readCov arg5.view _ (past_cons arg5.view _ _ (past_cons arg5.view _ _ (past_cons arg5.view _ _ (past_cons arg5.view _ _ (past_cons arg5.view _ _ (past_cons arg5.view _ _ (past_zero arg5.view _)))))))
      have e7 : kernelRun0_A.sl.v542 c i arg3 harg3 arg4 harg4 arg5 x0 x1 xt0 xt1 k0_hw1 = View.ld (fun _ => Ideal.ofBits .f32 (0#32) : Vec Ideal S1x1x1024 .f32) (Rect.unit (s := S1x1x1024) ![0, 0, 896] S1x1x128.size inb_S1x1x1024_S1x1x128_0_0_896) :=
        past_readCov arg5.view _ (past_cons arg5.view _ _ (past_cons arg5.view _ _ (past_cons arg5.view _ _ (past_cons arg5.view _ _ (past_cons arg5.view _ _ (past_cons arg5.view _ _ (past_cons arg5.view _ _ (past_zero arg5.view _))))))))
      unfold kernelRun0_A.sl.H2_8 kernelRun0_A.sl.H2_7 kernelRun0_A.sl.H2_6 kernelRun0_A.sl.H2_5 kernelRun0_A.sl.H2_4 kernelRun0_A.sl.H2_3 kernelRun0_A.sl.H2_2 kernelRun0_A.sl.H2_1
      unfold kernelRun0_A.sl.r_41 kernelRun0_A.sl.v92 kernelRun0_A.sl.v89 kernelRun0_A.sl.v88
      rw [e7, e6, e5, e4, e3, e2, e1, e0]
      sl_unfold_run_names
      simp only [View.readAt_eq_ld, harg3.read_unread, harg4.read_unread]
      subst hlo hhi
      funext y
      show View.read _ _ (View.writes _ _ (View.writes _ _ f2 [⟨Rect.unit (s := S1x1x1024) ![0, 0, 0] S1x1x1024.size inb_S1x1x1024_S1x1x1024_0_0_0, k0_pay1 (F := Ideal)⟩]) [_, _, _, _, _, _, _, _]) y = _
      refine View.read_writes_apply_of_pieces _ _ _ _ ?_ y (View.cover_of_tiledL _ ![1, 1, 128] (by sl_kernel_rfl) y)
      intro q hq
      simp only [List.mem_cons, List.not_mem_nil, or_false] at hq
      rcases hq with rfl | rfl | rfl | rfl | rfl | rfl | rfl | rfl
      · exact fun x => piece_step _ (896#32) _ _ _ p 896 t ht hv2 rfl hp (by decide) x0 x1 _ _ _ _ _ _ inb_S1x1x1024_S1x1x128_0_0_896 x
      · exact fun x => piece_step _ (768#32) _ _ _ p 768 t ht hv2 rfl hp (by decide) x0 x1 _ _ _ _ _ _ inb_S1x1x1024_S1x1x128_0_0_768 x
      · exact fun x => piece_step _ (640#32) _ _ _ p 640 t ht hv2 rfl hp (by decide) x0 x1 _ _ _ _ _ _ inb_S1x1x1024_S1x1x128_0_0_640 x
      · exact fun x => piece_step _ (512#32) _ _ _ p 512 t ht hv2 rfl hp (by decide) x0 x1 _ _ _ _ _ _ inb_S1x1x1024_S1x1x128_0_0_512 x
      · exact fun x => piece_step _ (384#32) _ _ _ p 384 t ht hv2 rfl hp (by decide) x0 x1 _ _ _ _ _ _ inb_S1x1x1024_S1x1x128_0_0_384 x
      · exact fun x => piece_step _ (256#32) _ _ _ p 256 t ht hv2 rfl hp (by decide) x0 x1 _ _ _ _ _ _ inb_S1x1x1024_S1x1x128_0_0_256 x
      · exact fun x => piece_step _ (128#32) _ _ _ p 128 t ht hv2 rfl hp (by decide) x0 x1 _ _ _ _ _ _ inb_S1x1x1024_S1x1x128_0_0_128 x
      · exact fun x => piece_step _ (0#32) _ _ _ p 0 t ht hv2 rfl hp (by decide) x0 x1 _ _ _ _ _ _ inb_S1x1x1024_S1x1x128_0_0_0 x
    isplitl [HT0]; · iexact HT0
    iexact HT1

end Cert.KernelI4Ideal.Run

end
-- ==== Proof.I4.RunB.lean ====
/- The body at a grid point that goes on with its output block: the block is left holding `step` over what it held. -/
module

public import proofs.«01_k».proof.Proof.I4.Kit
public import proofs.«01_k».proof.Proof.I4.Step

@[expose] public section

-- membership in a rectangle of production extents (`View.cover_of_tiled`): the elaborator's structural look
-- recurses once per coordinate of the long axes
set_option maxRecDepth 16384

noncomputable section

namespace Cert.KernelI4Ideal.Run

open Cert.KernelI4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body at a point that goes on with its output block. -/
theorem kernelRun0_B (c : Dev nD) (i : grid0.Coords) (arg3 : Memref sig .tc .vmem S8x1024 .i32) (harg3 : arg3.IsWhole) (arg4 : Memref sig .tc .vmem S3264x256 .bf16) (harg4 : arg4.IsWhole) (arg5 : Memref sig .tc .vmem S1x1x1024 .f32) (harg5 : arg5.IsWhole)
    (x0 : Vec Ideal S8x1024 .i32) (x1 : Vec Ideal S3264x256 .bf16) (xt0 : TbBuf0 (F := Ideal) c tbM0_0) (xt1 : TbBuf0 (F := Ideal) c tbM0_1) (d : Vec Ideal S1x1x1024 .f32) (hc0 : ¬cond0_0 i (tbM0_0.view.readAt (Elt Ideal) (Rect.unit (s := S329) (k0_off1 i) S1.size (k0_off1_inb i)).toLoadRect xt0 (Shape.Idx.first (numel1_S1.symm ▸ Nat.one_pos))) (tbM0_0.view.readAt (Elt Ideal) (Rect.unit (s := S329) (k0_off4 i) S1.size (k0_off4_inb i)).toLoadRect xt0 (Shape.Idx.first (numel1_S1.symm ▸ Nat.one_pos)))) (k0_hw1 : k0_chk1 (tbM0_0.view.readAt (Elt Ideal) (Rect.unit (s := S329) (k0_off1 i) S1.size (k0_off1_inb i)).toLoadRect xt0 (Shape.Idx.first (numel1_S1.symm ▸ Nat.one_pos)))) (p : ℕ) (hp : p < 1000) (t : Fin 30)
    (ht : (tbM0_0.view.readAt (Elt Ideal) (Rect.unit (s := S329) (k0_off1 i) S1.size (k0_off1_inb i)).toLoadRect xt0 (Shape.Idx.first (numel1_S1.symm ▸ Nat.one_pos))) = BitVec.ofNat 32 t.val) (hv2 : Scalar.subi (BitVec.ofNat 32 (i 0).val) (tbM0_0.view.readAt (Elt Ideal) (Rect.unit (s := S329) (k0_off1 i) S1.size (k0_off1_inb i)).toLoadRect xt0 (Shape.Idx.first (numel1_S1.symm ▸ Nat.one_pos))) = BitVec.ofNat 32 p)
    (lo hi : ℤ) (hlo : BitVec.toInt (tbM0_1.view.readAt (Elt Ideal) (Rect.unit (s := S31) (k0_off2 (tbM0_0.view.readAt (Elt Ideal) (Rect.unit (s := S329) (k0_off1 i) S1.size (k0_off1_inb i)).toLoadRect xt0 (Shape.Idx.first (numel1_S1.symm ▸ Nat.one_pos)))) S1.size (k0_off2_inb _ k0_hw1)).toLoadRect xt1 (Shape.Idx.first (numel1_S1.symm ▸ Nat.one_pos))) = lo) (hhi : BitVec.toInt (tbM0_1.view.readAt (Elt Ideal) (Rect.unit (s := S31) (k0_off3 (tbM0_0.view.readAt (Elt Ideal) (Rect.unit (s := S329) (k0_off1 i) S1.size (k0_off1_inb i)).toLoadRect xt0 (Shape.Idx.first (numel1_S1.symm ▸ Nat.one_pos)))) S1.size (k0_off3_inb _ k0_hw1)).toLoadRect xt1 (Shape.Idx.first (numel1_S1.symm ▸ Nat.one_pos))) = hi) :
      ∀ (E : Set ℕ) (K : PUnit → sProp 𝕄),
        iprop(owns (c : Thread nD τ) arg3 fullShare x0 ∗ owns (c : Thread nD τ) arg4 fullShare x1 ∗ owns (c : Thread nD τ) arg5 fullShare d ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare (step p t lo hi x0 x1 d) ∗ tbPt0 c tbM0_0 xt0 ∗ tbPt0 c tbM0_1 xt1) -∗ K ⟨⟩))
          ⊢ wp frame (wpE (defs₀ (F := Ideal)) Variants.none c none) E (cc0_tc_dot_i4 i tbM0_0 htbM0_0 tbM0_1 htbM0_1 arg3 harg3 arg4 harg4 arg5 harg5) K := by
    intro E K
    simp only [cc0_tc_dot_i4_eq_skeleton]; unfold cc0_tc_dot_i4_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, HT0, HT1, Hk⟩
    obtain rfl := harg3.eq_unread hf0; obtain rfl := harg4.eq_unread hf1; obtain rfl := harg5.eq_unread hf2
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      simp only [View.readAt_eq_ld, harg3.read_unread, harg4.read_unread, harg5.read_unread]
      subst hlo hhi
      funext y
      refine View.read_writes_apply_of_pieces _ _ _ _ ?_ y (View.cover_of_tiledL _ ![1, 1, 128] (by sl_kernel_rfl) y)
      intro q hq
      simp only [List.mem_cons, List.not_mem_nil, or_false] at hq
      rcases hq with rfl | rfl | rfl | rfl | rfl | rfl | rfl | rfl
      · exact fun x => piece_step _ (896#32) _ _ _ p 896 t ht hv2 rfl hp (by decide) x0 x1 d _ _ _ _ _ inb_S1x1x1024_S1x1x128_0_0_896 x
      · exact fun x => piece_step _ (768#32) _ _ _ p 768 t ht hv2 rfl hp (by decide) x0 x1 d _ _ _ _ _ inb_S1x1x1024_S1x1x128_0_0_768 x
      · exact fun x => piece_step _ (640#32) _ _ _ p 640 t ht hv2 rfl hp (by decide) x0 x1 d _ _ _ _ _ inb_S1x1x1024_S1x1x128_0_0_640 x
      · exact fun x => piece_step _ (512#32) _ _ _ p 512 t ht hv2 rfl hp (by decide) x0 x1 d _ _ _ _ _ inb_S1x1x1024_S1x1x128_0_0_512 x
      · exact fun x => piece_step _ (384#32) _ _ _ p 384 t ht hv2 rfl hp (by decide) x0 x1 d _ _ _ _ _ inb_S1x1x1024_S1x1x128_0_0_384 x
      · exact fun x => piece_step _ (256#32) _ _ _ p 256 t ht hv2 rfl hp (by decide) x0 x1 d _ _ _ _ _ inb_S1x1x1024_S1x1x128_0_0_256 x
      · exact fun x => piece_step _ (128#32) _ _ _ p 128 t ht hv2 rfl hp (by decide) x0 x1 d _ _ _ _ _ inb_S1x1x1024_S1x1x128_0_0_128 x
      · exact fun x => piece_step _ (0#32) _ _ _ p 0 t ht hv2 rfl hp (by decide) x0 x1 d _ _ _ _ _ inb_S1x1x1024_S1x1x128_0_0_0 x
    isplitl [HT0]; · iexact HT0
    iexact HT1

end Cert.KernelI4Ideal.Run

end
-- ==== Proof.I4.Tables.lean ====
/- The two tables the kernel prefetches, as the host computes them from the offsets: the bounds are every 256th offset,
   and the table of a grid point is one less than the number of tables whose start lies at or before it. -/
module

public import proofs.«01_k».proof.Proof.I4.Kit
public import proofs.«01_k».proof.Proof.Words
public import proofs.«01_k».proof.Proof.TableWords
public import Idealize.ShloMosaic.Lib.Claim
public import Idealize.ShloMosaic.Lib.Pointwise

@[expose] public section

set_option maxRecDepth 16384

noncomputable section

namespace Cert.KernelI4Ideal.Run

open Cert.KernelI4Ideal.Gen Cert.Words
open Idealize.ShloMosaic Idealize.ShloMosaic.TcCoe Idealize.SL.Sem

variable {F : FTy → Type} [FloatOps F]
variable (m : (ℓ : Loc nD τ sig) → Buf (Elt F) ℓ)

/-- The first position of each table, divided into chunks (rounding down), as the host's operations spell it. -/
def fdiv (x : Vec F S30 .i32) : Vec F S30 .i32 :=
  select (andi (cmpi .ne (signi x) (broadcastInDim S30 ![] bcast_S_S30 (signi (constantI S_ 32 1024#32))))
      (cmpi .ne (Host.remsi x (broadcastInDim S30 ![] bcast_S_S30 (constantI S_ 32 1024#32))) (broadcastInDim S30 ![] bcast_S_S30 (constantI S_ 32 0#32))))
    (subi (Host.divsi x (broadcastInDim S30 ![] bcast_S_S30 (constantI S_ 32 1024#32))) (broadcastInDim S30 ![] bcast_S_S30 (constantI S_ 32 1#32)))
    (Host.divsi x (broadcastInDim S30 ![] bcast_S_S30 (constantI S_ 32 1024#32)))

/-- The table of each grid point, as the host's operations spell it. -/
def tmapOf (off : Vec F S7681 .i32) : Vec F S329 .i32 :=
  subi
    (Host.reduce IntOp.addi
      (extui 32 (cmpi .sle
          (broadcastInDim S329x30 ![0, 1] bcast_S1x30_S329x30_0_1 (broadcastInDim S1x30 ![1] bcast_S30_S1x30_1
            (addi (fdiv (F := F) (extractStridedSlice S30 ![0] (Host.slice S31 ![0] ![256] off slicesBy_S7681_S31_0s256) slices_S31_S30_0)) (iotaInDim S30 32 0))))
          (broadcastInDim S329x30 ![0, 1] bcast_S329x1_S329x30_0_1 (broadcastInDim S329x1 ![0] bcast_S329_S329x1_0 (iotaInDim S329 32 0)))) natLt_1_32)
      (constantI S_ 32 0#32) reducesTo_S329x30_S329_d1 h_S_)
    (broadcastInDim S329 ![] bcast_S_S329 (constantI S_ 32 1#32))

theorem V_tmap (c : Dev nD) : V m c main_v15 = tmapOf (F := F) (m ((c : Thread nD τ).loc main_arg1)) := by
  unfold V
  simp only [hostOps0, hostOps0_1, hostOps0_2, List.flatten_cons, List.flatten_nil, List.append_nil, List.cons_append, List.nil_append]
  after_results
  rfl

theorem V_bounds (c : Dev nD) : V m c main_v1 = Host.slice S31 ![0] ![256] (m ((c : Thread nD τ).loc main_arg1)) slicesBy_S7681_S31_0s256 := by
  unfold V
  simp only [hostOps0, hostOps0_1, hostOps0_2, List.flatten_cons, List.flatten_nil, List.append_nil, List.cons_append, List.nil_append]
  after_results

theorem V_go (c : Dev nD) : V m c main_v0 = transpose S3264x256 [1, 0] (m ((c : Thread nD τ).loc main_arg2)) transposes_S256x3264_S3264x256_1_0 := by
  unfold V
  simp only [hostOps0, hostOps0_1, hostOps0_2, List.flatten_cons, List.flatten_nil, List.append_nil, List.cons_append, List.nil_append]
  after_results

/-- The offsets, as integers. -/
def offOf (off : Vec F S7681 .i32) (i : ℕ) : ℤ := (off (ix1 ⟨min i 7680, by omega⟩)).toInt
abbrev offI (i : ℕ) : ℤ := offOf (F := F) (m (((0 : Dev nD) : Thread nD τ).loc main_arg1)) i

/-- The gradient, transposed. -/
theorem V_go_apply (c : Dev nD) (r : Fin 3264) (k : Fin 256) : V m c main_v0 (ix2 r k) = m ((c : Thread nD τ).loc main_arg2) (ix2 k r) := by
  rw [V_go]
  generalize m _ = off
  pointwise

/-- The bounds. -/
theorem tbl1_toInt (k : Fin 31) : (tbl m 1 (ix1 k)).toInt = offI m (256 * k.val) := by
  have e : tbl m 1 (ix1 k) = m (((0 : Dev nD) : Thread nD τ).loc main_arg1) (ix1 ⟨256 * k.val, by omega⟩) := by
    show V m (0 : Dev nD) main_v1 (ix1 k) = _
    rw [V_bounds]
    generalize m _ = off
    pointwise
  have hk : (⟨min (256 * k.val) 7680, by omega⟩ : Fin 7681) = ⟨256 * k.val, by omega⟩ := Fin.ext (by simp only; omega)
  rw [e]
  show _ = offOf _ _
  unfold offOf
  rw [hk]

/-- The table of a grid point is the count, less one, of the starts at or before it. -/
theorem tmapOf_apply (off : Vec F S7681 .i32) (HG : GoodOff 30 300 (offOf (F := F) off)) (g : Fin 329) :
    tmapOf (F := F) off (ix1 g) = BitVec.ofNat 32 (((Finset.range 30).filter fun t => (offOf (F := F) off (256 * min t 30)).toNat / 1024 + t ≤ g.val).card - 1) := by
  pointwise [tmapOf, fdiv]
  refine tmap_word 30 (by decide) (by decide) (fun t : Fin 30 => off (ix1 ⟨256 * t.val, by omega⟩)) (fun t => (offOf (F := F) off (256 * min t 30)).toNat) ?_ ?_ ?_ g.val (by omega)
  · intro t
    have h := HG.nonneg (i := 256 * t.val) (by omega)
    have e : offOf (F := F) off (256 * t.val) = (off (ix1 ⟨256 * t.val, by omega⟩)).toInt := by
      unfold offOf
      congr 3
      exact Fin.ext (by simp only; omega)
    have hm : min t.val 30 = t.val := by omega
    simp only [hm]
    rw [e] at h ⊢
    generalize off _ = w at h ⊢
    have h2 : w.toInt = w.toNat := BitVec.toInt_eq_toNat_of_lt (BitVec.toInt_pos_iff.mp h)
    rw [h2, Int.toNat_natCast, BitVec.ofNat_toNat, BitVec.setWidth_eq]
  · intro t
    have := HG.le_last (i := 256 * min t 30) (by omega)
    omega
  · simp [HG.zero]

/-- The table that grid point `g` treats. -/
def tb (g : ℕ) : ℕ := (tbl m 0 (ix1 ⟨min g 328, by omega⟩)).toNat

theorem tbl0_eq (g : Fin 329) : tbl m 0 (ix1 g) = BitVec.ofNat 32 (tb m g.val) := by
  have hg : (⟨min g.val 328, by omega⟩ : Fin 329) = g := Fin.ext (by simp only; omega)
  unfold tb
  rw [hg]
  exact (fun w : BitVec 32 => (by rw [BitVec.ofNat_toNat, BitVec.setWidth_eq] : w = BitVec.ofNat 32 w.toNat)) _

variable (HG : GoodOff 30 300 (offI m))

include HG in
/-- The grid walks the tables' chunks in order. -/
theorem sched : Sched 30 300 (fun t => (offI m (256 * t)).toNat) (tb m) := by
  refine HG.sched (by decide) (by decide) _ fun g hg => ?_
  unfold tb
  have e : tbl m 0 (ix1 ⟨min g 328, by omega⟩) = _ := (congrFun (V_tmap m 0) _).trans (tmapOf_apply _ HG ⟨min g 328, by omega⟩)
  rw [e, BitVec.toNat_ofNat]
  have hc : ∀ p : ℕ → Prop, [DecidablePred p] → ((Finset.range 30).filter p).card - 1 < 2 ^ 32 := fun p _ => by
    have := Finset.card_le_card (Finset.filter_subset p (Finset.range 30))
    rw [Finset.card_range] at this
    omega
  rw [Nat.mod_eq_of_lt (hc _)]
  congr 2
  apply Finset.filter_congr
  intro t ht
  rw [Finset.mem_range] at ht
  have h1 : min t 30 = t := by omega
  have h2 : min g 328 = g := by omega
  simp only [h1, h2]

include HG in
theorem tb_lt (g : Fin 329) : tb m g.val < 30 := (sched m HG).lt g.val (by omega)

/-- A load of one word of the first table. -/
theorem read0 (off : Fin 1 → ℕ) (inb) (g : Fin 329) (h : off 0 = g.val) (h1) :
    tbM0_0.view.readAt (Elt F) (Rect.unit (s := S329) off S1.size inb).toLoadRect (tbl m 0) (Shape.Idx.first h1) = BitVec.ofNat 32 (tb m g.val) := by
  rw [← tbl0_eq]
  refine congrArg (tbl m 0) (funext fun a => Fin.ext ?_)
  match a with
  | ⟨0, _⟩ => exact (congrArg (· + 1 * (Shape.Idx.first h1 0).val) h).trans (by
      have h0 : ∀ q : Fin 1, g.val + 1 * q.val = g.val := fun q => by omega
      exact h0 (Shape.Idx.first h1 0))

/-- A load of one word of the second table. -/
theorem read1 (off : Fin 1 → ℕ) (inb) (k : Fin 31) (h : off 0 = k.val) (h1) :
    BitVec.toInt (tbM0_1.view.readAt (Elt F) (Rect.unit (s := S31) off S1.size inb).toLoadRect (tbl m 1) (Shape.Idx.first h1)) = offI m (256 * k.val) := by
  rw [← tbl1_toInt]
  refine congrArg (fun i => BitVec.toInt (tbl m 1 i)) (funext fun a => Fin.ext ?_)
  match a with
  | ⟨0, _⟩ => exact (congrArg (· + 1 * (Shape.Idx.first h1 0).val) h).trans (by
      have h0 : ∀ q : Fin 1, k.val + 1 * q.val = k.val := fun q => by omega
      exact h0 (Shape.Idx.first h1 0))

/-- The place of a grid point's word, and of the one before it. -/
theorem off1_val (i : grid0.Coords) : k0_off1 i 0 = (i 0).val := by
  have h : (i 0).val < 329 := (i 0).isLt
  show (BitVec.ofNat 32 (i 0).val).toNat = _
  simp only [BitVec.toNat_ofNat]; omega

theorem off4_val (i : grid0.Coords) : k0_off4 i 0 = (i 0).val - 1 := by
  have h : (i 0).val < 329 := (i 0).isLt
  have h' : ∀ k : Fin 329, (Scalar.maxsi (Scalar.subi (BitVec.ofNat 32 k.val) 1#32) 0#32).toNat = k.val - 1 := by decide +kernel
  exact h' ⟨(i 0).val, h⟩

/-- What the body assumes of a table number, and the places of the bounds it reads. -/
theorem chk (t : Fin 30) : k0_chk1 (BitVec.ofNat 32 t.val) := by
  revert t; decide +kernel

theorem off2_val (t : Fin 30) : k0_off2 (BitVec.ofNat 32 t.val) 0 = t.val ∧ k0_off3 (BitVec.ofNat 32 t.val) 0 = t.val + 1 := by
  revert t; decide +kernel

/-- The chunk of grid point `g` as a word. -/
theorem chunk_word (T g : ℕ) (h : T ≤ g) (hg : g < 2 ^ 32) : Scalar.subi (BitVec.ofNat 32 g) (BitVec.ofNat 32 T) = BitVec.ofNat 32 (g - T) :=
  BitVec.ofNat_sub_ofNat_of_le _ _ (by omega) h

include HG in
/-- The block a point writes is its chunk. -/
theorem trans2 (i : grid0.Coords) : cc0_transform_2 k0_off1_inb numel1_S1 (tbl m) i = ![(i 0).val - tb m (i 0).val, 0, 0] := by
  have hi : (i 0).val < 329 := (i 0).isLt
  have e : (tbl m).at 0 (Rect.unit (s := S329) (k0_off1 i) S1.size (k0_off1_inb i)) numel1_S1 = BitVec.ofNat 32 (tb m (i 0).val) := read0 m _ _ ⟨(i 0).val, hi⟩ (off1_val i) _
  have h1 := (sched m HG).le_self (g := (i 0).val) (by omega)
  show ![(Scalar.subi (BitVec.ofNat 32 (i 0).val) ((tbl m).at 0 (Rect.unit (s := S329) (k0_off1 i) S1.size (k0_off1_inb i)) numel1_S1)).toNat, 0, 0] = _
  rw [e, chunk_word _ _ h1 (by omega), BitVec.toNat_ofNat, Nat.mod_eq_of_lt (by omega)]

include HG in
/-- The pipeline's side condition: every block it writes lies in the array. -/
theorem ok : Ok m := by
  intro i
  have hi : (i 0).val < 329 := (i 0).isLt
  have h2 := (sched m HG).chunk_lt (by decide) (by decide) (g := (i 0).val) (by omega)
  refine ⟨fun a => ?_, Or.inl rfl⟩
  rw [trans2 m HG]
  match a with
  | ⟨0, _⟩ => show ((i 0).val - tb m (i 0).val + 1) * 1 ≤ 300; omega
  | ⟨1, _⟩ => show (0 + 1) * 1 ≤ 1; omega
  | ⟨2, _⟩ => show (0 + 1) * 1024 ≤ 1024; omega

include HG in
/-- The side conditions the body assumes hold at every point. -/
theorem hyps (hO : Ok m) : Hyps m hO := fun c t => by
  have hi : (grid0.coords t 0).val < 329 := (grid0.coords t 0).isLt
  rw [read0 m _ _ ⟨(grid0.coords t 0).val, hi⟩ (off1_val _)]
  exact chk ⟨tb m (grid0.coords t 0).val, tb_lt m HG ⟨_, hi⟩⟩

end Cert.KernelI4Ideal.Run
-- ==== Proof.I4.Data.lean ====
/- What the kernel's output block holds point by point (`dAt`): a point that starts a block of the output puts its table's
   dot products over zeros, one that goes on with the block puts them over what the point before left. The pipeline's
   proof data with these contents, the body's obligation, and the run. -/
module

public import proofs.«01_k».proof.Proof.I4.RunA
public import proofs.«01_k».proof.Proof.I4.RunB
public import proofs.«01_k».proof.Proof.I4.Tables

@[expose] public section

set_option maxRecDepth 16384

noncomputable section

namespace Cert.KernelI4Ideal.Run

open Cert.KernelI4Ideal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
variable (HG : GoodOff 30 300 (offI m))

/-! ## The points -/

/-- There are 329 grid points, and a point's coordinate is its number. -/
theorem N_eq : grid0.N = 329 := by decide +kernel
theorem coord (t : Fin grid0.N) : (grid0.coords t 0).val = t.val := by
  rw [Pipeline.Grid.coords_val (G := grid0) t 0 (S := 1) (B := 329) (by decide +kernel) rfl, Nat.div_one, Nat.mod_eq_of_lt (N_eq ▸ t.isLt)]

/-- The output block's index at a point: the chunk. -/
theorem index2 (t : Fin (cfgM m (ok m HG)).N) : ((cfgM m (ok m HG)).win 2).index t = ![t.val - tb m t.val, 0, 0] := by
  have h : cc0_transform_2 k0_off1_inb numel1_S1 (tbl m) (grid0.coords t) = _ := trans2 m HG (grid0.coords t)
  rw [coord] at h
  exact h

/-- When the body starts a new output block: at the first point, and where the chunk changes. -/
theorem cond_iff (i : grid0.Coords) (v1 v13 : BitVec 32) :
    cond0_0 i v1 v13 ↔ (i 0).val = 0 ∨ Scalar.subi (Scalar.subi (BitVec.ofNat 32 (i 0).val) 1#32) v13 ≠ Scalar.subi (BitVec.ofNat 32 (i 0).val) v1 := by
  have hb : ∀ a b : BitVec 1, (Scalar.cmpi .ne (Scalar.extui (Scalar.ori a b) : BitVec 32) 0#32 = 1#1) ↔ (a = 1#1 ∨ b = 1#1) := by decide
  have hi : (i 0).val < 329 := (i 0).isLt
  have h0 : (BitVec.ofNat 32 (i 0).val = 0#32) ↔ (i 0).val = 0 := by
    constructor
    · intro h
      have := congrArg BitVec.toNat h
      simp at this; omega
    · intro h; rw [h]
  show (Scalar.cmpi .ne (Scalar.extui (Scalar.ori _ _) : BitVec 32) 0#32 = 1#1) ↔ _
  rw [hb, ← h0]
  have e1 : ∀ a b : BitVec 32, Scalar.cmpi .eq a b = 1#1 ↔ a = b := fun a b => by
    show BitVec.ofBool (a == b) = 1#1 ↔ _
    rw [(by decide : ∀ x : Bool, BitVec.ofBool x = 1#1 ↔ x = true) (a == b), beq_iff_eq]
  have e2 : ∀ a b : BitVec 32, Scalar.cmpi .ne a b = 1#1 ↔ a ≠ b := fun a b => by
    show BitVec.ofBool (a != b) = 1#1 ↔ _
    rw [(by decide : ∀ x : Bool, BitVec.ofBool x = 1#1 ↔ x = true) (a != b), bne_iff_ne]
  rw [e1, e2]

/-! ## The contents -/

/-- The table of a point. -/
def tbF (g : ℕ) : Fin 30 := ⟨tb m g % 30, Nat.mod_lt _ (by decide)⟩

/-- A point by its number. -/
def pt (g : ℕ) : Fin grid0.N := ⟨min g 328, by rw [N_eq]; omega⟩

/-- Zeros. -/
def zeros : Vec Ideal S1x1x1024 .f32 := fun _ => Ideal.ofBits .f32 (0#32)

/-- One point's work on its block. -/
def work (c : Dev nD) (g : ℕ) (d : Vec Ideal S1x1x1024 .f32) : Vec Ideal S1x1x1024 .f32 :=
  step (g - tb m g) (tbF m g) (offI m (256 * tb m g)) (offI m (256 * (tb m g + 1))) (iblk m (ok m HG) c 0 (pt g)) (iblk m (ok m HG) c 1 (pt g)) d

/-- The output block after point `g`. -/
def dAt (c : Dev nD) : ℕ → Vec Ideal S1x1x1024 .f32
  | 0 => work m HG c 0 zeros
  | g + 1 => work m HG c (g + 1) (if tb m (g + 1) = tb m g then zeros else dAt c g)

/-! ## The pipeline's proof data -/

/-- The proof data: the inputs' blocks as the region finds them, the output block at `dAt`. -/
def dats (_ : Fin 1) (c : Dev nD) : Dat τ (Elt Ideal) Unit ℕ (UR sig nD τ) ℕ (cfgM m (ok m HG)) c where
  A w := V m c (Pipeline.arrRef spec0 w)
  after w t := match w with
    | ⟨0, _⟩ => iblk m (ok m HG) c 0 t
    | ⟨1, _⟩ => iblk m (ok m HG) c 1 t
    | ⟨2, _⟩ => dAt m HG c t.val
  Φ _ := iprop(Pipeline.ΦA spec0 c ∗ Pipeline.ΦT pre0 (tbl m) c)
  q _ := fullShare
  owed _ := 0

theorem A_eq (c : Dev nD) (w : Fin (cfgM m (ok m HG)).W) : (dats m HG 0 c).A w = V m c (Pipeline.arrRef spec0 w) := by
  dsimp only [dats]
theorem after0_0 (c : Dev nD) (t : Fin (cfgM m (ok m HG)).N) : (dats m HG 0 c).after 0 t = iblk m (ok m HG) c 0 t := by dsimp only [dats]; try rfl
theorem after0_1 (c : Dev nD) (t : Fin (cfgM m (ok m HG)).N) : (dats m HG 0 c).after 1 t = iblk m (ok m HG) c 1 t := by dsimp only [dats]; try rfl
theorem after0_2 (c : Dev nD) (t : Fin (cfgM m (ok m HG)).N) : (dats m HG 0 c).after 2 t = dAt m HG c t.val := by dsimp only [dats]; try rfl
theorem before0_0 (c : Dev nD) (t : Fin (cfgM m (ok m HG)).N) (d) : (dats m HG 0 c).before 0 t d = iblk m (ok m HG) c 0 t :=
  before0_0_of m (ok m HG) (dats m HG 0 c) (A_eq m HG c 0) (after0_0 m HG c) t d
theorem before0_1 (c : Dev nD) (t : Fin (cfgM m (ok m HG)).N) (d) : (dats m HG 0 c).before 1 t d = iblk m (ok m HG) c 1 t :=
  before0_1_of m (ok m HG) (dats m HG 0 c) (A_eq m HG c 1) (after0_1 m HG c) t d

/-- At a point that goes on with its block the body finds what the point before left. -/
theorem before0_2 (c : Dev nD) (t : Fin (cfgM m (ok m HG)).N) (g : ℕ) (ht : t.val = g + 1) (h : tb m (g + 1) = tb m g + 1) (d) :
    (dats m HG 0 c).before 2 t d = dAt m HG c g := by
  have hN : t.val < 329 := N_eq ▸ t.isLt
  have hf : ((cfgM m (ok m HG)).win 2).flush ⟨t.val - 1, Nat.lt_of_le_of_lt (Nat.sub_le _ _) t.isLt⟩ = false := by
    rw [Bool.eq_false_iff]
    intro hf
    have hN' : (cfgM m (ok m HG)).grid.N = 329 := N_eq
    rcases (((cfgM m (ok m HG)).win 2).flush_out rfl _).mp hf with e | ⟨h1, hne⟩
    · have e' := e.trans hN'; simp only at e'; omega
    · refine hne ?_
      rw [index2 m HG, index2 m HG]
      have e1 : t.val - 1 = g := by omega
      have e2 : t.val - 1 + 1 = g + 1 := by omega
      simp only [e1, e2, h]
      rw [show g + 1 - (tb m g + 1) = g - tb m g by omega]
  rw [(dats m HG 0 c).before_out_kept 2 rfl t (by omega) hf (fun _ => rfl) (fun _ _ => rfl), after0_2]
  congr 1
  simp only; omega

/-! ## The body obligation -/

def bodyPre (c : Dev nD) (t : Fin (cfgM m (ok m HG)).N) : sProp 𝕄 :=
  iprop((dats m HG 0 c).Φ t.castSucc ∗ (dats m HG 0 c).owesAt () t.castSucc
    ∗ (∃ d, owns (c : Thread nD τ) (ms0_0 m (ok m HG) t) fullShare ((dats m HG 0 c).before 0 t d))
    ∗ (∃ d, owns (c : Thread nD τ) (ms0_1 m (ok m HG) t) fullShare ((dats m HG 0 c).before 1 t d))
    ∗ (∃ d, owns (c : Thread nD τ) (ms0_2 m (ok m HG) t) fullShare ((dats m HG 0 c).before 2 t d)))

def bodyPost (c : Dev nD) (t : Fin (cfgM m (ok m HG)).N) : sProp 𝕄 :=
  iprop((dats m HG 0 c).Φ t.succ ∗ (dats m HG 0 c).owesAt () t.succ
    ∗ owns (c : Thread nD τ) (ms0_0 m (ok m HG) t) fullShare ((dats m HG 0 c).after 0 t)
    ∗ owns (c : Thread nD τ) (ms0_1 m (ok m HG) t) fullShare ((dats m HG 0 c).after 1 t)
    ∗ owns (c : Thread nD τ) (ms0_2 m (ok m HG) t) fullShare ((dats m HG 0 c).after 2 t))

set_option maxHeartbeats 800000 in
/-- The body at any point. -/
theorem sound_body (c : Dev nD) (t : Fin (cfgM m (ok m HG)).N) :
    bodyPre m HG c t ⊢ wp frame (wpE (defs₀ (F := Ideal)) Variants.none c none) Set.univ (bodyAt0 (adm m (ok m HG)) t) (fun _ => bodyPost m HG c t) := by
  have S := sched m HG
  have hN : t.val < 329 := N_eq ▸ t.isLt
  have hi : (grid0.coords t 0).val = t.val := coord t
  have hT : tb m t.val < 30 := S.lt t.val (by omega)
  have hle := S.le_self (g := t.val) (by omega)
  have hch := S.chunk_lt (by decide) (by decide) (g := t.val) (by omega)
  have hpt : pt t.val = t := Fin.ext (by show min t.val 328 = t.val; omega)
  have hF : (tbF m t.val).val = tb m t.val := Nat.mod_eq_of_lt hT
  have r1 : tbM0_0.view.readAt (Elt Ideal) (Rect.unit (s := S329) (k0_off1 (grid0.coords t)) S1.size (k0_off1_inb (grid0.coords t))).toLoadRect (tbl m 0) (Shape.Idx.first (numel1_S1.symm ▸ Nat.one_pos)) = BitVec.ofNat 32 (tb m t.val) :=
    read0 m _ _ ⟨t.val, hN⟩ ((off1_val _).trans hi) _
  have r4 : tbM0_0.view.readAt (Elt Ideal) (Rect.unit (s := S329) (k0_off4 (grid0.coords t)) S1.size (k0_off4_inb (grid0.coords t))).toLoadRect (tbl m 0) (Shape.Idx.first (numel1_S1.symm ▸ Nat.one_pos)) = BitVec.ofNat 32 (tb m (t.val - 1)) :=
    read0 m _ _ ⟨t.val - 1, by omega⟩ ((off4_val _).trans (by rw [hi])) _
  have ht' : tbM0_0.view.readAt (Elt Ideal) (Rect.unit (s := S329) (k0_off1 (grid0.coords t)) S1.size (k0_off1_inb (grid0.coords t))).toLoadRect (tbl m 0) (Shape.Idx.first (numel1_S1.symm ▸ Nat.one_pos)) = BitVec.ofNat 32 (tbF m t.val).val :=
    r1.trans (by rw [hF])
  have hp : Scalar.subi (BitVec.ofNat 32 (grid0.coords t 0).val) (tbM0_0.view.readAt (Elt Ideal) (Rect.unit (s := S329) (k0_off1 (grid0.coords t)) S1.size (k0_off1_inb (grid0.coords t))).toLoadRect (tbl m 0) (Shape.Idx.first (numel1_S1.symm ▸ Nat.one_pos))) = BitVec.ofNat 32 (t.val - tb m t.val) := by
    rw [r1, hi]; exact chunk_word _ _ hle (by omega)
  have hH := hyps m HG (ok m HG)
  have hlo : BitVec.toInt (tbM0_1.view.readAt (Elt Ideal) (Rect.unit (s := S31) (k0_off2 (tbM0_0.view.readAt (Elt Ideal) (Rect.unit (s := S329) (k0_off1 (grid0.coords t)) S1.size (k0_off1_inb (grid0.coords t))).toLoadRect (tbl m 0) (Shape.Idx.first (numel1_S1.symm ▸ Nat.one_pos)))) S1.size (k0_off2_inb _ (Hyps.c0 hH c t))).toLoadRect (tbl m 1) (Shape.Idx.first (numel1_S1.symm ▸ Nat.one_pos))) = offI m (256 * tb m t.val) :=
    read1 m _ _ ⟨tb m t.val, by omega⟩ ((congrArg (fun w => k0_off2 w 0) ht').trans ((off2_val _).1.trans hF)) _
  have hhi : BitVec.toInt (tbM0_1.view.readAt (Elt Ideal) (Rect.unit (s := S31) (k0_off3 (tbM0_0.view.readAt (Elt Ideal) (Rect.unit (s := S329) (k0_off1 (grid0.coords t)) S1.size (k0_off1_inb (grid0.coords t))).toLoadRect (tbl m 0) (Shape.Idx.first (numel1_S1.symm ▸ Nat.one_pos)))) S1.size (k0_off3_inb _ (Hyps.c0 hH c t))).toLoadRect (tbl m 1) (Shape.Idx.first (numel1_S1.symm ▸ Nat.one_pos))) = offI m (256 * (tb m t.val + 1)) :=
    read1 m _ _ ⟨tb m t.val + 1, by omega⟩ ((congrArg (fun w => k0_off3 w 0) ht').trans ((off2_val _).2.trans (by rw [hF]))) _
  have hwork : ∀ d, work m HG c t.val d = step (t.val - tb m t.val) (tbF m t.val) (offI m (256 * tb m t.val)) (offI m (256 * (tb m t.val + 1))) (iblk m (ok m HG) c 0 t) (iblk m (ok m HG) c 1 t) d := fun d => by
    unfold work; rw [hpt]
  unfold bodyPre bodyPost bodyAt0
  simp only [before0_0, before0_1]
  rw [show (dats m HG 0 c).Φ t.succ = (dats m HG 0 c).Φ t.castSucc from rfl,
    show (dats m HG 0 c).owesAt () t.succ = (dats m HG 0 c).owesAt () t.castSucc from rfl,
    after0_0, after0_1, after0_2]
  rw [show (dats m HG 0 c).Φ t.castSucc = iprop(Pipeline.ΦA spec0 c ∗ Pipeline.ΦT pre0 (tbl m) c) from rfl, PhiT0_eq]
  by_cases h0 : cond0_0 (grid0.coords t) (tbM0_0.view.readAt (Elt Ideal) (Rect.unit (s := S329) (k0_off1 (grid0.coords t)) S1.size (k0_off1_inb (grid0.coords t))).toLoadRect (tbl m 0) (Shape.Idx.first (numel1_S1.symm ▸ Nat.one_pos))) (tbM0_0.view.readAt (Elt Ideal) (Rect.unit (s := S329) (k0_off4 (grid0.coords t)) S1.size (k0_off4_inb (grid0.coords t))).toLoadRect (tbl m 0) (Shape.Idx.first (numel1_S1.symm ▸ Nat.one_pos)))
  · have hd : dAt m HG c t.val = step (t.val - tb m t.val) (tbF m t.val) (offI m (256 * tb m t.val)) (offI m (256 * (tb m t.val + 1))) (iblk m (ok m HG) c 0 t) (iblk m (ok m HG) c 1 t) (fun _ => Ideal.ofBits .f32 (0#32)) := by
      rw [cond_iff, r1, r4, hi] at h0
      rw [show (fun _ => Ideal.ofBits .f32 (0#32)) = zeros from rfl, ← hwork]
      obtain hz | ⟨g, hg⟩ : t.val = 0 ∨ ∃ g, t.val = g + 1 := by
        rcases Nat.eq_zero_or_pos t.val with h | h
        · exact .inl h
        · exact .inr ⟨t.val - 1, by omega⟩
      · rw [hz]; rfl
      · rw [hg] at h0 hle hN ⊢
        have h3 : tb m (g + 1) = tb m g := by
          rcases S.step g (by omega) with h | h
          · exact h
          · exfalso
            rcases h0 with h0 | h0
            · omega
            · refine h0 ?_
              have e1 : Scalar.subi (BitVec.ofNat 32 (g + 1)) 1#32 = BitVec.ofNat 32 g := chunk_word 1 (g + 1) (by omega) (by omega)
              have := S.le_self (g := g) (by omega)
              rw [e1, chunk_word _ _ hle (by omega)]
              show Scalar.subi (BitVec.ofNat 32 g) (BitVec.ofNat 32 (tb m g)) = _
              rw [chunk_word _ _ this (by omega), h]
              congr 1; omega
        show work m HG c (g + 1) (if tb m (g + 1) = tb m g then zeros else dAt m HG c g) = _
        rw [if_pos h3]
    rw [hd]
    iintro ⟨⟨HΦ, ⟨HT0, HT1⟩⟩, Ho, ⟨%d0, H0⟩, ⟨%d1, H1⟩, ⟨%d2, H2⟩⟩
    iapply ((kernelRun0_A c (grid0.coords t) _ _ _ _ _ _ (iblk m (ok m HG) c 0 t) (iblk m (ok m HG) c 1 t) (tbl m 0) (tbl m 1) h0 (Hyps.c0 hH c t) _ (by omega) (tbF m t.val) ht' hp _ _ hlo hhi) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2
  · obtain ⟨g, hg, h3⟩ : ∃ g, t.val = g + 1 ∧ tb m (g + 1) = tb m g + 1 := by
      rw [cond_iff, r1, r4, hi] at h0
      push Not at h0
      refine ⟨t.val - 1, by omega, ?_⟩
      have hg : t.val = t.val - 1 + 1 := by omega
      generalize t.val - 1 = g at hg h0
      rw [hg] at h0 hle hN
      rcases S.step g (by omega) with h | h
      · exfalso
        have e1 : Scalar.subi (BitVec.ofNat 32 (g + 1)) 1#32 = BitVec.ofNat 32 g := chunk_word 1 (g + 1) (by omega) (by omega)
        have h5 := S.le_self (g := g) (by omega)
        have h4 := h0.2
        rw [e1, chunk_word _ _ hle (by omega), chunk_word _ _ h5 (by omega), h] at h4
        have := congrArg BitVec.toNat h4
        simp only [BitVec.toNat_ofNat] at this
        omega
      · exact h
    have hd : dAt m HG c t.val = step (t.val - tb m t.val) (tbF m t.val) (offI m (256 * tb m t.val)) (offI m (256 * (tb m t.val + 1))) (iblk m (ok m HG) c 0 t) (iblk m (ok m HG) c 1 t) (dAt m HG c g) := by
      rw [← hwork, hg]
      show work m HG c (g + 1) (if tb m (g + 1) = tb m g then zeros else dAt m HG c g) = _
      rw [if_neg (by omega)]
    rw [hd]
    simp only [before0_2 m HG c t g hg h3]
    iintro ⟨⟨HΦ, ⟨HT0, HT1⟩⟩, Ho, ⟨%d0, H0⟩, ⟨%d1, H1⟩, ⟨%d2, H2⟩⟩
    iapply ((kernelRun0_B c (grid0.coords t) _ _ _ _ _ _ (iblk m (ok m HG) c 0 t) (iblk m (ok m HG) c 1 t) (tbl m 0) (tbl m 1) (dAt m HG c g) h0 (Hyps.c0 hH c t) _ (by omega) (tbF m t.val) ht' hp _ _ hlo hhi) Set.univ _)
    isplitl [H0]; · iexact H0
    isplitl [H1]; · iexact H1
    isplitl [H2]; · iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2

theorem defs₀_row (t : Fin (cfgM m (ok m HG)).N) :
    defs₀ (F := Ideal) .tc (cfgM m (ok m HG)).body ((cfgM m (ok m HG)).bodyArgs t ((cfgM m (ok m HG)).slots t)) = bodyAt0 (adm m (ok m HG)) t := by
  unfold defs₀; rw [Defs.onTc_tc]

/-- The body's obligation, at every point. -/
theorem body_obligation (c : Dev nD) : BodyObligation (dats m HG 0 c) (defs₀ (F := Ideal)) Variants.none () Set.univ := fun t => by
  rw [bigSep_W0, bigSep_W0, defs₀_row m HG]
  exact triple_restated (sound_body m HG c t) rfl .rfl fun _ => .rfl

/-! ## The run -/

set_option backward.isDefEq.respectTransparency.types false in
/-- The run: at every final state each array holds what the proof data say, and every counter is zero. -/
theorem run_main_quiescent : θ_run defs (onTc (τ := τ) (main (F := Ideal))) (s₀ m ρ)
    (fun r => (Pipeline.FramePost (Pipeline.pin pcfgs fun _ => adm m (ok m HG)) (dats m HG) (0 : Fin 1) (V m)) r ∧ r.2.sem = fun _ => 0) :=
  Pipeline.θ_run_frameP (Q' := _) pcfgs (fun _ => adm m (ok m HG)) (dats m HG) (0 : Fin 1) launch0 defs₀ Variants.none m ρ main
    (hbody := fun c => (body_obligation m HG c).loose) (hshare := fun c => (dats m HG 0 c).share_full fun _ => rfl)
    (howed := fun _ _ => rfl) (V := V m) (hmain := hmain m Variants.none) (hA := A_eq m HG) (hpf := V_pre m) (hΦ := fun _ _ => rfl)

end Cert.KernelI4Ideal.Run
-- ==== Proof.I4.Final.lean ====
/- The result array after the run: a position that a table holds carries that table's scaled dot product at the
   position's column of words, any other position zero. -/
module

public import proofs.«01_k».proof.Proof.I4.Data
public import Idealize.ShloMosaic.Lib.Pipeline.Covers

@[expose] public section

set_option maxRecDepth 16384

noncomputable section

namespace Cert.KernelI4Ideal.Run

open Cert.KernelI4Ideal.Gen Cert.Words
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg)
variable (HG : GoodOff 30 300 (offI m))

/-- The scaled dot product at column `k` of the words, for table `t`. -/
def cellAt (W : Vec Ideal S8x337920 .i32) (GO : Vec Ideal S256x3264 .bf16) (t : Fin 30) (k : Fin 337920) : EReal :=
  (∑ b : Fin 48, (((nibOf (W (ix2 ⟨b.val / 8, by omega⟩ k)) (b.val % 8)).toInt : ℝ) : EReal) * GO (ix2 (sel (W (ix2 7 k))) ⟨1152 + 48 * t.val + b.val, by omega⟩))
    * Ideal.ofBits .f32 (W (ix2 6 k))

/-- Column `pos + 1024·t` of the words, cut at the last. -/
def colF (t pos : ℕ) : Fin 337920 := ⟨min (pos + 1024 * t) 337919, by omega⟩

/-- What table `t` leaves at position `pos`. -/
def valAt (c : Dev nD) (t pos : ℕ) : EReal :=
  cellAt (m ((c : Thread nD τ).loc main_arg0)) (m ((c : Thread nD τ).loc main_arg2)) ⟨t % 30, Nat.mod_lt _ (by decide)⟩ (colF t pos)

/-- The words' block at a point: the point's 1024 columns. -/
theorem iblk0_apply (c : Dev nD) (t : Fin grid0.N) (r : Fin 8) (l : Fin 1024) (k : Fin 337920) (hk : k.val = t.val * 1024 + l.val) :
    iblk m (ok m HG) c 0 t (ix2 r l) = m ((c : Thread nD τ).loc main_arg0) (ix2 r k) := by
  have hc := coord t
  have hN : t.val < 329 := N_eq ▸ t.isLt
  refine Eq.trans (b := V m c main_arg0 (ix2 r k)) ?_ (congrFun (V_main_arg0 m c) (ix2 r k))
  unfold iblk
  refine congrArg (V m c main_arg0) (funext fun a => Fin.ext ?_)
  have e1 : ((cfgM m (ok m HG)).win 0).index t (1 : Fin 2) = t.val := by
    show (BitVec.ofNat 32 (grid0.coords t 0).val).toNat = t.val
    rw [hc, BitVec.toNat_ofNat]; omega
  match a with
  | ⟨0, _⟩ => exact (((cfgM m (ok m HG)).win 0).rect_emb_val t (ix2 r l : S8x1024.Idx) (0 : Fin 2)).trans (show 0 * 30 + r.val = r.val by omega)
  | ⟨1, _⟩ => exact (((cfgM m (ok m HG)).win 0).rect_emb_val t (ix2 r l : S8x1024.Idx) (1 : Fin 2)).trans ((congrArg (fun q => q * 1024 + l.val) e1).trans hk.symm)

/-- The gradient's block: the whole transposed gradient. -/
theorem iblk1_apply (c : Dev nD) (t : Fin grid0.N) (r : Fin 3264) (k : Fin 256) :
    iblk m (ok m HG) c 1 t (ix2 r k) = m ((c : Thread nD τ).loc main_arg2) (ix2 k r) := by
  refine Eq.trans (b := V m c main_v0 (ix2 r k)) ?_ (V_go_apply m c r k)
  unfold iblk
  refine congrArg (V m c main_v0) (funext fun a => Fin.ext ?_)
  match a with
  | ⟨0, _⟩ => exact (((cfgM m (ok m HG)).win 1).rect_emb_val t (ix2 r k : S3264x256.Idx) (0 : Fin 2)).trans (show 0 * 3264 + r.val = r.val by omega)
  | ⟨1, _⟩ => exact (((cfgM m (ok m HG)).win 1).rect_emb_val t (ix2 r k : S3264x256.Idx) (1 : Fin 2)).trans (show 0 * 256 + k.val = k.val by omega)

/-- One point's work at a lane. -/
theorem work_apply (c : Dev nD) (g : ℕ) (hg : g < 329) (d : Vec Ideal S1x1x1024 .f32) (y : ℕ) (hy : y < 1024) :
    work m HG c g d (ix3 0 0 ⟨y, hy⟩) = if Hit (offI m) (tb m g) ((g - tb m g) * 1024 + y)
      then valAt m c (tb m g) ((g - tb m g) * 1024 + y) else d (ix3 0 0 ⟨y, hy⟩) := by
  have S := sched m HG
  have hT : tb m g < 30 := S.lt g (by omega)
  have hle := S.le_self (g := g) (by omega)
  have hpt : (pt g).val = g := by show min g 328 = g; omega
  have hk : (colF (tb m g) ((g - tb m g) * 1024 + y)).val = (pt g).val * 1024 + y := by
    rw [hpt]; show min _ _ = _; omega
  unfold work step valAt cellAt
  refine if_congr Iff.rfl ?_ rfl
  show dotAt _ _ _ ⟨y, hy⟩ = _
  unfold dotAt
  simp only [iblk0_apply m HG c (pt g) _ ⟨y, hy⟩ _ hk, iblk1_apply m HG c]
  rfl

/-- The result array: where a table holds the position, its value; elsewhere zero. -/
theorem out_cell (c : Dev nD) (p : Fin 300) (y : Fin 1024) :
    (∀ t, t < 30 → Hit (offI m) t (p.val * 1024 + y.val) → (dats m HG 0 c).arrAt 2 (cfgM m (ok m HG)).N (ix3 p 0 y) = valAt m c t (p.val * 1024 + y.val))
      ∧ ((∀ t, t < 30 → ¬ Hit (offI m) t (p.val * 1024 + y.val)) → (dats m HG 0 c).arrAt 2 (cfgM m (ok m HG)).N (ix3 p 0 y) = Ideal.ofBits .f32 (0#32)) := by
  have S := sched m HG
  refine (dats m HG 0 c).arrAt_forall_of_covers 2
    (fun (i : S300x1x1024.Idx) (v : EReal) => (∀ t, t < 30 → Hit (offI m) t ((i 0).val * 1024 + (i 2).val) → v = valAt m c t ((i 0).val * 1024 + (i 2).val))
      ∧ ((∀ t, t < 30 → ¬ Hit (offI m) t ((i 0).val * 1024 + (i 2).val)) → v = Ideal.ofBits .f32 (0#32))) ?_ ?_ (ix3 p 0 y)
  · refine Window.covers_of_index_surj _ rfl (show ∀ a : Fin 3, 0 < S1x1x1024.size a by decide) fun β => ?_
    have b0 : (β (0 : Fin 3)).val < 300 := lt_of_lt_of_eq (β (0 : Fin 3)).isLt (show ((cfgM m (ok m HG)).win 2).nblk (0 : Fin 3) = 300 from (by decide : (300 + 1 - 1) / 1 = 300))
    have b1 : (β (1 : Fin 3)).val < 1 := lt_of_lt_of_eq (β (1 : Fin 3)).isLt (show ((cfgM m (ok m HG)).win 2).nblk (1 : Fin 3) = 1 from (by decide : (1 + 1 - 1) / 1 = 1))
    have b2 : (β (2 : Fin 3)).val < 1 := lt_of_lt_of_eq (β (2 : Fin 3)).isLt (show ((cfgM m (ok m HG)).win 2).nblk (2 : Fin 3) = 1 from (by decide : (1024 + 1024 - 1) / 1024 = 1))
    obtain ⟨g, hg, hp⟩ := S.chunk_surj (by decide) (β (0 : Fin 3)).val b0
    refine ⟨⟨g, by show g < grid0.N; rw [N_eq]; exact hg⟩, fun a => ?_⟩
    rw [index2 m HG]
    match a with
    | ⟨0, _⟩ => exact hp
    | ⟨1, _⟩ => exact (Nat.lt_one_iff.mp b1).symm
    | ⟨2, _⟩ => exact (Nat.lt_one_iff.mp b2).symm
  · intro t hf y
    have hN : t.val < 329 := N_eq ▸ t.isLt
    have hl : t.val + 1 = 300 + 30 - 1 ∨ tb m (t.val + 1) = tb m t.val := by
      have hN' : (cfgM m (ok m HG)).grid.N = 329 := N_eq
      rcases (((cfgM m (ok m HG)).win 2).flush_out rfl _).mp hf with e | ⟨h1, hne⟩
      · exact .inl (e.trans hN')
      · right
        have h1' : t.val + 1 < 329 := N_eq ▸ h1
        rcases S.step t.val (by omega) with h | h
        · exact h
        · refine absurd ?_ hne
          rw [index2 m HG, index2 m HG]
          simp only [h]
          rw [show t.val + 1 - (tb m t.val + 1) = t.val - tb m t.val by omega]
    obtain ⟨l, rfl⟩ : ∃ l : Fin 1024, y = (ix3 0 0 l : S1x1x1024.Idx) :=
      ⟨y (2 : Fin 3), (eq_ix3 (n0 := 1) (n1 := 1) (n2 := 1024) y).trans (by rw [Fin.fin_one_eq_zero (y (0 : Fin 3)), Fin.fin_one_eq_zero (y (1 : Fin 3))])⟩
    have key := S.accumulate (fun g y => if h : y < 1024 then dAt m HG c g (ix3 0 0 ⟨y, h⟩) else 0) (fun t pos => valAt m c t pos) (Ideal.ofBits .f32 (0#32)) (Hit (offI m))
      (fun t pos ht hp h => HG.hit_at S t pos ht hp h) (fun t t' pos ht ht' h h' => HG.hit_uniq t t' pos ht ht' h h') (by decide) (by decide)
      (fun y hy => by
        simp only [dif_pos hy]
        exact work_apply m HG c 0 (by decide) _ y hy)
      (fun g hg y hy => by
        simp only [dif_pos hy]
        refine (work_apply m HG c (g + 1) (by omega) _ y hy).trans ?_
        by_cases h : tb m (g + 1) = tb m g
        · rw [if_pos h, if_pos h]; rfl
        · rw [if_neg h, if_neg h])
      t.val (by omega) hl l.val l.isLt
    simp only [dif_pos l.isLt] at key
    have i0 : ((((cfgM m (ok m HG)).win 2).blk t).view.emb (ix3 0 0 l : S1x1x1024.Idx) (0 : Fin 3)).val = t.val - tb m t.val := by
      have e := congrFun (index2 m HG t) (0 : Fin 3)
      exact ((((cfgM m (ok m HG)).win 2).rect_emb_val t (ix3 0 0 l : S1x1x1024.Idx) (0 : Fin 3)).trans (congrArg (fun q => q * 1 + 0) e)).trans (show (t.val - tb m t.val) * 1 + 0 = _ by omega)
    have i2 : ((((cfgM m (ok m HG)).win 2).blk t).view.emb (ix3 0 0 l : S1x1x1024.Idx) (2 : Fin 3)).val = l.val := by
      have e := congrFun (index2 m HG t) (2 : Fin 3)
      exact ((((cfgM m (ok m HG)).win 2).rect_emb_val t (ix3 0 0 l : S1x1x1024.Idx) (2 : Fin 3)).trans (congrArg (fun q => q * 1024 + l.val) e)).trans (show 0 * 1024 + l.val = _ by omega)
    have hv : _root_.cast (congrArg (Elt Ideal) (((cfgM m (ok m HG)).win 2).blk t).view.elt_eq.symm) ((dats m HG 0 c).after 2 t (((cfgM m (ok m HG)).win 2).xinj ((cfgM m (ok m HG)).grid.coords t) (ix3 0 0 l : S1x1x1024.Idx))) = dAt m HG c t.val (ix3 0 0 l) := by
      rw [after0_2]; rfl
    rw [hv]
    simp only [i0, i2]
    exact key

end Cert.KernelI4Ideal.Run
-- ==== Proof.I4.Ref.lean ====
/- The reference's result, cell by cell: the sum over a row of the decoded words times the scale times the gradient row of
   the cell's sample, in the cells a table holds, and zero past the last offset. -/
module

public import proofs.«01_k».proof.Proof.Gen.ReferenceI4Ideal.Run
public import proofs.«01_k».proof.Proof.BagWords
public import proofs.«01_k».proof.Proof.Gathers
public import proofs.«01_k».proof.Proof.Scale
public import proofs.«01_k».proof.Proof.Nibbles
public import Idealize.ShloMosaic.Lib.Pointwise

@[expose] public section

set_option maxRecDepth 16384

namespace Cert.ReferenceI4Ideal.Value

open Cert.ReferenceI4Ideal Cert.ReferenceI4Ideal.Gen Cert.Words Cert.Gathers
open Idealize.ShloMosaic Idealize.ShloMosaic.Tactic

variable {F : FTy → Type} [FloatOps F]

/-- The bag of every position. -/
def bagV (off : IVec S7681 32) : IVec S307200 32 :=
  minsi (broadcastInDim S307200 ![] bcast_S_S307200 (id (constantI S_ 32 7679#32))) (maxsi (broadcastInDim S307200 ![] bcast_S_S307200 (id (constantI S_ 32 0#32))) (subi (Host.reduce IntOp.addi (extui 32 (cmpi .sle (broadcastInDim S307200x7681 ![0, 1] bcast_S1x7681_S307200x7681_0_1 (broadcastInDim S1x7681 ![1] bcast_S7681_S1x7681_1 off)) (broadcastInDim S307200x7681 ![0, 1] bcast_S307200x1_S307200x7681_0_1 (broadcastInDim S307200x1 ![0] bcast_S307200_S307200x1_0 (iotaInDim S307200 32 0)))) natLt_1_32) (constantI S_ 32 0#32) reducesTo_S307200x7681_S307200_d1 h_S_) (broadcastInDim S307200 ![] bcast_S_S307200 (constantI S_ 32 1#32))))

/-- The table of every bag. -/
def tabV (bagV : IVec S307200 32) : IVec S307200 32 :=
  select (andi (cmpi .ne (signi bagV) (broadcastInDim S307200 ![] bcast_S_S307200 (signi (id (constantI S_ 32 256#32))))) (cmpi .ne (Host.remsi bagV (broadcastInDim S307200 ![] bcast_S_S307200 (id (constantI S_ 32 256#32)))) (broadcastInDim S307200 ![] bcast_S_S307200 (constantI S_ 32 0#32)))) (subi (Host.divsi bagV (broadcastInDim S307200 ![] bcast_S_S307200 (id (constantI S_ 32 256#32)))) (broadcastInDim S307200 ![] bcast_S_S307200 (constantI S_ 32 1#32))) (Host.divsi bagV (broadcastInDim S307200 ![] bcast_S_S307200 (id (constantI S_ 32 256#32))))

/-- The column of the array that every position of a table reads. -/
def colV (tV : IVec S307200 32) : IVec S307200 32 :=
  select (cmpi .slt (addi (iotaInDim S307200 32 0) (muli tV (broadcastInDim S307200 ![] bcast_S_S307200 (constantI S_ 32 1024#32)))) (broadcastInDim S307200 ![] bcast_S_S307200 (constantI S_ 32 0#32))) (addi (addi (iotaInDim S307200 32 0) (muli tV (broadcastInDim S307200 ![] bcast_S_S307200 (constantI S_ 32 1024#32)))) (broadcastInDim S307200 ![] bcast_S_S307200 (constantI S_ 32 337920#32))) (addi (iotaInDim S307200 32 0) (muli tV (broadcastInDim S307200 ![] bcast_S_S307200 (constantI S_ 32 1024#32))))

/-- The columns read. -/
def gotV (W : IVec S8x337920 32) (col : IVec S307200 32) : IVec S8x307200 32 :=
  Host.gather gather_S8x337920_S307200x1_S8x307200_0_1_n_n_1_1_81 W (broadcastInDim S307200x1 ![0] bcast_S307200_S307200x1_0 col)

/-- The sample and the table of every position, side by side. -/
def pairV (gotV : IVec S8x307200 32) (tV : IVec S307200 32) : IVec S307200x2 32 :=
  concatenate S307200x2 1 [⟨S307200x1, (broadcastInDim S307200x1 ![0] bcast_S307200_S307200x1_0 (select (cmpi .slt (shapeCast _ (extractStridedSlice S1x307200 ![7, 0] gotV slices_S8x307200_S1x307200_7_0) shapeCasts_S1x307200_S307200) (broadcastInDim S307200 ![] bcast_S_S307200 (constantI S_ 32 0#32))) (addi (shapeCast _ (extractStridedSlice S1x307200 ![7, 0] gotV slices_S8x307200_S1x307200_7_0) shapeCasts_S1x307200_S307200) (broadcastInDim S307200 ![] bcast_S_S307200 (constantI S_ 32 256#32))) (shapeCast _ (extractStridedSlice S1x307200 ![7, 0] gotV slices_S8x307200_S1x307200_7_0) shapeCasts_S1x307200_S307200)))⟩, ⟨S307200x1, (broadcastInDim S307200x1 ![0] bcast_S307200_S307200x1_0 (select (cmpi .slt tV (broadcastInDim S307200 ![] bcast_S_S307200 (constantI S_ 32 0#32))) (addi tV (broadcastInDim S307200 ![] bcast_S_S307200 (constantI S_ 32 30#32))) tV))⟩] concatenates_S307200x1_S307200x1_S307200x2_d1

/-- The gradient rows of the pairs. -/
def rowV (go : FVec F S256x3264 .bf16) (pairV : IVec S307200x2 32) : FVec F S307200x48 .bf16 :=
  Host.gather gather_S256x30x48_S307200x2_S307200x48_1_01_n_n_01_1_1148 (shapeCast _ (extractStridedSlice S256x1440 ![0, 1152] go slices_S256x3264_S256x1440_0_1152) shapeCasts_S256x1440_S256x30x48) pairV

/-- The half bytes of the words, each moved to the bottom and masked. -/
def maskV (gotV : IVec S8x307200 32) : IVec S48x307200 32 :=
  andi (Host.shrui (shapeCast _ (broadcastInDim S6x8x307200 ![0, 2] bcast_S6x307200_S6x8x307200_0_2 (extractStridedSlice S6x307200 ![0, 0] gotV slices_S8x307200_S6x307200_0_0)) shapeCasts_S6x8x307200_S48x307200) (broadcastInDim S48x307200 ![0, 1] bcast_S48x1_S48x307200_0_1 (muli (broadcastInDim S48x1 ![] bcast_S_S48x1 (constantI S_ 32 4#32)) (andi (broadcastInDim S48x1 ![0] bcast_S48_S48x1_0 (iotaInDim S48 32 0)) (broadcastInDim S48x1 ![] bcast_S_S48x1 (constantI S_ 32 7#32)))))) (broadcastInDim S48x307200 ![] bcast_S_S48x307200 (constantI S_ 32 15#32))

/-- The decoded, scaled words times the gradient rows. -/
def prodV (gotV : IVec S8x307200 32) (rowV : FVec F S307200x48 .bf16) : FVec F S307200x48 .f32 :=
  mulf (transpose S307200x48 [1, 0] (mulf (sitofp .f32 (select (cmpi .sge (maskV gotV) (broadcastInDim S48x307200 ![] bcast_S_S48x307200 (constantI S_ 32 8#32))) (subi (maskV gotV) (broadcastInDim S48x307200 ![] bcast_S_S48x307200 (constantI S_ 32 16#32))) (maskV gotV))) (broadcastInDim S48x307200 ![0, 1] bcast_S1x307200_S48x307200_0_1 (broadcastInDim S1x307200 ![1] bcast_S307200_S1x307200_1 (bitcastToFloat (F := F) .f32 (shapeCast _ (extractStridedSlice S1x307200 ![6, 0] gotV slices_S8x307200_S1x307200_6_0) shapeCasts_S1x307200_S307200))))) transposes_S48x307200_S307200x48_1_0) (extf .f32 rowV bitsLt_bf16_f32)

/-- The sums, kept before the last offset. -/
def sumV (off : IVec S7681 32) (prodV : FVec F S307200x48 .f32) : FVec F S300x1x1024 .f32 :=
  shapeCast _ (select (cmpi .slt (iotaInDim S307200 32 0) (broadcastInDim S307200 ![] bcast_S_S307200 (shapeCast _ (extractStridedSlice S1 ![7680] off slices_S7681_S1_7680) shapeCasts_S1_S_))) (Host.reduceAdd prodV (constant S_ .f32 0x00000000#32) reducesTo_S307200x48_S307200_d1 h_S_) (broadcastInDim S307200 ![] bcast_S_S307200 (id (constant S_ .f32 0x00000000#32)))) shapeCasts_S307200_S300x1x1024

/-- The whole result, of the words, the offsets and the gradient. -/
def resV (W : IVec S8x337920 32) (off : IVec S7681 32) (go : FVec F S256x3264 .bf16) : FVec F S300x1x1024 .f32 :=
  sumV off (prodV (gotV W (colV (tabV (bagV off)))) (rowV go (pairV (gotV W (colV (tabV (bagV off)))) (tabV (bagV off)))))

/-- The reference's result, in those parts. -/
theorem res_eq (m : (ℓ : Loc nD τ sig) → Buf (Elt F) ℓ) (c : Dev nD) :
    res_out0 m c = resV (m ((c.tc : Thread nD τ).loc main_arg0)) (m ((c.tc : Thread nD τ).loc main_arg1)) (m ((c.tc : Thread nD τ).loc main_arg2)) := by
  unfold res_out0 res_main_v74
  rfl

theorem bagV_apply (off : IVec S7681 32) (p : Fin 307200) : bagV off (ix1 p) = bagW 30 (fun k => off (ix1 k)) p.val := by
  unfold bagV
  pointwise
  rfl

theorem tabV_apply (b : IVec S307200 32) (p : Fin 307200) : tabV b (ix1 p) = fdiv256 (b (ix1 p)) := by
  unfold tabV
  pointwise
  rfl

theorem colV_apply (t : IVec S307200 32) (p : Fin 307200) :
    colV t (ix1 p) = wrapW 337920 (IntOp.addi (BitVec.ofNat 32 p.val) (IntOp.muli (t (ix1 p)) 1024#32)) := by
  unfold colV
  pointwise
  rfl

theorem pairV_apply0 (g : IVec S8x307200 32) (t : IVec S307200 32) (p : Fin 307200) : pairV g t (ix2 p 0) = wrapW 256 (g (ix2 7 p)) := by
  unfold pairV
  pointwise
  rfl

theorem pairV_apply1 (g : IVec S8x307200 32) (t : IVec S307200 32) (p : Fin 307200) : pairV g t (ix2 p 1) = wrapW 30 (t (ix1 p)) := by
  unfold pairV
  pointwise
  rfl

theorem maskV_apply (g : IVec S8x307200 32) (p : Fin 307200) (d : Fin 48) :
    maskV g (ix2 d p) = IntOp.andi (IntOp.shrui .host (g (ix2 ⟨d.val / 8, by omega⟩ p)) (IntOp.muli 4#32 (IntOp.andi (BitVec.ofNat 32 d.val) 7#32))) 15#32 := by
  unfold maskV
  pointwise

theorem prodV_apply (g : IVec S8x307200 32) (r : FVec Ideal S307200x48 .bf16) (p : Fin 307200) (d : Fin 48) :
    prodV g r (ix2 p d) = (((nibOf (g (ix2 ⟨d.val / 8, by omega⟩ p)) (d.val % 8)).toInt : ℝ) : EReal) * Ideal.ofBits .f32 (g (ix2 6 p)) * r (ix2 p d) := by
  rw [← masked_nib _ _ _ _ (maskV_apply g p d)]
  unfold prodV
  generalize maskV g = v
  pointwise
  rfl

theorem sumV_apply (off : IVec S7681 32) (v : FVec Ideal S307200x48 .f32) (p : Fin 300) (y : Fin 1024) :
    sumV off v (ix3 p 0 y) = Scalar.select (IntOp.cmpi .slt (BitVec.ofNat 32 (p.val * 1024 + y.val)) (off (ix1 7680)))
      (∑ x, v (ix2 ⟨p.val * 1024 + y.val, by omega⟩ x)) (Ideal.ofBits .f32 (0#32)) := by
  unfold sumV
  show _ = Scalar.select _ _ (id (constant (F := Ideal) S_ .f32 0#32) ix0)
  generalize hz : id (constant (F := Ideal) S_ .f32 0#32) = z
  pointwise

/-- The columns read, where a position's column is in the array. -/
theorem gotV_apply (W : IVec S8x337920 32) (col : IVec S307200 32) (a : Fin 8) (p : Fin 307200) (k : Fin 337920)
    (hk : (col (ix1 p)).toInt.toNat = k.val) : gotV W col (ix2 a p) = W (ix2 a k) := by
  unfold gotV
  refine gather_col (P := 8) (N := 337920) (R := 307200) _ W _ a p k ?_
  have e : (broadcastInDim S307200x1 ![0] bcast_S307200_S307200x1_0 col : IVec S307200x1 32) (ix2 p 0) = col (ix1 p) := by pointwise
  exact (congrArg (fun x : BitVec 32 => x.toInt.toNat) e).trans hk

/-- The gradient row of a position whose pair is a sample and a table. -/
theorem rowV_apply (go : FVec F S256x3264 .bf16) (pr : IVec S307200x2 32) (p : Fin 307200) (d : Fin 48) (s : Fin 256) (t : Fin 30)
    (hs : (pr (ix2 p 0)).toInt.toNat = s.val) (ht : (pr (ix2 p 1)).toInt.toNat = t.val) :
    rowV go pr (ix2 p d) = go (ix2 s ⟨1152 + 48 * t.val + d.val, by omega⟩) := by
  unfold rowV
  refine (gather_pair (A := 256) (B := 30) (D := 48) (R := 307200) _ _ pr p d s t hs ht).trans ?_
  pointwise
  exact congrArg (fun q => go (ix2 s q)) (Fin.ext (show 1152 + (t.val * 48 + d.val) = 1152 + 48 * t.val + d.val by omega))

end Cert.ReferenceI4Ideal.Value
-- ==== Proof.I4.Cells.lean ====
/- The reference's cells in closed form: in a cell that a table holds, the sum over the row of the scaled codes times the gradient
   row of the cell's sample; in any other cell, zero. -/
module

public import proofs.«01_k».proof.Proof.I4.Ref
public import proofs.«01_k».proof.Proof.I4.Pre

@[expose] public section

set_option maxRecDepth 16384

namespace Cert.ReferenceI4Ideal.Value

open Cert.ReferenceI4Ideal Cert.ReferenceI4Ideal.Gen Cert.Words
open Cert.Pre_pre_i4.Gen (offAt)
open Idealize.ShloMosaic

/-- A position that table `t` holds is of table `t`. -/
theorem tab_hit (off : IVec S7681 32) (HG : GoodOff 30 300 (offAt off)) (P : Fin 307200) (t : Fin 30) (hit : Hit (offAt off) t.val P.val) :
    tabV (bagV off) (ix1 P) = BitVec.ofNat 32 t.val := by
  have ht := t.isLt
  have hP := P.isLt
  obtain ⟨q, hq, hbag⟩ := bagW_hit HG (by decide) (fun k => off (ix1 k)) (fun k => by
    show _ = (off (ix1 ⟨min k.val 7680, _⟩)).toInt
    congr 3; exact Fin.ext (by show k.val = min k.val 7680; have := k.isLt; omega)) t.val P.val ht (by omega) hit
  rw [tabV_apply, bagV_apply, hbag, fdiv256_ofNat _ (by omega), hq]

/-- The column it reads. -/
theorem col_hit (b : IVec S307200 32) (P : Fin 307200) (t : Fin 30) (k : Fin 337920) (hk : k.val = P.val + 1024 * t.val)
    (htab : b (ix1 P) = BitVec.ofNat 32 t.val) : (colV b (ix1 P)).toInt.toNat = k.val := by
  have hkl := k.isLt
  have e : IntOp.addi (BitVec.ofNat 32 P.val) (IntOp.muli (BitVec.ofNat 32 t.val) 1024#32) = BitVec.ofNat 32 k.val := by
    have e1 : IntOp.muli (BitVec.ofNat 32 t.val) 1024#32 = BitVec.ofNat 32 (t.val * 1024) := (BitVec.ofNat_mul ..).symm
    rw [e1, hk, Nat.mul_comm 1024]
    exact (BitVec.ofNat_add ..).symm
  have ek : (BitVec.ofNat 32 k.val).toInt = k.val := toInt_ofNat _ (by omega)
  rw [colV_apply, htab, e, wrapW_nonneg _ _ (by rw [ek]; omega), ek]
  exact Int.toNat_natCast _

/-- The gradient row it reads. -/
theorem row_hit (go : FVec Ideal S256x3264 .bf16) (g : IVec S8x307200 32) (b : IVec S307200 32) (P : Fin 307200) (t : Fin 30) (d : Fin 48)
    (htab : b (ix1 P) = BitVec.ofNat 32 t.val) (w : BitVec 32) (hw : g (ix2 7 P) = w) (hs : (0 : ℤ) ≤ w.toInt ∧ w.toInt < 256) :
    rowV go (pairV g b) (ix2 P d) = go (ix2 (sel w) ⟨1152 + 48 * t.val + d.val, by omega⟩) := by
  have ht := t.isLt
  have et : (BitVec.ofNat 32 t.val).toInt = t.val := toInt_ofNat _ (by omega)
  refine rowV_apply go _ P d (sel w) t ?_ ?_
  · rw [pairV_apply0, hw, wrapW_nonneg _ _ hs.1, sel_toInt _ hs.1 hs.2]
  · rw [pairV_apply1, htab, wrapW_nonneg _ _ (by rw [et]; omega), et]
    exact Int.toNat_natCast _

/-- A cell that table `t` holds. -/
theorem resV_hit (W : IVec S8x337920 32) (off : IVec S7681 32) (go : FVec Ideal S256x3264 .bf16)
    (HG : GoodOff 30 300 (offAt off)) (p : Fin 300) (y : Fin 1024) (t : Fin 30) (hit : Hit (offAt off) t.val (p.val * 1024 + y.val))
    (k : Fin 337920) (hk : k.val = p.val * 1024 + y.val + 1024 * t.val) (hs : (0 : ℤ) ≤ (W (ix2 7 k)).toInt ∧ (W (ix2 7 k)).toInt < 256) :
    resV W off go (ix3 p 0 y) = ∑ d : Fin 48, (((nibOf (W (ix2 ⟨d.val / 8, by omega⟩ k)) (d.val % 8)).toInt : ℝ) : EReal)
      * Ideal.ofBits .f32 (W (ix2 6 k)) * go (ix2 (sel (W (ix2 7 k))) ⟨1152 + 48 * t.val + d.val, by omega⟩) := by
  have hpy : p.val * 1024 + y.val < 307200 := by omega
  have htab := tab_hit off HG ⟨p.val * 1024 + y.val, hpy⟩ t hit
  unfold resV
  generalize tabV (bagV off) = b at htab ⊢
  have hcol := col_hit b ⟨p.val * 1024 + y.val, hpy⟩ t k hk htab
  have hgot := fun a => gotV_apply W (colV b) a ⟨p.val * 1024 + y.val, hpy⟩ k hcol
  generalize gotV W (colV b) = g at hgot ⊢
  have hrow := fun d => row_hit go g b ⟨p.val * 1024 + y.val, hpy⟩ t d htab _ (hgot 7) hs
  generalize rowV go (pairV g b) = r at hrow ⊢
  have hprod := fun d => prodV_apply g r ⟨p.val * 1024 + y.val, hpy⟩ d
  generalize prodV g r = v at hprod ⊢
  have hlt : ((p.val * 1024 + y.val : ℕ) : ℤ) < (off (ix1 7680)).toInt := by
    have h2 := HG.le (i := 256 * (t.val + 1)) (j := 256 * 30) (by have := t.isLt; omega) le_rfl
    exact lt_of_lt_of_le hit.2 h2
  rw [sumV_apply, cmpi_slt, toInt_ofNat _ (by omega), select_ofBool, if_pos hlt]
  refine Finset.sum_congr rfl fun d _ => ?_
  rw [hprod, hgot, hgot, hrow]

/-- A cell that no table holds. -/
theorem resV_miss (W : IVec S8x337920 32) (off : IVec S7681 32) (go : FVec Ideal S256x3264 .bf16)
    (HG : GoodOff 30 300 (offAt off)) (p : Fin 300) (y : Fin 1024) (miss : ∀ t, t < 30 → ¬ Hit (offAt off) t (p.val * 1024 + y.val)) :
    resV W off go (ix3 p 0 y) = Ideal.ofBits .f32 (0#32) := by
  have hlt : ¬ ((p.val * 1024 + y.val : ℕ) : ℤ) < (off (ix1 7680)).toInt := fun h => by
    obtain ⟨t, ht, hh⟩ := HG.hit_of_lt (p.val * 1024 + y.val) (show _ < offAt off (256 * 30) from h)
    exact miss t ht hh
  unfold resV
  generalize prodV (F := Ideal) _ _ = v
  rw [sumV_apply, cmpi_slt, toInt_ofNat _ (by omega), select_ofBool, if_neg hlt]

end Cert.ReferenceI4Ideal.Value
-- ==== Proof.I4.Same.lean ====
/- The ideal kernel's result is the reference's: in a cell that a table holds, the scaled sum of the codes times the gradient row is
   the sum of the scaled codes times the row; in any other both leave zero. -/
module

public import proofs.«01_k».proof.Proof.I4.Final
public import proofs.«01_k».proof.Proof.I4.Cells

@[expose] public section

set_option maxRecDepth 16384

noncomputable section

namespace Cert.KernelI4Ideal.Run

open Cert.KernelI4Ideal.Gen Cert.Words
open Idealize.ShloMosaic Idealize.ShloMosaic.TcCoe Idealize.SL.Sem

variable (m : (ℓ : Loc nD τ sig) → Buf (Elt Ideal) ℓ) (HG : GoodOff 30 300 (offI m))

/-- An index of the result is a chunk, 0 and a place in the chunk. -/
theorem exists_cell (x : S300x1x1024.Idx) : ∃ (p : Fin 300) (y : Fin 1024), x = ix3 p 0 y :=
  ⟨x 0, x 2, by
    funext i
    match i with
    | 0 => rfl
    | 1 => exact Subsingleton.elim (α := Fin 1) _ _
    | 2 => rfl⟩

/-- The array the kernel leaves, as the reference's function of the arguments. -/
theorem out_eq (h : ∀ (t : Fin 30) (pos : ℕ), pos < 307200 → Hit (offI m) t.val pos → ∀ j : Fin 337920, j.val = pos + 1024 * t.val →
      ((0 : ℤ) ≤ ((m (((0 : Dev nD) : Thread nD τ).loc main_arg0) : IVec S8x337920 32) (ix2 7 j)).toInt
        ∧ ((m (((0 : Dev nD) : Thread nD τ).loc main_arg0) : IVec S8x337920 32) (ix2 7 j)).toInt < 256)
      ∧ (0 : ℤ) ≤ ((m (((0 : Dev nD) : Thread nD τ).loc main_arg0) : IVec S8x337920 32) (ix2 6 j)).toInt
        ∧ ((m (((0 : Dev nD) : Thread nD τ).loc main_arg0) : IVec S8x337920 32) (ix2 6 j)).toInt < 2139095040) :
    (dats m HG 0 0).arrAt 2 (cfgM m (ok m HG)).N = Cert.ReferenceI4Ideal.Value.resV (F := Ideal) (m (((0 : Dev nD) : Thread nD τ).loc main_arg0))
      (m (((0 : Dev nD) : Thread nD τ).loc main_arg1)) (m (((0 : Dev nD) : Thread nD τ).loc main_arg2)) := by
  funext x
  obtain ⟨p, y, rfl⟩ := exists_cell x
  have hc := out_cell m HG 0 p y
  by_cases hex : ∃ t, t < 30 ∧ Hit (offI m) t (p.val * 1024 + y.val)
  · obtain ⟨t, ht, hit⟩ := hex
    have hpos : p.val * 1024 + y.val < 307200 := by omega
    have hk : (colF t (p.val * 1024 + y.val)).val = p.val * 1024 + y.val + 1024 * t := by
      show min (p.val * 1024 + y.val + 1024 * t) 337919 = _
      omega
    have hl := h ⟨t, ht⟩ (p.val * 1024 + y.val) hpos hit _ hk
    have et : (⟨t % 30, Nat.mod_lt _ (by decide)⟩ : Fin 30) = ⟨t, ht⟩ := Fin.ext (Nat.mod_eq_of_lt ht)
    obtain ⟨r, hr, hsr⟩ := ofBits_real _ hl.2.1 hl.2.2
    refine (hc.1 t ht hit).trans (Eq.trans ?_ (Cert.ReferenceI4Ideal.Value.resV_hit _ _ _ HG p y ⟨t, ht⟩ hit _ hk hl.1).symm)
    unfold valAt cellAt
    rw [et]
    exact (sum_scale _ _ _ r hr hsr).symm
  · have miss : ∀ t, t < 30 → ¬ Hit (offI m) t (p.val * 1024 + y.val) := fun t ht hit => hex ⟨t, ht, hit⟩
    exact (hc.2 miss).trans (Cert.ReferenceI4Ideal.Value.resV_miss _ _ _ HG p y miss).symm

end Cert.KernelI4Ideal.Run
-- ==== Proof.I4.Equal.lean ====
/- The claims of the ideal kernel and of the reference: both run and leave their arguments, and from equal arguments they leave equal
   results. -/
module

public import proofs.«01_k».proof.Defs
public import proofs.«01_k».proof.Proof.I4.Same

@[expose] public section

set_option maxRecDepth 16384

noncomputable section

namespace Cert.Proof.I4

open Idealize.ShloMosaic Idealize.ShloMosaic.TcCoe Idealize.SL.Sem Cert.Words

/-- What the ideal kernel's run leaves: its arguments, every counter at zero, and the array of the closed form. -/
theorem idealRun (m : (ℓ : Loc Cert.KernelI4Ideal.nD Cert.KernelI4Ideal.τ Cert.KernelI4Ideal.sig) → Buf (Elt Ideal) ℓ) (g : Dev Cert.KernelI4Ideal.nD → PrngReg)
    (HG : GoodOff 30 300 (Cert.KernelI4Ideal.Run.offI m)) :
    θ_run (Cert.KernelI4Ideal.defs (F := Ideal)) (onTc (τ := Cert.KernelI4Ideal.τ) (Cert.KernelI4Ideal.main (F := Ideal))) ⟨m, fun _ => 0, g⟩ (fun r => (∀ c : Dev Cert.KernelI4Ideal.nD,
      r.2.mem ((c.tc : Thread Cert.KernelI4Ideal.nD Cert.KernelI4Ideal.τ).loc Cert.KernelI4Ideal.main_v16) = (Cert.KernelI4Ideal.Run.dats m HG 0 c).arrAt 2 (Cert.KernelI4Ideal.Run.cfgM m (Cert.KernelI4Ideal.Run.ok m HG)).N
      ∧ r.2.mem ((c.tc : Thread Cert.KernelI4Ideal.nD Cert.KernelI4Ideal.τ).loc Cert.KernelI4Ideal.main_arg0) = m ((c.tc : Thread Cert.KernelI4Ideal.nD Cert.KernelI4Ideal.τ).loc Cert.KernelI4Ideal.main_arg0)
      ∧ r.2.mem ((c.tc : Thread Cert.KernelI4Ideal.nD Cert.KernelI4Ideal.τ).loc Cert.KernelI4Ideal.main_arg1) = m ((c.tc : Thread Cert.KernelI4Ideal.nD Cert.KernelI4Ideal.τ).loc Cert.KernelI4Ideal.main_arg1)
      ∧ r.2.mem ((c.tc : Thread Cert.KernelI4Ideal.nD Cert.KernelI4Ideal.τ).loc Cert.KernelI4Ideal.main_arg2) = m ((c.tc : Thread Cert.KernelI4Ideal.nD Cert.KernelI4Ideal.τ).loc Cert.KernelI4Ideal.main_arg2))
      ∧ r.2.sem = fun _ => 0) :=
  (θ_run Cert.KernelI4Ideal.defs _ _).mono (fun r hr => ⟨fun c =>
    ⟨hr.1.out_eq c 2,
     (hr.1.in_eq c 0 rfl).trans (Cert.KernelI4Ideal.Run.V_main_arg0 m c),
     ((hr.1 c).2 Cert.KernelI4Ideal.main_arg1 (by decide : Cert.KernelI4Ideal.main_arg1 ∈ Pipeline.restRefs Cert.KernelI4Ideal.sig Cert.KernelI4Ideal.spec0)).trans (Cert.KernelI4Ideal.Run.V_main_arg1 m c),
     ((hr.1 c).2 Cert.KernelI4Ideal.main_arg2 (by decide : Cert.KernelI4Ideal.main_arg2 ∈ Pipeline.restRefs Cert.KernelI4Ideal.sig Cert.KernelI4Ideal.spec0)).trans (Cert.KernelI4Ideal.Run.V_main_arg2 m c)⟩, hr.2⟩)
    (Cert.KernelI4Ideal.Run.run_main_quiescent m g HG)

/-- The ideal kernel runs and leaves its arguments. -/
theorem quiescentIdeal : Cert.quiescent_KernelI4Ideal (hKernelI4Ideal := Cert.KernelI4Ideal.Gen.facts) (hPre_pre_i4 := Cert.Pre_pre_i4.Gen.facts) := fun m ρ h =>
  (θ_run Cert.KernelI4Ideal.defs _ _).mono (fun _ hr => ⟨fun c => (hr.1 c).2, hr.2⟩) (idealRun m ρ (Cert.Pre_pre_i4.Gen.good (F := Ideal) _ _ _ (h 0)))

/-- The reference runs and leaves its arguments. -/
theorem quiescentReference : Cert.quiescent_ReferenceI4Ideal (hReferenceI4Ideal := Cert.ReferenceI4Ideal.Gen.facts) := fun m ρ _ =>
  (θ_run Cert.ReferenceI4Ideal.defs _ _).mono (fun r h => ⟨fun c => (h c).2, sem_eq_zero_of_no_sems (by decide) r.2⟩) (Cert.ReferenceI4Ideal.Value.run m ρ)

/-- The same under the precondition. -/
theorem quiescentReferencePre : Cert.quiescent_ReferenceI4Ideal_pre_pre_i4 (hReferenceI4Ideal := Cert.ReferenceI4Ideal.Gen.facts) (hPre_pre_i4 := Cert.Pre_pre_i4.Gen.facts) := fun m ρ _ =>
  (θ_run Cert.ReferenceI4Ideal.defs _ _).mono (fun r h => ⟨fun c => (h c).2, sem_eq_zero_of_no_sems (by decide) r.2⟩) (Cert.ReferenceI4Ideal.Value.run m ρ)

/-- The two results are one, where the arguments are. -/
theorem sameResult (m : (ℓ : Loc Cert.KernelI4Ideal.nD Cert.KernelI4Ideal.τ Cert.KernelI4Ideal.sig) → Buf (Elt Ideal) ℓ)
    (m' : (ℓ : Loc Cert.ReferenceI4Ideal.nD Cert.ReferenceI4Ideal.τ Cert.ReferenceI4Ideal.sig) → Buf (Elt Ideal) ℓ)
    (h : Cert.Pre_KernelI4Ideal (hPre_pre_i4 := Cert.Pre_pre_i4.Gen.facts) m) (HG : GoodOff 30 300 (Cert.KernelI4Ideal.Run.offI m))
    (h0 : m' (((0 : Dev Cert.KernelI4Ideal.nD).tc : Thread Cert.ReferenceI4Ideal.nD Cert.ReferenceI4Ideal.τ).loc Cert.ReferenceI4Ideal.main_arg0) = m (((0 : Dev Cert.KernelI4Ideal.nD).tc : Thread Cert.KernelI4Ideal.nD Cert.KernelI4Ideal.τ).loc Cert.KernelI4Ideal.main_arg0))
    (h1 : m' (((0 : Dev Cert.KernelI4Ideal.nD).tc : Thread Cert.ReferenceI4Ideal.nD Cert.ReferenceI4Ideal.τ).loc Cert.ReferenceI4Ideal.main_arg1) = m (((0 : Dev Cert.KernelI4Ideal.nD).tc : Thread Cert.KernelI4Ideal.nD Cert.KernelI4Ideal.τ).loc Cert.KernelI4Ideal.main_arg1))
    (h2 : m' (((0 : Dev Cert.KernelI4Ideal.nD).tc : Thread Cert.ReferenceI4Ideal.nD Cert.ReferenceI4Ideal.τ).loc Cert.ReferenceI4Ideal.main_arg2) = m (((0 : Dev Cert.KernelI4Ideal.nD).tc : Thread Cert.KernelI4Ideal.nD Cert.KernelI4Ideal.τ).loc Cert.KernelI4Ideal.main_arg2)) :
    (Cert.KernelI4Ideal.Run.dats m HG 0 0).arrAt 2 (Cert.KernelI4Ideal.Run.cfgM m (Cert.KernelI4Ideal.Run.ok m HG)).N = Cert.ReferenceI4Ideal.Value.res_out0 m' (0 : Dev Cert.KernelI4Ideal.nD) := by
  refine (Cert.KernelI4Ideal.Run.out_eq m HG fun t pos hp hit j hj => Cert.Pre_pre_i4.Gen.live (F := Ideal) _ _ _ (h 0) t pos hp hit j hj).trans ?_
  rw [Cert.ReferenceI4Ideal.Value.res_eq]
  exact congr (congr (congrArg (Cert.ReferenceI4Ideal.Value.resV (F := Ideal)) h0.symm) h1.symm) h2.symm

/-- One function: from equal arguments, equal results. -/
theorem algebraic : Cert.algebraic_KernelI4Ideal_ReferenceI4Ideal (hKernelI4Ideal := Cert.KernelI4Ideal.Gen.facts) (hReferenceI4Ideal := Cert.ReferenceI4Ideal.Gen.facts) (hPre_pre_i4 := Cert.Pre_pre_i4.Gen.facts) := fun m g m' g' h hin => by
  have HG : GoodOff 30 300 (Cert.KernelI4Ideal.Run.offI m) := Cert.Pre_pre_i4.Gen.good (F := Ideal) _ _ _ (h 0)
  refine ⟨fun c => Cert.ReferenceI4Ideal.Value.res_out0 m' c, ?_, ?_⟩
  · refine (θ_run Cert.KernelI4Ideal.defs _ _).mono (fun r hr c => ?_) (idealRun m g HG)
    obtain rfl : c = 0 := Subsingleton.elim _ _
    exact ⟨(hr.1 0).1.trans (sameResult m m' h HG (hin 0).1 (hin 0).2.1 (hin 0).2.2), (hr.1 0).2⟩
  · exact (θ_run Cert.ReferenceI4Ideal.defs _ _).mono (fun r h c => h c) (Cert.ReferenceI4Ideal.Value.run m' g')

end Cert.Proof.I4
-- ==== Proof.F8.BitsKit.lean ====
/- The kernel as it is, with nothing said of its output: what the body's two cases share (the schedule of its windows, its staging
   buffers, the branch conditions, the side condition on the table word the body reads). -/
module

public import proofs.«01_k».proof.Proof.Gen.KernelF8.Launch
public import proofs.«01_k».proof.Proof.Gen.KernelF8.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelF8.Run

open Cert.KernelF8.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 1 (fun _ => rfl) (by decide)) (P := 1) (by decide) t).mpr (Nat.mod_one _) : ∀ t : Fin grid0.N, Pipeline.Window.fetchOf grid0 false cc0_transform_0 t = true)
/-- Window 1 (operand 3 (%0)) is fetched at the first point only, at any contents of the tables (its index map reads none). -/
theorem fetch0_1 (a : (pcfg0 (F := F)).Adm) : ∀ t : Fin (cfg0 a).N, ((cfg0 a).win 1).fetch t = true ↔ t.val % 65 = 0 :=
  (fun t => Pipeline.Window.fetchOf_const cc0_transform_1 (fun _ _ => rfl) (n := 65) (by decide) t : ∀ t : Fin grid0.N, Pipeline.Window.fetchOf grid0 false cc0_transform_1 t = true ↔ t.val % 65 = 0)
-- window 2: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_tc_dot_f8 (grid0.coords t) (Memref.whole main_v15) (Memref.isWhole_whole _) (Memref.whole main_v1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S65 .i32 := Memref.whole main_v15
abbrev htbM0_0 : tbM0_0.IsWhole := Memref.isWhole_whole _
abbrev tbM0_1 : Memref sig .tc .smem S7 .i32 := Memref.whole main_v1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelF8`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-! ## The body's branch conditions -/

/-- The condition of the body's `scf.if` 0: over WORDS the body reads from its tables or input SMEM windows
    (`v1`, `v13`), so no function of the point — a case variable: a hypothesis of each run, a `by_cases`
    of the obligation and an `if` of `outsAt`, stated over the argument blocks' words there. -/
abbrev cond0_0 (i : grid0.Coords) (v1 : BitVec 32) (v13 : BitVec 32) : Prop := (Scalar.cmpi .ne (Scalar.extui (Scalar.ori (Scalar.cmpi .eq (BitVec.ofNat 32 (i 0).val) 0#32) (Scalar.cmpi .ne (Scalar.subi (Scalar.subi (BitVec.ofNat 32 (i 0).val) 1#32) v13) (Scalar.subi (BitVec.ofNat 32 (i 0).val) v1)))) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S30x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S3264x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S65) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S65) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S65) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

end Cert.KernelF8.Run
-- ==== Proof.F8.BitsA.lean ====
/- The body's run in its first case, with nothing said of the output. -/
module

public import proofs.«01_k».proof.Proof.F8.BitsKit

@[expose] public section

set_option maxRecDepth 16384

noncomputable section

namespace Cert.KernelF8.Run

open Cert.KernelF8.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points all): on whole staging memrefs — the inputs' at their contents,
    the FORGOTTEN outputs' (2) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S30x1024 .i32) (harg3 : arg3.IsWhole) (arg4 : Memref sig .tc .vmem S3264x256 .bf16) (harg4 : arg4.IsWhole) (arg5 : Memref sig .tc .vmem S1x1x1024 .f32) (harg5 : arg5.IsWhole)
    (x0 : Vec F S30x1024 .i32) (x1 : Vec F S3264x256 .bf16) (xt0 : TbBuf0 (F := F) c tbM0_0) (xt1 : TbBuf0 (F := F) c tbM0_1) (hc0 : cond0_0 i (tbM0_0.view.readAt (Elt F) (Rect.unit (s := S65) (k0_off1 i) S1.size (k0_off1_inb i)).toLoadRect xt0 (Shape.Idx.first (numel1_S1.symm ▸ Nat.one_pos))) (tbM0_0.view.readAt (Elt F) (Rect.unit (s := S65) (k0_off4 i) S1.size (k0_off4_inb i)).toLoadRect xt0 (Shape.Idx.first (numel1_S1.symm ▸ Nat.one_pos)))) (k0_hw1 : k0_chk1 (tbM0_0.view.readAt (Elt F) (Rect.unit (s := S65) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
            ∗ (iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1) -∗ K ⟨⟩))
          ⊢ wp frame (wpE (defs₀ (F := F)) Variants.none c none) E (cc0_tc_dot_f8 i tbM0_0 htbM0_0 tbM0_1 htbM0_1 arg3 harg3 arg4 harg4 arg5 harg5) K := by
    intro E K
    simp only [cc0_tc_dot_f8_eq_skeleton]; unfold cc0_tc_dot_f8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%d2, %f2, -, H2⟩, HT0, HT1, Hk⟩
    obtain rfl := harg3.eq_unread hf0; obtain rfl := harg4.eq_unread hf1
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _, _; isplitr; swap; · iexact H2
      ipureintro; rfl
    isplitl [HT0]; · iexact HT0
    iexact HT1

end Cert.KernelF8.Run
-- ==== Proof.F8.BitsB.lean ====
/- The body's run in its second case, with nothing said of the output. -/
module

public import proofs.«01_k».proof.Proof.F8.BitsA

@[expose] public section

set_option maxRecDepth 16384

noncomputable section

namespace Cert.KernelF8.Run

open Cert.KernelF8.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points all): on whole staging memrefs — the inputs' at their contents,
    the FORGOTTEN outputs' (2) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S30x1024 .i32) (harg3 : arg3.IsWhole) (arg4 : Memref sig .tc .vmem S3264x256 .bf16) (harg4 : arg4.IsWhole) (arg5 : Memref sig .tc .vmem S1x1x1024 .f32) (harg5 : arg5.IsWhole)
    (x0 : Vec F S30x1024 .i32) (x1 : Vec F S3264x256 .bf16) (xt0 : TbBuf0 (F := F) c tbM0_0) (xt1 : TbBuf0 (F := F) c tbM0_1) (hc0 : ¬cond0_0 i (tbM0_0.view.readAt (Elt F) (Rect.unit (s := S65) (k0_off1 i) S1.size (k0_off1_inb i)).toLoadRect xt0 (Shape.Idx.first (numel1_S1.symm ▸ Nat.one_pos))) (tbM0_0.view.readAt (Elt F) (Rect.unit (s := S65) (k0_off4 i) S1.size (k0_off4_inb i)).toLoadRect xt0 (Shape.Idx.first (numel1_S1.symm ▸ Nat.one_pos)))) (k0_hw1 : k0_chk1 (tbM0_0.view.readAt (Elt F) (Rect.unit (s := S65) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
            ∗ (iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1) -∗ K ⟨⟩))
          ⊢ wp frame (wpE (defs₀ (F := F)) Variants.none c none) E (cc0_tc_dot_f8 i tbM0_0 htbM0_0 tbM0_1 htbM0_1 arg3 harg3 arg4 harg4 arg5 harg5) K := by
    intro E K
    simp only [cc0_tc_dot_f8_eq_skeleton]; unfold cc0_tc_dot_f8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%d2, %f2, -, H2⟩, HT0, HT1, Hk⟩
    obtain rfl := harg3.eq_unread hf0; obtain rfl := harg4.eq_unread hf1
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _, _; isplitr; swap; · iexact H2
      ipureintro; rfl
    isplitl [HT0]; · iexact HT0
    iexact HT1

end Cert.KernelF8.Run
-- ==== Proof.F8.BitsFrame.lean ====
/- The frame of the kernel as it is: for tables within range and side conditions that hold, it runs, leaves its arguments and every counter at zero. -/
module

public import proofs.«01_k».proof.Proof.F8.BitsB
public import Idealize.ShloMosaic.Lib.Claim

@[expose] public section

set_option maxRecDepth 16384

noncomputable section

namespace Cert.KernelF8.Run

open Cert.KernelF8.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (2): nothing reads what the kernel leaves in them, so nothing
    of it is named (Lib/Pipeline/Dat.lean `Dat.toRForget`). -/
def forgets0 : Fin 3 → Bool := fun w => w.val == 2

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, h⟩ => Pipeline.Dat.unnamed (cfg := (cfgM m hO)) ⟨2, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ (∃ d, owns (c : Thread nD τ) (ms0_2 m hO t) fullShare d))

set_option maxHeartbeats 800000 in
/-- The body at any point: the inputs' memrefs hold their blocks (`before0_W`); so the
    run applies; the invariant passes through unread; the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1]
  rw [show (dats m hO hH 0 c).Φ t.succ = (dats m hO hH 0 c).Φ t.castSucc from rfl,
    show (dats m hO hH 0 c).owesAt () t.succ = (dats m hO hH 0 c).owesAt () t.castSucc from rfl,
    after0_0, after0_1]
  rw [show (dats m hO hH 0 c).Φ t.castSucc = iprop(Pipeline.ΦA spec0 c ∗ Pipeline.ΦT pre0 (tbl m) c) from rfl, PhiT0_eq]
  by_cases h0 : cond0_0 (grid0.coords t) (tbM0_0.view.readAt (Elt F) (Rect.unit (s := S65) (k0_off1 (grid0.coords t)) S1.size (k0_off1_inb (grid0.coords t))).toLoadRect (tbl m 0) (Shape.Idx.first (numel1_S1.symm ▸ Nat.one_pos))) (tbM0_0.view.readAt (Elt F) (Rect.unit (s := S65) (k0_off4 (grid0.coords t)) S1.size (k0_off4_inb (grid0.coords t))).toLoadRect (tbl m 0) (Shape.Idx.first (numel1_S1.symm ▸ Nat.one_pos)))
  · iintro ⟨⟨HΦ, ⟨HT0, HT1⟩⟩, Ho, ⟨%d0, H0⟩, ⟨%d1, H1⟩, ⟨%d2, H2⟩⟩
    iapply ((kernelRun0_A c (grid0.coords t) _ _ _ _ _ _ (iblk m hO c 0 t) (iblk m hO c 1 t) (tbl m 0) (tbl m 1) h0 (Hyps.c0 hH c t)) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2
  · iintro ⟨⟨HΦ, ⟨HT0, HT1⟩⟩, Ho, ⟨%d0, H0⟩, ⟨%d1, H1⟩, ⟨%d2, H2⟩⟩
    iapply ((kernelRun0_B c (grid0.coords t) _ _ _ _ _ _ (iblk m hO c 0 t) (iblk m hO c 1 t) (tbl m 0) (tbl m 1) h0 (Hyps.c0 hH c t)) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 2) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (fun c => (dats m hO hH 0 c).toRForget forgets0) (A_eq m hO hH) (run_main m ρ hO hH)

/-- THE FRAME: `Cert.quiescent_KernelF8`'s statement (Defs.lean) at any `F` — Proof.lean cites it at `Bits`:
    `theorem Cert.Proof.claim : Cert.Claim := ⟨Cert.KernelF8.Gen.facts, fun m ρ _ => Cert.KernelF8.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelF8.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO hH) ((θ_run defs _ _).mono (fun _ h => h.2) (run_main_quiescent m ρ hO hH))

end Cert.KernelF8.Run
-- ==== Proof.F8.Bits.lean ====
/- The two tables the kernel prefetches, as the host computes them from the offsets: the bounds are every 256th offset,
   and the table of a grid point is one less than the number of tables whose start lies at or before it. -/
module

public import proofs.«01_k».proof.Proof.F8.BitsFrame
public import proofs.«01_k».proof.Proof.Words
public import proofs.«01_k».proof.Proof.TableWords
public import Idealize.ShloMosaic.Lib.Claim
public import Idealize.ShloMosaic.Lib.Pointwise

@[expose] public section

set_option maxRecDepth 16384

noncomputable section

namespace Cert.KernelF8.Run

open Cert.KernelF8.Gen Cert.Words
open Idealize.ShloMosaic Idealize.ShloMosaic.TcCoe Idealize.SL.Sem

variable {F : FTy → Type} [FloatOps F]
variable (m : (ℓ : Loc nD τ sig) → Buf (Elt F) ℓ)

/-- The first position of each table, divided into chunks (rounding down), as the host's operations spell it. -/
def fdiv (x : Vec F S6 .i32) : Vec F S6 .i32 :=
  select (andi (cmpi .ne (signi x) (broadcastInDim S6 ![] bcast_S_S6 (signi (constantI S_ 32 1024#32))))
      (cmpi .ne (Host.remsi x (broadcastInDim S6 ![] bcast_S_S6 (constantI S_ 32 1024#32))) (broadcastInDim S6 ![] bcast_S_S6 (constantI S_ 32 0#32))))
    (subi (Host.divsi x (broadcastInDim S6 ![] bcast_S_S6 (constantI S_ 32 1024#32))) (broadcastInDim S6 ![] bcast_S_S6 (constantI S_ 32 1#32)))
    (Host.divsi x (broadcastInDim S6 ![] bcast_S_S6 (constantI S_ 32 1024#32)))

/-- The table of each grid point, as the host's operations spell it. -/
def tmapOf (off : Vec F S1537 .i32) : Vec F S65 .i32 :=
  subi
    (Host.reduce IntOp.addi
      (extui 32 (cmpi .sle
          (broadcastInDim S65x6 ![0, 1] bcast_S1x6_S65x6_0_1 (broadcastInDim S1x6 ![1] bcast_S6_S1x6_1
            (addi (fdiv (F := F) (extractStridedSlice S6 ![0] (Host.slice S7 ![0] ![256] off slicesBy_S1537_S7_0s256) slices_S7_S6_0)) (iotaInDim S6 32 0))))
          (broadcastInDim S65x6 ![0, 1] bcast_S65x1_S65x6_0_1 (broadcastInDim S65x1 ![0] bcast_S65_S65x1_0 (iotaInDim S65 32 0)))) natLt_1_32)
      (constantI S_ 32 0#32) reducesTo_S65x6_S65_d1 h_S_)
    (broadcastInDim S65 ![] bcast_S_S65 (constantI S_ 32 1#32))

theorem V_tmap (c : Dev nD) : V m c main_v15 = tmapOf (F := F) (m ((c : Thread nD τ).loc main_arg1)) := by
  unfold V
  simp only [hostOps0, hostOps0_1, hostOps0_2, List.flatten_cons, List.flatten_nil, List.append_nil, List.cons_append, List.nil_append]
  after_results
  rfl

theorem V_bounds (c : Dev nD) : V m c main_v1 = Host.slice S7 ![0] ![256] (m ((c : Thread nD τ).loc main_arg1)) slicesBy_S1537_S7_0s256 := by
  unfold V
  simp only [hostOps0, hostOps0_1, hostOps0_2, List.flatten_cons, List.flatten_nil, List.append_nil, List.cons_append, List.nil_append]
  after_results

theorem V_go (c : Dev nD) : V m c main_v0 = transpose S3264x256 [1, 0] (m ((c : Thread nD τ).loc main_arg2)) transposes_S256x3264_S3264x256_1_0 := by
  unfold V
  simp only [hostOps0, hostOps0_1, hostOps0_2, List.flatten_cons, List.flatten_nil, List.append_nil, List.cons_append, List.nil_append]
  after_results

/-- The offsets, as integers. -/
def offOf (off : Vec F S1537 .i32) (i : ℕ) : ℤ := (off (ix1 ⟨min i 1536, by omega⟩)).toInt
abbrev offI (i : ℕ) : ℤ := offOf (F := F) (m (((0 : Dev nD) : Thread nD τ).loc main_arg1)) i

/-- The gradient, transposed. -/
theorem V_go_apply (c : Dev nD) (r : Fin 3264) (k : Fin 256) : V m c main_v0 (ix2 r k) = m ((c : Thread nD τ).loc main_arg2) (ix2 k r) := by
  rw [V_go]
  generalize m _ = off
  pointwise

/-- The bounds. -/
theorem tbl1_toInt (k : Fin 7) : (tbl m 1 (ix1 k)).toInt = offI m (256 * k.val) := by
  have e : tbl m 1 (ix1 k) = m (((0 : Dev nD) : Thread nD τ).loc main_arg1) (ix1 ⟨256 * k.val, by omega⟩) := by
    show V m (0 : Dev nD) main_v1 (ix1 k) = _
    rw [V_bounds]
    generalize m _ = off
    pointwise
  have hk : (⟨min (256 * k.val) 1536, by omega⟩ : Fin 1537) = ⟨256 * k.val, by omega⟩ := Fin.ext (by simp only; omega)
  rw [e]
  show _ = offOf _ _
  unfold offOf
  rw [hk]

/-- The table of a grid point is the count, less one, of the starts at or before it. -/
theorem tmapOf_apply (off : Vec F S1537 .i32) (HG : GoodOff 6 60 (offOf (F := F) off)) (g : Fin 65) :
    tmapOf (F := F) off (ix1 g) = BitVec.ofNat 32 (((Finset.range 6).filter fun t => (offOf (F := F) off (256 * min t 6)).toNat / 1024 + t ≤ g.val).card - 1) := by
  pointwise [tmapOf, fdiv]
  refine tmap_word 6 (by decide) (by decide) (fun t : Fin 6 => off (ix1 ⟨256 * t.val, by omega⟩)) (fun t => (offOf (F := F) off (256 * min t 6)).toNat) ?_ ?_ ?_ g.val (by omega)
  · intro t
    have h := HG.nonneg (i := 256 * t.val) (by omega)
    have e : offOf (F := F) off (256 * t.val) = (off (ix1 ⟨256 * t.val, by omega⟩)).toInt := by
      unfold offOf
      congr 3
      exact Fin.ext (by simp only; omega)
    have hm : min t.val 6 = t.val := by omega
    simp only [hm]
    rw [e] at h ⊢
    generalize off _ = w at h ⊢
    have h2 : w.toInt = w.toNat := BitVec.toInt_eq_toNat_of_lt (BitVec.toInt_pos_iff.mp h)
    rw [h2, Int.toNat_natCast, BitVec.ofNat_toNat, BitVec.setWidth_eq]
  · intro t
    have := HG.le_last (i := 256 * min t 6) (by omega)
    omega
  · simp [HG.zero]

/-- The table that grid point `g` treats. -/
def tb (g : ℕ) : ℕ := (tbl m 0 (ix1 ⟨min g 64, by omega⟩)).toNat

theorem tbl0_eq (g : Fin 65) : tbl m 0 (ix1 g) = BitVec.ofNat 32 (tb m g.val) := by
  have hg : (⟨min g.val 64, by omega⟩ : Fin 65) = g := Fin.ext (by simp only; omega)
  unfold tb
  rw [hg]
  exact (fun w : BitVec 32 => (by rw [BitVec.ofNat_toNat, BitVec.setWidth_eq] : w = BitVec.ofNat 32 w.toNat)) _

variable (HG : GoodOff 6 60 (offI m))

include HG in
/-- The grid walks the tables' chunks in order. -/
theorem sched : Sched 6 60 (fun t => (offI m (256 * t)).toNat) (tb m) := by
  refine HG.sched (by decide) (by decide) _ fun g hg => ?_
  unfold tb
  have e : tbl m 0 (ix1 ⟨min g 64, by omega⟩) = _ := (congrFun (V_tmap m 0) _).trans (tmapOf_apply _ HG ⟨min g 64, by omega⟩)
  rw [e, BitVec.toNat_ofNat]
  have hc : ∀ p : ℕ → Prop, [DecidablePred p] → ((Finset.range 6).filter p).card - 1 < 2 ^ 32 := fun p _ => by
    have := Finset.card_le_card (Finset.filter_subset p (Finset.range 6))
    rw [Finset.card_range] at this
    omega
  rw [Nat.mod_eq_of_lt (hc _)]
  congr 2
  apply Finset.filter_congr
  intro t ht
  rw [Finset.mem_range] at ht
  have h1 : min t 6 = t := by omega
  have h2 : min g 64 = g := by omega
  simp only [h1, h2]

include HG in
theorem tb_lt (g : Fin 65) : tb m g.val < 6 := (sched m HG).lt g.val (by omega)

/-- A load of one word of the first table. -/
theorem read0 (off : Fin 1 → ℕ) (inb) (g : Fin 65) (h : off 0 = g.val) (h1) :
    tbM0_0.view.readAt (Elt F) (Rect.unit (s := S65) off S1.size inb).toLoadRect (tbl m 0) (Shape.Idx.first h1) = BitVec.ofNat 32 (tb m g.val) := by
  rw [← tbl0_eq]
  refine congrArg (tbl m 0) (funext fun a => Fin.ext ?_)
  match a with
  | ⟨0, _⟩ => exact (congrArg (· + 1 * (Shape.Idx.first h1 0).val) h).trans (by
      have h0 : ∀ q : Fin 1, g.val + 1 * q.val = g.val := fun q => by omega
      exact h0 (Shape.Idx.first h1 0))

/-- A load of one word of the second table. -/
theorem read1 (off : Fin 1 → ℕ) (inb) (k : Fin 7) (h : off 0 = k.val) (h1) :
    BitVec.toInt (tbM0_1.view.readAt (Elt F) (Rect.unit (s := S7) off S1.size inb).toLoadRect (tbl m 1) (Shape.Idx.first h1)) = offI m (256 * k.val) := by
  rw [← tbl1_toInt]
  refine congrArg (fun i => BitVec.toInt (tbl m 1 i)) (funext fun a => Fin.ext ?_)
  match a with
  | ⟨0, _⟩ => exact (congrArg (· + 1 * (Shape.Idx.first h1 0).val) h).trans (by
      have h0 : ∀ q : Fin 1, k.val + 1 * q.val = k.val := fun q => by omega
      exact h0 (Shape.Idx.first h1 0))

/-- The place of a grid point's word, and of the one before it. -/
theorem off1_val (i : grid0.Coords) : k0_off1 i 0 = (i 0).val := by
  have h : (i 0).val < 65 := (i 0).isLt
  show (BitVec.ofNat 32 (i 0).val).toNat = _
  simp only [BitVec.toNat_ofNat]; omega

theorem off4_val (i : grid0.Coords) : k0_off4 i 0 = (i 0).val - 1 := by
  have h : (i 0).val < 65 := (i 0).isLt
  have h' : ∀ k : Fin 65, (Scalar.maxsi (Scalar.subi (BitVec.ofNat 32 k.val) 1#32) 0#32).toNat = k.val - 1 := by decide +kernel
  exact h' ⟨(i 0).val, h⟩

/-- What the body assumes of a table number, and the places of the bounds it reads. -/
theorem chk (t : Fin 6) : k0_chk1 (BitVec.ofNat 32 t.val) := by
  revert t; decide +kernel

theorem off2_val (t : Fin 6) : k0_off2 (BitVec.ofNat 32 t.val) 0 = t.val ∧ k0_off3 (BitVec.ofNat 32 t.val) 0 = t.val + 1 := by
  revert t; decide +kernel

/-- The chunk of grid point `g` as a word. -/
theorem chunk_word (T g : ℕ) (h : T ≤ g) (hg : g < 2 ^ 32) : Scalar.subi (BitVec.ofNat 32 g) (BitVec.ofNat 32 T) = BitVec.ofNat 32 (g - T) :=
  BitVec.ofNat_sub_ofNat_of_le _ _ (by omega) h

include HG in
/-- The block a point writes is its chunk. -/
theorem trans2 (i : grid0.Coords) : cc0_transform_2 k0_off1_inb numel1_S1 (tbl m) i = ![(i 0).val - tb m (i 0).val, 0, 0] := by
  have hi : (i 0).val < 65 := (i 0).isLt
  have e : (tbl m).at 0 (Rect.unit (s := S65) (k0_off1 i) S1.size (k0_off1_inb i)) numel1_S1 = BitVec.ofNat 32 (tb m (i 0).val) := read0 m _ _ ⟨(i 0).val, hi⟩ (off1_val i) _
  have h1 := (sched m HG).le_self (g := (i 0).val) (by omega)
  show ![(Scalar.subi (BitVec.ofNat 32 (i 0).val) ((tbl m).at 0 (Rect.unit (s := S65) (k0_off1 i) S1.size (k0_off1_inb i)) numel1_S1)).toNat, 0, 0] = _
  rw [e, chunk_word _ _ h1 (by omega), BitVec.toNat_ofNat, Nat.mod_eq_of_lt (by omega)]

include HG in
/-- The pipeline's side condition: every block it writes lies in the array. -/
theorem ok : Ok m := by
  intro i
  have hi : (i 0).val < 65 := (i 0).isLt
  have h2 := (sched m HG).chunk_lt (by decide) (by decide) (g := (i 0).val) (by omega)
  refine ⟨fun a => ?_, Or.inl rfl⟩
  rw [trans2 m HG]
  match a with
  | ⟨0, _⟩ => show ((i 0).val - tb m (i 0).val + 1) * 1 ≤ 60; omega
  | ⟨1, _⟩ => show (0 + 1) * 1 ≤ 1; omega
  | ⟨2, _⟩ => show (0 + 1) * 1024 ≤ 1024; omega

include HG in
/-- The side conditions the body assumes hold at every point. -/
theorem hyps (hO : Ok m) : Hyps m hO := fun c t => by
  have hi : (grid0.coords t 0).val < 65 := (grid0.coords t 0).isLt
  rw [read0 m _ _ ⟨(grid0.coords t 0).val, hi⟩ (off1_val _)]
  exact chk ⟨tb m (grid0.coords t 0).val, tb_lt m HG ⟨_, hi⟩⟩

end Cert.KernelF8.Run
-- ==== Proof.F8.Pre.lean ====
/- What the precondition says: the offsets start at zero, never fall, end within the array, the last table starts inside it;
   and in the columns that a table holds the sample is one of the 256 and the scale is a number at least zero. -/
module

public import proofs.«01_k».proof.Proof.Gen.Pre_pre_f8
public import proofs.«01_k».proof.Proof.TableWords
public import Idealize.ShloMosaic.Lib.Pointwise

@[expose] public section

set_option maxRecDepth 16384

namespace Cert.Pre_pre_f8.Gen

open Cert.Pre_pre_f8 Cert.Words
open Idealize.ShloMosaic Idealize.ShloMosaic.Tactic

variable {F : FTy → Type} [FloatOps F]
variable (W : IVec S30x67584 32) (off : IVec S1537 32) (go : FVec F S256x3264 .bf16)

theorem fn_zero : (fn (F := F) W off go).1 (ix1 0) = IntOp.cmpi .eq (off (ix1 0)) 0#32 := by
  show cmpi .eq (extractStridedSlice S1 ![0] off slices_S1537_S1_0) (broadcastInDim S1 ![] bcast_S_S1 (constantI S_ 32 0#32)) (ix1 0) = _
  pointwise

theorem fn_mono (i : Fin 1536) : (fn (F := F) W off go).2.1 (ix1 i) = IntOp.cmpi .sge (off (ix1 ⟨1 + i.val, by omega⟩)) (off (ix1 ⟨i.val, by omega⟩)) := by
  show cmpi .sge (extractStridedSlice S1536 ![1] off slices_S1537_S1536_1) (extractStridedSlice S1536 ![0] off slices_S1537_S1536_0) (ix1 i) = _
  pointwise

theorem fn_last : (fn (F := F) W off go).2.2.1 (ix1 0) = IntOp.cmpi .sle (off (ix1 1536)) 61440#32 := by
  show cmpi .sle (extractStridedSlice S1 ![1536] off slices_S1537_S1_1536) (broadcastInDim S1 ![] bcast_S_S1 (constantI S_ 32 61440#32)) (ix1 0) = _
  pointwise

theorem fn_start : (fn (F := F) W off go).2.2.2.1 (ix1 0) = IntOp.cmpi .slt (off (ix1 1280)) 61440#32 := by
  show cmpi .slt (extractStridedSlice S1 ![5] (Host.slice S7 ![0] ![256] off slicesBy_S1537_S7_0s256) slices_S7_S1_5) (broadcastInDim S1 ![] bcast_S_S1 (constantI S_ 32 61440#32)) (ix1 0) = _
  pointwise

theorem fn_live (t : Fin 6) (j : Fin 67584) : (fn (F := F) W off go).2.2.2.2 (ix2 t j)
    = IntOp.ori (~~~IntOp.andi (IntOp.cmpi .sle (IntOp.addi (off (ix1 ⟨256 * t.val, by omega⟩)) (IntOp.muli (BitVec.ofNat 32 t.val) 1024#32)) (BitVec.ofNat 32 j.val))
          (IntOp.cmpi .slt (BitVec.ofNat 32 j.val) (IntOp.addi (off (ix1 ⟨256 * (1 + t.val), by omega⟩)) (IntOp.muli (BitVec.ofNat 32 t.val) 1024#32))))
        (IntOp.andi (IntOp.andi (IntOp.andi (IntOp.cmpi .sge (W (ix2 29 j)) 0#32) (IntOp.cmpi .slt (W (ix2 29 j)) 256#32)) (IntOp.cmpi .sge (W (ix2 28 j)) 0#32))
          (IntOp.cmpi .slt (W (ix2 28 j)) 2139095040#32)) := by
  dsimp only [fn, fn_part1, fn_part2]
  pointwise

/-- The offset at a position of the array, as an integer. -/
abbrev offAt (i : ℕ) : ℤ := (off (ix1 ⟨min i 1536, by omega⟩)).toInt

variable (h : (fn (F := F) W off go).1 = (fun _ => 1#1) ∧ (fn (F := F) W off go).2.1 = (fun _ => 1#1) ∧ (fn (F := F) W off go).2.2.1 = (fun _ => 1#1)
  ∧ (fn (F := F) W off go).2.2.2.1 = (fun _ => 1#1) ∧ (fn (F := F) W off go).2.2.2.2 = (fun _ => 1#1))
include h

/-- The offsets start at zero, never fall, end inside the array; the last table starts inside it. -/
theorem good : GoodOff 6 60 (offAt off) := by
  obtain ⟨h0, h1, h2, h3, -⟩ := h
  refine ⟨?_, fun i hi => ?_, ?_, ?_⟩
  · have e := (fn_zero (F := F) W off go).symm.trans (congrFun h0 _)
    have e' : off (ix1 0) = 0#32 := by
      simpa [IntOp.cmpi, (by decide : ∀ x : Bool, BitVec.ofBool x = 1#1 ↔ x = true)] using e
    show (off (ix1 0)).toInt = 0
    rw [e']; rfl
  · have e := (fn_mono (F := F) W off go ⟨i, by omega⟩).symm.trans (congrFun h1 _)
    rw [cmpi_sge, ofBool_eq_one] at e
    have e1 : (⟨min i 1536, by omega⟩ : Fin 1537) = ⟨i, by omega⟩ := Fin.ext (by show min i 1536 = i; omega)
    have e2 : (⟨min (i + 1) 1536, by omega⟩ : Fin 1537) = ⟨1 + i, by omega⟩ := Fin.ext (by show min (i + 1) 1536 = 1 + i; omega)
    show (off (ix1 ⟨min i 1536, _⟩)).toInt ≤ (off (ix1 ⟨min (i + 1) 1536, _⟩)).toInt
    rw [e1, e2]; exact e
  · have e := (fn_last (F := F) W off go).symm.trans (congrFun h2 _)
    rw [cmpi_sle, ofBool_eq_one] at e
    exact e
  · have e := (fn_start (F := F) W off go).symm.trans (congrFun h3 _)
    rw [cmpi_slt, ofBool_eq_one] at e
    exact e

/-- In a column that holds one of table `t`'s positions, the sample is below 256 and the scale word is that of a number
    at least zero. -/
theorem live (t : Fin 6) (pos : ℕ) (hp : pos < 61440) (hit : Hit (offAt off) t.val pos) (j : Fin 67584) (hj : j.val = pos + 1024 * t.val) :
    ((0 : ℤ) ≤ (W (ix2 29 j)).toInt ∧ (W (ix2 29 j)).toInt < 256) ∧ (0 : ℤ) ≤ (W (ix2 28 j)).toInt ∧ (W (ix2 28 j)).toInt < 2139095040 := by
  have HG := good (F := F) W off go h
  obtain ⟨-, -, -, -, h4⟩ := h
  have e := (fn_live (F := F) W off go t j).symm.trans (congrFun h4 _)
  have ht := t.isLt
  have hm : IntOp.muli (BitVec.ofNat 32 t.val) 1024#32 = BitVec.ofNat 32 (1024 * t.val) := by
    rw [Nat.mul_comm]; exact (BitVec.ofNat_mul ..).symm
  have a1 : offAt off (256 * t.val) = (off (ix1 ⟨256 * t.val, by omega⟩)).toInt := by
    show (off (ix1 ⟨min (256 * t.val) 1536, _⟩)).toInt = _
    congr 3; exact Fin.ext (by show min (256 * t.val) 1536 = 256 * t.val; omega)
  have a2 : offAt off (256 * (t.val + 1)) = (off (ix1 ⟨256 * (1 + t.val), by omega⟩)).toInt := by
    show (off (ix1 ⟨min (256 * (t.val + 1)) 1536, _⟩)).toInt = _
    congr 3; exact Fin.ext (by show min (256 * (t.val + 1)) 1536 = 256 * (1 + t.val); omega)
  have b1 := HG.nonneg (i := 256 * t.val) (by omega)
  have b2 := HG.le_last (i := 256 * t.val) (by omega)
  have b3 := HG.nonneg (i := 256 * (t.val + 1)) (by omega)
  have b4 := HG.le_last (i := 256 * (t.val + 1)) (by omega)
  obtain ⟨c1, c2⟩ := hit
  rw [a1] at b1 b2 c1
  rw [a2] at b3 b4 c2
  have hjt : (BitVec.ofNat 32 j.val).toInt = j.val := toInt_ofNat _ (by omega)
  rw [hm, cmpi_sle, cmpi_slt, toInt_addi _ (1024 * t.val) b1 (by omega), toInt_addi _ (1024 * t.val) b3 (by omega), hjt, andi_ofBool,
    decide_eq_true (by constructor <;> omega), cmpi_sge, cmpi_slt, cmpi_sge, cmpi_slt, andi_ofBool, andi_ofBool, andi_ofBool] at e
  have e' := (by decide : ∀ x : Bool, IntOp.ori (~~~ (BitVec.ofBool true)) (BitVec.ofBool x) = 1#1 → x = true) _ e
  have e'' := of_decide_eq_true e'
  exact ⟨e''.1.1, e''.1.2, e''.2⟩

end Cert.Pre_pre_f8.Gen
-- ==== Proof.F8.Quiet.lean ====
/- The frame of the kernel as it is: under the precondition it runs, leaves its arguments and every counter at zero. -/
module

public import proofs.«01_k».proof.Defs
public import proofs.«01_k».proof.Proof.F8.Bits
public import proofs.«01_k».proof.Proof.F8.Pre

@[expose] public section

set_option maxRecDepth 16384

namespace Cert.Proof.F8

open Idealize.ShloMosaic Idealize.ShloMosaic.TcCoe Idealize.SL.Sem Cert.Words

/-- The kernel runs and leaves its arguments. -/
theorem quiescent : Cert.quiescent_KernelF8 (hKernelF8 := Cert.KernelF8.Gen.facts) (hPre_pre_f8 := Cert.Pre_pre_f8.Gen.facts) := fun m ρ h => by
  have HG : GoodOff 6 60 (Cert.KernelF8.Run.offI m) := Cert.Pre_pre_f8.Gen.good (F := Bits) _ _ _ (h 0)
  exact Cert.KernelF8.Run.frame m ρ (Cert.KernelF8.Run.ok m HG) (Cert.KernelF8.Run.hyps m HG _)

end Cert.Proof.F8
-- ==== Proof.F8.Kit.lean ====
/- The frame kit of the idealized program `KernelF8Ideal`: the host lines before the kernel call, the prefetched
   tables read off the launch memory, the windows' blocks, the body's branch condition and its assumed side
   conditions. It follows the kit that is generated for the program before idealization. -/
module

public import proofs.«01_k».proof.Proof.Gen.KernelF8Ideal.Launch
public import proofs.«01_k».proof.Proof.Gen.KernelF8Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelF8Ideal.Run

open Cert.KernelF8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline schedule and the body at a point -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 1 (fun _ => rfl) (by decide)) (P := 1) (by decide) t).mpr (Nat.mod_one _) : ∀ t : Fin grid0.N, Pipeline.Window.fetchOf grid0 false cc0_transform_0 t = true)
/-- Window 1 (operand 3 (%0)) is fetched at the first point only, at any contents of the tables (its index map reads none). -/
theorem fetch0_1 (a : (pcfg0 (F := F)).Adm) : ∀ t : Fin (cfg0 a).N, ((cfg0 a).win 1).fetch t = true ↔ t.val % 65 = 0 :=
  (fun t => Pipeline.Window.fetchOf_const cc0_transform_1 (fun _ _ => rfl) (n := 65) (by decide) t : ∀ t : Fin grid0.N, Pipeline.Window.fetchOf grid0 false cc0_transform_1 t = true ↔ t.val % 65 = 0)
-- window 2: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_tc_dot_f8 (grid0.coords t) (Memref.whole main_v15) (Memref.isWhole_whole _) (Memref.whole main_v1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S65 .i32 := Memref.whole main_v15
abbrev htbM0_0 : tbM0_0.IsWhole := Memref.isWhole_whole _
abbrev tbM0_1 : Memref sig .tc .smem S7 .i32 := Memref.whole main_v1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelF8Ideal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-! ## The body's branch conditions -/

/-- The condition of the body's `scf.if` 0: over WORDS the body reads from its tables or input SMEM windows
    (`v1`, `v13`), so no function of the point — a case variable: a hypothesis of each run, a `by_cases`
    of the obligation and an `if` of `outsAt`, stated over the argument blocks' words there. -/
abbrev cond0_0 (i : grid0.Coords) (v1 : BitVec 32) (v13 : BitVec 32) : Prop := (Scalar.cmpi .ne (Scalar.extui (Scalar.ori (Scalar.cmpi .eq (BitVec.ofNat 32 (i 0).val) 0#32) (Scalar.cmpi .ne (Scalar.subi (Scalar.subi (BitVec.ofNat 32 (i 0).val) 1#32) v13) (Scalar.subi (BitVec.ofNat 32 (i 0).val) v1)))) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S30x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S3264x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S65) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S65) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S65) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

end Cert.KernelF8Ideal.Run

end
-- ==== Proof.F8.Piece.lean ====
/- One group of 128 lanes of the kernel body, at the ideal instance: the payload of each of the eight stores is one
   function `piece` of the group's offset and of the words loaded for it, and `piece_apply` says what that function is
   at a lane: inside the table's range of positions the dot product of the row's codes with the gradient column of the
   lane's sample, times the lane's scale; outside it what the block held before. -/
module

public import proofs.«01_k».proof.Proof.Gen.KernelF8Ideal.Skeleton
public import proofs.«01_k».proof.Proof.Words
public import Idealize.ShloMosaic.Lib.Pointwise

@[expose] public section

set_option maxRecDepth 16384

noncomputable section

namespace Cert.KernelF8Ideal.Run

open Cert.KernelF8Ideal.Gen
open Idealize.ShloMosaic Idealize.SL.Sem

/-- The block that one of the eight stores writes, from the offset of its 128 lanes in the chunk and the words loaded. -/
def piece (off v2 v4 v7 : BitVec 32) (v25 : Vec Ideal S112x256 .bf16) (v28 : Vec Ideal S1x128 .i32) (v56 : Vec Ideal S28x128 .i32) (v62 : Vec Ideal S1x128 .i32) (v75 : Vec Ideal S1x1x128 .f32) : FVec Ideal S1x1x128 .f32 :=
  have v42 : FVec Ideal S112x128 .f32 := extractStridedSlice S112x128 ![0, 128] (k0_pay3 v25) slices_S112x256_o0_128_S112x128
  have v43 : IVec S112x128 32 := broadcast S112x128 0#32
  have v44 : IVec S112x128 1 := cmpi .slt (k0_pay4 v28) v43
  have v45 : IVec S112x128 32 := broadcast S112x128 128#32
  have v46 : IVec S112x128 32 := addi (k0_pay4 v28) v45
  have v47 : IVec S112x128 32 := select v44 v46 (k0_pay4 v28)
  have v48 : IVec S112x128x1 32 := shapeCast S112x128x1 v47 shapeCasts_S112x128_S112x128x1
  have v49 : IVec S112x128 32 := shapeCast S112x128 v48 shapeCasts_S112x128x1_S112x128
  have v50 : FVec Ideal S112x128 .f32 := dynamicGather 1 v42 v49
  have v51 : IVec S1x128 32 := broadcast S1x128 128#32
  have v52 : IVec S1x128 1 := cmpi .sge v28 v51
  have v53 : IVec S1x128 1 := shapeCast S1x128 v52 shapeCasts_S1x128_S1x128
  have v54 : IVec S112x128 1 := broadcastTo S112x128 v53 broadcasts_S1x128_S112x128
  have v55 : FVec Ideal S112x128 .f32 := select v54 v50 (k0_pay5 v25 v28)
  have v57 : FVec Ideal S112x128 .fp8e4m3 := bitcastToFloat .fp8e4m3 (bitcast S112x128 8 v56 bitcasts_S28x128_w32_S112x128_w8)
  have v58 : FVec Ideal S112x128 .f32 := extf .f32 v57 bitsLt_fp8e4m3_f32
  have v59 : FVec Ideal S112x128 .f32 := mulf v58 v55
  have v60 : FVec Ideal S128 .f32 := multiReduction .add [0] S128 v59 0x00000000#32 reduces_S112x128_S128 (.inl rfl) rfl
  have v61 : FVec Ideal S1x128 .f32 := shapeCast S1x128 v60 shapeCasts_S128_S1x128
  have v63 : FVec Ideal S1x128 .f32 := bitcastToFloat .f32 v62
  let v64 : BitVec 32 := Scalar.muli v2 1024#32
  let v65 : BitVec 32 := Scalar.addi v64 off
  have v66 : IVec S1x128 32 := iota .tc S1x128 32 [1] iota_S1x128_d1_w32
  have v67 : IVec S1x128 32 := broadcast S1x128 v65
  have v68 : IVec S1x128 32 := addi v67 v66
  have v69 : IVec S1x128 32 := broadcast S1x128 v4
  have v70 : IVec S1x128 1 := cmpi .sge v68 v69
  have v71 : IVec S1x128 32 := broadcast S1x128 v7
  have v72 : IVec S1x128 1 := cmpi .slt v68 v71
  have v73 : IVec S1x128 1 := andi v70 v72
  have v74 : FVec Ideal S1x128 .f32 := mulf v61 v63
  have v76 : FVec Ideal S1x128 .f32 := shapeCast S1x128 v75 shapeCasts_S1x1x128_S1x128
  have v77 : FVec Ideal S1x128 .f32 := select v73 v74 v76
  have v80 : FVec Ideal S1x1x128 .f32 := shapeCast S1x1x128 v77 shapeCasts_S1x128_S1x1x128
  v80

open Cert.Words

/-- The piece at a lane: inside the table's range the scaled dot product, outside it what was there. -/
theorem piece_apply (off v2 v4 v7 : BitVec 32) (p o : ℕ) (h2 : v2 = BitVec.ofNat 32 p) (ho : off = BitVec.ofNat 32 o) (hp : p < 1000) (ho' : o ≤ 896)
    (v25 : Vec Ideal S112x256 .bf16) (v28 : Vec Ideal S1x128 .i32) (v56 : Vec Ideal S28x128 .i32) (v62 : Vec Ideal S1x128 .i32) (v75 : Vec Ideal S1x1x128 .f32) (l : Fin 128) :
    piece off v2 v4 v7 v25 v28 v56 v62 v75 (ix3 0 0 l)
      = if v4.toInt ≤ (p * 1024 + (o + l.val) : ℕ) ∧ (p * 1024 + (o + l.val) : ℕ) < v7.toInt then
          (∑ b : Fin 112, Ideal.ofBits .fp8e4m3 (byteOf (v56 (ix2 ⟨b.val / 4, by omega⟩ l)) (b.val % 4)) * v25 (ix2 b (sel (v28 (ix2 0 l)))))
            * Ideal.ofBits .f32 (v62 (ix2 0 l))
        else v75 (ix3 0 0 l) := by
  pointwise [piece, k0_pay3, k0_pay4, k0_pay5]
  rw [cmpi_sge, cmpi_slt, andi_ofBool, select_ofBool, pos_toInt v2 off p o l.val h2 ho hp (by omega)]
  refine if_congr Iff.rfl (congrArg (· * _) (Finset.sum_congr rfl fun b _ => ?_)) rfl
  rw [select_half (v28 (ix2 0 l)) (fun k => v25 (ix2 b k)) _ (lane_index _), ix2_eq_valueIdx, bitcast_byte _ _ b l ⟨b.val / 4, by omega⟩ rfl]
  rfl

end Cert.KernelF8Ideal.Run
-- ==== Proof.F8.Step.lean ====
/- What one grid point of the kernel does to the block it writes: inside the table's range of positions each lane gets
   its scaled dot product, outside it the lane keeps what it held (`step`); each of the eight stored pieces is that
   function on its 128 lanes (`piece_step`). -/
module

public import proofs.«01_k».proof.Proof.F8.Piece
public import Idealize.ShloMosaic.Lib.Pipeline.ValueKit
public import Idealize.ShloMosaic.Lib.WritesUnit

@[expose] public section

set_option maxRecDepth 16384

noncomputable section

namespace Cert.KernelF8Ideal.Run

open Cert.KernelF8Ideal.Gen Cert.Words
open Idealize.ShloMosaic Idealize.SL.Sem

/-- The dot product of a column of words with the gradient column of its sample, scaled: words `x0` of a chunk (code
    words, scale, sample), the transposed gradient `x1`, table `t`, lane `l`. -/
def dotAt (t : Fin 6) (x0 : Vec Ideal S30x1024 .i32) (x1 : Vec Ideal S3264x256 .bf16) (l : Fin 1024) : EReal :=
  (∑ b : Fin 112, Ideal.ofBits .fp8e4m3 (byteOf (x0 (ix2 ⟨b.val / 4, by omega⟩ l)) (b.val % 4))
      * (x1 (ix2 ⟨2592 + 112 * t.val + b.val, by omega⟩ (sel (x0 (ix2 29 l)))) : EReal))
    * Ideal.ofBits .f32 (x0 (ix2 28 l))

/-- The block after a point at chunk `p` and table `t`, whose positions are those from `lo` up to `hi`. -/
def step (p : ℕ) (t : Fin 6) (lo hi : ℤ) (x0 : Vec Ideal S30x1024 .i32) (x1 : Vec Ideal S3264x256 .bf16)
    (d : Vec Ideal S1x1x1024 .f32) : Vec Ideal S1x1x1024 .f32 := fun y =>
  if lo ≤ (p * 1024 + (y 2).val : ℕ) ∧ (p * 1024 + (y 2).val : ℕ) < hi then dotAt t x0 x1 (y 2) else d y

/-- The rows of the transposed gradient that table `t` reads. -/
theorem off5_val (t : Fin 6) : k0_off5 (BitVec.ofNat 32 t.val) 0 = 2592 + 112 * t.val ∧ k0_off5 (BitVec.ofNat 32 t.val) 1 = 0 := by
  revert t; decide

/-- One stored piece, at offset `o`, is `step` on its lanes. -/
theorem piece_step (v1 off v2 v4 v7 : BitVec 32) (p o : ℕ) (t : Fin 6) (h1 : v1 = BitVec.ofNat 32 t.val) (h2 : v2 = BitVec.ofNat 32 p) (ho : off = BitVec.ofNat 32 o)
    (hp : p < 1000) (ho' : o ≤ 896) (x0 : Vec Ideal S30x1024 .i32) (x1 : Vec Ideal S3264x256 .bf16) (d : Vec Ideal S1x1x1024 .f32)
    (i1 i2 i3 i4 i5 i6) (x : S1x1x128.Idx) :
    piece off v2 v4 v7 (View.ld x1 (Rect.unit (s := S3264x256) (k0_off5 v1) S112x256.size i1)) (View.ld x0 (Rect.unit (s := S30x1024) ![29, o] S1x128.size i2))
        (View.ld x0 (Rect.unit (s := S30x1024) ![0, o] S28x128.size i3)) (View.ld x0 (Rect.unit (s := S30x1024) ![28, o] S1x128.size i4))
        (View.ld d (Rect.unit (s := S1x1x1024) ![0, 0, o] S1x1x128.size i5)) x
      = step p t v4.toInt v7.toInt x0 x1 d ((Rect.unit (s := S1x1x1024) ![0, 0, o] S1x1x128.size i6).emb x) := by
  subst h1
  obtain ⟨e0, e1⟩ := off5_val t
  obtain ⟨l, rfl⟩ : ∃ l : Fin 128, x = ix3 0 0 l :=
    ⟨x 2, (eq_ix3 x).trans (by rw [Fin.fin_one_eq_zero (x 0), Fin.fin_one_eq_zero (x 1)])⟩
  rw [piece_apply off v2 v4 v7 p o h2 ho hp ho']
  have hy : (Rect.unit (s := S1x1x1024) ![0, 0, o] S1x1x128.size i6).emb (ix3 0 0 l) = (ix3 0 0 ⟨o + l.val, by omega⟩ : S1x1x1024.Idx) := by
    funext c; apply Fin.ext;
    match c with
    | ⟨0, _⟩ => rfl
    | ⟨1, _⟩ => rfl
    | ⟨2, _⟩ => exact Rect.idx_unit_val _ _ _ _ _
  rw [hy]
  have r17 : View.ld x0 (Rect.unit (s := S30x1024) ![29, o] S1x128.size i2) (ix2 0 l) = x0 (ix2 29 ⟨o + l.val, by omega⟩) :=
    View.ld_unit_apply_of x0 _ _ _ _ _ (fun c => by match c with | ⟨0, _⟩ => rfl | ⟨1, _⟩ => rfl)
  have r16 : View.ld x0 (Rect.unit (s := S30x1024) ![28, o] S1x128.size i4) (ix2 0 l) = x0 (ix2 28 ⟨o + l.val, by omega⟩) :=
    View.ld_unit_apply_of x0 _ _ _ _ _ (fun c => by match c with | ⟨0, _⟩ => rfl | ⟨1, _⟩ => rfl)
  have rd : View.ld d (Rect.unit (s := S1x1x1024) ![0, 0, o] S1x1x128.size i5) (ix3 0 0 l) = d (ix3 0 0 ⟨o + l.val, by omega⟩) :=
    View.ld_unit_apply_of d _ _ _ _ _ (fun c => by match c with | ⟨0, _⟩ => rfl | ⟨1, _⟩ => rfl | ⟨2, _⟩ => rfl)
  have rc : ∀ b : Fin 112, View.ld x0 (Rect.unit (s := S30x1024) ![0, o] S28x128.size i3) (ix2 ⟨b.val / 4, by omega⟩ l) = x0 (ix2 ⟨b.val / 4, by omega⟩ ⟨o + l.val, by omega⟩) := fun b =>
    View.ld_unit_apply_of x0 _ _ _ _ _ (fun c => by match c with | ⟨0, _⟩ => exact (Nat.zero_add _).symm | ⟨1, _⟩ => rfl)
  have rg : ∀ (b : Fin 112) (k : Fin 256), View.ld x1 (Rect.unit (s := S3264x256) (k0_off5 (BitVec.ofNat 32 t.val)) S112x256.size i1) (ix2 b k) = x1 (ix2 ⟨2592 + 112 * t.val + b.val, by omega⟩ k) := fun b k =>
    View.ld_unit_apply_of x1 _ _ _ _ _ (fun c => by
      match c with
      | ⟨0, _⟩ => exact (congrArg (· + b.val) e0).symm
      | ⟨1, _⟩ => exact ((congrArg (· + k.val) e1).trans (Nat.zero_add _)).symm)
  rw [r17, r16, rd]
  simp only [rc, rg]
  rfl

/-- From lane `o` on, the stores `L` leave zeros. -/
def Past {sp : Space} (v : View sig .tc sp S1x1x1024 .f32) (o : ℕ) (L : List (View.Piece (Elt Ideal) S1x1x1024 .f32)) : Prop :=
  ∀ (f : v.ty.Contents (Elt Ideal)) (y : S1x1x1024.Idx), o ≤ (y 2).val → v.read (Elt Ideal) (v.writes (Elt Ideal) f L) y = Ideal.ofBits .f32 (0#32)

/-- The zeroing store. -/
theorem past_zero {sp : Space} (v : View sig .tc sp S1x1x1024 .f32) (inb) :
    Past v 0 [⟨Rect.unit (s := S1x1x1024) ![0, 0, 0] S1x1x1024.size inb, (k0_pay2 (F := Ideal))⟩] := fun f y _ =>
  View.read_writes_cons_unit_of_mem v f inb (k0_pay2 (F := Ideal)) [] y y rfl fun a => by
    match a with
    | ⟨0, _⟩ => exact (Nat.zero_add _).symm
    | ⟨1, _⟩ => exact (Nat.zero_add _).symm
    | ⟨2, _⟩ => exact (Nat.zero_add _).symm

/-- A store of the lanes from `o` leaves the later ones. -/
theorem past_cons {sp : Space} (v : View sig .tc sp S1x1x1024 .f32) {o : ℕ} {L} (inb) (w) (h : Past v o L) :
    Past v (o + 128) (⟨Rect.unit (s := S1x1x1024) ![0, 0, o] S1x1x128.size inb, w⟩ :: L) := fun f y hy =>
  (View.read_writes_cons_unit_of_not_mem v f inb w L y rfl 2 (Or.inr hy)).trans (h f y (by omega))

/-- A load of the lanes from `o` reads zeros there. -/
theorem past_readCov {sp : Space} (v : View sig .tc sp S1x1x1024 .f32) {o : ℕ} {L} (inb) (h : Past v o L) :
    v.readCov L (Rect.unit (s := S1x1x1024) ![0, 0, o] S1x1x128.size inb).toLoadRect
      = View.ld (fun _ => Ideal.ofBits .f32 (0#32) : Vec Ideal S1x1x1024 .f32) (Rect.unit (s := S1x1x1024) ![0, 0, o] S1x1x128.size inb) :=
  funext fun x => h v.junk _ (by
    show o ≤ o + 1 * (x 2).val
    omega)

end Cert.KernelF8Ideal.Run
-- ==== Proof.F8.RunA.lean ====
/- The body at a grid point that starts a new output block: whatever the block held, it is left holding `step` over zeros. -/
module

public import proofs.«01_k».proof.Proof.F8.Kit
public import proofs.«01_k».proof.Proof.F8.Step

@[expose] public section

-- membership in a rectangle of production extents (`View.cover_of_tiled`): the elaborator's structural look
-- recurses once per coordinate of the long axes
set_option maxRecDepth 16384

noncomputable section

namespace Cert.KernelF8Ideal.Run

open Cert.KernelF8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body at a point that starts its output block. -/
theorem kernelRun0_A (c : Dev nD) (i : grid0.Coords) (arg3 : Memref sig .tc .vmem S30x1024 .i32) (harg3 : arg3.IsWhole) (arg4 : Memref sig .tc .vmem S3264x256 .bf16) (harg4 : arg4.IsWhole) (arg5 : Memref sig .tc .vmem S1x1x1024 .f32) (harg5 : arg5.IsWhole)
    (x0 : Vec Ideal S30x1024 .i32) (x1 : Vec Ideal S3264x256 .bf16) (xt0 : TbBuf0 (F := Ideal) c tbM0_0) (xt1 : TbBuf0 (F := Ideal) c tbM0_1) (hc0 : cond0_0 i (tbM0_0.view.readAt (Elt Ideal) (Rect.unit (s := S65) (k0_off1 i) S1.size (k0_off1_inb i)).toLoadRect xt0 (Shape.Idx.first (numel1_S1.symm ▸ Nat.one_pos))) (tbM0_0.view.readAt (Elt Ideal) (Rect.unit (s := S65) (k0_off4 i) S1.size (k0_off4_inb i)).toLoadRect xt0 (Shape.Idx.first (numel1_S1.symm ▸ Nat.one_pos)))) (k0_hw1 : k0_chk1 (tbM0_0.view.readAt (Elt Ideal) (Rect.unit (s := S65) (k0_off1 i) S1.size (k0_off1_inb i)).toLoadRect xt0 (Shape.Idx.first (numel1_S1.symm ▸ Nat.one_pos)))) (p : ℕ) (hp : p < 1000) (t : Fin 6)
    (ht : (tbM0_0.view.readAt (Elt Ideal) (Rect.unit (s := S65) (k0_off1 i) S1.size (k0_off1_inb i)).toLoadRect xt0 (Shape.Idx.first (numel1_S1.symm ▸ Nat.one_pos))) = BitVec.ofNat 32 t.val) (hv2 : Scalar.subi (BitVec.ofNat 32 (i 0).val) (tbM0_0.view.readAt (Elt Ideal) (Rect.unit (s := S65) (k0_off1 i) S1.size (k0_off1_inb i)).toLoadRect xt0 (Shape.Idx.first (numel1_S1.symm ▸ Nat.one_pos))) = BitVec.ofNat 32 p)
    (lo hi : ℤ) (hlo : BitVec.toInt (tbM0_1.view.readAt (Elt Ideal) (Rect.unit (s := S7) (k0_off2 (tbM0_0.view.readAt (Elt Ideal) (Rect.unit (s := S65) (k0_off1 i) S1.size (k0_off1_inb i)).toLoadRect xt0 (Shape.Idx.first (numel1_S1.symm ▸ Nat.one_pos)))) S1.size (k0_off2_inb _ k0_hw1)).toLoadRect xt1 (Shape.Idx.first (numel1_S1.symm ▸ Nat.one_pos))) = lo) (hhi : BitVec.toInt (tbM0_1.view.readAt (Elt Ideal) (Rect.unit (s := S7) (k0_off3 (tbM0_0.view.readAt (Elt Ideal) (Rect.unit (s := S65) (k0_off1 i) S1.size (k0_off1_inb i)).toLoadRect xt0 (Shape.Idx.first (numel1_S1.symm ▸ Nat.one_pos)))) S1.size (k0_off3_inb _ k0_hw1)).toLoadRect xt1 (Shape.Idx.first (numel1_S1.symm ▸ Nat.one_pos))) = hi) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare (step p t lo hi x0 x1 (fun _ => Ideal.ofBits .f32 (0#32))) ∗ tbPt0 c tbM0_0 xt0 ∗ tbPt0 c tbM0_1 xt1) -∗ K ⟨⟩))
          ⊢ wp frame (wpE (defs₀ (F := Ideal)) Variants.none c none) E (cc0_tc_dot_f8 i tbM0_0 htbM0_0 tbM0_1 htbM0_1 arg3 harg3 arg4 harg4 arg5 harg5) K := by
    intro E K
    simp only [cc0_tc_dot_f8_eq_skeleton]; unfold cc0_tc_dot_f8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%d2, %f2, -, H2⟩, HT0, HT1, Hk⟩
    obtain rfl := harg3.eq_unread hf0; obtain rfl := harg4.eq_unread hf1
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      have e0 : kernelRun0_A.sl.v75 c arg5 = View.ld (fun _ => Ideal.ofBits .f32 (0#32) : Vec Ideal S1x1x1024 .f32) (Rect.unit (s := S1x1x1024) ![0, 0, 0] S1x1x128.size inb_S1x1x1024_S1x1x128_0_0_0) :=
        past_readCov arg5.view _ (past_zero arg5.view _)
      have e1 : kernelRun0_A.sl.v128 c i arg3 harg3 arg4 harg4 arg5 x0 x1 xt0 xt1 k0_hw1 = View.ld (fun _ => Ideal.ofBits .f32 (0#32) : Vec Ideal S1x1x1024 .f32) (Rect.unit (s := S1x1x1024) ![0, 0, 128] S1x1x128.size inb_S1x1x1024_S1x1x128_0_0_128) :=
        past_readCov arg5.view _ (past_cons arg5.view _ _ (past_zero arg5.view _))
      have e2 : kernelRun0_A.sl.v181 c i arg3 harg3 arg4 harg4 arg5 x0 x1 xt0 xt1 k0_hw1 = View.ld (fun _ => Ideal.ofBits .f32 (0#32) : Vec Ideal S1x1x1024 .f32) (Rect.unit (s := S1x1x1024) ![0, 0, 256] S1x1x128.size inb_S1x1x1024_S1x1x128_0_0_256) :=
        past_readCov arg5.view _ (past_cons arg5.view _ _ (past_cons arg5.view _ _ (past_zero arg5.view _)))
      have e3 : kernelRun0_A.sl.v234 c i arg3 harg3 arg4 harg4 arg5 x0 x1 xt0 xt1 k0_hw1 = View.ld (fun _ => Ideal.ofBits .f32 (0#32) : Vec Ideal S1x1x1024 .f32) (Rect.unit (s := S1x1x1024) ![0, 0, 384] S1x1x128.size inb_S1x1x1024_S1x1x128_0_0_384) :=
        past_readCov arg5.view _ (past_cons arg5.view _ _ (past_cons arg5.view _ _ (past_cons arg5.view _ _ (past_zero arg5.view _))))
      have e4 : kernelRun0_A.sl.v287 c i arg3 harg3 arg4 harg4 arg5 x0 x1 xt0 xt1 k0_hw1 = View.ld (fun _ => Ideal.ofBits .f32 (0#32) : Vec Ideal S1x1x1024 .f32) (Rect.unit (s := S1x1x1024) ![0, 0, 512] S1x1x128.size inb_S1x1x1024_S1x1x128_0_0_512) :=
        past_readCov arg5.view _ (past_cons arg5.view _ _ (past_cons arg5.view _ _ (past_cons arg5.view _ _ (past_cons arg5.view _ _ (past_zero arg5.view _)))))
      have e5 : kernelRun0_A.sl.v340 c i arg3 harg3 arg4 harg4 arg5 x0 x1 xt0 xt1 k0_hw1 = View.ld (fun _ => Ideal.ofBits .f32 (0#32) : Vec Ideal S1x1x1024 .f32) (Rect.unit (s := S1x1x1024) ![0, 0, 640] S1x1x128.size inb_S1x1x1024_S1x1x128_0_0_640) :=
        past_readCov arg5.view _ (past_cons arg5.view _ _ (past_cons arg5.view _ _ (past_cons arg5.view _ _ (past_cons arg5.view _ _ (past_cons arg5.view _ _ (past_zero arg5.view _))))))
      have e6 : kernelRun0_A.sl.v393 c i arg3 harg3 arg4 harg4 arg5 x0 x1 xt0 xt1 k0_hw1 = View.ld (fun _ => Ideal.ofBits .f32 (0#32) : Vec Ideal S1x1x1024 .f32) (Rect.unit (s := S1x1x1024) ![0, 0, 768] S1x1x128.size inb_S1x1x1024_S1x1x128_0_0_768) :=
        past_readCov arg5.view _ (past_cons arg5.view _ _ (past_cons arg5.view _ _ (past_cons arg5.view _ _ (past_cons arg5.view _ _ (past_cons arg5.view _ _ (past_cons arg5.view _ _ (past_zero arg5.view _)))))))
      have e7 : kernelRun0_A.sl.v446 c i arg3 harg3 arg4 harg4 arg5 x0 x1 xt0 xt1 k0_hw1 = View.ld (fun _ => Ideal.ofBits .f32 (0#32) : Vec Ideal S1x1x1024 .f32) (Rect.unit (s := S1x1x1024) ![0, 0, 896] S1x1x128.size inb_S1x1x1024_S1x1x128_0_0_896) :=
        past_readCov arg5.view _ (past_cons arg5.view _ _ (past_cons arg5.view _ _ (past_cons arg5.view _ _ (past_cons arg5.view _ _ (past_cons arg5.view _ _ (past_cons arg5.view _ _ (past_cons arg5.view _ _ (past_zero arg5.view _))))))))
      unfold kernelRun0_A.sl.H2_8 kernelRun0_A.sl.H2_7 kernelRun0_A.sl.H2_6 kernelRun0_A.sl.H2_5 kernelRun0_A.sl.H2_4 kernelRun0_A.sl.H2_3 kernelRun0_A.sl.H2_2 kernelRun0_A.sl.H2_1
      rw [e7, e6, e5, e4, e3, e2, e1, e0]
      sl_unfold_run_names
      simp only [View.readAt_eq_ld, harg3.read_unread, harg4.read_unread]
      subst hlo hhi
      funext y
      show View.read _ _ (View.writes _ _ (View.writes _ _ f2 [⟨Rect.unit (s := S1x1x1024) ![0, 0, 0] S1x1x1024.size inb_S1x1x1024_S1x1x1024_0_0_0, k0_pay2 (F := Ideal)⟩]) [_, _, _, _, _, _, _, _]) y = _
      refine View.read_writes_apply_of_pieces _ _ _ _ ?_ y (View.cover_of_tiledL _ ![1, 1, 128] (by sl_kernel_rfl) y)
      intro q hq
      simp only [List.mem_cons, List.not_mem_nil, or_false] at hq
      rcases hq with rfl | rfl | rfl | rfl | rfl | rfl | rfl | rfl
      · exact fun x => piece_step _ (896#32) _ _ _ p 896 t ht hv2 rfl hp (by decide) x0 x1 _ _ _ _ _ _ inb_S1x1x1024_S1x1x128_0_0_896 x
      · exact fun x => piece_step _ (768#32) _ _ _ p 768 t ht hv2 rfl hp (by decide) x0 x1 _ _ _ _ _ _ inb_S1x1x1024_S1x1x128_0_0_768 x
      · exact fun x => piece_step _ (640#32) _ _ _ p 640 t ht hv2 rfl hp (by decide) x0 x1 _ _ _ _ _ _ inb_S1x1x1024_S1x1x128_0_0_640 x
      · exact fun x => piece_step _ (512#32) _ _ _ p 512 t ht hv2 rfl hp (by decide) x0 x1 _ _ _ _ _ _ inb_S1x1x1024_S1x1x128_0_0_512 x
      · exact fun x => piece_step _ (384#32) _ _ _ p 384 t ht hv2 rfl hp (by decide) x0 x1 _ _ _ _ _ _ inb_S1x1x1024_S1x1x128_0_0_384 x
      · exact fun x => piece_step _ (256#32) _ _ _ p 256 t ht hv2 rfl hp (by decide) x0 x1 _ _ _ _ _ _ inb_S1x1x1024_S1x1x128_0_0_256 x
      · exact fun x => piece_step _ (128#32) _ _ _ p 128 t ht hv2 rfl hp (by decide) x0 x1 _ _ _ _ _ _ inb_S1x1x1024_S1x1x128_0_0_128 x
      · exact fun x => piece_step _ (0#32) _ _ _ p 0 t ht hv2 rfl hp (by decide) x0 x1 _ _ _ _ _ _ inb_S1x1x1024_S1x1x128_0_0_0 x
    isplitl [HT0]; · iexact HT0
    iexact HT1

end Cert.KernelF8Ideal.Run

end
-- ==== Proof.F8.RunB.lean ====
/- The body at a grid point that goes on with its output block: the block is left holding `step` over what it held. -/
module

public import proofs.«01_k».proof.Proof.F8.Kit
public import proofs.«01_k».proof.Proof.F8.Step

@[expose] public section

-- membership in a rectangle of production extents (`View.cover_of_tiled`): the elaborator's structural look
-- recurses once per coordinate of the long axes
set_option maxRecDepth 16384

noncomputable section

namespace Cert.KernelF8Ideal.Run

open Cert.KernelF8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body at a point that goes on with its output block. -/
theorem kernelRun0_B (c : Dev nD) (i : grid0.Coords) (arg3 : Memref sig .tc .vmem S30x1024 .i32) (harg3 : arg3.IsWhole) (arg4 : Memref sig .tc .vmem S3264x256 .bf16) (harg4 : arg4.IsWhole) (arg5 : Memref sig .tc .vmem S1x1x1024 .f32) (harg5 : arg5.IsWhole)
    (x0 : Vec Ideal S30x1024 .i32) (x1 : Vec Ideal S3264x256 .bf16) (xt0 : TbBuf0 (F := Ideal) c tbM0_0) (xt1 : TbBuf0 (F := Ideal) c tbM0_1) (d : Vec Ideal S1x1x1024 .f32) (hc0 : ¬cond0_0 i (tbM0_0.view.readAt (Elt Ideal) (Rect.unit (s := S65) (k0_off1 i) S1.size (k0_off1_inb i)).toLoadRect xt0 (Shape.Idx.first (numel1_S1.symm ▸ Nat.one_pos))) (tbM0_0.view.readAt (Elt Ideal) (Rect.unit (s := S65) (k0_off4 i) S1.size (k0_off4_inb i)).toLoadRect xt0 (Shape.Idx.first (numel1_S1.symm ▸ Nat.one_pos)))) (k0_hw1 : k0_chk1 (tbM0_0.view.readAt (Elt Ideal) (Rect.unit (s := S65) (k0_off1 i) S1.size (k0_off1_inb i)).toLoadRect xt0 (Shape.Idx.first (numel1_S1.symm ▸ Nat.one_pos)))) (p : ℕ) (hp : p < 1000) (t : Fin 6)
    (ht : (tbM0_0.view.readAt (Elt Ideal) (Rect.unit (s := S65) (k0_off1 i) S1.size (k0_off1_inb i)).toLoadRect xt0 (Shape.Idx.first (numel1_S1.symm ▸ Nat.one_pos))) = BitVec.ofNat 32 t.val) (hv2 : Scalar.subi (BitVec.ofNat 32 (i 0).val) (tbM0_0.view.readAt (Elt Ideal) (Rect.unit (s := S65) (k0_off1 i) S1.size (k0_off1_inb i)).toLoadRect xt0 (Shape.Idx.first (numel1_S1.symm ▸ Nat.one_pos))) = BitVec.ofNat 32 p)
    (lo hi : ℤ) (hlo : BitVec.toInt (tbM0_1.view.readAt (Elt Ideal) (Rect.unit (s := S7) (k0_off2 (tbM0_0.view.readAt (Elt Ideal) (Rect.unit (s := S65) (k0_off1 i) S1.size (k0_off1_inb i)).toLoadRect xt0 (Shape.Idx.first (numel1_S1.symm ▸ Nat.one_pos)))) S1.size (k0_off2_inb _ k0_hw1)).toLoadRect xt1 (Shape.Idx.first (numel1_S1.symm ▸ Nat.one_pos))) = lo) (hhi : BitVec.toInt (tbM0_1.view.readAt (Elt Ideal) (Rect.unit (s := S7) (k0_off3 (tbM0_0.view.readAt (Elt Ideal) (Rect.unit (s := S65) (k0_off1 i) S1.size (k0_off1_inb i)).toLoadRect xt0 (Shape.Idx.first (numel1_S1.symm ▸ Nat.one_pos)))) S1.size (k0_off3_inb _ k0_hw1)).toLoadRect xt1 (Shape.Idx.first (numel1_S1.symm ▸ Nat.one_pos))) = hi) :
      ∀ (E : Set ℕ) (K : PUnit → sProp 𝕄),
        iprop(owns (c : Thread nD τ) arg3 fullShare x0 ∗ owns (c : Thread nD τ) arg4 fullShare x1 ∗ owns (c : Thread nD τ) arg5 fullShare d ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare (step p t lo hi x0 x1 d) ∗ tbPt0 c tbM0_0 xt0 ∗ tbPt0 c tbM0_1 xt1) -∗ K ⟨⟩))
          ⊢ wp frame (wpE (defs₀ (F := Ideal)) Variants.none c none) E (cc0_tc_dot_f8 i tbM0_0 htbM0_0 tbM0_1 htbM0_1 arg3 harg3 arg4 harg4 arg5 harg5) K := by
    intro E K
    simp only [cc0_tc_dot_f8_eq_skeleton]; unfold cc0_tc_dot_f8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, HT0, HT1, Hk⟩
    obtain rfl := harg3.eq_unread hf0; obtain rfl := harg4.eq_unread hf1; obtain rfl := harg5.eq_unread hf2
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      sl_unfold_run_names
      simp only [View.readAt_eq_ld, harg3.read_unread, harg4.read_unread, harg5.read_unread]
      subst hlo hhi
      funext y
      refine View.read_writes_apply_of_pieces _ _ _ _ ?_ y (View.cover_of_tiledL _ ![1, 1, 128] (by sl_kernel_rfl) y)
      intro q hq
      simp only [List.mem_cons, List.not_mem_nil, or_false] at hq
      rcases hq with rfl | rfl | rfl | rfl | rfl | rfl | rfl | rfl
      · exact fun x => piece_step _ (896#32) _ _ _ p 896 t ht hv2 rfl hp (by decide) x0 x1 d _ _ _ _ _ inb_S1x1x1024_S1x1x128_0_0_896 x
      · exact fun x => piece_step _ (768#32) _ _ _ p 768 t ht hv2 rfl hp (by decide) x0 x1 d _ _ _ _ _ inb_S1x1x1024_S1x1x128_0_0_768 x
      · exact fun x => piece_step _ (640#32) _ _ _ p 640 t ht hv2 rfl hp (by decide) x0 x1 d _ _ _ _ _ inb_S1x1x1024_S1x1x128_0_0_640 x
      · exact fun x => piece_step _ (512#32) _ _ _ p 512 t ht hv2 rfl hp (by decide) x0 x1 d _ _ _ _ _ inb_S1x1x1024_S1x1x128_0_0_512 x
      · exact fun x => piece_step _ (384#32) _ _ _ p 384 t ht hv2 rfl hp (by decide) x0 x1 d _ _ _ _ _ inb_S1x1x1024_S1x1x128_0_0_384 x
      · exact fun x => piece_step _ (256#32) _ _ _ p 256 t ht hv2 rfl hp (by decide) x0 x1 d _ _ _ _ _ inb_S1x1x1024_S1x1x128_0_0_256 x
      · exact fun x => piece_step _ (128#32) _ _ _ p 128 t ht hv2 rfl hp (by decide) x0 x1 d _ _ _ _ _ inb_S1x1x1024_S1x1x128_0_0_128 x
      · exact fun x => piece_step _ (0#32) _ _ _ p 0 t ht hv2 rfl hp (by decide) x0 x1 d _ _ _ _ _ inb_S1x1x1024_S1x1x128_0_0_0 x
    isplitl [HT0]; · iexact HT0
    iexact HT1

end Cert.KernelF8Ideal.Run

end
-- ==== Proof.F8.Tables.lean ====
/- The two tables the kernel prefetches, as the host computes them from the offsets: the bounds are every 256th offset,
   and the table of a grid point is one less than the number of tables whose start lies at or before it. -/
module

public import proofs.«01_k».proof.Proof.F8.Kit
public import proofs.«01_k».proof.Proof.Words
public import proofs.«01_k».proof.Proof.TableWords
public import Idealize.ShloMosaic.Lib.Claim
public import Idealize.ShloMosaic.Lib.Pointwise

@[expose] public section

set_option maxRecDepth 16384

noncomputable section

namespace Cert.KernelF8Ideal.Run

open Cert.KernelF8Ideal.Gen Cert.Words
open Idealize.ShloMosaic Idealize.ShloMosaic.TcCoe Idealize.SL.Sem

variable {F : FTy → Type} [FloatOps F]
variable (m : (ℓ : Loc nD τ sig) → Buf (Elt F) ℓ)

/-- The first position of each table, divided into chunks (rounding down), as the host's operations spell it. -/
def fdiv (x : Vec F S6 .i32) : Vec F S6 .i32 :=
  select (andi (cmpi .ne (signi x) (broadcastInDim S6 ![] bcast_S_S6 (signi (constantI S_ 32 1024#32))))
      (cmpi .ne (Host.remsi x (broadcastInDim S6 ![] bcast_S_S6 (constantI S_ 32 1024#32))) (broadcastInDim S6 ![] bcast_S_S6 (constantI S_ 32 0#32))))
    (subi (Host.divsi x (broadcastInDim S6 ![] bcast_S_S6 (constantI S_ 32 1024#32))) (broadcastInDim S6 ![] bcast_S_S6 (constantI S_ 32 1#32)))
    (Host.divsi x (broadcastInDim S6 ![] bcast_S_S6 (constantI S_ 32 1024#32)))

/-- The table of each grid point, as the host's operations spell it. -/
def tmapOf (off : Vec F S1537 .i32) : Vec F S65 .i32 :=
  subi
    (Host.reduce IntOp.addi
      (extui 32 (cmpi .sle
          (broadcastInDim S65x6 ![0, 1] bcast_S1x6_S65x6_0_1 (broadcastInDim S1x6 ![1] bcast_S6_S1x6_1
            (addi (fdiv (F := F) (extractStridedSlice S6 ![0] (Host.slice S7 ![0] ![256] off slicesBy_S1537_S7_0s256) slices_S7_S6_0)) (iotaInDim S6 32 0))))
          (broadcastInDim S65x6 ![0, 1] bcast_S65x1_S65x6_0_1 (broadcastInDim S65x1 ![0] bcast_S65_S65x1_0 (iotaInDim S65 32 0)))) natLt_1_32)
      (constantI S_ 32 0#32) reducesTo_S65x6_S65_d1 h_S_)
    (broadcastInDim S65 ![] bcast_S_S65 (constantI S_ 32 1#32))

theorem V_tmap (c : Dev nD) : V m c main_v15 = tmapOf (F := F) (m ((c : Thread nD τ).loc main_arg1)) := by
  unfold V
  simp only [hostOps0, hostOps0_1, hostOps0_2, List.flatten_cons, List.flatten_nil, List.append_nil, List.cons_append, List.nil_append]
  after_results
  rfl

theorem V_bounds (c : Dev nD) : V m c main_v1 = Host.slice S7 ![0] ![256] (m ((c : Thread nD τ).loc main_arg1)) slicesBy_S1537_S7_0s256 := by
  unfold V
  simp only [hostOps0, hostOps0_1, hostOps0_2, List.flatten_cons, List.flatten_nil, List.append_nil, List.cons_append, List.nil_append]
  after_results

theorem V_go (c : Dev nD) : V m c main_v0 = transpose S3264x256 [1, 0] (m ((c : Thread nD τ).loc main_arg2)) transposes_S256x3264_S3264x256_1_0 := by
  unfold V
  simp only [hostOps0, hostOps0_1, hostOps0_2, List.flatten_cons, List.flatten_nil, List.append_nil, List.cons_append, List.nil_append]
  after_results

/-- The offsets, as integers. -/
def offOf (off : Vec F S1537 .i32) (i : ℕ) : ℤ := (off (ix1 ⟨min i 1536, by omega⟩)).toInt
abbrev offI (i : ℕ) : ℤ := offOf (F := F) (m (((0 : Dev nD) : Thread nD τ).loc main_arg1)) i

/-- The gradient, transposed. -/
theorem V_go_apply (c : Dev nD) (r : Fin 3264) (k : Fin 256) : V m c main_v0 (ix2 r k) = m ((c : Thread nD τ).loc main_arg2) (ix2 k r) := by
  rw [V_go]
  generalize m _ = off
  pointwise

/-- The bounds. -/
theorem tbl1_toInt (k : Fin 7) : (tbl m 1 (ix1 k)).toInt = offI m (256 * k.val) := by
  have e : tbl m 1 (ix1 k) = m (((0 : Dev nD) : Thread nD τ).loc main_arg1) (ix1 ⟨256 * k.val, by omega⟩) := by
    show V m (0 : Dev nD) main_v1 (ix1 k) = _
    rw [V_bounds]
    generalize m _ = off
    pointwise
  have hk : (⟨min (256 * k.val) 1536, by omega⟩ : Fin 1537) = ⟨256 * k.val, by omega⟩ := Fin.ext (by simp only; omega)
  rw [e]
  show _ = offOf _ _
  unfold offOf
  rw [hk]

/-- The table of a grid point is the count, less one, of the starts at or before it. -/
theorem tmapOf_apply (off : Vec F S1537 .i32) (HG : GoodOff 6 60 (offOf (F := F) off)) (g : Fin 65) :
    tmapOf (F := F) off (ix1 g) = BitVec.ofNat 32 (((Finset.range 6).filter fun t => (offOf (F := F) off (256 * min t 6)).toNat / 1024 + t ≤ g.val).card - 1) := by
  pointwise [tmapOf, fdiv]
  refine tmap_word 6 (by decide) (by decide) (fun t : Fin 6 => off (ix1 ⟨256 * t.val, by omega⟩)) (fun t => (offOf (F := F) off (256 * min t 6)).toNat) ?_ ?_ ?_ g.val (by omega)
  · intro t
    have h := HG.nonneg (i := 256 * t.val) (by omega)
    have e : offOf (F := F) off (256 * t.val) = (off (ix1 ⟨256 * t.val, by omega⟩)).toInt := by
      unfold offOf
      congr 3
      exact Fin.ext (by simp only; omega)
    have hm : min t.val 6 = t.val := by omega
    simp only [hm]
    rw [e] at h ⊢
    generalize off _ = w at h ⊢
    have h2 : w.toInt = w.toNat := BitVec.toInt_eq_toNat_of_lt (BitVec.toInt_pos_iff.mp h)
    rw [h2, Int.toNat_natCast, BitVec.ofNat_toNat, BitVec.setWidth_eq]
  · intro t
    have := HG.le_last (i := 256 * min t 6) (by omega)
    omega
  · simp [HG.zero]

/-- The table that grid point `g` treats. -/
def tb (g : ℕ) : ℕ := (tbl m 0 (ix1 ⟨min g 64, by omega⟩)).toNat

theorem tbl0_eq (g : Fin 65) : tbl m 0 (ix1 g) = BitVec.ofNat 32 (tb m g.val) := by
  have hg : (⟨min g.val 64, by omega⟩ : Fin 65) = g := Fin.ext (by simp only; omega)
  unfold tb
  rw [hg]
  exact (fun w : BitVec 32 => (by rw [BitVec.ofNat_toNat, BitVec.setWidth_eq] : w = BitVec.ofNat 32 w.toNat)) _

variable (HG : GoodOff 6 60 (offI m))

include HG in
/-- The grid walks the tables' chunks in order. -/
theorem sched : Sched 6 60 (fun t => (offI m (256 * t)).toNat) (tb m) := by
  refine HG.sched (by decide) (by decide) _ fun g hg => ?_
  unfold tb
  have e : tbl m 0 (ix1 ⟨min g 64, by omega⟩) = _ := (congrFun (V_tmap m 0) _).trans (tmapOf_apply _ HG ⟨min g 64, by omega⟩)
  rw [e, BitVec.toNat_ofNat]
  have hc : ∀ p : ℕ → Prop, [DecidablePred p] → ((Finset.range 6).filter p).card - 1 < 2 ^ 32 := fun p _ => by
    have := Finset.card_le_card (Finset.filter_subset p (Finset.range 6))
    rw [Finset.card_range] at this
    omega
  rw [Nat.mod_eq_of_lt (hc _)]
  congr 2
  apply Finset.filter_congr
  intro t ht
  rw [Finset.mem_range] at ht
  have h1 : min t 6 = t := by omega
  have h2 : min g 64 = g := by omega
  simp only [h1, h2]

include HG in
theorem tb_lt (g : Fin 65) : tb m g.val < 6 := (sched m HG).lt g.val (by omega)

/-- A load of one word of the first table. -/
theorem read0 (off : Fin 1 → ℕ) (inb) (g : Fin 65) (h : off 0 = g.val) (h1) :
    tbM0_0.view.readAt (Elt F) (Rect.unit (s := S65) off S1.size inb).toLoadRect (tbl m 0) (Shape.Idx.first h1) = BitVec.ofNat 32 (tb m g.val) := by
  rw [← tbl0_eq]
  refine congrArg (tbl m 0) (funext fun a => Fin.ext ?_)
  match a with
  | ⟨0, _⟩ => exact (congrArg (· + 1 * (Shape.Idx.first h1 0).val) h).trans (by
      have h0 : ∀ q : Fin 1, g.val + 1 * q.val = g.val := fun q => by omega
      exact h0 (Shape.Idx.first h1 0))

/-- A load of one word of the second table. -/
theorem read1 (off : Fin 1 → ℕ) (inb) (k : Fin 7) (h : off 0 = k.val) (h1) :
    BitVec.toInt (tbM0_1.view.readAt (Elt F) (Rect.unit (s := S7) off S1.size inb).toLoadRect (tbl m 1) (Shape.Idx.first h1)) = offI m (256 * k.val) := by
  rw [← tbl1_toInt]
  refine congrArg (fun i => BitVec.toInt (tbl m 1 i)) (funext fun a => Fin.ext ?_)
  match a with
  | ⟨0, _⟩ => exact (congrArg (· + 1 * (Shape.Idx.first h1 0).val) h).trans (by
      have h0 : ∀ q : Fin 1, k.val + 1 * q.val = k.val := fun q => by omega
      exact h0 (Shape.Idx.first h1 0))

/-- The place of a grid point's word, and of the one before it. -/
theorem off1_val (i : grid0.Coords) : k0_off1 i 0 = (i 0).val := by
  have h : (i 0).val < 65 := (i 0).isLt
  show (BitVec.ofNat 32 (i 0).val).toNat = _
  simp only [BitVec.toNat_ofNat]; omega

theorem off4_val (i : grid0.Coords) : k0_off4 i 0 = (i 0).val - 1 := by
  have h : (i 0).val < 65 := (i 0).isLt
  have h' : ∀ k : Fin 65, (Scalar.maxsi (Scalar.subi (BitVec.ofNat 32 k.val) 1#32) 0#32).toNat = k.val - 1 := by decide +kernel
  exact h' ⟨(i 0).val, h⟩

/-- What the body assumes of a table number, and the places of the bounds it reads. -/
theorem chk (t : Fin 6) : k0_chk1 (BitVec.ofNat 32 t.val) := by
  revert t; decide +kernel

theorem off2_val (t : Fin 6) : k0_off2 (BitVec.ofNat 32 t.val) 0 = t.val ∧ k0_off3 (BitVec.ofNat 32 t.val) 0 = t.val + 1 := by
  revert t; decide +kernel

/-- The chunk of grid point `g` as a word. -/
theorem chunk_word (T g : ℕ) (h : T ≤ g) (hg : g < 2 ^ 32) : Scalar.subi (BitVec.ofNat 32 g) (BitVec.ofNat 32 T) = BitVec.ofNat 32 (g - T) :=
  BitVec.ofNat_sub_ofNat_of_le _ _ (by omega) h

include HG in
/-- The block a point writes is its chunk. -/
theorem trans2 (i : grid0.Coords) : cc0_transform_2 k0_off1_inb numel1_S1 (tbl m) i = ![(i 0).val - tb m (i 0).val, 0, 0] := by
  have hi : (i 0).val < 65 := (i 0).isLt
  have e : (tbl m).at 0 (Rect.unit (s := S65) (k0_off1 i) S1.size (k0_off1_inb i)) numel1_S1 = BitVec.ofNat 32 (tb m (i 0).val) := read0 m _ _ ⟨(i 0).val, hi⟩ (off1_val i) _
  have h1 := (sched m HG).le_self (g := (i 0).val) (by omega)
  show ![(Scalar.subi (BitVec.ofNat 32 (i 0).val) ((tbl m).at 0 (Rect.unit (s := S65) (k0_off1 i) S1.size (k0_off1_inb i)) numel1_S1)).toNat, 0, 0] = _
  rw [e, chunk_word _ _ h1 (by omega), BitVec.toNat_ofNat, Nat.mod_eq_of_lt (by omega)]

include HG in
/-- The pipeline's side condition: every block it writes lies in the array. -/
theorem ok : Ok m := by
  intro i
  have hi : (i 0).val < 65 := (i 0).isLt
  have h2 := (sched m HG).chunk_lt (by decide) (by decide) (g := (i 0).val) (by omega)
  refine ⟨fun a => ?_, Or.inl rfl⟩
  rw [trans2 m HG]
  match a with
  | ⟨0, _⟩ => show ((i 0).val - tb m (i 0).val + 1) * 1 ≤ 60; omega
  | ⟨1, _⟩ => show (0 + 1) * 1 ≤ 1; omega
  | ⟨2, _⟩ => show (0 + 1) * 1024 ≤ 1024; omega

include HG in
/-- The side conditions the body assumes hold at every point. -/
theorem hyps (hO : Ok m) : Hyps m hO := fun c t => by
  have hi : (grid0.coords t 0).val < 65 := (grid0.coords t 0).isLt
  rw [read0 m _ _ ⟨(grid0.coords t 0).val, hi⟩ (off1_val _)]
  exact chk ⟨tb m (grid0.coords t 0).val, tb_lt m HG ⟨_, hi⟩⟩

end Cert.KernelF8Ideal.Run
-- ==== Proof.F8.Data.lean ====
/- What the kernel's output block holds point by point (`dAt`): a point that starts a block of the output puts its table's
   dot products over zeros, one that goes on with the block puts them over what the point before left. The pipeline's
   proof data with these contents, the body's obligation, and the run. -/
module

public import proofs.«01_k».proof.Proof.F8.RunA
public import proofs.«01_k».proof.Proof.F8.RunB
public import proofs.«01_k».proof.Proof.F8.Tables

@[expose] public section

set_option maxRecDepth 16384

noncomputable section

namespace Cert.KernelF8Ideal.Run

open Cert.KernelF8Ideal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
variable (HG : GoodOff 6 60 (offI m))

/-! ## The points -/

/-- There are 65 grid points, and a point's coordinate is its number. -/
theorem N_eq : grid0.N = 65 := by decide +kernel
theorem coord (t : Fin grid0.N) : (grid0.coords t 0).val = t.val := by
  rw [Pipeline.Grid.coords_val (G := grid0) t 0 (S := 1) (B := 65) (by decide +kernel) rfl, Nat.div_one, Nat.mod_eq_of_lt (N_eq ▸ t.isLt)]

/-- The output block's index at a point: the chunk. -/
theorem index2 (t : Fin (cfgM m (ok m HG)).N) : ((cfgM m (ok m HG)).win 2).index t = ![t.val - tb m t.val, 0, 0] := by
  have h : cc0_transform_2 k0_off1_inb numel1_S1 (tbl m) (grid0.coords t) = _ := trans2 m HG (grid0.coords t)
  rw [coord] at h
  exact h

/-- When the body starts a new output block: at the first point, and where the chunk changes. -/
theorem cond_iff (i : grid0.Coords) (v1 v13 : BitVec 32) :
    cond0_0 i v1 v13 ↔ (i 0).val = 0 ∨ Scalar.subi (Scalar.subi (BitVec.ofNat 32 (i 0).val) 1#32) v13 ≠ Scalar.subi (BitVec.ofNat 32 (i 0).val) v1 := by
  have hb : ∀ a b : BitVec 1, (Scalar.cmpi .ne (Scalar.extui (Scalar.ori a b) : BitVec 32) 0#32 = 1#1) ↔ (a = 1#1 ∨ b = 1#1) := by decide
  have hi : (i 0).val < 65 := (i 0).isLt
  have h0 : (BitVec.ofNat 32 (i 0).val = 0#32) ↔ (i 0).val = 0 := by
    constructor
    · intro h
      have := congrArg BitVec.toNat h
      simp at this; omega
    · intro h; rw [h]
  show (Scalar.cmpi .ne (Scalar.extui (Scalar.ori _ _) : BitVec 32) 0#32 = 1#1) ↔ _
  rw [hb, ← h0]
  have e1 : ∀ a b : BitVec 32, Scalar.cmpi .eq a b = 1#1 ↔ a = b := fun a b => by
    show BitVec.ofBool (a == b) = 1#1 ↔ _
    rw [(by decide : ∀ x : Bool, BitVec.ofBool x = 1#1 ↔ x = true) (a == b), beq_iff_eq]
  have e2 : ∀ a b : BitVec 32, Scalar.cmpi .ne a b = 1#1 ↔ a ≠ b := fun a b => by
    show BitVec.ofBool (a != b) = 1#1 ↔ _
    rw [(by decide : ∀ x : Bool, BitVec.ofBool x = 1#1 ↔ x = true) (a != b), bne_iff_ne]
  rw [e1, e2]

/-! ## The contents -/

/-- The table of a point. -/
def tbF (g : ℕ) : Fin 6 := ⟨tb m g % 6, Nat.mod_lt _ (by decide)⟩

/-- A point by its number. -/
def pt (g : ℕ) : Fin grid0.N := ⟨min g 64, by rw [N_eq]; omega⟩

/-- Zeros. -/
def zeros : Vec Ideal S1x1x1024 .f32 := fun _ => Ideal.ofBits .f32 (0#32)

/-- One point's work on its block. -/
def work (c : Dev nD) (g : ℕ) (d : Vec Ideal S1x1x1024 .f32) : Vec Ideal S1x1x1024 .f32 :=
  step (g - tb m g) (tbF m g) (offI m (256 * tb m g)) (offI m (256 * (tb m g + 1))) (iblk m (ok m HG) c 0 (pt g)) (iblk m (ok m HG) c 1 (pt g)) d

/-- The output block after point `g`. -/
def dAt (c : Dev nD) : ℕ → Vec Ideal S1x1x1024 .f32
  | 0 => work m HG c 0 zeros
  | g + 1 => work m HG c (g + 1) (if tb m (g + 1) = tb m g then zeros else dAt c g)

/-! ## The pipeline's proof data -/

/-- The proof data: the inputs' blocks as the region finds them, the output block at `dAt`. -/
def dats (_ : Fin 1) (c : Dev nD) : Dat τ (Elt Ideal) Unit ℕ (UR sig nD τ) ℕ (cfgM m (ok m HG)) c where
  A w := V m c (Pipeline.arrRef spec0 w)
  after w t := match w with
    | ⟨0, _⟩ => iblk m (ok m HG) c 0 t
    | ⟨1, _⟩ => iblk m (ok m HG) c 1 t
    | ⟨2, _⟩ => dAt m HG c t.val
  Φ _ := iprop(Pipeline.ΦA spec0 c ∗ Pipeline.ΦT pre0 (tbl m) c)
  q _ := fullShare
  owed _ := 0

theorem A_eq (c : Dev nD) (w : Fin (cfgM m (ok m HG)).W) : (dats m HG 0 c).A w = V m c (Pipeline.arrRef spec0 w) := by
  dsimp only [dats]
theorem after0_0 (c : Dev nD) (t : Fin (cfgM m (ok m HG)).N) : (dats m HG 0 c).after 0 t = iblk m (ok m HG) c 0 t := by dsimp only [dats]; try rfl
theorem after0_1 (c : Dev nD) (t : Fin (cfgM m (ok m HG)).N) : (dats m HG 0 c).after 1 t = iblk m (ok m HG) c 1 t := by dsimp only [dats]; try rfl
theorem after0_2 (c : Dev nD) (t : Fin (cfgM m (ok m HG)).N) : (dats m HG 0 c).after 2 t = dAt m HG c t.val := by dsimp only [dats]; try rfl
theorem before0_0 (c : Dev nD) (t : Fin (cfgM m (ok m HG)).N) (d) : (dats m HG 0 c).before 0 t d = iblk m (ok m HG) c 0 t :=
  before0_0_of m (ok m HG) (dats m HG 0 c) (A_eq m HG c 0) (after0_0 m HG c) t d
theorem before0_1 (c : Dev nD) (t : Fin (cfgM m (ok m HG)).N) (d) : (dats m HG 0 c).before 1 t d = iblk m (ok m HG) c 1 t :=
  before0_1_of m (ok m HG) (dats m HG 0 c) (A_eq m HG c 1) (after0_1 m HG c) t d

/-- At a point that goes on with its block the body finds what the point before left. -/
theorem before0_2 (c : Dev nD) (t : Fin (cfgM m (ok m HG)).N) (g : ℕ) (ht : t.val = g + 1) (h : tb m (g + 1) = tb m g + 1) (d) :
    (dats m HG 0 c).before 2 t d = dAt m HG c g := by
  have hN : t.val < 65 := N_eq ▸ t.isLt
  have hf : ((cfgM m (ok m HG)).win 2).flush ⟨t.val - 1, Nat.lt_of_le_of_lt (Nat.sub_le _ _) t.isLt⟩ = false := by
    rw [Bool.eq_false_iff]
    intro hf
    have hN' : (cfgM m (ok m HG)).grid.N = 65 := N_eq
    rcases (((cfgM m (ok m HG)).win 2).flush_out rfl _).mp hf with e | ⟨h1, hne⟩
    · have e' := e.trans hN'; simp only at e'; omega
    · refine hne ?_
      rw [index2 m HG, index2 m HG]
      have e1 : t.val - 1 = g := by omega
      have e2 : t.val - 1 + 1 = g + 1 := by omega
      simp only [e1, e2, h]
      rw [show g + 1 - (tb m g + 1) = g - tb m g by omega]
  rw [(dats m HG 0 c).before_out_kept 2 rfl t (by omega) hf (fun _ => rfl) (fun _ _ => rfl), after0_2]
  congr 1
  simp only; omega

/-! ## The body obligation -/

def bodyPre (c : Dev nD) (t : Fin (cfgM m (ok m HG)).N) : sProp 𝕄 :=
  iprop((dats m HG 0 c).Φ t.castSucc ∗ (dats m HG 0 c).owesAt () t.castSucc
    ∗ (∃ d, owns (c : Thread nD τ) (ms0_0 m (ok m HG) t) fullShare ((dats m HG 0 c).before 0 t d))
    ∗ (∃ d, owns (c : Thread nD τ) (ms0_1 m (ok m HG) t) fullShare ((dats m HG 0 c).before 1 t d))
    ∗ (∃ d, owns (c : Thread nD τ) (ms0_2 m (ok m HG) t) fullShare ((dats m HG 0 c).before 2 t d)))

def bodyPost (c : Dev nD) (t : Fin (cfgM m (ok m HG)).N) : sProp 𝕄 :=
  iprop((dats m HG 0 c).Φ t.succ ∗ (dats m HG 0 c).owesAt () t.succ
    ∗ owns (c : Thread nD τ) (ms0_0 m (ok m HG) t) fullShare ((dats m HG 0 c).after 0 t)
    ∗ owns (c : Thread nD τ) (ms0_1 m (ok m HG) t) fullShare ((dats m HG 0 c).after 1 t)
    ∗ owns (c : Thread nD τ) (ms0_2 m (ok m HG) t) fullShare ((dats m HG 0 c).after 2 t))

set_option maxHeartbeats 800000 in
/-- The body at any point. -/
theorem sound_body (c : Dev nD) (t : Fin (cfgM m (ok m HG)).N) :
    bodyPre m HG c t ⊢ wp frame (wpE (defs₀ (F := Ideal)) Variants.none c none) Set.univ (bodyAt0 (adm m (ok m HG)) t) (fun _ => bodyPost m HG c t) := by
  have S := sched m HG
  have hN : t.val < 65 := N_eq ▸ t.isLt
  have hi : (grid0.coords t 0).val = t.val := coord t
  have hT : tb m t.val < 6 := S.lt t.val (by omega)
  have hle := S.le_self (g := t.val) (by omega)
  have hch := S.chunk_lt (by decide) (by decide) (g := t.val) (by omega)
  have hpt : pt t.val = t := Fin.ext (by show min t.val 64 = t.val; omega)
  have hF : (tbF m t.val).val = tb m t.val := Nat.mod_eq_of_lt hT
  have r1 : tbM0_0.view.readAt (Elt Ideal) (Rect.unit (s := S65) (k0_off1 (grid0.coords t)) S1.size (k0_off1_inb (grid0.coords t))).toLoadRect (tbl m 0) (Shape.Idx.first (numel1_S1.symm ▸ Nat.one_pos)) = BitVec.ofNat 32 (tb m t.val) :=
    read0 m _ _ ⟨t.val, hN⟩ ((off1_val _).trans hi) _
  have r4 : tbM0_0.view.readAt (Elt Ideal) (Rect.unit (s := S65) (k0_off4 (grid0.coords t)) S1.size (k0_off4_inb (grid0.coords t))).toLoadRect (tbl m 0) (Shape.Idx.first (numel1_S1.symm ▸ Nat.one_pos)) = BitVec.ofNat 32 (tb m (t.val - 1)) :=
    read0 m _ _ ⟨t.val - 1, by omega⟩ ((off4_val _).trans (by rw [hi])) _
  have ht' : tbM0_0.view.readAt (Elt Ideal) (Rect.unit (s := S65) (k0_off1 (grid0.coords t)) S1.size (k0_off1_inb (grid0.coords t))).toLoadRect (tbl m 0) (Shape.Idx.first (numel1_S1.symm ▸ Nat.one_pos)) = BitVec.ofNat 32 (tbF m t.val).val :=
    r1.trans (by rw [hF])
  have hp : Scalar.subi (BitVec.ofNat 32 (grid0.coords t 0).val) (tbM0_0.view.readAt (Elt Ideal) (Rect.unit (s := S65) (k0_off1 (grid0.coords t)) S1.size (k0_off1_inb (grid0.coords t))).toLoadRect (tbl m 0) (Shape.Idx.first (numel1_S1.symm ▸ Nat.one_pos))) = BitVec.ofNat 32 (t.val - tb m t.val) := by
    rw [r1, hi]; exact chunk_word _ _ hle (by omega)
  have hH := hyps m HG (ok m HG)
  have hlo : BitVec.toInt (tbM0_1.view.readAt (Elt Ideal) (Rect.unit (s := S7) (k0_off2 (tbM0_0.view.readAt (Elt Ideal) (Rect.unit (s := S65) (k0_off1 (grid0.coords t)) S1.size (k0_off1_inb (grid0.coords t))).toLoadRect (tbl m 0) (Shape.Idx.first (numel1_S1.symm ▸ Nat.one_pos)))) S1.size (k0_off2_inb _ (Hyps.c0 hH c t))).toLoadRect (tbl m 1) (Shape.Idx.first (numel1_S1.symm ▸ Nat.one_pos))) = offI m (256 * tb m t.val) :=
    read1 m _ _ ⟨tb m t.val, by omega⟩ ((congrArg (fun w => k0_off2 w 0) ht').trans ((off2_val _).1.trans hF)) _
  have hhi : BitVec.toInt (tbM0_1.view.readAt (Elt Ideal) (Rect.unit (s := S7) (k0_off3 (tbM0_0.view.readAt (Elt Ideal) (Rect.unit (s := S65) (k0_off1 (grid0.coords t)) S1.size (k0_off1_inb (grid0.coords t))).toLoadRect (tbl m 0) (Shape.Idx.first (numel1_S1.symm ▸ Nat.one_pos)))) S1.size (k0_off3_inb _ (Hyps.c0 hH c t))).toLoadRect (tbl m 1) (Shape.Idx.first (numel1_S1.symm ▸ Nat.one_pos))) = offI m (256 * (tb m t.val + 1)) :=
    read1 m _ _ ⟨tb m t.val + 1, by omega⟩ ((congrArg (fun w => k0_off3 w 0) ht').trans ((off2_val _).2.trans (by rw [hF]))) _
  have hwork : ∀ d, work m HG c t.val d = step (t.val - tb m t.val) (tbF m t.val) (offI m (256 * tb m t.val)) (offI m (256 * (tb m t.val + 1))) (iblk m (ok m HG) c 0 t) (iblk m (ok m HG) c 1 t) d := fun d => by
    unfold work; rw [hpt]
  unfold bodyPre bodyPost bodyAt0
  simp only [before0_0, before0_1]
  rw [show (dats m HG 0 c).Φ t.succ = (dats m HG 0 c).Φ t.castSucc from rfl,
    show (dats m HG 0 c).owesAt () t.succ = (dats m HG 0 c).owesAt () t.castSucc from rfl,
    after0_0, after0_1, after0_2]
  rw [show (dats m HG 0 c).Φ t.castSucc = iprop(Pipeline.ΦA spec0 c ∗ Pipeline.ΦT pre0 (tbl m) c) from rfl, PhiT0_eq]
  by_cases h0 : cond0_0 (grid0.coords t) (tbM0_0.view.readAt (Elt Ideal) (Rect.unit (s := S65) (k0_off1 (grid0.coords t)) S1.size (k0_off1_inb (grid0.coords t))).toLoadRect (tbl m 0) (Shape.Idx.first (numel1_S1.symm ▸ Nat.one_pos))) (tbM0_0.view.readAt (Elt Ideal) (Rect.unit (s := S65) (k0_off4 (grid0.coords t)) S1.size (k0_off4_inb (grid0.coords t))).toLoadRect (tbl m 0) (Shape.Idx.first (numel1_S1.symm ▸ Nat.one_pos)))
  · have hd : dAt m HG c t.val = step (t.val - tb m t.val) (tbF m t.val) (offI m (256 * tb m t.val)) (offI m (256 * (tb m t.val + 1))) (iblk m (ok m HG) c 0 t) (iblk m (ok m HG) c 1 t) (fun _ => Ideal.ofBits .f32 (0#32)) := by
      rw [cond_iff, r1, r4, hi] at h0
      rw [show (fun _ => Ideal.ofBits .f32 (0#32)) = zeros from rfl, ← hwork]
      obtain hz | ⟨g, hg⟩ : t.val = 0 ∨ ∃ g, t.val = g + 1 := by
        rcases Nat.eq_zero_or_pos t.val with h | h
        · exact .inl h
        · exact .inr ⟨t.val - 1, by omega⟩
      · rw [hz]; rfl
      · rw [hg] at h0 hle hN ⊢
        have h3 : tb m (g + 1) = tb m g := by
          rcases S.step g (by omega) with h | h
          · exact h
          · exfalso
            rcases h0 with h0 | h0
            · omega
            · refine h0 ?_
              have e1 : Scalar.subi (BitVec.ofNat 32 (g + 1)) 1#32 = BitVec.ofNat 32 g := chunk_word 1 (g + 1) (by omega) (by omega)
              have := S.le_self (g := g) (by omega)
              rw [e1, chunk_word _ _ hle (by omega)]
              show Scalar.subi (BitVec.ofNat 32 g) (BitVec.ofNat 32 (tb m g)) = _
              rw [chunk_word _ _ this (by omega), h]
              congr 1; omega
        show work m HG c (g + 1) (if tb m (g + 1) = tb m g then zeros else dAt m HG c g) = _
        rw [if_pos h3]
    rw [hd]
    iintro ⟨⟨HΦ, ⟨HT0, HT1⟩⟩, Ho, ⟨%d0, H0⟩, ⟨%d1, H1⟩, ⟨%d2, H2⟩⟩
    iapply ((kernelRun0_A c (grid0.coords t) _ _ _ _ _ _ (iblk m (ok m HG) c 0 t) (iblk m (ok m HG) c 1 t) (tbl m 0) (tbl m 1) h0 (Hyps.c0 hH c t) _ (by omega) (tbF m t.val) ht' hp _ _ hlo hhi) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2
  · obtain ⟨g, hg, h3⟩ : ∃ g, t.val = g + 1 ∧ tb m (g + 1) = tb m g + 1 := by
      rw [cond_iff, r1, r4, hi] at h0
      push Not at h0
      refine ⟨t.val - 1, by omega, ?_⟩
      have hg : t.val = t.val - 1 + 1 := by omega
      generalize t.val - 1 = g at hg h0
      rw [hg] at h0 hle hN
      rcases S.step g (by omega) with h | h
      · exfalso
        have e1 : Scalar.subi (BitVec.ofNat 32 (g + 1)) 1#32 = BitVec.ofNat 32 g := chunk_word 1 (g + 1) (by omega) (by omega)
        have h5 := S.le_self (g := g) (by omega)
        have h4 := h0.2
        rw [e1, chunk_word _ _ hle (by omega), chunk_word _ _ h5 (by omega), h] at h4
        have := congrArg BitVec.toNat h4
        simp only [BitVec.toNat_ofNat] at this
        omega
      · exact h
    have hd : dAt m HG c t.val = step (t.val - tb m t.val) (tbF m t.val) (offI m (256 * tb m t.val)) (offI m (256 * (tb m t.val + 1))) (iblk m (ok m HG) c 0 t) (iblk m (ok m HG) c 1 t) (dAt m HG c g) := by
      rw [← hwork, hg]
      show work m HG c (g + 1) (if tb m (g + 1) = tb m g then zeros else dAt m HG c g) = _
      rw [if_neg (by omega)]
    rw [hd]
    simp only [before0_2 m HG c t g hg h3]
    iintro ⟨⟨HΦ, ⟨HT0, HT1⟩⟩, Ho, ⟨%d0, H0⟩, ⟨%d1, H1⟩, ⟨%d2, H2⟩⟩
    iapply ((kernelRun0_B c (grid0.coords t) _ _ _ _ _ _ (iblk m (ok m HG) c 0 t) (iblk m (ok m HG) c 1 t) (tbl m 0) (tbl m 1) (dAt m HG c g) h0 (Hyps.c0 hH c t) _ (by omega) (tbF m t.val) ht' hp _ _ hlo hhi) Set.univ _)
    isplitl [H0]; · iexact H0
    isplitl [H1]; · iexact H1
    isplitl [H2]; · iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2

theorem defs₀_row (t : Fin (cfgM m (ok m HG)).N) :
    defs₀ (F := Ideal) .tc (cfgM m (ok m HG)).body ((cfgM m (ok m HG)).bodyArgs t ((cfgM m (ok m HG)).slots t)) = bodyAt0 (adm m (ok m HG)) t := by
  unfold defs₀; rw [Defs.onTc_tc]

/-- The body's obligation, at every point. -/
theorem body_obligation (c : Dev nD) : BodyObligation (dats m HG 0 c) (defs₀ (F := Ideal)) Variants.none () Set.univ := fun t => by
  rw [bigSep_W0, bigSep_W0, defs₀_row m HG]
  exact triple_restated (sound_body m HG c t) rfl .rfl fun _ => .rfl

/-! ## The run -/

set_option backward.isDefEq.respectTransparency.types false in
/-- The run: at every final state each array holds what the proof data say, and every counter is zero. -/
theorem run_main_quiescent : θ_run defs (onTc (τ := τ) (main (F := Ideal))) (s₀ m ρ)
    (fun r => (Pipeline.FramePost (Pipeline.pin pcfgs fun _ => adm m (ok m HG)) (dats m HG) (0 : Fin 1) (V m)) r ∧ r.2.sem = fun _ => 0) :=
  Pipeline.θ_run_frameP (Q' := _) pcfgs (fun _ => adm m (ok m HG)) (dats m HG) (0 : Fin 1) launch0 defs₀ Variants.none m ρ main
    (hbody := fun c => (body_obligation m HG c).loose) (hshare := fun c => (dats m HG 0 c).share_full fun _ => rfl)
    (howed := fun _ _ => rfl) (V := V m) (hmain := hmain m Variants.none) (hA := A_eq m HG) (hpf := V_pre m) (hΦ := fun _ _ => rfl)

end Cert.KernelF8Ideal.Run
-- ==== Proof.F8.Final.lean ====
/- The result array after the run: a position that a table holds carries that table's scaled dot product at the
   position's column of words, any other position zero. -/
module

public import proofs.«01_k».proof.Proof.F8.Data
public import Idealize.ShloMosaic.Lib.Pipeline.Covers

@[expose] public section

set_option maxRecDepth 16384

noncomputable section

namespace Cert.KernelF8Ideal.Run

open Cert.KernelF8Ideal.Gen Cert.Words
open Idealize.ShloMosaic Idealize.ShloMosaic.TcCoe Idealize.ShloMosaic.Tactic
open Idealize.ShloMosaic.Pipeline (Dat Cfg Window)

variable (m : (ℓ : Loc nD τ sig) → Buf (Elt Ideal) ℓ) (ρ : Dev nD → PrngReg)
variable (HG : GoodOff 6 60 (offI m))

/-- The scaled dot product at column `k` of the words, for table `t`. -/
def cellAt (W : Vec Ideal S30x67584 .i32) (GO : Vec Ideal S256x3264 .bf16) (t : Fin 6) (k : Fin 67584) : EReal :=
  (∑ b : Fin 112, Ideal.ofBits .fp8e4m3 (byteOf (W (ix2 ⟨b.val / 4, by omega⟩ k)) (b.val % 4)) * GO (ix2 (sel (W (ix2 29 k))) ⟨2592 + 112 * t.val + b.val, by omega⟩))
    * Ideal.ofBits .f32 (W (ix2 28 k))

/-- Column `pos + 1024·t` of the words, cut at the last. -/
def colF (t pos : ℕ) : Fin 67584 := ⟨min (pos + 1024 * t) 67583, by omega⟩

/-- What table `t` leaves at position `pos`. -/
def valAt (c : Dev nD) (t pos : ℕ) : EReal :=
  cellAt (m ((c : Thread nD τ).loc main_arg0)) (m ((c : Thread nD τ).loc main_arg2)) ⟨t % 6, Nat.mod_lt _ (by decide)⟩ (colF t pos)

/-- The words' block at a point: the point's 1024 columns. -/
theorem iblk0_apply (c : Dev nD) (t : Fin grid0.N) (r : Fin 30) (l : Fin 1024) (k : Fin 67584) (hk : k.val = t.val * 1024 + l.val) :
    iblk m (ok m HG) c 0 t (ix2 r l) = m ((c : Thread nD τ).loc main_arg0) (ix2 r k) := by
  have hc := coord t
  have hN : t.val < 65 := N_eq ▸ t.isLt
  refine Eq.trans (b := V m c main_arg0 (ix2 r k)) ?_ (congrFun (V_main_arg0 m c) (ix2 r k))
  unfold iblk
  refine congrArg (V m c main_arg0) (funext fun a => Fin.ext ?_)
  have e1 : ((cfgM m (ok m HG)).win 0).index t (1 : Fin 2) = t.val := by
    show (BitVec.ofNat 32 (grid0.coords t 0).val).toNat = t.val
    rw [hc, BitVec.toNat_ofNat]; omega
  match a with
  | ⟨0, _⟩ => exact (((cfgM m (ok m HG)).win 0).rect_emb_val t (ix2 r l : S30x1024.Idx) (0 : Fin 2)).trans (show 0 * 6 + r.val = r.val by omega)
  | ⟨1, _⟩ => exact (((cfgM m (ok m HG)).win 0).rect_emb_val t (ix2 r l : S30x1024.Idx) (1 : Fin 2)).trans ((congrArg (fun q => q * 1024 + l.val) e1).trans hk.symm)

/-- The gradient's block: the whole transposed gradient. -/
theorem iblk1_apply (c : Dev nD) (t : Fin grid0.N) (r : Fin 3264) (k : Fin 256) :
    iblk m (ok m HG) c 1 t (ix2 r k) = m ((c : Thread nD τ).loc main_arg2) (ix2 k r) := by
  refine Eq.trans (b := V m c main_v0 (ix2 r k)) ?_ (V_go_apply m c r k)
  unfold iblk
  refine congrArg (V m c main_v0) (funext fun a => Fin.ext ?_)
  match a with
  | ⟨0, _⟩ => exact (((cfgM m (ok m HG)).win 1).rect_emb_val t (ix2 r k : S3264x256.Idx) (0 : Fin 2)).trans (show 0 * 3264 + r.val = r.val by omega)
  | ⟨1, _⟩ => exact (((cfgM m (ok m HG)).win 1).rect_emb_val t (ix2 r k : S3264x256.Idx) (1 : Fin 2)).trans (show 0 * 256 + k.val = k.val by omega)

/-- One point's work at a lane. -/
theorem work_apply (c : Dev nD) (g : ℕ) (hg : g < 65) (d : Vec Ideal S1x1x1024 .f32) (y : ℕ) (hy : y < 1024) :
    work m HG c g d (ix3 0 0 ⟨y, hy⟩) = if Hit (offI m) (tb m g) ((g - tb m g) * 1024 + y)
      then valAt m c (tb m g) ((g - tb m g) * 1024 + y) else d (ix3 0 0 ⟨y, hy⟩) := by
  have S := sched m HG
  have hT : tb m g < 6 := S.lt g (by omega)
  have hle := S.le_self (g := g) (by omega)
  have hpt : (pt g).val = g := by show min g 64 = g; omega
  have hk : (colF (tb m g) ((g - tb m g) * 1024 + y)).val = (pt g).val * 1024 + y := by
    rw [hpt]; show min _ _ = _; omega
  unfold work step valAt cellAt
  refine if_congr Iff.rfl ?_ rfl
  show dotAt _ _ _ ⟨y, hy⟩ = _
  unfold dotAt
  simp only [iblk0_apply m HG c (pt g) _ ⟨y, hy⟩ _ hk, iblk1_apply m HG c]
  rfl

/-- The result array: where a table holds the position, its value; elsewhere zero. -/
theorem out_cell (c : Dev nD) (p : Fin 60) (y : Fin 1024) :
    (∀ t, t < 6 → Hit (offI m) t (p.val * 1024 + y.val) → (dats m HG 0 c).arrAt 2 (cfgM m (ok m HG)).N (ix3 p 0 y) = valAt m c t (p.val * 1024 + y.val))
      ∧ ((∀ t, t < 6 → ¬ Hit (offI m) t (p.val * 1024 + y.val)) → (dats m HG 0 c).arrAt 2 (cfgM m (ok m HG)).N (ix3 p 0 y) = Ideal.ofBits .f32 (0#32)) := by
  have S := sched m HG
  refine (dats m HG 0 c).arrAt_forall_of_covers 2
    (fun (i : S60x1x1024.Idx) (v : EReal) => (∀ t, t < 6 → Hit (offI m) t ((i 0).val * 1024 + (i 2).val) → v = valAt m c t ((i 0).val * 1024 + (i 2).val))
      ∧ ((∀ t, t < 6 → ¬ Hit (offI m) t ((i 0).val * 1024 + (i 2).val)) → v = Ideal.ofBits .f32 (0#32))) ?_ ?_ (ix3 p 0 y)
  · refine Window.covers_of_index_surj _ rfl (show ∀ a : Fin 3, 0 < S1x1x1024.size a by decide) fun β => ?_
    have b0 : (β (0 : Fin 3)).val < 60 := lt_of_lt_of_eq (β (0 : Fin 3)).isLt (show ((cfgM m (ok m HG)).win 2).nblk (0 : Fin 3) = 60 from (by decide : (60 + 1 - 1) / 1 = 60))
    have b1 : (β (1 : Fin 3)).val < 1 := lt_of_lt_of_eq (β (1 : Fin 3)).isLt (show ((cfgM m (ok m HG)).win 2).nblk (1 : Fin 3) = 1 from (by decide : (1 + 1 - 1) / 1 = 1))
    have b2 : (β (2 : Fin 3)).val < 1 := lt_of_lt_of_eq (β (2 : Fin 3)).isLt (show ((cfgM m (ok m HG)).win 2).nblk (2 : Fin 3) = 1 from (by decide : (1024 + 1024 - 1) / 1024 = 1))
    obtain ⟨g, hg, hp⟩ := S.chunk_surj (by decide) (β (0 : Fin 3)).val b0
    refine ⟨⟨g, by show g < grid0.N; rw [N_eq]; exact hg⟩, fun a => ?_⟩
    rw [index2 m HG]
    match a with
    | ⟨0, _⟩ => exact hp
    | ⟨1, _⟩ => exact (Nat.lt_one_iff.mp b1).symm
    | ⟨2, _⟩ => exact (Nat.lt_one_iff.mp b2).symm
  · intro t hf y
    have hN : t.val < 65 := N_eq ▸ t.isLt
    have hl : t.val + 1 = 60 + 6 - 1 ∨ tb m (t.val + 1) = tb m t.val := by
      have hN' : (cfgM m (ok m HG)).grid.N = 65 := N_eq
      rcases (((cfgM m (ok m HG)).win 2).flush_out rfl _).mp hf with e | ⟨h1, hne⟩
      · exact .inl (e.trans hN')
      · right
        have h1' : t.val + 1 < 65 := N_eq ▸ h1
        rcases S.step t.val (by omega) with h | h
        · exact h
        · refine absurd ?_ hne
          rw [index2 m HG, index2 m HG]
          simp only [h]
          rw [show t.val + 1 - (tb m t.val + 1) = t.val - tb m t.val by omega]
    obtain ⟨l, rfl⟩ : ∃ l : Fin 1024, y = (ix3 0 0 l : S1x1x1024.Idx) :=
      ⟨y (2 : Fin 3), (eq_ix3 (n0 := 1) (n1 := 1) (n2 := 1024) y).trans (by rw [Fin.fin_one_eq_zero (y (0 : Fin 3)), Fin.fin_one_eq_zero (y (1 : Fin 3))])⟩
    have key := S.accumulate (fun g y => if h : y < 1024 then dAt m HG c g (ix3 0 0 ⟨y, h⟩) else 0) (fun t pos => valAt m c t pos) (Ideal.ofBits .f32 (0#32)) (Hit (offI m))
      (fun t pos ht hp h => HG.hit_at S t pos ht hp h) (fun t t' pos ht ht' h h' => HG.hit_uniq t t' pos ht ht' h h') (by decide) (by decide)
      (fun y hy => by
        simp only [dif_pos hy]
        exact work_apply m HG c 0 (by decide) _ y hy)
      (fun g hg y hy => by
        simp only [dif_pos hy]
        refine (work_apply m HG c (g + 1) (by omega) _ y hy).trans ?_
        by_cases h : tb m (g + 1) = tb m g
        · rw [if_pos h, if_pos h]; rfl
        · rw [if_neg h, if_neg h])
      t.val (by omega) hl l.val l.isLt
    simp only [dif_pos l.isLt] at key
    have i0 : ((((cfgM m (ok m HG)).win 2).blk t).view.emb (ix3 0 0 l : S1x1x1024.Idx) (0 : Fin 3)).val = t.val - tb m t.val := by
      have e := congrFun (index2 m HG t) (0 : Fin 3)
      exact ((((cfgM m (ok m HG)).win 2).rect_emb_val t (ix3 0 0 l : S1x1x1024.Idx) (0 : Fin 3)).trans (congrArg (fun q => q * 1 + 0) e)).trans (show (t.val - tb m t.val) * 1 + 0 = _ by omega)
    have i2 : ((((cfgM m (ok m HG)).win 2).blk t).view.emb (ix3 0 0 l : S1x1x1024.Idx) (2 : Fin 3)).val = l.val := by
      have e := congrFun (index2 m HG t) (2 : Fin 3)
      exact ((((cfgM m (ok m HG)).win 2).rect_emb_val t (ix3 0 0 l : S1x1x1024.Idx) (2 : Fin 3)).trans (congrArg (fun q => q * 1024 + l.val) e)).trans (show 0 * 1024 + l.val = _ by omega)
    have hv : _root_.cast (congrArg (Elt Ideal) (((cfgM m (ok m HG)).win 2).blk t).view.elt_eq.symm) ((dats m HG 0 c).after 2 t (((cfgM m (ok m HG)).win 2).xinj ((cfgM m (ok m HG)).grid.coords t) (ix3 0 0 l : S1x1x1024.Idx))) = dAt m HG c t.val (ix3 0 0 l) := by
      rw [after0_2]; rfl
    rw [hv]
    simp only [i0, i2]
    exact key

end Cert.KernelF8Ideal.Run
-- ==== Proof.F8.Ref.lean ====
/- The reference's result, cell by cell: the sum over a row of the decoded words times the scale times the gradient row of
   the cell's sample, in the cells a table holds, and zero past the last offset. -/
module

public import proofs.«01_k».proof.Proof.Gen.ReferenceF8Ideal.Value
public import proofs.«01_k».proof.Proof.BagWords
public import proofs.«01_k».proof.Proof.Gathers
public import proofs.«01_k».proof.Proof.Scale
public import Idealize.ShloMosaic.Lib.Pointwise
public import Idealize.ShloMosaic.Lib.BitcastConvert

@[expose] public section

set_option maxRecDepth 16384

namespace Cert.ReferenceF8Ideal.Value

open Cert.ReferenceF8Ideal Cert.ReferenceF8Ideal.Gen Cert.Words Cert.Gathers
open Idealize.ShloMosaic Idealize.ShloMosaic.Tactic

variable {F : FTy → Type} [FloatOps F]

/-- The bag of every position. -/
def bagV (off : IVec S1537 32) : IVec S61440 32 :=
  minsi (broadcastInDim S61440 ![] bcast_S_S61440 (id (constantI S_ 32 1535#32))) (maxsi (broadcastInDim S61440 ![] bcast_S_S61440 (id (constantI S_ 32 0#32))) (subi (Host.reduce IntOp.addi (extui 32 (cmpi .sle (broadcastInDim S61440x1537 ![0, 1] bcast_S1x1537_S61440x1537_0_1 (broadcastInDim S1x1537 ![1] bcast_S1537_S1x1537_1 off)) (broadcastInDim S61440x1537 ![0, 1] bcast_S61440x1_S61440x1537_0_1 (broadcastInDim S61440x1 ![0] bcast_S61440_S61440x1_0 (iotaInDim S61440 32 0)))) natLt_1_32) (constantI S_ 32 0#32) reducesTo_S61440x1537_S61440_d1 h_S_) (broadcastInDim S61440 ![] bcast_S_S61440 (constantI S_ 32 1#32))))

/-- The table of every bag. -/
def tabV (bagV : IVec S61440 32) : IVec S61440 32 :=
  select (andi (cmpi .ne (signi bagV) (broadcastInDim S61440 ![] bcast_S_S61440 (signi (id (constantI S_ 32 256#32))))) (cmpi .ne (Host.remsi bagV (broadcastInDim S61440 ![] bcast_S_S61440 (id (constantI S_ 32 256#32)))) (broadcastInDim S61440 ![] bcast_S_S61440 (constantI S_ 32 0#32)))) (subi (Host.divsi bagV (broadcastInDim S61440 ![] bcast_S_S61440 (id (constantI S_ 32 256#32)))) (broadcastInDim S61440 ![] bcast_S_S61440 (constantI S_ 32 1#32))) (Host.divsi bagV (broadcastInDim S61440 ![] bcast_S_S61440 (id (constantI S_ 32 256#32))))

/-- The column of the array that every position of a table reads. -/
def colV (tV : IVec S61440 32) : IVec S61440 32 :=
  select (cmpi .slt (addi (iotaInDim S61440 32 0) (muli tV (broadcastInDim S61440 ![] bcast_S_S61440 (constantI S_ 32 1024#32)))) (broadcastInDim S61440 ![] bcast_S_S61440 (constantI S_ 32 0#32))) (addi (addi (iotaInDim S61440 32 0) (muli tV (broadcastInDim S61440 ![] bcast_S_S61440 (constantI S_ 32 1024#32)))) (broadcastInDim S61440 ![] bcast_S_S61440 (constantI S_ 32 67584#32))) (addi (iotaInDim S61440 32 0) (muli tV (broadcastInDim S61440 ![] bcast_S_S61440 (constantI S_ 32 1024#32))))

/-- The columns read. -/
def gotV (W : IVec S30x67584 32) (col : IVec S61440 32) : IVec S30x61440 32 :=
  Host.gather gather_S30x67584_S61440x1_S30x61440_0_1_n_n_1_1_301 W (broadcastInDim S61440x1 ![0] bcast_S61440_S61440x1_0 col)

/-- The sample and the table of every position, side by side. -/
def pairV (gotV : IVec S30x61440 32) (tV : IVec S61440 32) : IVec S61440x2 32 :=
  concatenate S61440x2 1 [⟨S61440x1, (broadcastInDim S61440x1 ![0] bcast_S61440_S61440x1_0 (select (cmpi .slt (shapeCast _ (extractStridedSlice S1x61440 ![29, 0] gotV slices_S30x61440_S1x61440_29_0) shapeCasts_S1x61440_S61440) (broadcastInDim S61440 ![] bcast_S_S61440 (constantI S_ 32 0#32))) (addi (shapeCast _ (extractStridedSlice S1x61440 ![29, 0] gotV slices_S30x61440_S1x61440_29_0) shapeCasts_S1x61440_S61440) (broadcastInDim S61440 ![] bcast_S_S61440 (constantI S_ 32 256#32))) (shapeCast _ (extractStridedSlice S1x61440 ![29, 0] gotV slices_S30x61440_S1x61440_29_0) shapeCasts_S1x61440_S61440)))⟩, ⟨S61440x1, (broadcastInDim S61440x1 ![0] bcast_S61440_S61440x1_0 (select (cmpi .slt tV (broadcastInDim S61440 ![] bcast_S_S61440 (constantI S_ 32 0#32))) (addi tV (broadcastInDim S61440 ![] bcast_S_S61440 (constantI S_ 32 6#32))) tV))⟩] concatenates_S61440x1_S61440x1_S61440x2_d1

/-- The gradient rows of the pairs. -/
def rowV (go : FVec F S256x3264 .bf16) (pairV : IVec S61440x2 32) : FVec F S61440x112 .bf16 :=
  Host.gather gather_S256x6x112_S61440x2_S61440x112_1_01_n_n_01_1_11112 (shapeCast _ (extractStridedSlice S256x672 ![0, 2592] go slices_S256x3264_S256x672_0_2592) shapeCasts_S256x672_S256x6x112) pairV

/-- The codes of every position, as the last operation reads them. -/
def codesV (gotV : IVec S30x61440 32) : FVec F S60x112x1024 .fp8e4m3 :=
  transpose S60x112x1024 [0, 2, 1] (shapeCast S60x1024x112 (transpose S61440x28x4 [1, 0, 2] (bitcastToFloat (F := F) .fp8e4m3 (Host.bitcastConvertNarrow S28x61440x4 8 (extractStridedSlice S28x61440 ![0, 0] gotV slices_S30x61440_S28x61440_0_0) splits_S28x61440_w32_S28x61440x4_w8)) transposes_S28x61440x4_S61440x28x4_1_0_2) shapeCasts_S61440x28x4_S60x1024x112) transposes_S60x1024x112_S60x112x1024_0_2_1

/-- The scales of every position. -/
def scaleV (gotV : IVec S30x61440 32) : FVec F S60x1x1024 .f32 :=
  shapeCast S60x1x1024 (bitcastToFloat (F := F) .f32 (shapeCast S61440 (extractStridedSlice S1x61440 ![28, 0] gotV slices_S30x61440_S1x61440_28_0) shapeCasts_S1x61440_S61440)) shapeCasts_S61440_S60x1x1024

/-- The gradient rows of every position. -/
def gradV (rowV : FVec F S61440x112 .bf16) : FVec F S60x112x1024 .bf16 :=
  transpose S60x112x1024 [0, 2, 1] (shapeCast S60x1024x112 rowV shapeCasts_S61440x112_S60x1024x112) transposes_S60x1024x112_S60x112x1024_0_2_1

/-- Which positions lie before the last offset. -/
def validV (off : IVec S1537 32) : IVec S60x1x1024 32 :=
  shapeCast S60x1x1024 (extui 32 (cmpi .slt (iotaInDim S61440 32 0) (broadcastInDim S61440 ![] bcast_S_S61440 (shapeCast S_ (extractStridedSlice S1 ![1536] off slices_S1537_S1_1536) shapeCasts_S1_S_))) natLt_1_32) shapeCasts_S61440_S60x1x1024

/-- The whole result, of the words, the offsets and the gradient. -/
def resV (W : IVec S30x67584 32) (off : IVec S1537 32) (go : FVec F S256x3264 .bf16) : FVec F S60x1x1024 .f32 :=
  E4 (validV off) (codesV (gotV W (colV (tabV (bagV off))))) (scaleV (gotV W (colV (tabV (bagV off)))))
    (gradV (rowV go (pairV (gotV W (colV (tabV (bagV off)))) (tabV (bagV off)))))

theorem bagV_apply (off : IVec S1537 32) (p : Fin 61440) : bagV off (ix1 p) = bagW 6 (fun k => off (ix1 k)) p.val := by
  unfold bagV
  pointwise
  rfl

theorem tabV_apply (b : IVec S61440 32) (p : Fin 61440) : tabV b (ix1 p) = fdiv256 (b (ix1 p)) := by
  unfold tabV
  pointwise
  rfl

theorem colV_apply (t : IVec S61440 32) (p : Fin 61440) :
    colV t (ix1 p) = wrapW 67584 (IntOp.addi (BitVec.ofNat 32 p.val) (IntOp.muli (t (ix1 p)) 1024#32)) := by
  unfold colV
  pointwise
  rfl

theorem pairV_apply0 (g : IVec S30x61440 32) (t : IVec S61440 32) (p : Fin 61440) : pairV g t (ix2 p 0) = wrapW 256 (g (ix2 29 p)) := by
  unfold pairV
  pointwise
  rfl

theorem pairV_apply1 (g : IVec S30x61440 32) (t : IVec S61440 32) (p : Fin 61440) : pairV g t (ix2 p 1) = wrapW 6 (t (ix1 p)) := by
  unfold pairV
  pointwise
  rfl

theorem codesV_apply (g : IVec S30x61440 32) (p : Fin 60) (d : Fin 112) (y : Fin 1024) :
    codesV (F := Ideal) g (ix3 p d y) = Ideal.ofBits .fp8e4m3 (byteOf (g (ix2 ⟨d.val / 4, by omega⟩ ⟨p.val * 1024 + y.val, by omega⟩)) (d.val % 4)) := by
  unfold codesV
  pointwise
  rw [byteOf, Nat.mul_comm]

theorem scaleV_apply (g : IVec S30x61440 32) (p : Fin 60) (y : Fin 1024) :
    scaleV (F := Ideal) g (ix3 p 0 y) = Ideal.ofBits .f32 (g (ix2 28 ⟨p.val * 1024 + y.val, by omega⟩)) := by
  unfold scaleV
  pointwise

theorem gradV_apply (r : FVec Ideal S61440x112 .bf16) (p : Fin 60) (d : Fin 112) (y : Fin 1024) :
    gradV r (ix3 p d y) = r (ix2 ⟨p.val * 1024 + y.val, by omega⟩ d) := by
  unfold gradV
  pointwise

theorem validV_apply (off : IVec S1537 32) (p : Fin 60) (y : Fin 1024) :
    validV off (ix3 p 0 y) = (IntOp.cmpi .slt (BitVec.ofNat 32 (p.val * 1024 + y.val)) (off (ix1 1536))).setWidth 32 := by
  unfold validV
  pointwise

/-- The last operation at a cell: the sum over the row of the scaled codes times the gradients, where the position counts. -/
theorem E4_apply (v : IVec S60x1x1024 32) (x : FVec Ideal S60x112x1024 .fp8e4m3) (s : FVec Ideal S60x1x1024 .f32) (g : FVec Ideal S60x112x1024 .bf16)
    (p : Fin 60) (y : Fin 1024) :
    E4 (F := Ideal) v x s g (ix3 p 0 y) = Scalar.select (IntOp.cmpi .ne (v (ix3 p 0 y)) 0#32)
      (∑ d : Fin 112, x (ix3 p d y) * s (ix3 p 0 y) * g (ix3 p d y)) (Ideal.ofBits .f32 (0#32)) := by
  unfold E4
  have e0 : ix4_0 (ix3 p 0 y : S60x1x1024.Idx) = ix3 p 0 y := by
    funext a; match a with | ⟨0, _⟩ => rfl | ⟨1, _⟩ => rfl | ⟨2, _⟩ => rfl
  have e1 : ix4_1 (ix3 p 0 y : S60x1x1024.Idx) = ix2 p y := by
    funext a; match a with | ⟨0, _⟩ => rfl | ⟨1, _⟩ => rfl
  simp only [e0, e1]
  pointwise

/-- The columns read, where a position's column is in the array. -/
theorem gotV_apply (W : IVec S30x67584 32) (col : IVec S61440 32) (a : Fin 30) (p : Fin 61440) (k : Fin 67584)
    (hk : (col (ix1 p)).toInt.toNat = k.val) : gotV W col (ix2 a p) = W (ix2 a k) := by
  unfold gotV
  refine gather_col (P := 30) (N := 67584) (R := 61440) _ W _ a p k ?_
  have e : (broadcastInDim S61440x1 ![0] bcast_S61440_S61440x1_0 col : IVec S61440x1 32) (ix2 p 0) = col (ix1 p) := by pointwise
  exact (congrArg (fun x : BitVec 32 => x.toInt.toNat) e).trans hk

/-- The gradient row of a position whose pair is a sample and a table. -/
theorem rowV_apply (go : FVec F S256x3264 .bf16) (pr : IVec S61440x2 32) (p : Fin 61440) (d : Fin 112) (s : Fin 256) (t : Fin 6)
    (hs : (pr (ix2 p 0)).toInt.toNat = s.val) (ht : (pr (ix2 p 1)).toInt.toNat = t.val) :
    rowV go pr (ix2 p d) = go (ix2 s ⟨2592 + 112 * t.val + d.val, by omega⟩) := by
  unfold rowV
  refine (gather_pair (A := 256) (B := 6) (D := 112) (R := 61440) _ _ pr p d s t hs ht).trans ?_
  pointwise
  exact congrArg (fun q => go (ix2 s q)) (Fin.ext (show 2592 + (t.val * 112 + d.val) = 2592 + 112 * t.val + d.val by omega))

end Cert.ReferenceF8Ideal.Value
-- ==== Proof.F8.Cells.lean ====
/- The reference's cells in closed form: in a cell that a table holds, the sum over the row of the scaled codes times the gradient
   row of the cell's sample; in any other cell, zero. -/
module

public import proofs.«01_k».proof.Proof.F8.Ref
public import proofs.«01_k».proof.Proof.F8.Pre

@[expose] public section

set_option maxRecDepth 16384

namespace Cert.ReferenceF8Ideal.Value

open Cert.ReferenceF8Ideal Cert.ReferenceF8Ideal.Gen Cert.Words
open Cert.Pre_pre_f8.Gen (offAt)
open Idealize.ShloMosaic

/-- A position that table `t` holds is of table `t`. -/
theorem tab_hit (off : IVec S1537 32) (HG : GoodOff 6 60 (offAt off)) (P : Fin 61440) (t : Fin 6) (hit : Hit (offAt off) t.val P.val) :
    tabV (bagV off) (ix1 P) = BitVec.ofNat 32 t.val := by
  have ht := t.isLt
  have hP := P.isLt
  obtain ⟨q, hq, hbag⟩ := bagW_hit HG (by decide) (fun k => off (ix1 k)) (fun k => by
    show _ = (off (ix1 ⟨min k.val 1536, _⟩)).toInt
    congr 3; exact Fin.ext (by show k.val = min k.val 1536; have := k.isLt; omega)) t.val P.val ht (by omega) hit
  rw [tabV_apply, bagV_apply, hbag, fdiv256_ofNat _ (by omega), hq]

/-- The column it reads. -/
theorem col_hit (b : IVec S61440 32) (P : Fin 61440) (t : Fin 6) (k : Fin 67584) (hk : k.val = P.val + 1024 * t.val)
    (htab : b (ix1 P) = BitVec.ofNat 32 t.val) : (colV b (ix1 P)).toInt.toNat = k.val := by
  have hkl := k.isLt
  have e : IntOp.addi (BitVec.ofNat 32 P.val) (IntOp.muli (BitVec.ofNat 32 t.val) 1024#32) = BitVec.ofNat 32 k.val := by
    have e1 : IntOp.muli (BitVec.ofNat 32 t.val) 1024#32 = BitVec.ofNat 32 (t.val * 1024) := (BitVec.ofNat_mul ..).symm
    rw [e1, hk, Nat.mul_comm 1024]
    exact (BitVec.ofNat_add ..).symm
  have ek : (BitVec.ofNat 32 k.val).toInt = k.val := toInt_ofNat _ (by omega)
  rw [colV_apply, htab, e, wrapW_nonneg _ _ (by rw [ek]; omega), ek]
  exact Int.toNat_natCast _

/-- The gradient row it reads. -/
theorem row_hit (go : FVec Ideal S256x3264 .bf16) (g : IVec S30x61440 32) (b : IVec S61440 32) (P : Fin 61440) (t : Fin 6) (d : Fin 112)
    (htab : b (ix1 P) = BitVec.ofNat 32 t.val) (w : BitVec 32) (hw : g (ix2 29 P) = w) (hs : (0 : ℤ) ≤ w.toInt ∧ w.toInt < 256) :
    rowV go (pairV g b) (ix2 P d) = go (ix2 (sel w) ⟨2592 + 112 * t.val + d.val, by omega⟩) := by
  have ht := t.isLt
  have et : (BitVec.ofNat 32 t.val).toInt = t.val := toInt_ofNat _ (by omega)
  refine rowV_apply go _ P d (sel w) t ?_ ?_
  · rw [pairV_apply0, hw, wrapW_nonneg _ _ hs.1, sel_toInt _ hs.1 hs.2]
  · rw [pairV_apply1, htab, wrapW_nonneg _ _ (by rw [et]; omega), et]
    exact Int.toNat_natCast _

/-- A bit stored as a word is read back by asking whether the word is not zero. -/
theorem valid_word (b : BitVec 1) : IntOp.cmpi .ne (b.setWidth 32) 0#32 = b := by
  revert b; decide

/-- A cell that table `t` holds. -/
theorem resV_hit (W : IVec S30x67584 32) (off : IVec S1537 32) (go : FVec Ideal S256x3264 .bf16)
    (HG : GoodOff 6 60 (offAt off)) (p : Fin 60) (y : Fin 1024) (t : Fin 6) (hit : Hit (offAt off) t.val (p.val * 1024 + y.val))
    (k : Fin 67584) (hk : k.val = p.val * 1024 + y.val + 1024 * t.val) (hs : (0 : ℤ) ≤ (W (ix2 29 k)).toInt ∧ (W (ix2 29 k)).toInt < 256) :
    resV W off go (ix3 p 0 y) = ∑ d : Fin 112, Ideal.ofBits .fp8e4m3 (byteOf (W (ix2 ⟨d.val / 4, by omega⟩ k)) (d.val % 4))
      * Ideal.ofBits .f32 (W (ix2 28 k)) * go (ix2 (sel (W (ix2 29 k))) ⟨2592 + 112 * t.val + d.val, by omega⟩) := by
  have hpy : p.val * 1024 + y.val < 61440 := by omega
  have htab := tab_hit off HG ⟨p.val * 1024 + y.val, hpy⟩ t hit
  unfold resV
  generalize tabV (bagV off) = b at htab ⊢
  have hcol := col_hit b ⟨p.val * 1024 + y.val, hpy⟩ t k hk htab
  have hgot := fun a => gotV_apply W (colV b) a ⟨p.val * 1024 + y.val, hpy⟩ k hcol
  generalize gotV W (colV b) = g at hgot ⊢
  have hrow := fun d => row_hit go g b ⟨p.val * 1024 + y.val, hpy⟩ t d htab _ (hgot 29) hs
  generalize rowV go (pairV g b) = r at hrow ⊢
  have hlt : ((p.val * 1024 + y.val : ℕ) : ℤ) < (off (ix1 1536)).toInt := by
    have h2 := HG.le (i := 256 * (t.val + 1)) (j := 256 * 6) (by have := t.isLt; omega) le_rfl
    exact lt_of_lt_of_le hit.2 h2
  refine (E4_apply _ _ _ _ p y).trans ?_
  rw [validV_apply, valid_word, cmpi_slt, toInt_ofNat _ (by omega), select_ofBool, if_pos hlt]
  refine Finset.sum_congr rfl fun d _ => ?_
  rw [codesV_apply, scaleV_apply, gradV_apply, hgot, hgot, hrow]

/-- A cell that no table holds. -/
theorem resV_miss (W : IVec S30x67584 32) (off : IVec S1537 32) (go : FVec Ideal S256x3264 .bf16)
    (HG : GoodOff 6 60 (offAt off)) (p : Fin 60) (y : Fin 1024) (miss : ∀ t, t < 6 → ¬ Hit (offAt off) t (p.val * 1024 + y.val)) :
    resV W off go (ix3 p 0 y) = Ideal.ofBits .f32 (0#32) := by
  have hlt : ¬ ((p.val * 1024 + y.val : ℕ) : ℤ) < (off (ix1 1536)).toInt := fun h => by
    obtain ⟨t, ht, hh⟩ := HG.hit_of_lt (p.val * 1024 + y.val) (show _ < offAt off (256 * 6) from h)
    exact miss t ht hh
  unfold resV
  refine (E4_apply _ _ _ _ p y).trans ?_
  rw [validV_apply, valid_word, cmpi_slt, toInt_ofNat _ (by omega), select_ofBool, if_neg hlt]

end Cert.ReferenceF8Ideal.Value
-- ==== Proof.F8.Same.lean ====
/- The ideal kernel's result is the reference's: in a cell that a table holds, the scaled sum of the codes times the gradient row is
   the sum of the scaled codes times the row; in any other both leave zero. -/
module

public import proofs.«01_k».proof.Proof.F8.Final
public import proofs.«01_k».proof.Proof.F8.Cells

@[expose] public section

set_option maxRecDepth 16384

noncomputable section

namespace Cert.KernelF8Ideal.Run

open Cert.KernelF8Ideal.Gen Cert.Words
open Idealize.ShloMosaic Idealize.ShloMosaic.TcCoe Idealize.SL.Sem

variable (m : (ℓ : Loc nD τ sig) → Buf (Elt Ideal) ℓ) (HG : GoodOff 6 60 (offI m))

/-- An index of the result is a chunk, 0 and a place in the chunk. -/
theorem exists_cell (x : S60x1x1024.Idx) : ∃ (p : Fin 60) (y : Fin 1024), x = ix3 p 0 y :=
  ⟨x 0, x 2, by
    funext i
    match i with
    | 0 => rfl
    | 1 => exact Subsingleton.elim (α := Fin 1) _ _
    | 2 => rfl⟩

/-- The array the kernel leaves, as the reference's function of the arguments. -/
theorem out_eq (h : ∀ (t : Fin 6) (pos : ℕ), pos < 61440 → Hit (offI m) t.val pos → ∀ j : Fin 67584, j.val = pos + 1024 * t.val →
      ((0 : ℤ) ≤ ((m (((0 : Dev nD) : Thread nD τ).loc main_arg0) : IVec S30x67584 32) (ix2 29 j)).toInt
        ∧ ((m (((0 : Dev nD) : Thread nD τ).loc main_arg0) : IVec S30x67584 32) (ix2 29 j)).toInt < 256)
      ∧ (0 : ℤ) ≤ ((m (((0 : Dev nD) : Thread nD τ).loc main_arg0) : IVec S30x67584 32) (ix2 28 j)).toInt
        ∧ ((m (((0 : Dev nD) : Thread nD τ).loc main_arg0) : IVec S30x67584 32) (ix2 28 j)).toInt < 2139095040) :
    (dats m HG 0 0).arrAt 2 (cfgM m (ok m HG)).N = Cert.ReferenceF8Ideal.Value.resV (F := Ideal) (m (((0 : Dev nD) : Thread nD τ).loc main_arg0))
      (m (((0 : Dev nD) : Thread nD τ).loc main_arg1)) (m (((0 : Dev nD) : Thread nD τ).loc main_arg2)) := by
  funext x
  obtain ⟨p, y, rfl⟩ := exists_cell x
  have hc := out_cell m HG 0 p y
  by_cases hex : ∃ t, t < 6 ∧ Hit (offI m) t (p.val * 1024 + y.val)
  · obtain ⟨t, ht, hit⟩ := hex
    have hpos : p.val * 1024 + y.val < 61440 := by omega
    have hk : (colF t (p.val * 1024 + y.val)).val = p.val * 1024 + y.val + 1024 * t := by
      show min (p.val * 1024 + y.val + 1024 * t) 67583 = _
      omega
    have hl := h ⟨t, ht⟩ (p.val * 1024 + y.val) hpos hit _ hk
    have et : (⟨t % 6, Nat.mod_lt _ (by decide)⟩ : Fin 6) = ⟨t, ht⟩ := Fin.ext (Nat.mod_eq_of_lt ht)
    obtain ⟨r, hr, hsr⟩ := ofBits_real _ hl.2.1 hl.2.2
    refine (hc.1 t ht hit).trans (Eq.trans ?_ (Cert.ReferenceF8Ideal.Value.resV_hit _ _ _ HG p y ⟨t, ht⟩ hit _ hk hl.1).symm)
    unfold valAt cellAt
    rw [et]
    exact (sum_scale _ _ _ r hr hsr).symm
  · have miss : ∀ t, t < 6 → ¬ Hit (offI m) t (p.val * 1024 + y.val) := fun t ht hit => hex ⟨t, ht, hit⟩
    exact (hc.2 miss).trans (Cert.ReferenceF8Ideal.Value.resV_miss _ _ _ HG p y miss).symm

end Cert.KernelF8Ideal.Run
-- ==== Proof.F8.Host.lean ====
/- What the last operation of the reference reads, as functions of the arguments, and the array it leaves. -/
module

public import proofs.«01_k».proof.Proof.F8.Ref

@[expose] public section

set_option maxRecDepth 16384

namespace Cert.ReferenceF8Ideal.Value

open Cert.ReferenceF8Ideal Cert.ReferenceF8Ideal.Gen
open Idealize.ShloMosaic Idealize.ShloMosaic.TcCoe Idealize.ShloMosaic.Tactic Idealize.SL.Sem

variable {F : FTy → Type} [FloatOps F]
variable (m : (ℓ : Loc nD τ sig) → Buf (Elt F) ℓ)

/-- The validity words, of the offsets. -/
theorem V_valid (c : Dev nD) : V m c main_v56 = validV (m ((c : Thread nD τ).loc main_arg1)) := by
  unfold V
  simp only [hostOps0, hostOps0_1, hostOps0_2, hostOps0_3, hostOps0_4, List.flatten_cons, List.flatten_nil, List.append_nil, List.cons_append, List.nil_append]
  after_results
  rfl

/-- The codes, of the words and the offsets. -/
theorem V_codes (c : Dev nD) : V m c main_v51 = codesV (F := F) (gotV (m ((c : Thread nD τ).loc main_arg0)) (colV (tabV (bagV (m ((c : Thread nD τ).loc main_arg1)))))) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  unfold codesV gotV colV tabV bagV
  rfl

/-- The scales, of the words and the offsets. -/
theorem V_scale (c : Dev nD) : V m c main_v52 = scaleV (F := F) (gotV (m ((c : Thread nD τ).loc main_arg0)) (colV (tabV (bagV (m ((c : Thread nD τ).loc main_arg1)))))) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  unfold scaleV gotV colV tabV bagV
  rfl

/-- The gradient rows, of the words, the offsets and the gradient. -/
theorem V_grad (c : Dev nD) : V m c main_v54 = gradV (rowV (m ((c : Thread nD τ).loc main_arg2))
    (pairV (gotV (m ((c : Thread nD τ).loc main_arg0)) (colV (tabV (bagV (m ((c : Thread nD τ).loc main_arg1)))))) (tabV (bagV (m ((c : Thread nD τ).loc main_arg1)))))) := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results
  unfold gradV rowV pairV gotV colV tabV bagV
  rfl

/-- The one grid point of the last operation. -/
abbrev t0 : Fin cfg0.N := t0_0

/-- It reads each array whole. -/
theorem iblk0_eq (c : Dev nD) : iblk m c 0 t0 = V m c main_v51 := by
  funext y
  refine congrArg (V m c main_v51) (funext fun a => Fin.ext ?_)
  refine ((cfg0.win 0).rect_emb_val t0 y a).trans ?_
  match a with
  | ⟨0, _⟩ => exact (show 0 * 60 + (y 0).val = (y 0).val by omega)
  | ⟨1, _⟩ => exact (show 0 * 112 + (y 1).val = (y 1).val by omega)
  | ⟨2, _⟩ => exact (show 0 * 1024 + (y 2).val = (y 2).val by omega)

theorem iblk1_eq (c : Dev nD) : iblk m c 1 t0 = V m c main_v52 := by
  funext y
  refine congrArg (V m c main_v52) (funext fun a => Fin.ext ?_)
  refine ((cfg0.win 1).rect_emb_val t0 y a).trans ?_
  match a with
  | ⟨0, _⟩ => exact (show 0 * 60 + (y 0).val = (y 0).val by omega)
  | ⟨1, _⟩ => exact (show 0 * 1 + (y 1).val = (y 1).val by omega)
  | ⟨2, _⟩ => exact (show 0 * 1024 + (y 2).val = (y 2).val by omega)

theorem iblk2_eq (c : Dev nD) : iblk m c 2 t0 = V m c main_v54 := by
  funext y
  refine congrArg (V m c main_v54) (funext fun a => Fin.ext ?_)
  refine ((cfg0.win 2).rect_emb_val t0 y a).trans ?_
  match a with
  | ⟨0, _⟩ => exact (show 0 * 60 + (y 0).val = (y 0).val by omega)
  | ⟨1, _⟩ => exact (show 0 * 112 + (y 1).val = (y 1).val by omega)
  | ⟨2, _⟩ => exact (show 0 * 1024 + (y 2).val = (y 2).val by omega)

theorem iblk3_eq (c : Dev nD) : iblk m c 3 t0 = V m c main_v56 := by
  funext y
  refine congrArg (V m c main_v56) (funext fun a => Fin.ext ?_)
  refine ((cfg0.win 3).rect_emb_val t0 y a).trans ?_
  match a with
  | ⟨0, _⟩ => exact (show 0 * 60 + (y 0).val = (y 0).val by omega)
  | ⟨1, _⟩ => exact (show 0 * 1 + (y 1).val = (y 1).val by omega)
  | ⟨2, _⟩ => exact (show 0 * 1024 + (y 2).val = (y 2).val by omega)

/-- What it leaves of four arrays. -/
theorem out_of (x : Vec F S60x112x1024 .fp8e4m3) (s : Vec F S60x1x1024 .f32) (g : Vec F S60x112x1024 .bf16) (v : Vec F S60x1x1024 .i32) :
    out0_4 x s g v = E4 v x s g := by
  funext y
  have l0 : View.ld x r0_0 = x := funext fun i => congrArg x (funext fun a => Fin.ext (by
    match a with
    | ⟨0, _⟩ => exact (show 0 + 1 * (i 0).val = (i 0).val by omega)
    | ⟨1, _⟩ => exact (show 0 + 1 * (i 1).val = (i 1).val by omega)
    | ⟨2, _⟩ => exact (show 0 + 1 * (i 2).val = (i 2).val by omega)))
  have l2 : View.ld g r0_0 = g := funext fun i => congrArg g (funext fun a => Fin.ext (by
    match a with
    | ⟨0, _⟩ => exact (show 0 + 1 * (i 0).val = (i 0).val by omega)
    | ⟨1, _⟩ => exact (show 0 + 1 * (i 1).val = (i 1).val by omega)
    | ⟨2, _⟩ => exact (show 0 + 1 * (i 2).val = (i 2).val by omega)))
  have l1 : View.ld s r0_1 = s := funext fun i => congrArg s (funext fun a => Fin.ext (by
    match a with
    | ⟨0, _⟩ => exact (show 0 + 1 * (i 0).val = (i 0).val by omega)
    | ⟨1, _⟩ => exact (show 0 + 1 * (i 1).val = (i 1).val by omega)
    | ⟨2, _⟩ => exact (show 0 + 1 * (i 2).val = (i 2).val by omega)))
  have l3 : View.ld v r0_1 = v := funext fun i => congrArg v (funext fun a => Fin.ext (by
    match a with
    | ⟨0, _⟩ => exact (show 0 + 1 * (i 0).val = (i 0).val by omega)
    | ⟨1, _⟩ => exact (show 0 + 1 * (i 1).val = (i 1).val by omega)
    | ⟨2, _⟩ => exact (show 0 + 1 * (i 2).val = (i 2).val by omega)))
  unfold out0_4
  rw [canon4_eq, l0, l1, l2, l3]

/-- Reading the result's block reads the whole array. -/
theorem blk4_read (X : Vec F S60x1x1024 .f32) : ((cfg0.win 4).blk t0).view.read (Elt F) X = X := by
  funext y
  refine congrArg X (funext fun a => Fin.ext ?_)
  refine ((cfg0.win 4).rect_emb_val t0 y a).trans ?_
  match a with
  | ⟨0, _⟩ => exact (show 0 * 60 + (y 0).val = (y 0).val by omega)
  | ⟨1, _⟩ => exact (show 0 * 1 + (y 1).val = (y 1).val by omega)
  | ⟨2, _⟩ => exact (show 0 * 1024 + (y 2).val = (y 2).val by omega)

theorem flush4 : (cfg0.win 4).flush t0 = true := by decide +kernel

/-- Cutting a block of the whole array's size keeps it. -/
theorem cut4 (X : Vec F S60x1x1024 .f32) : (cfg0.win 4).cut (grid0.coords t0) X = X := rfl

/-- The array it leaves, of the four it reads. -/
theorem arr4 (c : Dev nD) : (dats m 0 c).arrAt 4 cfg0.N = out0_4 (V m c main_v51) (V m c main_v52) (V m c main_v54) (V m c main_v56) := by
  refine (blk4_read _).symm.trans ((blocks4 m c t0 flush4).trans ((flushed4 m c t0).trans ((cut4 _).trans ?_)))
  rw [iblk0_eq, iblk1_eq, iblk2_eq, iblk3_eq]

/-- The reference's result, of the arguments. -/
theorem res_eq (c : Dev nD) : (dats m 0 c).arrAt 4 cfg0.N
    = resV (F := F) (m ((c : Thread nD τ).loc main_arg0)) (m ((c : Thread nD τ).loc main_arg1)) (m ((c : Thread nD τ).loc main_arg2)) := by
  rw [arr4, out_of, V_valid, V_codes, V_scale, V_grad]
  unfold resV
  rfl

end Cert.ReferenceF8Ideal.Value
-- ==== Proof.F8.Equal.lean ====
/- The claims of the ideal kernel and of the reference: both run and leave their arguments, and from equal arguments they leave equal
   results. -/
module

public import proofs.«01_k».proof.Defs
public import proofs.«01_k».proof.Proof.F8.Same
public import proofs.«01_k».proof.Proof.F8.Host

@[expose] public section

set_option maxRecDepth 16384

noncomputable section

namespace Cert.Proof.F8

open Idealize.ShloMosaic Idealize.ShloMosaic.TcCoe Idealize.SL.Sem Cert.Words

/-- What the ideal kernel's run leaves: its arguments, every counter at zero, and the array of the closed form. -/
theorem idealRun (m : (ℓ : Loc Cert.KernelF8Ideal.nD Cert.KernelF8Ideal.τ Cert.KernelF8Ideal.sig) → Buf (Elt Ideal) ℓ) (g : Dev Cert.KernelF8Ideal.nD → PrngReg)
    (HG : GoodOff 6 60 (Cert.KernelF8Ideal.Run.offI m)) :
    θ_run (Cert.KernelF8Ideal.defs (F := Ideal)) (onTc (τ := Cert.KernelF8Ideal.τ) (Cert.KernelF8Ideal.main (F := Ideal))) ⟨m, fun _ => 0, g⟩ (fun r => (∀ c : Dev Cert.KernelF8Ideal.nD,
      r.2.mem ((c.tc : Thread Cert.KernelF8Ideal.nD Cert.KernelF8Ideal.τ).loc Cert.KernelF8Ideal.main_v16) = (Cert.KernelF8Ideal.Run.dats m HG 0 c).arrAt 2 (Cert.KernelF8Ideal.Run.cfgM m (Cert.KernelF8Ideal.Run.ok m HG)).N
      ∧ r.2.mem ((c.tc : Thread Cert.KernelF8Ideal.nD Cert.KernelF8Ideal.τ).loc Cert.KernelF8Ideal.main_arg0) = m ((c.tc : Thread Cert.KernelF8Ideal.nD Cert.KernelF8Ideal.τ).loc Cert.KernelF8Ideal.main_arg0)
      ∧ r.2.mem ((c.tc : Thread Cert.KernelF8Ideal.nD Cert.KernelF8Ideal.τ).loc Cert.KernelF8Ideal.main_arg1) = m ((c.tc : Thread Cert.KernelF8Ideal.nD Cert.KernelF8Ideal.τ).loc Cert.KernelF8Ideal.main_arg1)
      ∧ r.2.mem ((c.tc : Thread Cert.KernelF8Ideal.nD Cert.KernelF8Ideal.τ).loc Cert.KernelF8Ideal.main_arg2) = m ((c.tc : Thread Cert.KernelF8Ideal.nD Cert.KernelF8Ideal.τ).loc Cert.KernelF8Ideal.main_arg2))
      ∧ r.2.sem = fun _ => 0) :=
  (θ_run Cert.KernelF8Ideal.defs _ _).mono (fun r hr => ⟨fun c =>
    ⟨hr.1.out_eq c 2,
     (hr.1.in_eq c 0 rfl).trans (Cert.KernelF8Ideal.Run.V_main_arg0 m c),
     ((hr.1 c).2 Cert.KernelF8Ideal.main_arg1 (by decide : Cert.KernelF8Ideal.main_arg1 ∈ Pipeline.restRefs Cert.KernelF8Ideal.sig Cert.KernelF8Ideal.spec0)).trans (Cert.KernelF8Ideal.Run.V_main_arg1 m c),
     ((hr.1 c).2 Cert.KernelF8Ideal.main_arg2 (by decide : Cert.KernelF8Ideal.main_arg2 ∈ Pipeline.restRefs Cert.KernelF8Ideal.sig Cert.KernelF8Ideal.spec0)).trans (Cert.KernelF8Ideal.Run.V_main_arg2 m c)⟩, hr.2⟩)
    (Cert.KernelF8Ideal.Run.run_main_quiescent m g HG)

/-- The ideal kernel runs and leaves its arguments. -/
theorem quiescentIdeal : Cert.quiescent_KernelF8Ideal (hKernelF8Ideal := Cert.KernelF8Ideal.Gen.facts) (hPre_pre_f8 := Cert.Pre_pre_f8.Gen.facts) := fun m ρ h =>
  (θ_run Cert.KernelF8Ideal.defs _ _).mono (fun _ hr => ⟨fun c => (hr.1 c).2, hr.2⟩) (idealRun m ρ (Cert.Pre_pre_f8.Gen.good (F := Ideal) _ _ _ (h 0)))

/-- The reference runs and leaves its arguments. -/
theorem quiescentReference : Cert.quiescent_ReferenceF8Ideal (hReferenceF8Ideal := Cert.ReferenceF8Ideal.Gen.facts) := fun m ρ _ =>
  Cert.ReferenceF8Ideal.Gen.frame m ρ

/-- The same under the precondition. -/
theorem quiescentReferencePre : Cert.quiescent_ReferenceF8Ideal_pre_pre_f8 (hReferenceF8Ideal := Cert.ReferenceF8Ideal.Gen.facts) (hPre_pre_f8 := Cert.Pre_pre_f8.Gen.facts) := fun m ρ _ =>
  Cert.ReferenceF8Ideal.Gen.frame m ρ

/-- The two results are one, where the arguments are. -/
theorem sameResult (m : (ℓ : Loc Cert.KernelF8Ideal.nD Cert.KernelF8Ideal.τ Cert.KernelF8Ideal.sig) → Buf (Elt Ideal) ℓ)
    (m' : (ℓ : Loc Cert.ReferenceF8Ideal.nD Cert.ReferenceF8Ideal.τ Cert.ReferenceF8Ideal.sig) → Buf (Elt Ideal) ℓ)
    (h : Cert.Pre_KernelF8Ideal (hPre_pre_f8 := Cert.Pre_pre_f8.Gen.facts) m) (HG : GoodOff 6 60 (Cert.KernelF8Ideal.Run.offI m))
    (h0 : m' (((0 : Dev Cert.KernelF8Ideal.nD).tc : Thread Cert.ReferenceF8Ideal.nD Cert.ReferenceF8Ideal.τ).loc Cert.ReferenceF8Ideal.main_arg0) = m (((0 : Dev Cert.KernelF8Ideal.nD).tc : Thread Cert.KernelF8Ideal.nD Cert.KernelF8Ideal.τ).loc Cert.KernelF8Ideal.main_arg0))
    (h1 : m' (((0 : Dev Cert.KernelF8Ideal.nD).tc : Thread Cert.ReferenceF8Ideal.nD Cert.ReferenceF8Ideal.τ).loc Cert.ReferenceF8Ideal.main_arg1) = m (((0 : Dev Cert.KernelF8Ideal.nD).tc : Thread Cert.KernelF8Ideal.nD Cert.KernelF8Ideal.τ).loc Cert.KernelF8Ideal.main_arg1))
    (h2 : m' (((0 : Dev Cert.KernelF8Ideal.nD).tc : Thread Cert.ReferenceF8Ideal.nD Cert.ReferenceF8Ideal.τ).loc Cert.ReferenceF8Ideal.main_arg2) = m (((0 : Dev Cert.KernelF8Ideal.nD).tc : Thread Cert.KernelF8Ideal.nD Cert.KernelF8Ideal.τ).loc Cert.KernelF8Ideal.main_arg2)) :
    (Cert.KernelF8Ideal.Run.dats m HG 0 0).arrAt 2 (Cert.KernelF8Ideal.Run.cfgM m (Cert.KernelF8Ideal.Run.ok m HG)).N = (Cert.ReferenceF8Ideal.Gen.dats m' 0 (0 : Dev Cert.KernelF8Ideal.nD)).arrAt 4 Cert.ReferenceF8Ideal.cfg0.N := by
  refine (Cert.KernelF8Ideal.Run.out_eq m HG fun t pos hp hit j hj => Cert.Pre_pre_f8.Gen.live (F := Ideal) _ _ _ (h 0) t pos hp hit j hj).trans ?_
  rw [Cert.ReferenceF8Ideal.Value.res_eq]
  exact congr (congr (congrArg (Cert.ReferenceF8Ideal.Value.resV (F := Ideal)) h0.symm) h1.symm) h2.symm

/-- One function: from equal arguments, equal results. -/
theorem algebraic : Cert.algebraic_KernelF8Ideal_ReferenceF8Ideal (hKernelF8Ideal := Cert.KernelF8Ideal.Gen.facts) (hReferenceF8Ideal := Cert.ReferenceF8Ideal.Gen.facts) (hPre_pre_f8 := Cert.Pre_pre_f8.Gen.facts) := fun m g m' g' h hin => by
  have HG : GoodOff 6 60 (Cert.KernelF8Ideal.Run.offI m) := Cert.Pre_pre_f8.Gen.good (F := Ideal) _ _ _ (h 0)
  refine ⟨fun c => (Cert.ReferenceF8Ideal.Gen.dats m' 0 c).arrAt 4 Cert.ReferenceF8Ideal.cfg0.N, ?_, ?_⟩
  · refine (θ_run Cert.KernelF8Ideal.defs _ _).mono (fun r hr c => ?_) (idealRun m g HG)
    obtain rfl : c = 0 := Subsingleton.elim _ _
    exact ⟨(hr.1 0).1.trans (sameResult m m' h HG (hin 0).1 (hin 0).2.1 (hin 0).2.2), (hr.1 0).2⟩
  · exact (θ_run Cert.ReferenceF8Ideal.defs _ _).mono (fun r h c => h c) (Cert.ReferenceF8Ideal.Value.run_blocks m' g')

end Cert.Proof.F8
-- ==== Proof.lean ====
module

public import proofs.«01_k».proof.Defs
public import proofs.«01_k».proof.Proof.I8.Quiet
public import proofs.«01_k».proof.Proof.I8.Equal
public import proofs.«01_k».proof.Proof.I4.Quiet
public import proofs.«01_k».proof.Proof.I4.Equal
public import proofs.«01_k».proof.Proof.F8.Quiet
public import proofs.«01_k».proof.Proof.F8.Equal

@[expose] public section

namespace Cert.Proof

/-- The claims on the calls of the int8, of the int4 and of the float8 tables, from the modules of each. -/
theorem claim : Cert.Claim :=
  ⟨Cert.KernelI8.Gen.facts, Cert.KernelI8Ideal.Gen.facts, Cert.ReferenceI8Ideal.Gen.facts, Cert.KernelI4.Gen.facts, Cert.KernelI4Ideal.Gen.facts,
    Cert.ReferenceI4Ideal.Gen.facts, Cert.KernelF8.Gen.facts, Cert.KernelF8Ideal.Gen.facts, Cert.ReferenceF8Ideal.Gen.facts,
    Cert.Pre_pre_i8.Gen.facts, Cert.Pre_pre_i4.Gen.facts, Cert.Pre_pre_f8.Gen.facts,
    I8.quiescent, I8.quiescentIdeal, I8.quiescentReference, I8.quiescentReferencePre,
    I4.quiescent, I4.quiescentIdeal, I4.quiescentReference, I4.quiescentReferencePre,
    F8.quiescent, F8.quiescentIdeal, F8.quiescentReference, F8.quiescentReferencePre,
    trivial, I8.algebraic, trivial, I4.algebraic, trivial, F8.algebraic⟩

end Cert.Proof
